-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_operands [hPre_finite_operands : Cert.Pre_finite_operands.Facts] (m : (ℓ : Loc Cert.AttnIdeal.nD Cert.AttnIdeal.τ Cert.AttnIdeal.sig) → Buf (Elt Ideal) ℓ) : Prop :=
  ∀ c : Dev Cert.AttnIdeal.nD,
    (Cert.Pre_finite_operands.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite_operands.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite_operands.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_finite_operands.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_operands [hPre_finite_operands : Cert.Pre_finite_operands.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_operands.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite_operands.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite_operands.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_finite_operands.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2 = (fun _ => 1#1)

def Pre_DHid (m : (ℓ : Loc Cert.DHid.nD Cert.DHid.τ Cert.DHid.sig) → Buf (Elt Bits) ℓ) : Prop :=
  True

def Pre_DHidIdeal (m : (ℓ : Loc Cert.DHidIdeal.nD Cert.DHidIdeal.τ Cert.DHidIdeal.sig) → Buf (Elt Ideal) ℓ) : Prop :=
  True

def Pre_DHidIdeal_finite_products [hPre_finite_products : Cert.Pre_finite_products.Facts] (m : (ℓ : Loc Cert.DHidIdeal.nD Cert.DHidIdeal.τ Cert.DHidIdeal.sig) → Buf (Elt Ideal) ℓ) : Prop :=
  ∀ c : Dev Cert.DHidIdeal.nD,
    (Cert.Pre_finite_products.fn (F := Ideal) (m ((c.tc : Thread Cert.DHidIdeal.nD Cert.DHidIdeal.τ).loc Cert.DHidIdeal.main_arg0)) (m ((c.tc : Thread Cert.DHidIdeal.nD Cert.DHidIdeal.τ).loc Cert.DHidIdeal.main_arg1)) (m ((c.tc : Thread Cert.DHidIdeal.nD Cert.DHidIdeal.τ).loc Cert.DHidIdeal.main_arg2)) (m ((c.tc : Thread Cert.DHidIdeal.nD Cert.DHidIdeal.τ).loc Cert.DHidIdeal.main_arg3))).1 = (fun _ => 1#1)
    ∧ (Cert.Pre_finite_products.fn (F := Ideal) (m ((c.tc : Thread Cert.DHidIdeal.nD Cert.DHidIdeal.τ).loc Cert.DHidIdeal.main_arg0)) (m ((c.tc : Thread Cert.DHidIdeal.nD Cert.DHidIdeal.τ).loc Cert.DHidIdeal.main_arg1)) (m ((c.tc : Thread Cert.DHidIdeal.nD Cert.DHidIdeal.τ).loc Cert.DHidIdeal.main_arg2)) (m ((c.tc : Thread Cert.DHidIdeal.nD Cert.DHidIdeal.τ).loc Cert.DHidIdeal.main_arg3))).2.1 = (fun _ => 1#1)
    ∧ (Cert.Pre_finite_products.fn (F := Ideal) (m ((c.tc : Thread Cert.DHidIdeal.nD Cert.DHidIdeal.τ).loc Cert.DHidIdeal.main_arg0)) (m ((c.tc : Thread Cert.DHidIdeal.nD Cert.DHidIdeal.τ).loc Cert.DHidIdeal.main_arg1)) (m ((c.tc : Thread Cert.DHidIdeal.nD Cert.DHidIdeal.τ).loc Cert.DHidIdeal.main_arg2)) (m ((c.tc : Thread Cert.DHidIdeal.nD Cert.DHidIdeal.τ).loc Cert.DHidIdeal.main_arg3))).2.2 = (fun _ => 1#1)

def Pre_DHidRefIdeal (m : (ℓ : Loc Cert.DHidRefIdeal.nD Cert.DHidRefIdeal.τ Cert.DHidRefIdeal.sig) → Buf (Elt Ideal) ℓ) : Prop :=
  True

def Pre_DHidRefIdeal_finite_products [hPre_finite_products : Cert.Pre_finite_products.Facts] (m : (ℓ : Loc Cert.DHidRefIdeal.nD Cert.DHidRefIdeal.τ Cert.DHidRefIdeal.sig) → Buf (Elt Ideal) ℓ) : Prop :=
  ∀ c : Dev Cert.DHidRefIdeal.nD,
    (Cert.Pre_finite_products.fn (F := Ideal) (m ((c.tc : Thread Cert.DHidRefIdeal.nD Cert.DHidRefIdeal.τ).loc Cert.DHidRefIdeal.main_arg0)) (m ((c.tc : Thread Cert.DHidRefIdeal.nD Cert.DHidRefIdeal.τ).loc Cert.DHidRefIdeal.main_arg1)) (m ((c.tc : Thread Cert.DHidRefIdeal.nD Cert.DHidRefIdeal.τ).loc Cert.DHidRefIdeal.main_arg2)) (m ((c.tc : Thread Cert.DHidRefIdeal.nD Cert.DHidRefIdeal.τ).loc Cert.DHidRefIdeal.main_arg3))).1 = (fun _ => 1#1)
    ∧ (Cert.Pre_finite_products.fn (F := Ideal) (m ((c.tc : Thread Cert.DHidRefIdeal.nD Cert.DHidRefIdeal.τ).loc Cert.DHidRefIdeal.main_arg0)) (m ((c.tc : Thread Cert.DHidRefIdeal.nD Cert.DHidRefIdeal.τ).loc Cert.DHidRefIdeal.main_arg1)) (m ((c.tc : Thread Cert.DHidRefIdeal.nD Cert.DHidRefIdeal.τ).loc Cert.DHidRefIdeal.main_arg2)) (m ((c.tc : Thread Cert.DHidRefIdeal.nD Cert.DHidRefIdeal.τ).loc Cert.DHidRefIdeal.main_arg3))).2.1 = (fun _ => 1#1)
    ∧ (Cert.Pre_finite_products.fn (F := Ideal) (m ((c.tc : Thread Cert.DHidRefIdeal.nD Cert.DHidRefIdeal.τ).loc Cert.DHidRefIdeal.main_arg0)) (m ((c.tc : Thread Cert.DHidRefIdeal.nD Cert.DHidRefIdeal.τ).loc Cert.DHidRefIdeal.main_arg1)) (m ((c.tc : Thread Cert.DHidRefIdeal.nD Cert.DHidRefIdeal.τ).loc Cert.DHidRefIdeal.main_arg2)) (m ((c.tc : Thread Cert.DHidRefIdeal.nD Cert.DHidRefIdeal.τ).loc Cert.DHidRefIdeal.main_arg3))).2.2 = (fun _ => 1#1)

def Pre_DU (m : (ℓ : Loc Cert.DU.nD Cert.DU.τ Cert.DU.sig) → Buf (Elt Bits) ℓ) : Prop :=
  True

def Pre_DUIdeal (m : (ℓ : Loc Cert.DUIdeal.nD Cert.DUIdeal.τ Cert.DUIdeal.sig) → Buf (Elt Ideal) ℓ) : Prop :=
  True

def Pre_DURefIdeal (m : (ℓ : Loc Cert.DURefIdeal.nD Cert.DURefIdeal.τ Cert.DURefIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInRefIdeal (m : (ℓ : Loc Cert.DWInRefIdeal.nD Cert.DWInRefIdeal.τ Cert.DWInRefIdeal.sig) → Buf (Elt Ideal) ℓ) : Prop :=
  True

def Pre_DWDown (m : (ℓ : Loc Cert.DWDown.nD Cert.DWDown.τ Cert.DWDown.sig) → Buf (Elt Bits) ℓ) : Prop :=
  True

def Pre_DWDownIdeal (m : (ℓ : Loc Cert.DWDownIdeal.nD Cert.DWDownIdeal.τ Cert.DWDownIdeal.sig) → Buf (Elt Ideal) ℓ) : Prop :=
  True

def Pre_DWDownRefIdeal (m : (ℓ : Loc Cert.DWDownRefIdeal.nD Cert.DWDownRefIdeal.τ Cert.DWDownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_ConvW (m : (ℓ : Loc Cert.ConvW.nD Cert.ConvW.τ Cert.ConvW.sig) → Buf (Elt Bits) ℓ) : Prop :=
  True

def Pre_ConvWIdeal (m : (ℓ : Loc Cert.ConvWIdeal.nD Cert.ConvWIdeal.τ Cert.ConvWIdeal.sig) → Buf (Elt Ideal) ℓ) : Prop :=
  True

def Pre_ConvWRefIdeal (m : (ℓ : Loc Cert.ConvWRefIdeal.nD Cert.ConvWRefIdeal.τ Cert.ConvWRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixW (m : (ℓ : Loc Cert.MixW.nD Cert.MixW.τ Cert.MixW.sig) → Buf (Elt Bits) ℓ) : Prop :=
  True

def Pre_MixWIdeal (m : (ℓ : Loc Cert.MixWIdeal.nD Cert.MixWIdeal.τ Cert.MixWIdeal.sig) → Buf (Elt Ideal) ℓ) : Prop :=
  True

def Pre_MixWRefIdeal (m : (ℓ : Loc Cert.MixWRefIdeal.nD Cert.MixWRefIdeal.τ Cert.MixWRefIdeal.sig) → Buf (Elt Ideal) ℓ) : Prop :=
  True

def Pre_DHidOne (m : (ℓ : Loc Cert.DHidOne.nD Cert.DHidOne.τ Cert.DHidOne.sig) → Buf (Elt Bits) ℓ) : Prop :=
  True

def Pre_DHidOneIdeal (m : (ℓ : Loc Cert.DHidOneIdeal.nD Cert.DHidOneIdeal.τ Cert.DHidOneIdeal.sig) → Buf (Elt Ideal) ℓ) : Prop :=
  True

def Pre_DHidOneIdeal_finite_products_l1 [hPre_finite_products_l1 : Cert.Pre_finite_products_l1.Facts] (m : (ℓ : Loc Cert.DHidOneIdeal.nD Cert.DHidOneIdeal.τ Cert.DHidOneIdeal.sig) → Buf (Elt Ideal) ℓ) : Prop :=
  ∀ c : Dev Cert.DHidOneIdeal.nD,
    (Cert.Pre_finite_products_l1.fn (F := Ideal) (m ((c.tc : Thread Cert.DHidOneIdeal.nD Cert.DHidOneIdeal.τ).loc Cert.DHidOneIdeal.main_arg0)) (m ((c.tc : Thread Cert.DHidOneIdeal.nD Cert.DHidOneIdeal.τ).loc Cert.DHidOneIdeal.main_arg1)) (m ((c.tc : Thread Cert.DHidOneIdeal.nD Cert.DHidOneIdeal.τ).loc Cert.DHidOneIdeal.main_arg2)) (m ((c.tc : Thread Cert.DHidOneIdeal.nD Cert.DHidOneIdeal.τ).loc Cert.DHidOneIdeal.main_arg3))).1 = (fun _ => 1#1)
    ∧ (Cert.Pre_finite_products_l1.fn (F := Ideal) (m ((c.tc : Thread Cert.DHidOneIdeal.nD Cert.DHidOneIdeal.τ).loc Cert.DHidOneIdeal.main_arg0)) (m ((c.tc : Thread Cert.DHidOneIdeal.nD Cert.DHidOneIdeal.τ).loc Cert.DHidOneIdeal.main_arg1)) (m ((c.tc : Thread Cert.DHidOneIdeal.nD Cert.DHidOneIdeal.τ).loc Cert.DHidOneIdeal.main_arg2)) (m ((c.tc : Thread Cert.DHidOneIdeal.nD Cert.DHidOneIdeal.τ).loc Cert.DHidOneIdeal.main_arg3))).2.1 = (fun _ => 1#1)
    ∧ (Cert.Pre_finite_products_l1.fn (F := Ideal) (m ((c.tc : Thread Cert.DHidOneIdeal.nD Cert.DHidOneIdeal.τ).loc Cert.DHidOneIdeal.main_arg0)) (m ((c.tc : Thread Cert.DHidOneIdeal.nD Cert.DHidOneIdeal.τ).loc Cert.DHidOneIdeal.main_arg1)) (m ((c.tc : Thread Cert.DHidOneIdeal.nD Cert.DHidOneIdeal.τ).loc Cert.DHidOneIdeal.main_arg2)) (m ((c.tc : Thread Cert.DHidOneIdeal.nD Cert.DHidOneIdeal.τ).loc Cert.DHidOneIdeal.main_arg3))).2.2 = (fun _ => 1#1)

def Pre_DHidOneRefIdeal (m : (ℓ : Loc Cert.DHidOneRefIdeal.nD Cert.DHidOneRefIdeal.τ Cert.DHidOneRefIdeal.sig) → Buf (Elt Ideal) ℓ) : Prop :=
  True

def Pre_DHidOneRefIdeal_finite_products_l1 [hPre_finite_products_l1 : Cert.Pre_finite_products_l1.Facts] (m : (ℓ : Loc Cert.DHidOneRefIdeal.nD Cert.DHidOneRefIdeal.τ Cert.DHidOneRefIdeal.sig) → Buf (Elt Ideal) ℓ) : Prop :=
  ∀ c : Dev Cert.DHidOneRefIdeal.nD,
    (Cert.Pre_finite_products_l1.fn (F := Ideal) (m ((c.tc : Thread Cert.DHidOneRefIdeal.nD Cert.DHidOneRefIdeal.τ).loc Cert.DHidOneRefIdeal.main_arg0)) (m ((c.tc : Thread Cert.DHidOneRefIdeal.nD Cert.DHidOneRefIdeal.τ).loc Cert.DHidOneRefIdeal.main_arg1)) (m ((c.tc : Thread Cert.DHidOneRefIdeal.nD Cert.DHidOneRefIdeal.τ).loc Cert.DHidOneRefIdeal.main_arg2)) (m ((c.tc : Thread Cert.DHidOneRefIdeal.nD Cert.DHidOneRefIdeal.τ).loc Cert.DHidOneRefIdeal.main_arg3))).1 = (fun _ => 1#1)
    ∧ (Cert.Pre_finite_products_l1.fn (F := Ideal) (m ((c.tc : Thread Cert.DHidOneRefIdeal.nD Cert.DHidOneRefIdeal.τ).loc Cert.DHidOneRefIdeal.main_arg0)) (m ((c.tc : Thread Cert.DHidOneRefIdeal.nD Cert.DHidOneRefIdeal.τ).loc Cert.DHidOneRefIdeal.main_arg1)) (m ((c.tc : Thread Cert.DHidOneRefIdeal.nD Cert.DHidOneRefIdeal.τ).loc Cert.DHidOneRefIdeal.main_arg2)) (m ((c.tc : Thread Cert.DHidOneRefIdeal.nD Cert.DHidOneRefIdeal.τ).loc Cert.DHidOneRefIdeal.main_arg3))).2.1 = (fun _ => 1#1)
    ∧ (Cert.Pre_finite_products_l1.fn (F := Ideal) (m ((c.tc : Thread Cert.DHidOneRefIdeal.nD Cert.DHidOneRefIdeal.τ).loc Cert.DHidOneRefIdeal.main_arg0)) (m ((c.tc : Thread Cert.DHidOneRefIdeal.nD Cert.DHidOneRefIdeal.τ).loc Cert.DHidOneRefIdeal.main_arg1)) (m ((c.tc : Thread Cert.DHidOneRefIdeal.nD Cert.DHidOneRefIdeal.τ).loc Cert.DHidOneRefIdeal.main_arg2)) (m ((c.tc : Thread Cert.DHidOneRefIdeal.nD Cert.DHidOneRefIdeal.τ).loc Cert.DHidOneRefIdeal.main_arg3))).2.2 = (fun _ => 1#1)

def Pre_DUOne (m : (ℓ : Loc Cert.DUOne.nD Cert.DUOne.τ Cert.DUOne.sig) → Buf (Elt Bits) ℓ) : Prop :=
  True

def Pre_DUOneIdeal (m : (ℓ : Loc Cert.DUOneIdeal.nD Cert.DUOneIdeal.τ Cert.DUOneIdeal.sig) → Buf (Elt Ideal) ℓ) : Prop :=
  True

def Pre_DUOneRefIdeal (m : (ℓ : Loc Cert.DUOneRefIdeal.nD Cert.DUOneRefIdeal.τ Cert.DUOneRefIdeal.sig) → Buf (Elt Ideal) ℓ) : Prop :=
  True

def Pre_DWInOne (m : (ℓ : Loc Cert.DWInOne.nD Cert.DWInOne.τ Cert.DWInOne.sig) → Buf (Elt Bits) ℓ) : Prop :=
  True

def Pre_DWInOneIdeal (m : (ℓ : Loc Cert.DWInOneIdeal.nD Cert.DWInOneIdeal.τ Cert.DWInOneIdeal.sig) → Buf (Elt Ideal) ℓ) : Prop :=
  True

def Pre_DWInOneRefIdeal (m : (ℓ : Loc Cert.DWInOneRefIdeal.nD Cert.DWInOneRefIdeal.τ Cert.DWInOneRefIdeal.sig) → Buf (Elt Ideal) ℓ) : Prop :=
  True

def Pre_DWDownOne (m : (ℓ : Loc Cert.DWDownOne.nD Cert.DWDownOne.τ Cert.DWDownOne.sig) → Buf (Elt Bits) ℓ) : Prop :=
  True

def Pre_DWDownOneIdeal (m : (ℓ : Loc Cert.DWDownOneIdeal.nD Cert.DWDownOneIdeal.τ Cert.DWDownOneIdeal.sig) → Buf (Elt Ideal) ℓ) : Prop :=
  True

def Pre_DWDownOneRefIdeal (m : (ℓ : Loc Cert.DWDownOneRefIdeal.nD Cert.DWDownOneRefIdeal.τ Cert.DWDownOneRefIdeal.sig) → Buf (Elt Ideal) ℓ) : Prop :=
  True

def Pre_UpOne (m : (ℓ : Loc Cert.UpOne.nD Cert.UpOne.τ Cert.UpOne.sig) → Buf (Elt Bits) ℓ) : Prop :=
  True

def Pre_UpOneIdeal (m : (ℓ : Loc Cert.UpOneIdeal.nD Cert.UpOneIdeal.τ Cert.UpOneIdeal.sig) → Buf (Elt Ideal) ℓ) : Prop :=
  True

def Pre_UpOneRefIdeal (m : (ℓ : Loc Cert.UpOneRefIdeal.nD Cert.UpOneRefIdeal.τ Cert.UpOneRefIdeal.sig) → Buf (Elt Ideal) ℓ) : Prop :=
  True

def Pre_DownOne (m : (ℓ : Loc Cert.DownOne.nD Cert.DownOne.τ Cert.DownOne.sig) → Buf (Elt Bits) ℓ) : Prop :=
  True

def Pre_DownOneIdeal (m : (ℓ : Loc Cert.DownOneIdeal.nD Cert.DownOneIdeal.τ Cert.DownOneIdeal.sig) → Buf (Elt Ideal) ℓ) : Prop :=
  True

def Pre_DownOneRefIdeal (m : (ℓ : Loc Cert.DownOneRefIdeal.nD Cert.DownOneRefIdeal.τ Cert.DownOneRefIdeal.sig) → Buf (Elt Ideal) ℓ) : Prop :=
  True

def Pre_DownB (m : (ℓ : Loc Cert.DownB.nD Cert.DownB.τ Cert.DownB.sig) → Buf (Elt Bits) ℓ) : Prop :=
  True

def Pre_DownBIdeal (m : (ℓ : Loc Cert.DownBIdeal.nD Cert.DownBIdeal.τ Cert.DownBIdeal.sig) → Buf (Elt Ideal) ℓ) : Prop :=
  True

def Pre_DownBRefIdeal (m : (ℓ : Loc Cert.DownBRefIdeal.nD Cert.DownBRefIdeal.τ Cert.DownBRefIdeal.sig) → Buf (Elt Ideal) ℓ) : Prop :=
  True

def Pre_DownOneB (m : (ℓ : Loc Cert.DownOneB.nD Cert.DownOneB.τ Cert.DownOneB.sig) → Buf (Elt Bits) ℓ) : Prop :=
  True

def Pre_DownOneBIdeal (m : (ℓ : Loc Cert.DownOneBIdeal.nD Cert.DownOneBIdeal.τ Cert.DownOneBIdeal.sig) → Buf (Elt Ideal) ℓ) : Prop :=
  True

def Pre_DownOneBRefIdeal (m : (ℓ : Loc Cert.DownOneBRefIdeal.nD Cert.DownOneBRefIdeal.τ Cert.DownOneBRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixOne (m : (ℓ : Loc Cert.MixOne.nD Cert.MixOne.τ Cert.MixOne.sig) → Buf (Elt Bits) ℓ) : Prop :=
  True

def Pre_MixOneIdeal (m : (ℓ : Loc Cert.MixOneIdeal.nD Cert.MixOneIdeal.τ Cert.MixOneIdeal.sig) → Buf (Elt Ideal) ℓ) : Prop :=
  True

def Pre_MixOneRefIdeal (m : (ℓ : Loc Cert.MixOneRefIdeal.nD Cert.MixOneRefIdeal.τ Cert.MixOneRefIdeal.sig) → Buf (Elt Ideal) ℓ) : Prop :=
  True

def Pre_MixInOne (m : (ℓ : Loc Cert.MixInOne.nD Cert.MixInOne.τ Cert.MixInOne.sig) → Buf (Elt Bits) ℓ) : Prop :=
  True

def Pre_MixInOneIdeal (m : (ℓ : Loc Cert.MixInOneIdeal.nD Cert.MixInOneIdeal.τ Cert.MixInOneIdeal.sig) → Buf (Elt Ideal) ℓ) : Prop :=
  True

def Pre_MixInOneRefIdeal (m : (ℓ : Loc Cert.MixInOneRefIdeal.nD Cert.MixInOneRefIdeal.τ Cert.MixInOneRefIdeal.sig) → Buf (Elt Ideal) ℓ) : Prop :=
  True

def Pre_MixWOne (m : (ℓ : Loc Cert.MixWOne.nD Cert.MixWOne.τ Cert.MixWOne.sig) → Buf (Elt Bits) ℓ) : Prop :=
  True

def Pre_MixWOneIdeal (m : (ℓ : Loc Cert.MixWOneIdeal.nD Cert.MixWOneIdeal.τ Cert.MixWOneIdeal.sig) → Buf (Elt Ideal) ℓ) : Prop :=
  True

def Pre_MixWOneRefIdeal (m : (ℓ : Loc Cert.MixWOneRefIdeal.nD Cert.MixWOneRefIdeal.τ Cert.MixWOneRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_finite_queries_keys [hPre_finite_queries_keys : Cert.Pre_finite_queries_keys.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_finite_queries_keys.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))).1 = (fun _ => 1#1)
    ∧ (Cert.Pre_finite_queries_keys.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))).2 = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_finite_queries_keys [hPre_finite_queries_keys : Cert.Pre_finite_queries_keys.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_finite_queries_keys.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))).1 = (fun _ => 1#1)
    ∧ (Cert.Pre_finite_queries_keys.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))).2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_operands [hAttnIdeal : Cert.AttnIdeal.Facts] [hPre_finite_operands : Cert.Pre_finite_operands.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_operands m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_operands [hAttnRefIdeal : Cert.AttnRefIdeal.Facts] [hPre_finite_operands : Cert.Pre_finite_operands.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_operands m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_DHid [hDHid : Cert.DHid.Facts] : Prop :=
  ∀ (m : (ℓ : Loc Cert.DHid.nD Cert.DHid.τ Cert.DHid.sig) → Buf (Elt Bits) ℓ) (g : Dev Cert.DHid.nD → PrngReg), Pre_DHid m →
    θ_run (Cert.DHid.defs (F := Bits)) (onTc (τ := Cert.DHid.τ) (Cert.DHid.main (F := Bits))) ⟨m, fun _ => 0, g⟩ (fun r => (∀ c : Dev Cert.DHid.nD,
      r.2.mem ((c.tc : Thread Cert.DHid.nD Cert.DHid.τ).loc Cert.DHid.main_arg0) = m ((c.tc : Thread Cert.DHid.nD Cert.DHid.τ).loc Cert.DHid.main_arg0)
      ∧ r.2.mem ((c.tc : Thread Cert.DHid.nD Cert.DHid.τ).loc Cert.DHid.main_arg1) = m ((c.tc : Thread Cert.DHid.nD Cert.DHid.τ).loc Cert.DHid.main_arg1)
      ∧ r.2.mem ((c.tc : Thread Cert.DHid.nD Cert.DHid.τ).loc Cert.DHid.main_arg2) = m ((c.tc : Thread Cert.DHid.nD Cert.DHid.τ).loc Cert.DHid.main_arg2)
      ∧ r.2.mem ((c.tc : Thread Cert.DHid.nD Cert.DHid.τ).loc Cert.DHid.main_arg3) = m ((c.tc : Thread Cert.DHid.nD Cert.DHid.τ).loc Cert.DHid.main_arg3))
      ∧ r.2.sem = fun _ => 0)

def quiescent_DHidIdeal [hDHidIdeal : Cert.DHidIdeal.Facts] : Prop :=
  ∀ (m : (ℓ : Loc Cert.DHidIdeal.nD Cert.DHidIdeal.τ Cert.DHidIdeal.sig) → Buf (Elt Ideal) ℓ) (g : Dev Cert.DHidIdeal.nD → PrngReg), Pre_DHidIdeal m →
    θ_run (Cert.DHidIdeal.defs (F := Ideal)) (onTc (τ := Cert.DHidIdeal.τ) (Cert.DHidIdeal.main (F := Ideal))) ⟨m, fun _ => 0, g⟩ (fun r => (∀ c : Dev Cert.DHidIdeal.nD,
      r.2.mem ((c.tc : Thread Cert.DHidIdeal.nD Cert.DHidIdeal.τ).loc Cert.DHidIdeal.main_arg0) = m ((c.tc : Thread Cert.DHidIdeal.nD Cert.DHidIdeal.τ).loc Cert.DHidIdeal.main_arg0)
      ∧ r.2.mem ((c.tc : Thread Cert.DHidIdeal.nD Cert.DHidIdeal.τ).loc Cert.DHidIdeal.main_arg1) = m ((c.tc : Thread Cert.DHidIdeal.nD Cert.DHidIdeal.τ).loc Cert.DHidIdeal.main_arg1)
      ∧ r.2.mem ((c.tc : Thread Cert.DHidIdeal.nD Cert.DHidIdeal.τ).loc Cert.DHidIdeal.main_arg2) = m ((c.tc : Thread Cert.DHidIdeal.nD Cert.DHidIdeal.τ).loc Cert.DHidIdeal.main_arg2)
      ∧ r.2.mem ((c.tc : Thread Cert.DHidIdeal.nD Cert.DHidIdeal.τ).loc Cert.DHidIdeal.main_arg3) = m ((c.tc : Thread Cert.DHidIdeal.nD Cert.DHidIdeal.τ).loc Cert.DHidIdeal.main_arg3))
      ∧ r.2.sem = fun _ => 0)

def quiescent_DHidIdeal_pre_finite_products [hDHidIdeal : Cert.DHidIdeal.Facts] [hPre_finite_products : Cert.Pre_finite_products.Facts] : Prop :=
  ∀ (m : (ℓ : Loc Cert.DHidIdeal.nD Cert.DHidIdeal.τ Cert.DHidIdeal.sig) → Buf (Elt Ideal) ℓ) (g : Dev Cert.DHidIdeal.nD → PrngReg), Pre_DHidIdeal_finite_products m →
    θ_run (Cert.DHidIdeal.defs (F := Ideal)) (onTc (τ := Cert.DHidIdeal.τ) (Cert.DHidIdeal.main (F := Ideal))) ⟨m, fun _ => 0, g⟩ (fun r => (∀ c : Dev Cert.DHidIdeal.nD,
      r.2.mem ((c.tc : Thread Cert.DHidIdeal.nD Cert.DHidIdeal.τ).loc Cert.DHidIdeal.main_arg0) = m ((c.tc : Thread Cert.DHidIdeal.nD Cert.DHidIdeal.τ).loc Cert.DHidIdeal.main_arg0)
      ∧ r.2.mem ((c.tc : Thread Cert.DHidIdeal.nD Cert.DHidIdeal.τ).loc Cert.DHidIdeal.main_arg1) = m ((c.tc : Thread Cert.DHidIdeal.nD Cert.DHidIdeal.τ).loc Cert.DHidIdeal.main_arg1)
      ∧ r.2.mem ((c.tc : Thread Cert.DHidIdeal.nD Cert.DHidIdeal.τ).loc Cert.DHidIdeal.main_arg2) = m ((c.tc : Thread Cert.DHidIdeal.nD Cert.DHidIdeal.τ).loc Cert.DHidIdeal.main_arg2)
      ∧ r.2.mem ((c.tc : Thread Cert.DHidIdeal.nD Cert.DHidIdeal.τ).loc Cert.DHidIdeal.main_arg3) = m ((c.tc : Thread Cert.DHidIdeal.nD Cert.DHidIdeal.τ).loc Cert.DHidIdeal.main_arg3))
      ∧ r.2.sem = fun _ => 0)

def quiescent_DHidRefIdeal [hDHidRefIdeal : Cert.DHidRefIdeal.Facts] : Prop :=
  ∀ (m : (ℓ : Loc Cert.DHidRefIdeal.nD Cert.DHidRefIdeal.τ Cert.DHidRefIdeal.sig) → Buf (Elt Ideal) ℓ) (g : Dev Cert.DHidRefIdeal.nD → PrngReg), Pre_DHidRefIdeal m →
    θ_run (Cert.DHidRefIdeal.defs (F := Ideal)) (onTc (τ := Cert.DHidRefIdeal.τ) (Cert.DHidRefIdeal.main (F := Ideal))) ⟨m, fun _ => 0, g⟩ (fun r => (∀ c : Dev Cert.DHidRefIdeal.nD,
      r.2.mem ((c.tc : Thread Cert.DHidRefIdeal.nD Cert.DHidRefIdeal.τ).loc Cert.DHidRefIdeal.main_arg0) = m ((c.tc : Thread Cert.DHidRefIdeal.nD Cert.DHidRefIdeal.τ).loc Cert.DHidRefIdeal.main_arg0)
      ∧ r.2.mem ((c.tc : Thread Cert.DHidRefIdeal.nD Cert.DHidRefIdeal.τ).loc Cert.DHidRefIdeal.main_arg1) = m ((c.tc : Thread Cert.DHidRefIdeal.nD Cert.DHidRefIdeal.τ).loc Cert.DHidRefIdeal.main_arg1)
      ∧ r.2.mem ((c.tc : Thread Cert.DHidRefIdeal.nD Cert.DHidRefIdeal.τ).loc Cert.DHidRefIdeal.main_arg2) = m ((c.tc : Thread Cert.DHidRefIdeal.nD Cert.DHidRefIdeal.τ).loc Cert.DHidRefIdeal.main_arg2)
      ∧ r.2.mem ((c.tc : Thread Cert.DHidRefIdeal.nD Cert.DHidRefIdeal.τ).loc Cert.DHidRefIdeal.main_arg3) = m ((c.tc : Thread Cert.DHidRefIdeal.nD Cert.DHidRefIdeal.τ).loc Cert.DHidRefIdeal.main_arg3))
      ∧ r.2.sem = fun _ => 0)

def quiescent_DHidRefIdeal_pre_finite_products [hDHidRefIdeal : Cert.DHidRefIdeal.Facts] [hPre_finite_products : Cert.Pre_finite_products.Facts] : Prop :=
  ∀ (m : (ℓ : Loc Cert.DHidRefIdeal.nD Cert.DHidRefIdeal.τ Cert.DHidRefIdeal.sig) → Buf (Elt Ideal) ℓ) (g : Dev Cert.DHidRefIdeal.nD → PrngReg), Pre_DHidRefIdeal_finite_products m →
    θ_run (Cert.DHidRefIdeal.defs (F := Ideal)) (onTc (τ := Cert.DHidRefIdeal.τ) (Cert.DHidRefIdeal.main (F := Ideal))) ⟨m, fun _ => 0, g⟩ (fun r => (∀ c : Dev Cert.DHidRefIdeal.nD,
      r.2.mem ((c.tc : Thread Cert.DHidRefIdeal.nD Cert.DHidRefIdeal.τ).loc Cert.DHidRefIdeal.main_arg0) = m ((c.tc : Thread Cert.DHidRefIdeal.nD Cert.DHidRefIdeal.τ).loc Cert.DHidRefIdeal.main_arg0)
      ∧ r.2.mem ((c.tc : Thread Cert.DHidRefIdeal.nD Cert.DHidRefIdeal.τ).loc Cert.DHidRefIdeal.main_arg1) = m ((c.tc : Thread Cert.DHidRefIdeal.nD Cert.DHidRefIdeal.τ).loc Cert.DHidRefIdeal.main_arg1)
      ∧ r.2.mem ((c.tc : Thread Cert.DHidRefIdeal.nD Cert.DHidRefIdeal.τ).loc Cert.DHidRefIdeal.main_arg2) = m ((c.tc : Thread Cert.DHidRefIdeal.nD Cert.DHidRefIdeal.τ).loc Cert.DHidRefIdeal.main_arg2)
      ∧ r.2.mem ((c.tc : Thread Cert.DHidRefIdeal.nD Cert.DHidRefIdeal.τ).loc Cert.DHidRefIdeal.main_arg3) = m ((c.tc : Thread Cert.DHidRefIdeal.nD Cert.DHidRefIdeal.τ).loc Cert.DHidRefIdeal.main_arg3))
      ∧ r.2.sem = fun _ => 0)

def quiescent_DU [hDU : Cert.DU.Facts] : Prop :=
  ∀ (m : (ℓ : Loc Cert.DU.nD Cert.DU.τ Cert.DU.sig) → Buf (Elt Bits) ℓ) (g : Dev Cert.DU.nD → PrngReg), Pre_DU m →
    θ_run (Cert.DU.defs (F := Bits)) (onTc (τ := Cert.DU.τ) (Cert.DU.main (F := Bits))) ⟨m, fun _ => 0, g⟩ (fun r => (∀ c : Dev Cert.DU.nD,
      r.2.mem ((c.tc : Thread Cert.DU.nD Cert.DU.τ).loc Cert.DU.main_arg0) = m ((c.tc : Thread Cert.DU.nD Cert.DU.τ).loc Cert.DU.main_arg0)
      ∧ r.2.mem ((c.tc : Thread Cert.DU.nD Cert.DU.τ).loc Cert.DU.main_arg1) = m ((c.tc : Thread Cert.DU.nD Cert.DU.τ).loc Cert.DU.main_arg1)
      ∧ r.2.mem ((c.tc : Thread Cert.DU.nD Cert.DU.τ).loc Cert.DU.main_arg2) = m ((c.tc : Thread Cert.DU.nD Cert.DU.τ).loc Cert.DU.main_arg2)
      ∧ r.2.mem ((c.tc : Thread Cert.DU.nD Cert.DU.τ).loc Cert.DU.main_arg3) = m ((c.tc : Thread Cert.DU.nD Cert.DU.τ).loc Cert.DU.main_arg3))
      ∧ r.2.sem = fun _ => 0)

def quiescent_DUIdeal [hDUIdeal : Cert.DUIdeal.Facts] : Prop :=
  ∀ (m : (ℓ : Loc Cert.DUIdeal.nD Cert.DUIdeal.τ Cert.DUIdeal.sig) → Buf (Elt Ideal) ℓ) (g : Dev Cert.DUIdeal.nD → PrngReg), Pre_DUIdeal m →
    θ_run (Cert.DUIdeal.defs (F := Ideal)) (onTc (τ := Cert.DUIdeal.τ) (Cert.DUIdeal.main (F := Ideal))) ⟨m, fun _ => 0, g⟩ (fun r => (∀ c : Dev Cert.DUIdeal.nD,
      r.2.mem ((c.tc : Thread Cert.DUIdeal.nD Cert.DUIdeal.τ).loc Cert.DUIdeal.main_arg0) = m ((c.tc : Thread Cert.DUIdeal.nD Cert.DUIdeal.τ).loc Cert.DUIdeal.main_arg0)
      ∧ r.2.mem ((c.tc : Thread Cert.DUIdeal.nD Cert.DUIdeal.τ).loc Cert.DUIdeal.main_arg1) = m ((c.tc : Thread Cert.DUIdeal.nD Cert.DUIdeal.τ).loc Cert.DUIdeal.main_arg1)
      ∧ r.2.mem ((c.tc : Thread Cert.DUIdeal.nD Cert.DUIdeal.τ).loc Cert.DUIdeal.main_arg2) = m ((c.tc : Thread Cert.DUIdeal.nD Cert.DUIdeal.τ).loc Cert.DUIdeal.main_arg2)
      ∧ r.2.mem ((c.tc : Thread Cert.DUIdeal.nD Cert.DUIdeal.τ).loc Cert.DUIdeal.main_arg3) = m ((c.tc : Thread Cert.DUIdeal.nD Cert.DUIdeal.τ).loc Cert.DUIdeal.main_arg3))
      ∧ r.2.sem = fun _ => 0)

def quiescent_DURefIdeal [hDURefIdeal : Cert.DURefIdeal.Facts] : Prop :=
  ∀ (m : (ℓ : Loc Cert.DURefIdeal.nD Cert.DURefIdeal.τ Cert.DURefIdeal.sig) → Buf (Elt Ideal) ℓ) (g : Dev Cert.DURefIdeal.nD → PrngReg), Pre_DURefIdeal m →
    θ_run (Cert.DURefIdeal.defs (F := Ideal)) (onTc (τ := Cert.DURefIdeal.τ) (Cert.DURefIdeal.main (F := Ideal))) ⟨m, fun _ => 0, g⟩ (fun r => (∀ c : Dev Cert.DURefIdeal.nD,
      r.2.mem ((c.tc : Thread Cert.DURefIdeal.nD Cert.DURefIdeal.τ).loc Cert.DURefIdeal.main_arg0) = m ((c.tc : Thread Cert.DURefIdeal.nD Cert.DURefIdeal.τ).loc Cert.DURefIdeal.main_arg0)
      ∧ r.2.mem ((c.tc : Thread Cert.DURefIdeal.nD Cert.DURefIdeal.τ).loc Cert.DURefIdeal.main_arg1) = m ((c.tc : Thread Cert.DURefIdeal.nD Cert.DURefIdeal.τ).loc Cert.DURefIdeal.main_arg1)
      ∧ r.2.mem ((c.tc : Thread Cert.DURefIdeal.nD Cert.DURefIdeal.τ).loc Cert.DURefIdeal.main_arg2) = m ((c.tc : Thread Cert.DURefIdeal.nD Cert.DURefIdeal.τ).loc Cert.DURefIdeal.main_arg2)
      ∧ r.2.mem ((c.tc : Thread Cert.DURefIdeal.nD Cert.DURefIdeal.τ).loc Cert.DURefIdeal.main_arg3) = m ((c.tc : Thread Cert.DURefIdeal.nD Cert.DURefIdeal.τ).loc Cert.DURefIdeal.main_arg3))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1)
      ∧ r.2.mem ((c.tc : Thread Cert.DWIn.nD Cert.DWIn.τ).loc Cert.DWIn.main_arg2) = m ((c.tc : Thread Cert.DWIn.nD Cert.DWIn.τ).loc Cert.DWIn.main_arg2)
      ∧ r.2.mem ((c.tc : Thread Cert.DWIn.nD Cert.DWIn.τ).loc Cert.DWIn.main_arg3) = m ((c.tc : Thread Cert.DWIn.nD Cert.DWIn.τ).loc Cert.DWIn.main_arg3)
      ∧ r.2.mem ((c.tc : Thread Cert.DWIn.nD Cert.DWIn.τ).loc Cert.DWIn.main_arg4) = m ((c.tc : Thread Cert.DWIn.nD Cert.DWIn.τ).loc Cert.DWIn.main_arg4))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1)
      ∧ r.2.mem ((c.tc : Thread Cert.DWInIdeal.nD Cert.DWInIdeal.τ).loc Cert.DWInIdeal.main_arg2) = m ((c.tc : Thread Cert.DWInIdeal.nD Cert.DWInIdeal.τ).loc Cert.DWInIdeal.main_arg2)
      ∧ r.2.mem ((c.tc : Thread Cert.DWInIdeal.nD Cert.DWInIdeal.τ).loc Cert.DWInIdeal.main_arg3) = m ((c.tc : Thread Cert.DWInIdeal.nD Cert.DWInIdeal.τ).loc Cert.DWInIdeal.main_arg3)
      ∧ r.2.mem ((c.tc : Thread Cert.DWInIdeal.nD Cert.DWInIdeal.τ).loc Cert.DWInIdeal.main_arg4) = m ((c.tc : Thread Cert.DWInIdeal.nD Cert.DWInIdeal.τ).loc Cert.DWInIdeal.main_arg4))
      ∧ r.2.sem = fun _ => 0)

def quiescent_DWInRefIdeal [hDWInRefIdeal : Cert.DWInRefIdeal.Facts] : Prop :=
  ∀ (m : (ℓ : Loc Cert.DWInRefIdeal.nD Cert.DWInRefIdeal.τ Cert.DWInRefIdeal.sig) → Buf (Elt Ideal) ℓ) (g : Dev Cert.DWInRefIdeal.nD → PrngReg), Pre_DWInRefIdeal m →
    θ_run (Cert.DWInRefIdeal.defs (F := Ideal)) (onTc (τ := Cert.DWInRefIdeal.τ) (Cert.DWInRefIdeal.main (F := Ideal))) ⟨m, fun _ => 0, g⟩ (fun r => (∀ c : Dev Cert.DWInRefIdeal.nD,
      r.2.mem ((c.tc : Thread Cert.DWInRefIdeal.nD Cert.DWInRefIdeal.τ).loc Cert.DWInRefIdeal.main_arg0) = m ((c.tc : Thread Cert.DWInRefIdeal.nD Cert.DWInRefIdeal.τ).loc Cert.DWInRefIdeal.main_arg0)
      ∧ r.2.mem ((c.tc : Thread Cert.DWInRefIdeal.nD Cert.DWInRefIdeal.τ).loc Cert.DWInRefIdeal.main_arg1) = m ((c.tc : Thread Cert.DWInRefIdeal.nD Cert.DWInRefIdeal.τ).loc Cert.DWInRefIdeal.main_arg1)
      ∧ r.2.mem ((c.tc : Thread Cert.DWInRefIdeal.nD Cert.DWInRefIdeal.τ).loc Cert.DWInRefIdeal.main_arg2) = m ((c.tc : Thread Cert.DWInRefIdeal.nD Cert.DWInRefIdeal.τ).loc Cert.DWInRefIdeal.main_arg2)
      ∧ r.2.mem ((c.tc : Thread Cert.DWInRefIdeal.nD Cert.DWInRefIdeal.τ).loc Cert.DWInRefIdeal.main_arg3) = m ((c.tc : Thread Cert.DWInRefIdeal.nD Cert.DWInRefIdeal.τ).loc Cert.DWInRefIdeal.main_arg3)
      ∧ r.2.mem ((c.tc : Thread Cert.DWInRefIdeal.nD Cert.DWInRefIdeal.τ).loc Cert.DWInRefIdeal.main_arg4) = m ((c.tc : Thread Cert.DWInRefIdeal.nD Cert.DWInRefIdeal.τ).loc Cert.DWInRefIdeal.main_arg4))
      ∧ r.2.sem = fun _ => 0)

def quiescent_DWDown [hDWDown : Cert.DWDown.Facts] : Prop :=
  ∀ (m : (ℓ : Loc Cert.DWDown.nD Cert.DWDown.τ Cert.DWDown.sig) → Buf (Elt Bits) ℓ) (g : Dev Cert.DWDown.nD → PrngReg), Pre_DWDown m →
    θ_run (Cert.DWDown.defs (F := Bits)) (onTc (τ := Cert.DWDown.τ) (Cert.DWDown.main (F := Bits))) ⟨m, fun _ => 0, g⟩ (fun r => (∀ c : Dev Cert.DWDown.nD,
      r.2.mem ((c.tc : Thread Cert.DWDown.nD Cert.DWDown.τ).loc Cert.DWDown.main_arg0) = m ((c.tc : Thread Cert.DWDown.nD Cert.DWDown.τ).loc Cert.DWDown.main_arg0)
      ∧ r.2.mem ((c.tc : Thread Cert.DWDown.nD Cert.DWDown.τ).loc Cert.DWDown.main_arg1) = m ((c.tc : Thread Cert.DWDown.nD Cert.DWDown.τ).loc Cert.DWDown.main_arg1)
      ∧ r.2.mem ((c.tc : Thread Cert.DWDown.nD Cert.DWDown.τ).loc Cert.DWDown.main_arg2) = m ((c.tc : Thread Cert.DWDown.nD Cert.DWDown.τ).loc Cert.DWDown.main_arg2))
      ∧ r.2.sem = fun _ => 0)

def quiescent_DWDownIdeal [hDWDownIdeal : Cert.DWDownIdeal.Facts] : Prop :=
  ∀ (m : (ℓ : Loc Cert.DWDownIdeal.nD Cert.DWDownIdeal.τ Cert.DWDownIdeal.sig) → Buf (Elt Ideal) ℓ) (g : Dev Cert.DWDownIdeal.nD → PrngReg), Pre_DWDownIdeal m →
    θ_run (Cert.DWDownIdeal.defs (F := Ideal)) (onTc (τ := Cert.DWDownIdeal.τ) (Cert.DWDownIdeal.main (F := Ideal))) ⟨m, fun _ => 0, g⟩ (fun r => (∀ c : Dev Cert.DWDownIdeal.nD,
      r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
      ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1)
      ∧ r.2.mem ((c.tc : Thread Cert.DWDownIdeal.nD Cert.DWDownIdeal.τ).loc Cert.DWDownIdeal.main_arg2) = m ((c.tc : Thread Cert.DWDownIdeal.nD Cert.DWDownIdeal.τ).loc Cert.DWDownIdeal.main_arg2))
      ∧ r.2.sem = fun _ => 0)

def quiescent_DWDownRefIdeal [hDWDownRefIdeal : Cert.DWDownRefIdeal.Facts] : Prop :=
  ∀ (m : (ℓ : Loc Cert.DWDownRefIdeal.nD Cert.DWDownRefIdeal.τ Cert.DWDownRefIdeal.sig) → Buf (Elt Ideal) ℓ) (g : Dev Cert.DWDownRefIdeal.nD → PrngReg), Pre_DWDownRefIdeal m →
    θ_run (Cert.DWDownRefIdeal.defs (F := Ideal)) (onTc (τ := Cert.DWDownRefIdeal.τ) (Cert.DWDownRefIdeal.main (F := Ideal))) ⟨m, fun _ => 0, g⟩ (fun r => (∀ c : Dev Cert.DWDownRefIdeal.nD,
      r.2.mem ((c.tc : Thread Cert.DWDownRefIdeal.nD Cert.DWDownRefIdeal.τ).loc Cert.DWDownRefIdeal.main_arg0) = m ((c.tc : Thread Cert.DWDownRefIdeal.nD Cert.DWDownRefIdeal.τ).loc Cert.DWDownRefIdeal.main_arg0)
      ∧ r.2.mem ((c.tc : Thread Cert.DWDownRefIdeal.nD Cert.DWDownRefIdeal.τ).loc Cert.DWDownRefIdeal.main_arg1) = m ((c.tc : Thread Cert.DWDownRefIdeal.nD Cert.DWDownRefIdeal.τ).loc Cert.DWDownRefIdeal.main_arg1)
      ∧ r.2.mem ((c.tc : Thread Cert.DWDownRefIdeal.nD Cert.DWDownRefIdeal.τ).loc Cert.DWDownRefIdeal.main_arg2) = m ((c.tc : Thread Cert.DWDownRefIdeal.nD Cert.DWDownRefIdeal.τ).loc Cert.DWDownRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1))
      ∧ r.2.sem = fun _ => 0)

def quiescent_ConvW [hConvW : Cert.ConvW.Facts] : Prop :=
  ∀ (m : (ℓ : Loc Cert.ConvW.nD Cert.ConvW.τ Cert.ConvW.sig) → Buf (Elt Bits) ℓ) (g : Dev Cert.ConvW.nD → PrngReg), Pre_ConvW m →
    θ_run (Cert.ConvW.defs (F := Bits)) (onTc (τ := Cert.ConvW.τ) (Cert.ConvW.main (F := Bits))) ⟨m, fun _ => 0, g⟩ (fun r => (∀ c : Dev Cert.ConvW.nD,
      r.2.mem ((c.tc : Thread Cert.ConvW.nD Cert.ConvW.τ).loc Cert.ConvW.main_arg0) = m ((c.tc : Thread Cert.ConvW.nD Cert.ConvW.τ).loc Cert.ConvW.main_arg0)
      ∧ r.2.mem ((c.tc : Thread Cert.ConvW.nD Cert.ConvW.τ).loc Cert.ConvW.main_arg1) = m ((c.tc : Thread Cert.ConvW.nD Cert.ConvW.τ).loc Cert.ConvW.main_arg1))
      ∧ r.2.sem = fun _ => 0)

def quiescent_ConvWIdeal [hConvWIdeal : Cert.ConvWIdeal.Facts] : Prop :=
  ∀ (m : (ℓ : Loc Cert.ConvWIdeal.nD Cert.ConvWIdeal.τ Cert.ConvWIdeal.sig) → Buf (Elt Ideal) ℓ) (g : Dev Cert.ConvWIdeal.nD → PrngReg), Pre_ConvWIdeal m →
    θ_run (Cert.ConvWIdeal.defs (F := Ideal)) (onTc (τ := Cert.ConvWIdeal.τ) (Cert.ConvWIdeal.main (F := Ideal))) ⟨m, fun _ => 0, g⟩ (fun r => (∀ c : Dev Cert.ConvWIdeal.nD,
      r.2.mem ((c.tc : Thread Cert.ConvWIdeal.nD Cert.ConvWIdeal.τ).loc Cert.ConvWIdeal.main_arg0) = m ((c.tc : Thread Cert.ConvWIdeal.nD Cert.ConvWIdeal.τ).loc Cert.ConvWIdeal.main_arg0)
      ∧ r.2.mem ((c.tc : Thread Cert.ConvWIdeal.nD Cert.ConvWIdeal.τ).loc Cert.ConvWIdeal.main_arg1) = m ((c.tc : Thread Cert.ConvWIdeal.nD Cert.ConvWIdeal.τ).loc Cert.ConvWIdeal.main_arg1))
      ∧ r.2.sem = fun _ => 0)

def quiescent_ConvWRefIdeal [hConvWRefIdeal : Cert.ConvWRefIdeal.Facts] : Prop :=
  ∀ (m : (ℓ : Loc Cert.ConvWRefIdeal.nD Cert.ConvWRefIdeal.τ Cert.ConvWRefIdeal.sig) → Buf (Elt Ideal) ℓ) (g : Dev Cert.ConvWRefIdeal.nD → PrngReg), Pre_ConvWRefIdeal m →
    θ_run (Cert.ConvWRefIdeal.defs (F := Ideal)) (onTc (τ := Cert.ConvWRefIdeal.τ) (Cert.ConvWRefIdeal.main (F := Ideal))) ⟨m, fun _ => 0, g⟩ (fun r => (∀ c : Dev Cert.ConvWRefIdeal.nD,
      r.2.mem ((c.tc : Thread Cert.ConvWRefIdeal.nD Cert.ConvWRefIdeal.τ).loc Cert.ConvWRefIdeal.main_arg0) = m ((c.tc : Thread Cert.ConvWRefIdeal.nD Cert.ConvWRefIdeal.τ).loc Cert.ConvWRefIdeal.main_arg0)
      ∧ r.2.mem ((c.tc : Thread Cert.ConvWRefIdeal.nD Cert.ConvWRefIdeal.τ).loc Cert.ConvWRefIdeal.main_arg1) = m ((c.tc : Thread Cert.ConvWRefIdeal.nD Cert.ConvWRefIdeal.τ).loc Cert.ConvWRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixW [hMixW : Cert.MixW.Facts] : Prop :=
  ∀ (m : (ℓ : Loc Cert.MixW.nD Cert.MixW.τ Cert.MixW.sig) → Buf (Elt Bits) ℓ) (g : Dev Cert.MixW.nD → PrngReg), Pre_MixW m →
    θ_run (Cert.MixW.defs (F := Bits)) (onTc (τ := Cert.MixW.τ) (Cert.MixW.main (F := Bits))) ⟨m, fun _ => 0, g⟩ (fun r => (∀ c : Dev Cert.MixW.nD,
      r.2.mem ((c.tc : Thread Cert.MixW.nD Cert.MixW.τ).loc Cert.MixW.main_arg0) = m ((c.tc : Thread Cert.MixW.nD Cert.MixW.τ).loc Cert.MixW.main_arg0)
      ∧ r.2.mem ((c.tc : Thread Cert.MixW.nD Cert.MixW.τ).loc Cert.MixW.main_arg1) = m ((c.tc : Thread Cert.MixW.nD Cert.MixW.τ).loc Cert.MixW.main_arg1))
      ∧ r.2.sem = fun _ => 0)

def quiescent_MixWIdeal [hMixWIdeal : Cert.MixWIdeal.Facts] : Prop :=
  ∀ (m : (ℓ : Loc Cert.MixWIdeal.nD Cert.MixWIdeal.τ Cert.MixWIdeal.sig) → Buf (Elt Ideal) ℓ) (g : Dev Cert.MixWIdeal.nD → PrngReg), Pre_MixWIdeal m →
    θ_run (Cert.MixWIdeal.defs (F := Ideal)) (onTc (τ := Cert.MixWIdeal.τ) (Cert.MixWIdeal.main (F := Ideal))) ⟨m, fun _ => 0, g⟩ (fun r => (∀ c : Dev Cert.MixWIdeal.nD,
      r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
      ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1))
      ∧ r.2.sem = fun _ => 0)

def quiescent_MixWRefIdeal [hMixWRefIdeal : Cert.MixWRefIdeal.Facts] : Prop :=
  ∀ (m : (ℓ : Loc Cert.MixWRefIdeal.nD Cert.MixWRefIdeal.τ Cert.MixWRefIdeal.sig) → Buf (Elt Ideal) ℓ) (g : Dev Cert.MixWRefIdeal.nD → PrngReg), Pre_MixWRefIdeal m →
    θ_run (Cert.MixWRefIdeal.defs (F := Ideal)) (onTc (τ := Cert.MixWRefIdeal.τ) (Cert.MixWRefIdeal.main (F := Ideal))) ⟨m, fun _ => 0, g⟩ (fun r => (∀ c : Dev Cert.MixWRefIdeal.nD,
      r.2.mem ((c.tc : Thread Cert.MixWRefIdeal.nD Cert.MixWRefIdeal.τ).loc Cert.MixWRefIdeal.main_arg0) = m ((c.tc : Thread Cert.MixWRefIdeal.nD Cert.MixWRefIdeal.τ).loc Cert.MixWRefIdeal.main_arg0)
      ∧ r.2.mem ((c.tc : Thread Cert.MixWRefIdeal.nD Cert.MixWRefIdeal.τ).loc Cert.MixWRefIdeal.main_arg1) = m ((c.tc : Thread Cert.MixWRefIdeal.nD Cert.MixWRefIdeal.τ).loc Cert.MixWRefIdeal.main_arg1))
      ∧ r.2.sem = fun _ => 0)

def quiescent_DHidOne [hDHidOne : Cert.DHidOne.Facts] : Prop :=
  ∀ (m : (ℓ : Loc Cert.DHidOne.nD Cert.DHidOne.τ Cert.DHidOne.sig) → Buf (Elt Bits) ℓ) (g : Dev Cert.DHidOne.nD → PrngReg), Pre_DHidOne m →
    θ_run (Cert.DHidOne.defs (F := Bits)) (onTc (τ := Cert.DHidOne.τ) (Cert.DHidOne.main (F := Bits))) ⟨m, fun _ => 0, g⟩ (fun r => (∀ c : Dev Cert.DHidOne.nD,
      r.2.mem ((c.tc : Thread Cert.DHidOne.nD Cert.DHidOne.τ).loc Cert.DHidOne.main_arg0) = m ((c.tc : Thread Cert.DHidOne.nD Cert.DHidOne.τ).loc Cert.DHidOne.main_arg0)
      ∧ r.2.mem ((c.tc : Thread Cert.DHidOne.nD Cert.DHidOne.τ).loc Cert.DHidOne.main_arg1) = m ((c.tc : Thread Cert.DHidOne.nD Cert.DHidOne.τ).loc Cert.DHidOne.main_arg1)
      ∧ r.2.mem ((c.tc : Thread Cert.DHidOne.nD Cert.DHidOne.τ).loc Cert.DHidOne.main_arg2) = m ((c.tc : Thread Cert.DHidOne.nD Cert.DHidOne.τ).loc Cert.DHidOne.main_arg2)
      ∧ r.2.mem ((c.tc : Thread Cert.DHidOne.nD Cert.DHidOne.τ).loc Cert.DHidOne.main_arg3) = m ((c.tc : Thread Cert.DHidOne.nD Cert.DHidOne.τ).loc Cert.DHidOne.main_arg3))
      ∧ r.2.sem = fun _ => 0)

def quiescent_DHidOneIdeal [hDHidOneIdeal : Cert.DHidOneIdeal.Facts] : Prop :=
  ∀ (m : (ℓ : Loc Cert.DHidOneIdeal.nD Cert.DHidOneIdeal.τ Cert.DHidOneIdeal.sig) → Buf (Elt Ideal) ℓ) (g : Dev Cert.DHidOneIdeal.nD → PrngReg), Pre_DHidOneIdeal m →
    θ_run (Cert.DHidOneIdeal.defs (F := Ideal)) (onTc (τ := Cert.DHidOneIdeal.τ) (Cert.DHidOneIdeal.main (F := Ideal))) ⟨m, fun _ => 0, g⟩ (fun r => (∀ c : Dev Cert.DHidOneIdeal.nD,
      r.2.mem ((c.tc : Thread Cert.DHidOneIdeal.nD Cert.DHidOneIdeal.τ).loc Cert.DHidOneIdeal.main_arg0) = m ((c.tc : Thread Cert.DHidOneIdeal.nD Cert.DHidOneIdeal.τ).loc Cert.DHidOneIdeal.main_arg0)
      ∧ r.2.mem ((c.tc : Thread Cert.DHidOneIdeal.nD Cert.DHidOneIdeal.τ).loc Cert.DHidOneIdeal.main_arg1) = m ((c.tc : Thread Cert.DHidOneIdeal.nD Cert.DHidOneIdeal.τ).loc Cert.DHidOneIdeal.main_arg1)
      ∧ r.2.mem ((c.tc : Thread Cert.DHidOneIdeal.nD Cert.DHidOneIdeal.τ).loc Cert.DHidOneIdeal.main_arg2) = m ((c.tc : Thread Cert.DHidOneIdeal.nD Cert.DHidOneIdeal.τ).loc Cert.DHidOneIdeal.main_arg2)
      ∧ r.2.mem ((c.tc : Thread Cert.DHidOneIdeal.nD Cert.DHidOneIdeal.τ).loc Cert.DHidOneIdeal.main_arg3) = m ((c.tc : Thread Cert.DHidOneIdeal.nD Cert.DHidOneIdeal.τ).loc Cert.DHidOneIdeal.main_arg3))
      ∧ r.2.sem = fun _ => 0)

def quiescent_DHidOneIdeal_pre_finite_products_l1 [hDHidOneIdeal : Cert.DHidOneIdeal.Facts] [hPre_finite_products_l1 : Cert.Pre_finite_products_l1.Facts] : Prop :=
  ∀ (m : (ℓ : Loc Cert.DHidOneIdeal.nD Cert.DHidOneIdeal.τ Cert.DHidOneIdeal.sig) → Buf (Elt Ideal) ℓ) (g : Dev Cert.DHidOneIdeal.nD → PrngReg), Pre_DHidOneIdeal_finite_products_l1 m →
    θ_run (Cert.DHidOneIdeal.defs (F := Ideal)) (onTc (τ := Cert.DHidOneIdeal.τ) (Cert.DHidOneIdeal.main (F := Ideal))) ⟨m, fun _ => 0, g⟩ (fun r => (∀ c : Dev Cert.DHidOneIdeal.nD,
      r.2.mem ((c.tc : Thread Cert.DHidOneIdeal.nD Cert.DHidOneIdeal.τ).loc Cert.DHidOneIdeal.main_arg0) = m ((c.tc : Thread Cert.DHidOneIdeal.nD Cert.DHidOneIdeal.τ).loc Cert.DHidOneIdeal.main_arg0)
      ∧ r.2.mem ((c.tc : Thread Cert.DHidOneIdeal.nD Cert.DHidOneIdeal.τ).loc Cert.DHidOneIdeal.main_arg1) = m ((c.tc : Thread Cert.DHidOneIdeal.nD Cert.DHidOneIdeal.τ).loc Cert.DHidOneIdeal.main_arg1)
      ∧ r.2.mem ((c.tc : Thread Cert.DHidOneIdeal.nD Cert.DHidOneIdeal.τ).loc Cert.DHidOneIdeal.main_arg2) = m ((c.tc : Thread Cert.DHidOneIdeal.nD Cert.DHidOneIdeal.τ).loc Cert.DHidOneIdeal.main_arg2)
      ∧ r.2.mem ((c.tc : Thread Cert.DHidOneIdeal.nD Cert.DHidOneIdeal.τ).loc Cert.DHidOneIdeal.main_arg3) = m ((c.tc : Thread Cert.DHidOneIdeal.nD Cert.DHidOneIdeal.τ).loc Cert.DHidOneIdeal.main_arg3))
      ∧ r.2.sem = fun _ => 0)

def quiescent_DHidOneRefIdeal [hDHidOneRefIdeal : Cert.DHidOneRefIdeal.Facts] : Prop :=
  ∀ (m : (ℓ : Loc Cert.DHidOneRefIdeal.nD Cert.DHidOneRefIdeal.τ Cert.DHidOneRefIdeal.sig) → Buf (Elt Ideal) ℓ) (g : Dev Cert.DHidOneRefIdeal.nD → PrngReg), Pre_DHidOneRefIdeal m →
    θ_run (Cert.DHidOneRefIdeal.defs (F := Ideal)) (onTc (τ := Cert.DHidOneRefIdeal.τ) (Cert.DHidOneRefIdeal.main (F := Ideal))) ⟨m, fun _ => 0, g⟩ (fun r => (∀ c : Dev Cert.DHidOneRefIdeal.nD,
      r.2.mem ((c.tc : Thread Cert.DHidOneRefIdeal.nD Cert.DHidOneRefIdeal.τ).loc Cert.DHidOneRefIdeal.main_arg0) = m ((c.tc : Thread Cert.DHidOneRefIdeal.nD Cert.DHidOneRefIdeal.τ).loc Cert.DHidOneRefIdeal.main_arg0)
      ∧ r.2.mem ((c.tc : Thread Cert.DHidOneRefIdeal.nD Cert.DHidOneRefIdeal.τ).loc Cert.DHidOneRefIdeal.main_arg1) = m ((c.tc : Thread Cert.DHidOneRefIdeal.nD Cert.DHidOneRefIdeal.τ).loc Cert.DHidOneRefIdeal.main_arg1)
      ∧ r.2.mem ((c.tc : Thread Cert.DHidOneRefIdeal.nD Cert.DHidOneRefIdeal.τ).loc Cert.DHidOneRefIdeal.main_arg2) = m ((c.tc : Thread Cert.DHidOneRefIdeal.nD Cert.DHidOneRefIdeal.τ).loc Cert.DHidOneRefIdeal.main_arg2)
      ∧ r.2.mem ((c.tc : Thread Cert.DHidOneRefIdeal.nD Cert.DHidOneRefIdeal.τ).loc Cert.DHidOneRefIdeal.main_arg3) = m ((c.tc : Thread Cert.DHidOneRefIdeal.nD Cert.DHidOneRefIdeal.τ).loc Cert.DHidOneRefIdeal.main_arg3))
      ∧ r.2.sem = fun _ => 0)

def quiescent_DHidOneRefIdeal_pre_finite_products_l1 [hDHidOneRefIdeal : Cert.DHidOneRefIdeal.Facts] [hPre_finite_products_l1 : Cert.Pre_finite_products_l1.Facts] : Prop :=
  ∀ (m : (ℓ : Loc Cert.DHidOneRefIdeal.nD Cert.DHidOneRefIdeal.τ Cert.DHidOneRefIdeal.sig) → Buf (Elt Ideal) ℓ) (g : Dev Cert.DHidOneRefIdeal.nD → PrngReg), Pre_DHidOneRefIdeal_finite_products_l1 m →
    θ_run (Cert.DHidOneRefIdeal.defs (F := Ideal)) (onTc (τ := Cert.DHidOneRefIdeal.τ) (Cert.DHidOneRefIdeal.main (F := Ideal))) ⟨m, fun _ => 0, g⟩ (fun r => (∀ c : Dev Cert.DHidOneRefIdeal.nD,
      r.2.mem ((c.tc : Thread Cert.DHidOneRefIdeal.nD Cert.DHidOneRefIdeal.τ).loc Cert.DHidOneRefIdeal.main_arg0) = m ((c.tc : Thread Cert.DHidOneRefIdeal.nD Cert.DHidOneRefIdeal.τ).loc Cert.DHidOneRefIdeal.main_arg0)
      ∧ r.2.mem ((c.tc : Thread Cert.DHidOneRefIdeal.nD Cert.DHidOneRefIdeal.τ).loc Cert.DHidOneRefIdeal.main_arg1) = m ((c.tc : Thread Cert.DHidOneRefIdeal.nD Cert.DHidOneRefIdeal.τ).loc Cert.DHidOneRefIdeal.main_arg1)
      ∧ r.2.mem ((c.tc : Thread Cert.DHidOneRefIdeal.nD Cert.DHidOneRefIdeal.τ).loc Cert.DHidOneRefIdeal.main_arg2) = m ((c.tc : Thread Cert.DHidOneRefIdeal.nD Cert.DHidOneRefIdeal.τ).loc Cert.DHidOneRefIdeal.main_arg2)
      ∧ r.2.mem ((c.tc : Thread Cert.DHidOneRefIdeal.nD Cert.DHidOneRefIdeal.τ).loc Cert.DHidOneRefIdeal.main_arg3) = m ((c.tc : Thread Cert.DHidOneRefIdeal.nD Cert.DHidOneRefIdeal.τ).loc Cert.DHidOneRefIdeal.main_arg3))
      ∧ r.2.sem = fun _ => 0)

def quiescent_DUOne [hDUOne : Cert.DUOne.Facts] : Prop :=
  ∀ (m : (ℓ : Loc Cert.DUOne.nD Cert.DUOne.τ Cert.DUOne.sig) → Buf (Elt Bits) ℓ) (g : Dev Cert.DUOne.nD → PrngReg), Pre_DUOne m →
    θ_run (Cert.DUOne.defs (F := Bits)) (onTc (τ := Cert.DUOne.τ) (Cert.DUOne.main (F := Bits))) ⟨m, fun _ => 0, g⟩ (fun r => (∀ c : Dev Cert.DUOne.nD,
      r.2.mem ((c.tc : Thread Cert.DUOne.nD Cert.DUOne.τ).loc Cert.DUOne.main_arg0) = m ((c.tc : Thread Cert.DUOne.nD Cert.DUOne.τ).loc Cert.DUOne.main_arg0)
      ∧ r.2.mem ((c.tc : Thread Cert.DUOne.nD Cert.DUOne.τ).loc Cert.DUOne.main_arg1) = m ((c.tc : Thread Cert.DUOne.nD Cert.DUOne.τ).loc Cert.DUOne.main_arg1)
      ∧ r.2.mem ((c.tc : Thread Cert.DUOne.nD Cert.DUOne.τ).loc Cert.DUOne.main_arg2) = m ((c.tc : Thread Cert.DUOne.nD Cert.DUOne.τ).loc Cert.DUOne.main_arg2)
      ∧ r.2.mem ((c.tc : Thread Cert.DUOne.nD Cert.DUOne.τ).loc Cert.DUOne.main_arg3) = m ((c.tc : Thread Cert.DUOne.nD Cert.DUOne.τ).loc Cert.DUOne.main_arg3))
      ∧ r.2.sem = fun _ => 0)

def quiescent_DUOneIdeal [hDUOneIdeal : Cert.DUOneIdeal.Facts] : Prop :=
  ∀ (m : (ℓ : Loc Cert.DUOneIdeal.nD Cert.DUOneIdeal.τ Cert.DUOneIdeal.sig) → Buf (Elt Ideal) ℓ) (g : Dev Cert.DUOneIdeal.nD → PrngReg), Pre_DUOneIdeal m →
    θ_run (Cert.DUOneIdeal.defs (F := Ideal)) (onTc (τ := Cert.DUOneIdeal.τ) (Cert.DUOneIdeal.main (F := Ideal))) ⟨m, fun _ => 0, g⟩ (fun r => (∀ c : Dev Cert.DUOneIdeal.nD,
      r.2.mem ((c.tc : Thread Cert.DUOneIdeal.nD Cert.DUOneIdeal.τ).loc Cert.DUOneIdeal.main_arg0) = m ((c.tc : Thread Cert.DUOneIdeal.nD Cert.DUOneIdeal.τ).loc Cert.DUOneIdeal.main_arg0)
      ∧ r.2.mem ((c.tc : Thread Cert.DUOneIdeal.nD Cert.DUOneIdeal.τ).loc Cert.DUOneIdeal.main_arg1) = m ((c.tc : Thread Cert.DUOneIdeal.nD Cert.DUOneIdeal.τ).loc Cert.DUOneIdeal.main_arg1)
      ∧ r.2.mem ((c.tc : Thread Cert.DUOneIdeal.nD Cert.DUOneIdeal.τ).loc Cert.DUOneIdeal.main_arg2) = m ((c.tc : Thread Cert.DUOneIdeal.nD Cert.DUOneIdeal.τ).loc Cert.DUOneIdeal.main_arg2)
      ∧ r.2.mem ((c.tc : Thread Cert.DUOneIdeal.nD Cert.DUOneIdeal.τ).loc Cert.DUOneIdeal.main_arg3) = m ((c.tc : Thread Cert.DUOneIdeal.nD Cert.DUOneIdeal.τ).loc Cert.DUOneIdeal.main_arg3))
      ∧ r.2.sem = fun _ => 0)

def quiescent_DUOneRefIdeal [hDUOneRefIdeal : Cert.DUOneRefIdeal.Facts] : Prop :=
  ∀ (m : (ℓ : Loc Cert.DUOneRefIdeal.nD Cert.DUOneRefIdeal.τ Cert.DUOneRefIdeal.sig) → Buf (Elt Ideal) ℓ) (g : Dev Cert.DUOneRefIdeal.nD → PrngReg), Pre_DUOneRefIdeal m →
    θ_run (Cert.DUOneRefIdeal.defs (F := Ideal)) (onTc (τ := Cert.DUOneRefIdeal.τ) (Cert.DUOneRefIdeal.main (F := Ideal))) ⟨m, fun _ => 0, g⟩ (fun r => (∀ c : Dev Cert.DUOneRefIdeal.nD,
      r.2.mem ((c.tc : Thread Cert.DUOneRefIdeal.nD Cert.DUOneRefIdeal.τ).loc Cert.DUOneRefIdeal.main_arg0) = m ((c.tc : Thread Cert.DUOneRefIdeal.nD Cert.DUOneRefIdeal.τ).loc Cert.DUOneRefIdeal.main_arg0)
      ∧ r.2.mem ((c.tc : Thread Cert.DUOneRefIdeal.nD Cert.DUOneRefIdeal.τ).loc Cert.DUOneRefIdeal.main_arg1) = m ((c.tc : Thread Cert.DUOneRefIdeal.nD Cert.DUOneRefIdeal.τ).loc Cert.DUOneRefIdeal.main_arg1)
      ∧ r.2.mem ((c.tc : Thread Cert.DUOneRefIdeal.nD Cert.DUOneRefIdeal.τ).loc Cert.DUOneRefIdeal.main_arg2) = m ((c.tc : Thread Cert.DUOneRefIdeal.nD Cert.DUOneRefIdeal.τ).loc Cert.DUOneRefIdeal.main_arg2)
      ∧ r.2.mem ((c.tc : Thread Cert.DUOneRefIdeal.nD Cert.DUOneRefIdeal.τ).loc Cert.DUOneRefIdeal.main_arg3) = m ((c.tc : Thread Cert.DUOneRefIdeal.nD Cert.DUOneRefIdeal.τ).loc Cert.DUOneRefIdeal.main_arg3))
      ∧ r.2.sem = fun _ => 0)

def quiescent_DWInOne [hDWInOne : Cert.DWInOne.Facts] : Prop :=
  ∀ (m : (ℓ : Loc Cert.DWInOne.nD Cert.DWInOne.τ Cert.DWInOne.sig) → Buf (Elt Bits) ℓ) (g : Dev Cert.DWInOne.nD → PrngReg), Pre_DWInOne m →
    θ_run (Cert.DWInOne.defs (F := Bits)) (onTc (τ := Cert.DWInOne.τ) (Cert.DWInOne.main (F := Bits))) ⟨m, fun _ => 0, g⟩ (fun r => (∀ c : Dev Cert.DWInOne.nD,
      r.2.mem ((c.tc : Thread Cert.DWInOne.nD Cert.DWInOne.τ).loc Cert.DWInOne.main_arg0) = m ((c.tc : Thread Cert.DWInOne.nD Cert.DWInOne.τ).loc Cert.DWInOne.main_arg0)
      ∧ r.2.mem ((c.tc : Thread Cert.DWInOne.nD Cert.DWInOne.τ).loc Cert.DWInOne.main_arg1) = m ((c.tc : Thread Cert.DWInOne.nD Cert.DWInOne.τ).loc Cert.DWInOne.main_arg1)
      ∧ r.2.mem ((c.tc : Thread Cert.DWInOne.nD Cert.DWInOne.τ).loc Cert.DWInOne.main_arg2) = m ((c.tc : Thread Cert.DWInOne.nD Cert.DWInOne.τ).loc Cert.DWInOne.main_arg2)
      ∧ r.2.mem ((c.tc : Thread Cert.DWInOne.nD Cert.DWInOne.τ).loc Cert.DWInOne.main_arg3) = m ((c.tc : Thread Cert.DWInOne.nD Cert.DWInOne.τ).loc Cert.DWInOne.main_arg3)
      ∧ r.2.mem ((c.tc : Thread Cert.DWInOne.nD Cert.DWInOne.τ).loc Cert.DWInOne.main_arg4) = m ((c.tc : Thread Cert.DWInOne.nD Cert.DWInOne.τ).loc Cert.DWInOne.main_arg4))
      ∧ r.2.sem = fun _ => 0)

def quiescent_DWInOneIdeal [hDWInOneIdeal : Cert.DWInOneIdeal.Facts] : Prop :=
  ∀ (m : (ℓ : Loc Cert.DWInOneIdeal.nD Cert.DWInOneIdeal.τ Cert.DWInOneIdeal.sig) → Buf (Elt Ideal) ℓ) (g : Dev Cert.DWInOneIdeal.nD → PrngReg), Pre_DWInOneIdeal m →
    θ_run (Cert.DWInOneIdeal.defs (F := Ideal)) (onTc (τ := Cert.DWInOneIdeal.τ) (Cert.DWInOneIdeal.main (F := Ideal))) ⟨m, fun _ => 0, g⟩ (fun r => (∀ c : Dev Cert.DWInOneIdeal.nD,
      r.2.mem ((c.tc : Thread Cert.DWInOneIdeal.nD Cert.DWInOneIdeal.τ).loc Cert.DWInOneIdeal.main_arg0) = m ((c.tc : Thread Cert.DWInOneIdeal.nD Cert.DWInOneIdeal.τ).loc Cert.DWInOneIdeal.main_arg0)
      ∧ r.2.mem ((c.tc : Thread Cert.DWInOneIdeal.nD Cert.DWInOneIdeal.τ).loc Cert.DWInOneIdeal.main_arg1) = m ((c.tc : Thread Cert.DWInOneIdeal.nD Cert.DWInOneIdeal.τ).loc Cert.DWInOneIdeal.main_arg1)
      ∧ r.2.mem ((c.tc : Thread Cert.DWInOneIdeal.nD Cert.DWInOneIdeal.τ).loc Cert.DWInOneIdeal.main_arg2) = m ((c.tc : Thread Cert.DWInOneIdeal.nD Cert.DWInOneIdeal.τ).loc Cert.DWInOneIdeal.main_arg2)
      ∧ r.2.mem ((c.tc : Thread Cert.DWInOneIdeal.nD Cert.DWInOneIdeal.τ).loc Cert.DWInOneIdeal.main_arg3) = m ((c.tc : Thread Cert.DWInOneIdeal.nD Cert.DWInOneIdeal.τ).loc Cert.DWInOneIdeal.main_arg3)
      ∧ r.2.mem ((c.tc : Thread Cert.DWInOneIdeal.nD Cert.DWInOneIdeal.τ).loc Cert.DWInOneIdeal.main_arg4) = m ((c.tc : Thread Cert.DWInOneIdeal.nD Cert.DWInOneIdeal.τ).loc Cert.DWInOneIdeal.main_arg4))
      ∧ r.2.sem = fun _ => 0)

def quiescent_DWInOneRefIdeal [hDWInOneRefIdeal : Cert.DWInOneRefIdeal.Facts] : Prop :=
  ∀ (m : (ℓ : Loc Cert.DWInOneRefIdeal.nD Cert.DWInOneRefIdeal.τ Cert.DWInOneRefIdeal.sig) → Buf (Elt Ideal) ℓ) (g : Dev Cert.DWInOneRefIdeal.nD → PrngReg), Pre_DWInOneRefIdeal m →
    θ_run (Cert.DWInOneRefIdeal.defs (F := Ideal)) (onTc (τ := Cert.DWInOneRefIdeal.τ) (Cert.DWInOneRefIdeal.main (F := Ideal))) ⟨m, fun _ => 0, g⟩ (fun r => (∀ c : Dev Cert.DWInOneRefIdeal.nD,
      r.2.mem ((c.tc : Thread Cert.DWInOneRefIdeal.nD Cert.DWInOneRefIdeal.τ).loc Cert.DWInOneRefIdeal.main_arg0) = m ((c.tc : Thread Cert.DWInOneRefIdeal.nD Cert.DWInOneRefIdeal.τ).loc Cert.DWInOneRefIdeal.main_arg0)
      ∧ r.2.mem ((c.tc : Thread Cert.DWInOneRefIdeal.nD Cert.DWInOneRefIdeal.τ).loc Cert.DWInOneRefIdeal.main_arg1) = m ((c.tc : Thread Cert.DWInOneRefIdeal.nD Cert.DWInOneRefIdeal.τ).loc Cert.DWInOneRefIdeal.main_arg1)
      ∧ r.2.mem ((c.tc : Thread Cert.DWInOneRefIdeal.nD Cert.DWInOneRefIdeal.τ).loc Cert.DWInOneRefIdeal.main_arg2) = m ((c.tc : Thread Cert.DWInOneRefIdeal.nD Cert.DWInOneRefIdeal.τ).loc Cert.DWInOneRefIdeal.main_arg2)
      ∧ r.2.mem ((c.tc : Thread Cert.DWInOneRefIdeal.nD Cert.DWInOneRefIdeal.τ).loc Cert.DWInOneRefIdeal.main_arg3) = m ((c.tc : Thread Cert.DWInOneRefIdeal.nD Cert.DWInOneRefIdeal.τ).loc Cert.DWInOneRefIdeal.main_arg3)
      ∧ r.2.mem ((c.tc : Thread Cert.DWInOneRefIdeal.nD Cert.DWInOneRefIdeal.τ).loc Cert.DWInOneRefIdeal.main_arg4) = m ((c.tc : Thread Cert.DWInOneRefIdeal.nD Cert.DWInOneRefIdeal.τ).loc Cert.DWInOneRefIdeal.main_arg4))
      ∧ r.2.sem = fun _ => 0)

def quiescent_DWDownOne [hDWDownOne : Cert.DWDownOne.Facts] : Prop :=
  ∀ (m : (ℓ : Loc Cert.DWDownOne.nD Cert.DWDownOne.τ Cert.DWDownOne.sig) → Buf (Elt Bits) ℓ) (g : Dev Cert.DWDownOne.nD → PrngReg), Pre_DWDownOne m →
    θ_run (Cert.DWDownOne.defs (F := Bits)) (onTc (τ := Cert.DWDownOne.τ) (Cert.DWDownOne.main (F := Bits))) ⟨m, fun _ => 0, g⟩ (fun r => (∀ c : Dev Cert.DWDownOne.nD,
      r.2.mem ((c.tc : Thread Cert.DWDownOne.nD Cert.DWDownOne.τ).loc Cert.DWDownOne.main_arg0) = m ((c.tc : Thread Cert.DWDownOne.nD Cert.DWDownOne.τ).loc Cert.DWDownOne.main_arg0)
      ∧ r.2.mem ((c.tc : Thread Cert.DWDownOne.nD Cert.DWDownOne.τ).loc Cert.DWDownOne.main_arg1) = m ((c.tc : Thread Cert.DWDownOne.nD Cert.DWDownOne.τ).loc Cert.DWDownOne.main_arg1)
      ∧ r.2.mem ((c.tc : Thread Cert.DWDownOne.nD Cert.DWDownOne.τ).loc Cert.DWDownOne.main_arg2) = m ((c.tc : Thread Cert.DWDownOne.nD Cert.DWDownOne.τ).loc Cert.DWDownOne.main_arg2))
      ∧ r.2.sem = fun _ => 0)

def quiescent_DWDownOneIdeal [hDWDownOneIdeal : Cert.DWDownOneIdeal.Facts] : Prop :=
  ∀ (m : (ℓ : Loc Cert.DWDownOneIdeal.nD Cert.DWDownOneIdeal.τ Cert.DWDownOneIdeal.sig) → Buf (Elt Ideal) ℓ) (g : Dev Cert.DWDownOneIdeal.nD → PrngReg), Pre_DWDownOneIdeal m →
    θ_run (Cert.DWDownOneIdeal.defs (F := Ideal)) (onTc (τ := Cert.DWDownOneIdeal.τ) (Cert.DWDownOneIdeal.main (F := Ideal))) ⟨m, fun _ => 0, g⟩ (fun r => (∀ c : Dev Cert.DWDownOneIdeal.nD,
      r.2.mem ((c.tc : Thread Cert.DWDownOneIdeal.nD Cert.DWDownOneIdeal.τ).loc Cert.DWDownOneIdeal.main_arg0) = m ((c.tc : Thread Cert.DWDownOneIdeal.nD Cert.DWDownOneIdeal.τ).loc Cert.DWDownOneIdeal.main_arg0)
      ∧ r.2.mem ((c.tc : Thread Cert.DWDownOneIdeal.nD Cert.DWDownOneIdeal.τ).loc Cert.DWDownOneIdeal.main_arg1) = m ((c.tc : Thread Cert.DWDownOneIdeal.nD Cert.DWDownOneIdeal.τ).loc Cert.DWDownOneIdeal.main_arg1)
      ∧ r.2.mem ((c.tc : Thread Cert.DWDownOneIdeal.nD Cert.DWDownOneIdeal.τ).loc Cert.DWDownOneIdeal.main_arg2) = m ((c.tc : Thread Cert.DWDownOneIdeal.nD Cert.DWDownOneIdeal.τ).loc Cert.DWDownOneIdeal.main_arg2))
      ∧ r.2.sem = fun _ => 0)

def quiescent_DWDownOneRefIdeal [hDWDownOneRefIdeal : Cert.DWDownOneRefIdeal.Facts] : Prop :=
  ∀ (m : (ℓ : Loc Cert.DWDownOneRefIdeal.nD Cert.DWDownOneRefIdeal.τ Cert.DWDownOneRefIdeal.sig) → Buf (Elt Ideal) ℓ) (g : Dev Cert.DWDownOneRefIdeal.nD → PrngReg), Pre_DWDownOneRefIdeal m →
    θ_run (Cert.DWDownOneRefIdeal.defs (F := Ideal)) (onTc (τ := Cert.DWDownOneRefIdeal.τ) (Cert.DWDownOneRefIdeal.main (F := Ideal))) ⟨m, fun _ => 0, g⟩ (fun r => (∀ c : Dev Cert.DWDownOneRefIdeal.nD,
      r.2.mem ((c.tc : Thread Cert.DWDownOneRefIdeal.nD Cert.DWDownOneRefIdeal.τ).loc Cert.DWDownOneRefIdeal.main_arg0) = m ((c.tc : Thread Cert.DWDownOneRefIdeal.nD Cert.DWDownOneRefIdeal.τ).loc Cert.DWDownOneRefIdeal.main_arg0)
      ∧ r.2.mem ((c.tc : Thread Cert.DWDownOneRefIdeal.nD Cert.DWDownOneRefIdeal.τ).loc Cert.DWDownOneRefIdeal.main_arg1) = m ((c.tc : Thread Cert.DWDownOneRefIdeal.nD Cert.DWDownOneRefIdeal.τ).loc Cert.DWDownOneRefIdeal.main_arg1)
      ∧ r.2.mem ((c.tc : Thread Cert.DWDownOneRefIdeal.nD Cert.DWDownOneRefIdeal.τ).loc Cert.DWDownOneRefIdeal.main_arg2) = m ((c.tc : Thread Cert.DWDownOneRefIdeal.nD Cert.DWDownOneRefIdeal.τ).loc Cert.DWDownOneRefIdeal.main_arg2))
      ∧ r.2.sem = fun _ => 0)

def quiescent_UpOne [hUpOne : Cert.UpOne.Facts] : Prop :=
  ∀ (m : (ℓ : Loc Cert.UpOne.nD Cert.UpOne.τ Cert.UpOne.sig) → Buf (Elt Bits) ℓ) (g : Dev Cert.UpOne.nD → PrngReg), Pre_UpOne m →
    θ_run (Cert.UpOne.defs (F := Bits)) (onTc (τ := Cert.UpOne.τ) (Cert.UpOne.main (F := Bits))) ⟨m, fun _ => 0, g⟩ (fun r => (∀ c : Dev Cert.UpOne.nD,
      r.2.mem ((c.tc : Thread Cert.UpOne.nD Cert.UpOne.τ).loc Cert.UpOne.main_arg0) = m ((c.tc : Thread Cert.UpOne.nD Cert.UpOne.τ).loc Cert.UpOne.main_arg0)
      ∧ r.2.mem ((c.tc : Thread Cert.UpOne.nD Cert.UpOne.τ).loc Cert.UpOne.main_arg1) = m ((c.tc : Thread Cert.UpOne.nD Cert.UpOne.τ).loc Cert.UpOne.main_arg1)
      ∧ r.2.mem ((c.tc : Thread Cert.UpOne.nD Cert.UpOne.τ).loc Cert.UpOne.main_arg2) = m ((c.tc : Thread Cert.UpOne.nD Cert.UpOne.τ).loc Cert.UpOne.main_arg2))
      ∧ r.2.sem = fun _ => 0)

def quiescent_UpOneIdeal [hUpOneIdeal : Cert.UpOneIdeal.Facts] : Prop :=
  ∀ (m : (ℓ : Loc Cert.UpOneIdeal.nD Cert.UpOneIdeal.τ Cert.UpOneIdeal.sig) → Buf (Elt Ideal) ℓ) (g : Dev Cert.UpOneIdeal.nD → PrngReg), Pre_UpOneIdeal m →
    θ_run (Cert.UpOneIdeal.defs (F := Ideal)) (onTc (τ := Cert.UpOneIdeal.τ) (Cert.UpOneIdeal.main (F := Ideal))) ⟨m, fun _ => 0, g⟩ (fun r => (∀ c : Dev Cert.UpOneIdeal.nD,
      r.2.mem ((c.tc : Thread Cert.UpOneIdeal.nD Cert.UpOneIdeal.τ).loc Cert.UpOneIdeal.main_arg0) = m ((c.tc : Thread Cert.UpOneIdeal.nD Cert.UpOneIdeal.τ).loc Cert.UpOneIdeal.main_arg0)
      ∧ r.2.mem ((c.tc : Thread Cert.UpOneIdeal.nD Cert.UpOneIdeal.τ).loc Cert.UpOneIdeal.main_arg1) = m ((c.tc : Thread Cert.UpOneIdeal.nD Cert.UpOneIdeal.τ).loc Cert.UpOneIdeal.main_arg1)
      ∧ r.2.mem ((c.tc : Thread Cert.UpOneIdeal.nD Cert.UpOneIdeal.τ).loc Cert.UpOneIdeal.main_arg2) = m ((c.tc : Thread Cert.UpOneIdeal.nD Cert.UpOneIdeal.τ).loc Cert.UpOneIdeal.main_arg2))
      ∧ r.2.sem = fun _ => 0)

def quiescent_UpOneRefIdeal [hUpOneRefIdeal : Cert.UpOneRefIdeal.Facts] : Prop :=
  ∀ (m : (ℓ : Loc Cert.UpOneRefIdeal.nD Cert.UpOneRefIdeal.τ Cert.UpOneRefIdeal.sig) → Buf (Elt Ideal) ℓ) (g : Dev Cert.UpOneRefIdeal.nD → PrngReg), Pre_UpOneRefIdeal m →
    θ_run (Cert.UpOneRefIdeal.defs (F := Ideal)) (onTc (τ := Cert.UpOneRefIdeal.τ) (Cert.UpOneRefIdeal.main (F := Ideal))) ⟨m, fun _ => 0, g⟩ (fun r => (∀ c : Dev Cert.UpOneRefIdeal.nD,
      r.2.mem ((c.tc : Thread Cert.UpOneRefIdeal.nD Cert.UpOneRefIdeal.τ).loc Cert.UpOneRefIdeal.main_arg0) = m ((c.tc : Thread Cert.UpOneRefIdeal.nD Cert.UpOneRefIdeal.τ).loc Cert.UpOneRefIdeal.main_arg0)
      ∧ r.2.mem ((c.tc : Thread Cert.UpOneRefIdeal.nD Cert.UpOneRefIdeal.τ).loc Cert.UpOneRefIdeal.main_arg1) = m ((c.tc : Thread Cert.UpOneRefIdeal.nD Cert.UpOneRefIdeal.τ).loc Cert.UpOneRefIdeal.main_arg1)
      ∧ r.2.mem ((c.tc : Thread Cert.UpOneRefIdeal.nD Cert.UpOneRefIdeal.τ).loc Cert.UpOneRefIdeal.main_arg2) = m ((c.tc : Thread Cert.UpOneRefIdeal.nD Cert.UpOneRefIdeal.τ).loc Cert.UpOneRefIdeal.main_arg2))
      ∧ r.2.sem = fun _ => 0)

def quiescent_DownOne [hDownOne : Cert.DownOne.Facts] : Prop :=
  ∀ (m : (ℓ : Loc Cert.DownOne.nD Cert.DownOne.τ Cert.DownOne.sig) → Buf (Elt Bits) ℓ) (g : Dev Cert.DownOne.nD → PrngReg), Pre_DownOne m →
    θ_run (Cert.DownOne.defs (F := Bits)) (onTc (τ := Cert.DownOne.τ) (Cert.DownOne.main (F := Bits))) ⟨m, fun _ => 0, g⟩ (fun r => (∀ c : Dev Cert.DownOne.nD,
      r.2.mem ((c.tc : Thread Cert.DownOne.nD Cert.DownOne.τ).loc Cert.DownOne.main_arg0) = m ((c.tc : Thread Cert.DownOne.nD Cert.DownOne.τ).loc Cert.DownOne.main_arg0)
      ∧ r.2.mem ((c.tc : Thread Cert.DownOne.nD Cert.DownOne.τ).loc Cert.DownOne.main_arg1) = m ((c.tc : Thread Cert.DownOne.nD Cert.DownOne.τ).loc Cert.DownOne.main_arg1)
      ∧ r.2.mem ((c.tc : Thread Cert.DownOne.nD Cert.DownOne.τ).loc Cert.DownOne.main_arg2) = m ((c.tc : Thread Cert.DownOne.nD Cert.DownOne.τ).loc Cert.DownOne.main_arg2)
      ∧ r.2.mem ((c.tc : Thread Cert.DownOne.nD Cert.DownOne.τ).loc Cert.DownOne.main_arg3) = m ((c.tc : Thread Cert.DownOne.nD Cert.DownOne.τ).loc Cert.DownOne.main_arg3))
      ∧ r.2.sem = fun _ => 0)

def quiescent_DownOneIdeal [hDownOneIdeal : Cert.DownOneIdeal.Facts] : Prop :=
  ∀ (m : (ℓ : Loc Cert.DownOneIdeal.nD Cert.DownOneIdeal.τ Cert.DownOneIdeal.sig) → Buf (Elt Ideal) ℓ) (g : Dev Cert.DownOneIdeal.nD → PrngReg), Pre_DownOneIdeal m →
    θ_run (Cert.DownOneIdeal.defs (F := Ideal)) (onTc (τ := Cert.DownOneIdeal.τ) (Cert.DownOneIdeal.main (F := Ideal))) ⟨m, fun _ => 0, g⟩ (fun r => (∀ c : Dev Cert.DownOneIdeal.nD,
      r.2.mem ((c.tc : Thread Cert.DownOneIdeal.nD Cert.DownOneIdeal.τ).loc Cert.DownOneIdeal.main_arg0) = m ((c.tc : Thread Cert.DownOneIdeal.nD Cert.DownOneIdeal.τ).loc Cert.DownOneIdeal.main_arg0)
      ∧ r.2.mem ((c.tc : Thread Cert.DownOneIdeal.nD Cert.DownOneIdeal.τ).loc Cert.DownOneIdeal.main_arg1) = m ((c.tc : Thread Cert.DownOneIdeal.nD Cert.DownOneIdeal.τ).loc Cert.DownOneIdeal.main_arg1)
      ∧ r.2.mem ((c.tc : Thread Cert.DownOneIdeal.nD Cert.DownOneIdeal.τ).loc Cert.DownOneIdeal.main_arg2) = m ((c.tc : Thread Cert.DownOneIdeal.nD Cert.DownOneIdeal.τ).loc Cert.DownOneIdeal.main_arg2)
      ∧ r.2.mem ((c.tc : Thread Cert.DownOneIdeal.nD Cert.DownOneIdeal.τ).loc Cert.DownOneIdeal.main_arg3) = m ((c.tc : Thread Cert.DownOneIdeal.nD Cert.DownOneIdeal.τ).loc Cert.DownOneIdeal.main_arg3))
      ∧ r.2.sem = fun _ => 0)

def quiescent_DownOneRefIdeal [hDownOneRefIdeal : Cert.DownOneRefIdeal.Facts] : Prop :=
  ∀ (m : (ℓ : Loc Cert.DownOneRefIdeal.nD Cert.DownOneRefIdeal.τ Cert.DownOneRefIdeal.sig) → Buf (Elt Ideal) ℓ) (g : Dev Cert.DownOneRefIdeal.nD → PrngReg), Pre_DownOneRefIdeal m →
    θ_run (Cert.DownOneRefIdeal.defs (F := Ideal)) (onTc (τ := Cert.DownOneRefIdeal.τ) (Cert.DownOneRefIdeal.main (F := Ideal))) ⟨m, fun _ => 0, g⟩ (fun r => (∀ c : Dev Cert.DownOneRefIdeal.nD,
      r.2.mem ((c.tc : Thread Cert.DownOneRefIdeal.nD Cert.DownOneRefIdeal.τ).loc Cert.DownOneRefIdeal.main_arg0) = m ((c.tc : Thread Cert.DownOneRefIdeal.nD Cert.DownOneRefIdeal.τ).loc Cert.DownOneRefIdeal.main_arg0)
      ∧ r.2.mem ((c.tc : Thread Cert.DownOneRefIdeal.nD Cert.DownOneRefIdeal.τ).loc Cert.DownOneRefIdeal.main_arg1) = m ((c.tc : Thread Cert.DownOneRefIdeal.nD Cert.DownOneRefIdeal.τ).loc Cert.DownOneRefIdeal.main_arg1)
      ∧ r.2.mem ((c.tc : Thread Cert.DownOneRefIdeal.nD Cert.DownOneRefIdeal.τ).loc Cert.DownOneRefIdeal.main_arg2) = m ((c.tc : Thread Cert.DownOneRefIdeal.nD Cert.DownOneRefIdeal.τ).loc Cert.DownOneRefIdeal.main_arg2)
      ∧ r.2.mem ((c.tc : Thread Cert.DownOneRefIdeal.nD Cert.DownOneRefIdeal.τ).loc Cert.DownOneRefIdeal.main_arg3) = m ((c.tc : Thread Cert.DownOneRefIdeal.nD Cert.DownOneRefIdeal.τ).loc Cert.DownOneRefIdeal.main_arg3))
      ∧ r.2.sem = fun _ => 0)

def quiescent_DownB [hDownB : Cert.DownB.Facts] : Prop :=
  ∀ (m : (ℓ : Loc Cert.DownB.nD Cert.DownB.τ Cert.DownB.sig) → Buf (Elt Bits) ℓ) (g : Dev Cert.DownB.nD → PrngReg), Pre_DownB m →
    θ_run (Cert.DownB.defs (F := Bits)) (onTc (τ := Cert.DownB.τ) (Cert.DownB.main (F := Bits))) ⟨m, fun _ => 0, g⟩ (fun r => (∀ c : Dev Cert.DownB.nD,
      r.2.mem ((c.tc : Thread Cert.DownB.nD Cert.DownB.τ).loc Cert.DownB.main_arg0) = m ((c.tc : Thread Cert.DownB.nD Cert.DownB.τ).loc Cert.DownB.main_arg0)
      ∧ r.2.mem ((c.tc : Thread Cert.DownB.nD Cert.DownB.τ).loc Cert.DownB.main_arg1) = m ((c.tc : Thread Cert.DownB.nD Cert.DownB.τ).loc Cert.DownB.main_arg1)
      ∧ r.2.mem ((c.tc : Thread Cert.DownB.nD Cert.DownB.τ).loc Cert.DownB.main_arg2) = m ((c.tc : Thread Cert.DownB.nD Cert.DownB.τ).loc Cert.DownB.main_arg2)
      ∧ r.2.mem ((c.tc : Thread Cert.DownB.nD Cert.DownB.τ).loc Cert.DownB.main_arg3) = m ((c.tc : Thread Cert.DownB.nD Cert.DownB.τ).loc Cert.DownB.main_arg3))
      ∧ r.2.sem = fun _ => 0)

def quiescent_DownBIdeal [hDownBIdeal : Cert.DownBIdeal.Facts] : Prop :=
  ∀ (m : (ℓ : Loc Cert.DownBIdeal.nD Cert.DownBIdeal.τ Cert.DownBIdeal.sig) → Buf (Elt Ideal) ℓ) (g : Dev Cert.DownBIdeal.nD → PrngReg), Pre_DownBIdeal m →
    θ_run (Cert.DownBIdeal.defs (F := Ideal)) (onTc (τ := Cert.DownBIdeal.τ) (Cert.DownBIdeal.main (F := Ideal))) ⟨m, fun _ => 0, g⟩ (fun r => (∀ c : Dev Cert.DownBIdeal.nD,
      r.2.mem ((c.tc : Thread Cert.DownBIdeal.nD Cert.DownBIdeal.τ).loc Cert.DownBIdeal.main_arg0) = m ((c.tc : Thread Cert.DownBIdeal.nD Cert.DownBIdeal.τ).loc Cert.DownBIdeal.main_arg0)
      ∧ r.2.mem ((c.tc : Thread Cert.DownBIdeal.nD Cert.DownBIdeal.τ).loc Cert.DownBIdeal.main_arg1) = m ((c.tc : Thread Cert.DownBIdeal.nD Cert.DownBIdeal.τ).loc Cert.DownBIdeal.main_arg1)
      ∧ r.2.mem ((c.tc : Thread Cert.DownBIdeal.nD Cert.DownBIdeal.τ).loc Cert.DownBIdeal.main_arg2) = m ((c.tc : Thread Cert.DownBIdeal.nD Cert.DownBIdeal.τ).loc Cert.DownBIdeal.main_arg2)
      ∧ r.2.mem ((c.tc : Thread Cert.DownBIdeal.nD Cert.DownBIdeal.τ).loc Cert.DownBIdeal.main_arg3) = m ((c.tc : Thread Cert.DownBIdeal.nD Cert.DownBIdeal.τ).loc Cert.DownBIdeal.main_arg3))
      ∧ r.2.sem = fun _ => 0)

def quiescent_DownBRefIdeal [hDownBRefIdeal : Cert.DownBRefIdeal.Facts] : Prop :=
  ∀ (m : (ℓ : Loc Cert.DownBRefIdeal.nD Cert.DownBRefIdeal.τ Cert.DownBRefIdeal.sig) → Buf (Elt Ideal) ℓ) (g : Dev Cert.DownBRefIdeal.nD → PrngReg), Pre_DownBRefIdeal m →
    θ_run (Cert.DownBRefIdeal.defs (F := Ideal)) (onTc (τ := Cert.DownBRefIdeal.τ) (Cert.DownBRefIdeal.main (F := Ideal))) ⟨m, fun _ => 0, g⟩ (fun r => (∀ c : Dev Cert.DownBRefIdeal.nD,
      r.2.mem ((c.tc : Thread Cert.DownBRefIdeal.nD Cert.DownBRefIdeal.τ).loc Cert.DownBRefIdeal.main_arg0) = m ((c.tc : Thread Cert.DownBRefIdeal.nD Cert.DownBRefIdeal.τ).loc Cert.DownBRefIdeal.main_arg0)
      ∧ r.2.mem ((c.tc : Thread Cert.DownBRefIdeal.nD Cert.DownBRefIdeal.τ).loc Cert.DownBRefIdeal.main_arg1) = m ((c.tc : Thread Cert.DownBRefIdeal.nD Cert.DownBRefIdeal.τ).loc Cert.DownBRefIdeal.main_arg1)
      ∧ r.2.mem ((c.tc : Thread Cert.DownBRefIdeal.nD Cert.DownBRefIdeal.τ).loc Cert.DownBRefIdeal.main_arg2) = m ((c.tc : Thread Cert.DownBRefIdeal.nD Cert.DownBRefIdeal.τ).loc Cert.DownBRefIdeal.main_arg2)
      ∧ r.2.mem ((c.tc : Thread Cert.DownBRefIdeal.nD Cert.DownBRefIdeal.τ).loc Cert.DownBRefIdeal.main_arg3) = m ((c.tc : Thread Cert.DownBRefIdeal.nD Cert.DownBRefIdeal.τ).loc Cert.DownBRefIdeal.main_arg3))
      ∧ r.2.sem = fun _ => 0)

def quiescent_DownOneB [hDownOneB : Cert.DownOneB.Facts] : Prop :=
  ∀ (m : (ℓ : Loc Cert.DownOneB.nD Cert.DownOneB.τ Cert.DownOneB.sig) → Buf (Elt Bits) ℓ) (g : Dev Cert.DownOneB.nD → PrngReg), Pre_DownOneB m →
    θ_run (Cert.DownOneB.defs (F := Bits)) (onTc (τ := Cert.DownOneB.τ) (Cert.DownOneB.main (F := Bits))) ⟨m, fun _ => 0, g⟩ (fun r => (∀ c : Dev Cert.DownOneB.nD,
      r.2.mem ((c.tc : Thread Cert.DownOneB.nD Cert.DownOneB.τ).loc Cert.DownOneB.main_arg0) = m ((c.tc : Thread Cert.DownOneB.nD Cert.DownOneB.τ).loc Cert.DownOneB.main_arg0)
      ∧ r.2.mem ((c.tc : Thread Cert.DownOneB.nD Cert.DownOneB.τ).loc Cert.DownOneB.main_arg1) = m ((c.tc : Thread Cert.DownOneB.nD Cert.DownOneB.τ).loc Cert.DownOneB.main_arg1)
      ∧ r.2.mem ((c.tc : Thread Cert.DownOneB.nD Cert.DownOneB.τ).loc Cert.DownOneB.main_arg2) = m ((c.tc : Thread Cert.DownOneB.nD Cert.DownOneB.τ).loc Cert.DownOneB.main_arg2)
      ∧ r.2.mem ((c.tc : Thread Cert.DownOneB.nD Cert.DownOneB.τ).loc Cert.DownOneB.main_arg3) = m ((c.tc : Thread Cert.DownOneB.nD Cert.DownOneB.τ).loc Cert.DownOneB.main_arg3))
      ∧ r.2.sem = fun _ => 0)

def quiescent_DownOneBIdeal [hDownOneBIdeal : Cert.DownOneBIdeal.Facts] : Prop :=
  ∀ (m : (ℓ : Loc Cert.DownOneBIdeal.nD Cert.DownOneBIdeal.τ Cert.DownOneBIdeal.sig) → Buf (Elt Ideal) ℓ) (g : Dev Cert.DownOneBIdeal.nD → PrngReg), Pre_DownOneBIdeal m →
    θ_run (Cert.DownOneBIdeal.defs (F := Ideal)) (onTc (τ := Cert.DownOneBIdeal.τ) (Cert.DownOneBIdeal.main (F := Ideal))) ⟨m, fun _ => 0, g⟩ (fun r => (∀ c : Dev Cert.DownOneBIdeal.nD,
      r.2.mem ((c.tc : Thread Cert.DownOneBIdeal.nD Cert.DownOneBIdeal.τ).loc Cert.DownOneBIdeal.main_arg0) = m ((c.tc : Thread Cert.DownOneBIdeal.nD Cert.DownOneBIdeal.τ).loc Cert.DownOneBIdeal.main_arg0)
      ∧ r.2.mem ((c.tc : Thread Cert.DownOneBIdeal.nD Cert.DownOneBIdeal.τ).loc Cert.DownOneBIdeal.main_arg1) = m ((c.tc : Thread Cert.DownOneBIdeal.nD Cert.DownOneBIdeal.τ).loc Cert.DownOneBIdeal.main_arg1)
      ∧ r.2.mem ((c.tc : Thread Cert.DownOneBIdeal.nD Cert.DownOneBIdeal.τ).loc Cert.DownOneBIdeal.main_arg2) = m ((c.tc : Thread Cert.DownOneBIdeal.nD Cert.DownOneBIdeal.τ).loc Cert.DownOneBIdeal.main_arg2)
      ∧ r.2.mem ((c.tc : Thread Cert.DownOneBIdeal.nD Cert.DownOneBIdeal.τ).loc Cert.DownOneBIdeal.main_arg3) = m ((c.tc : Thread Cert.DownOneBIdeal.nD Cert.DownOneBIdeal.τ).loc Cert.DownOneBIdeal.main_arg3))
      ∧ r.2.sem = fun _ => 0)

def quiescent_DownOneBRefIdeal [hDownOneBRefIdeal : Cert.DownOneBRefIdeal.Facts] : Prop :=
  ∀ (m : (ℓ : Loc Cert.DownOneBRefIdeal.nD Cert.DownOneBRefIdeal.τ Cert.DownOneBRefIdeal.sig) → Buf (Elt Ideal) ℓ) (g : Dev Cert.DownOneBRefIdeal.nD → PrngReg), Pre_DownOneBRefIdeal m →
    θ_run (Cert.DownOneBRefIdeal.defs (F := Ideal)) (onTc (τ := Cert.DownOneBRefIdeal.τ) (Cert.DownOneBRefIdeal.main (F := Ideal))) ⟨m, fun _ => 0, g⟩ (fun r => (∀ c : Dev Cert.DownOneBRefIdeal.nD,
      r.2.mem ((c.tc : Thread Cert.DownOneBRefIdeal.nD Cert.DownOneBRefIdeal.τ).loc Cert.DownOneBRefIdeal.main_arg0) = m ((c.tc : Thread Cert.DownOneBRefIdeal.nD Cert.DownOneBRefIdeal.τ).loc Cert.DownOneBRefIdeal.main_arg0)
      ∧ r.2.mem ((c.tc : Thread Cert.DownOneBRefIdeal.nD Cert.DownOneBRefIdeal.τ).loc Cert.DownOneBRefIdeal.main_arg1) = m ((c.tc : Thread Cert.DownOneBRefIdeal.nD Cert.DownOneBRefIdeal.τ).loc Cert.DownOneBRefIdeal.main_arg1)
      ∧ r.2.mem ((c.tc : Thread Cert.DownOneBRefIdeal.nD Cert.DownOneBRefIdeal.τ).loc Cert.DownOneBRefIdeal.main_arg2) = m ((c.tc : Thread Cert.DownOneBRefIdeal.nD Cert.DownOneBRefIdeal.τ).loc Cert.DownOneBRefIdeal.main_arg2)
      ∧ r.2.mem ((c.tc : Thread Cert.DownOneBRefIdeal.nD Cert.DownOneBRefIdeal.τ).loc Cert.DownOneBRefIdeal.main_arg3) = m ((c.tc : Thread Cert.DownOneBRefIdeal.nD Cert.DownOneBRefIdeal.τ).loc Cert.DownOneBRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3))
      ∧ r.2.sem = fun _ => 0)

def quiescent_MixOne [hMixOne : Cert.MixOne.Facts] : Prop :=
  ∀ (m : (ℓ : Loc Cert.MixOne.nD Cert.MixOne.τ Cert.MixOne.sig) → Buf (Elt Bits) ℓ) (g : Dev Cert.MixOne.nD → PrngReg), Pre_MixOne m →
    θ_run (Cert.MixOne.defs (F := Bits)) (onTc (τ := Cert.MixOne.τ) (Cert.MixOne.main (F := Bits))) ⟨m, fun _ => 0, g⟩ (fun r => (∀ c : Dev Cert.MixOne.nD,
      r.2.mem ((c.tc : Thread Cert.MixOne.nD Cert.MixOne.τ).loc Cert.MixOne.main_arg0) = m ((c.tc : Thread Cert.MixOne.nD Cert.MixOne.τ).loc Cert.MixOne.main_arg0)
      ∧ r.2.mem ((c.tc : Thread Cert.MixOne.nD Cert.MixOne.τ).loc Cert.MixOne.main_arg1) = m ((c.tc : Thread Cert.MixOne.nD Cert.MixOne.τ).loc Cert.MixOne.main_arg1)
      ∧ r.2.mem ((c.tc : Thread Cert.MixOne.nD Cert.MixOne.τ).loc Cert.MixOne.main_arg2) = m ((c.tc : Thread Cert.MixOne.nD Cert.MixOne.τ).loc Cert.MixOne.main_arg2)
      ∧ r.2.mem ((c.tc : Thread Cert.MixOne.nD Cert.MixOne.τ).loc Cert.MixOne.main_arg3) = m ((c.tc : Thread Cert.MixOne.nD Cert.MixOne.τ).loc Cert.MixOne.main_arg3))
      ∧ r.2.sem = fun _ => 0)

def quiescent_MixOneIdeal [hMixOneIdeal : Cert.MixOneIdeal.Facts] : Prop :=
  ∀ (m : (ℓ : Loc Cert.MixOneIdeal.nD Cert.MixOneIdeal.τ Cert.MixOneIdeal.sig) → Buf (Elt Ideal) ℓ) (g : Dev Cert.MixOneIdeal.nD → PrngReg), Pre_MixOneIdeal m →
    θ_run (Cert.MixOneIdeal.defs (F := Ideal)) (onTc (τ := Cert.MixOneIdeal.τ) (Cert.MixOneIdeal.main (F := Ideal))) ⟨m, fun _ => 0, g⟩ (fun r => (∀ c : Dev Cert.MixOneIdeal.nD,
      r.2.mem ((c.tc : Thread Cert.MixOneIdeal.nD Cert.MixOneIdeal.τ).loc Cert.MixOneIdeal.main_arg0) = m ((c.tc : Thread Cert.MixOneIdeal.nD Cert.MixOneIdeal.τ).loc Cert.MixOneIdeal.main_arg0)
      ∧ r.2.mem ((c.tc : Thread Cert.MixOneIdeal.nD Cert.MixOneIdeal.τ).loc Cert.MixOneIdeal.main_arg1) = m ((c.tc : Thread Cert.MixOneIdeal.nD Cert.MixOneIdeal.τ).loc Cert.MixOneIdeal.main_arg1)
      ∧ r.2.mem ((c.tc : Thread Cert.MixOneIdeal.nD Cert.MixOneIdeal.τ).loc Cert.MixOneIdeal.main_arg2) = m ((c.tc : Thread Cert.MixOneIdeal.nD Cert.MixOneIdeal.τ).loc Cert.MixOneIdeal.main_arg2)
      ∧ r.2.mem ((c.tc : Thread Cert.MixOneIdeal.nD Cert.MixOneIdeal.τ).loc Cert.MixOneIdeal.main_arg3) = m ((c.tc : Thread Cert.MixOneIdeal.nD Cert.MixOneIdeal.τ).loc Cert.MixOneIdeal.main_arg3))
      ∧ r.2.sem = fun _ => 0)

def quiescent_MixOneRefIdeal [hMixOneRefIdeal : Cert.MixOneRefIdeal.Facts] : Prop :=
  ∀ (m : (ℓ : Loc Cert.MixOneRefIdeal.nD Cert.MixOneRefIdeal.τ Cert.MixOneRefIdeal.sig) → Buf (Elt Ideal) ℓ) (g : Dev Cert.MixOneRefIdeal.nD → PrngReg), Pre_MixOneRefIdeal m →
    θ_run (Cert.MixOneRefIdeal.defs (F := Ideal)) (onTc (τ := Cert.MixOneRefIdeal.τ) (Cert.MixOneRefIdeal.main (F := Ideal))) ⟨m, fun _ => 0, g⟩ (fun r => (∀ c : Dev Cert.MixOneRefIdeal.nD,
      r.2.mem ((c.tc : Thread Cert.MixOneRefIdeal.nD Cert.MixOneRefIdeal.τ).loc Cert.MixOneRefIdeal.main_arg0) = m ((c.tc : Thread Cert.MixOneRefIdeal.nD Cert.MixOneRefIdeal.τ).loc Cert.MixOneRefIdeal.main_arg0)
      ∧ r.2.mem ((c.tc : Thread Cert.MixOneRefIdeal.nD Cert.MixOneRefIdeal.τ).loc Cert.MixOneRefIdeal.main_arg1) = m ((c.tc : Thread Cert.MixOneRefIdeal.nD Cert.MixOneRefIdeal.τ).loc Cert.MixOneRefIdeal.main_arg1)
      ∧ r.2.mem ((c.tc : Thread Cert.MixOneRefIdeal.nD Cert.MixOneRefIdeal.τ).loc Cert.MixOneRefIdeal.main_arg2) = m ((c.tc : Thread Cert.MixOneRefIdeal.nD Cert.MixOneRefIdeal.τ).loc Cert.MixOneRefIdeal.main_arg2)
      ∧ r.2.mem ((c.tc : Thread Cert.MixOneRefIdeal.nD Cert.MixOneRefIdeal.τ).loc Cert.MixOneRefIdeal.main_arg3) = m ((c.tc : Thread Cert.MixOneRefIdeal.nD Cert.MixOneRefIdeal.τ).loc Cert.MixOneRefIdeal.main_arg3))
      ∧ r.2.sem = fun _ => 0)

def quiescent_MixInOne [hMixInOne : Cert.MixInOne.Facts] : Prop :=
  ∀ (m : (ℓ : Loc Cert.MixInOne.nD Cert.MixInOne.τ Cert.MixInOne.sig) → Buf (Elt Bits) ℓ) (g : Dev Cert.MixInOne.nD → PrngReg), Pre_MixInOne m →
    θ_run (Cert.MixInOne.defs (F := Bits)) (onTc (τ := Cert.MixInOne.τ) (Cert.MixInOne.main (F := Bits))) ⟨m, fun _ => 0, g⟩ (fun r => (∀ c : Dev Cert.MixInOne.nD,
      r.2.mem ((c.tc : Thread Cert.MixInOne.nD Cert.MixInOne.τ).loc Cert.MixInOne.main_arg0) = m ((c.tc : Thread Cert.MixInOne.nD Cert.MixInOne.τ).loc Cert.MixInOne.main_arg0)
      ∧ r.2.mem ((c.tc : Thread Cert.MixInOne.nD Cert.MixInOne.τ).loc Cert.MixInOne.main_arg1) = m ((c.tc : Thread Cert.MixInOne.nD Cert.MixInOne.τ).loc Cert.MixInOne.main_arg1))
      ∧ r.2.sem = fun _ => 0)

def quiescent_MixInOneIdeal [hMixInOneIdeal : Cert.MixInOneIdeal.Facts] : Prop :=
  ∀ (m : (ℓ : Loc Cert.MixInOneIdeal.nD Cert.MixInOneIdeal.τ Cert.MixInOneIdeal.sig) → Buf (Elt Ideal) ℓ) (g : Dev Cert.MixInOneIdeal.nD → PrngReg), Pre_MixInOneIdeal m →
    θ_run (Cert.MixInOneIdeal.defs (F := Ideal)) (onTc (τ := Cert.MixInOneIdeal.τ) (Cert.MixInOneIdeal.main (F := Ideal))) ⟨m, fun _ => 0, g⟩ (fun r => (∀ c : Dev Cert.MixInOneIdeal.nD,
      r.2.mem ((c.tc : Thread Cert.MixInOneIdeal.nD Cert.MixInOneIdeal.τ).loc Cert.MixInOneIdeal.main_arg0) = m ((c.tc : Thread Cert.MixInOneIdeal.nD Cert.MixInOneIdeal.τ).loc Cert.MixInOneIdeal.main_arg0)
      ∧ r.2.mem ((c.tc : Thread Cert.MixInOneIdeal.nD Cert.MixInOneIdeal.τ).loc Cert.MixInOneIdeal.main_arg1) = m ((c.tc : Thread Cert.MixInOneIdeal.nD Cert.MixInOneIdeal.τ).loc Cert.MixInOneIdeal.main_arg1))
      ∧ r.2.sem = fun _ => 0)

def quiescent_MixInOneRefIdeal [hMixInOneRefIdeal : Cert.MixInOneRefIdeal.Facts] : Prop :=
  ∀ (m : (ℓ : Loc Cert.MixInOneRefIdeal.nD Cert.MixInOneRefIdeal.τ Cert.MixInOneRefIdeal.sig) → Buf (Elt Ideal) ℓ) (g : Dev Cert.MixInOneRefIdeal.nD → PrngReg), Pre_MixInOneRefIdeal m →
    θ_run (Cert.MixInOneRefIdeal.defs (F := Ideal)) (onTc (τ := Cert.MixInOneRefIdeal.τ) (Cert.MixInOneRefIdeal.main (F := Ideal))) ⟨m, fun _ => 0, g⟩ (fun r => (∀ c : Dev Cert.MixInOneRefIdeal.nD,
      r.2.mem ((c.tc : Thread Cert.MixInOneRefIdeal.nD Cert.MixInOneRefIdeal.τ).loc Cert.MixInOneRefIdeal.main_arg0) = m ((c.tc : Thread Cert.MixInOneRefIdeal.nD Cert.MixInOneRefIdeal.τ).loc Cert.MixInOneRefIdeal.main_arg0)
      ∧ r.2.mem ((c.tc : Thread Cert.MixInOneRefIdeal.nD Cert.MixInOneRefIdeal.τ).loc Cert.MixInOneRefIdeal.main_arg1) = m ((c.tc : Thread Cert.MixInOneRefIdeal.nD Cert.MixInOneRefIdeal.τ).loc Cert.MixInOneRefIdeal.main_arg1))
      ∧ r.2.sem = fun _ => 0)

def quiescent_MixWOne [hMixWOne : Cert.MixWOne.Facts] : Prop :=
  ∀ (m : (ℓ : Loc Cert.MixWOne.nD Cert.MixWOne.τ Cert.MixWOne.sig) → Buf (Elt Bits) ℓ) (g : Dev Cert.MixWOne.nD → PrngReg), Pre_MixWOne m →
    θ_run (Cert.MixWOne.defs (F := Bits)) (onTc (τ := Cert.MixWOne.τ) (Cert.MixWOne.main (F := Bits))) ⟨m, fun _ => 0, g⟩ (fun r => (∀ c : Dev Cert.MixWOne.nD,
      r.2.mem ((c.tc : Thread Cert.MixWOne.nD Cert.MixWOne.τ).loc Cert.MixWOne.main_arg0) = m ((c.tc : Thread Cert.MixWOne.nD Cert.MixWOne.τ).loc Cert.MixWOne.main_arg0)
      ∧ r.2.mem ((c.tc : Thread Cert.MixWOne.nD Cert.MixWOne.τ).loc Cert.MixWOne.main_arg1) = m ((c.tc : Thread Cert.MixWOne.nD Cert.MixWOne.τ).loc Cert.MixWOne.main_arg1))
      ∧ r.2.sem = fun _ => 0)

def quiescent_MixWOneIdeal [hMixWOneIdeal : Cert.MixWOneIdeal.Facts] : Prop :=
  ∀ (m : (ℓ : Loc Cert.MixWOneIdeal.nD Cert.MixWOneIdeal.τ Cert.MixWOneIdeal.sig) → Buf (Elt Ideal) ℓ) (g : Dev Cert.MixWOneIdeal.nD → PrngReg), Pre_MixWOneIdeal m →
    θ_run (Cert.MixWOneIdeal.defs (F := Ideal)) (onTc (τ := Cert.MixWOneIdeal.τ) (Cert.MixWOneIdeal.main (F := Ideal))) ⟨m, fun _ => 0, g⟩ (fun r => (∀ c : Dev Cert.MixWOneIdeal.nD,
      r.2.mem ((c.tc : Thread Cert.MixWOneIdeal.nD Cert.MixWOneIdeal.τ).loc Cert.MixWOneIdeal.main_arg0) = m ((c.tc : Thread Cert.MixWOneIdeal.nD Cert.MixWOneIdeal.τ).loc Cert.MixWOneIdeal.main_arg0)
      ∧ r.2.mem ((c.tc : Thread Cert.MixWOneIdeal.nD Cert.MixWOneIdeal.τ).loc Cert.MixWOneIdeal.main_arg1) = m ((c.tc : Thread Cert.MixWOneIdeal.nD Cert.MixWOneIdeal.τ).loc Cert.MixWOneIdeal.main_arg1))
      ∧ r.2.sem = fun _ => 0)

def quiescent_MixWOneRefIdeal [hMixWOneRefIdeal : Cert.MixWOneRefIdeal.Facts] : Prop :=
  ∀ (m : (ℓ : Loc Cert.MixWOneRefIdeal.nD Cert.MixWOneRefIdeal.τ Cert.MixWOneRefIdeal.sig) → Buf (Elt Ideal) ℓ) (g : Dev Cert.MixWOneRefIdeal.nD → PrngReg), Pre_MixWOneRefIdeal m →
    θ_run (Cert.MixWOneRefIdeal.defs (F := Ideal)) (onTc (τ := Cert.MixWOneRefIdeal.τ) (Cert.MixWOneRefIdeal.main (F := Ideal))) ⟨m, fun _ => 0, g⟩ (fun r => (∀ c : Dev Cert.MixWOneRefIdeal.nD,
      r.2.mem ((c.tc : Thread Cert.MixWOneRefIdeal.nD Cert.MixWOneRefIdeal.τ).loc Cert.MixWOneRefIdeal.main_arg0) = m ((c.tc : Thread Cert.MixWOneRefIdeal.nD Cert.MixWOneRefIdeal.τ).loc Cert.MixWOneRefIdeal.main_arg0)
      ∧ r.2.mem ((c.tc : Thread Cert.MixWOneRefIdeal.nD Cert.MixWOneRefIdeal.τ).loc Cert.MixWOneRefIdeal.main_arg1) = m ((c.tc : Thread Cert.MixWOneRefIdeal.nD Cert.MixWOneRefIdeal.τ).loc Cert.MixWOneRefIdeal.main_arg1))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFIdeal_pre_finite_queries_keys [hAttnFIdeal : Cert.AttnFIdeal.Facts] [hPre_finite_queries_keys : Cert.Pre_finite_queries_keys.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_finite_queries_keys m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_AttnFRefIdeal_pre_finite_queries_keys [hAttnFRefIdeal : Cert.AttnFRefIdeal.Facts] [hPre_finite_queries_keys : Cert.Pre_finite_queries_keys.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_finite_queries_keys m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def preserves_Attn_AttnIdeal : Prop :=
  True

def algebraic_AttnIdeal_AttnRefIdeal_pre_finite_operands [hAttnIdeal : Cert.AttnIdeal.Facts] [hAttnRefIdeal : Cert.AttnRefIdeal.Facts] [hPre_finite_operands : Cert.Pre_finite_operands.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_operands m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v31_0)) (v1 : (c : Dev Cert.AttnIdeal.nD) → Buf (Elt Ideal) ((c.tc : Thread Cert.AttnIdeal.nD Cert.AttnIdeal.τ).loc Cert.AttnIdeal.main_v31_1)) (v2 : (c : Dev Cert.AttnIdeal.nD) → Buf (Elt Ideal) ((c.tc : Thread Cert.AttnIdeal.nD Cert.AttnIdeal.τ).loc Cert.AttnIdeal.main_v31_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v31_0) = v0 c
          ∧ r.2.mem ((c.tc : Thread Cert.AttnIdeal.nD Cert.AttnIdeal.τ).loc Cert.AttnIdeal.main_v31_1) = v1 c
          ∧ r.2.mem ((c.tc : Thread Cert.AttnIdeal.nD Cert.AttnIdeal.τ).loc Cert.AttnIdeal.main_v31_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v64) = v0 c
          ∧ r.2.mem ((c.tc : Thread Cert.AttnRefIdeal.nD Cert.AttnRefIdeal.τ).loc Cert.AttnRefIdeal.main_v65) = v1 c
          ∧ r.2.mem ((c.tc : Thread Cert.AttnRefIdeal.nD Cert.AttnRefIdeal.τ).loc Cert.AttnRefIdeal.main_v66) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_DHid_DHidIdeal : Prop :=
  True

def algebraic_DHidIdeal_DHidRefIdeal_pre_finite_products [hDHidIdeal : Cert.DHidIdeal.Facts] [hDHidRefIdeal : Cert.DHidRefIdeal.Facts] [hPre_finite_products : Cert.Pre_finite_products.Facts] : Prop :=
  ∀ (m : (ℓ : Loc Cert.DHidIdeal.nD Cert.DHidIdeal.τ Cert.DHidIdeal.sig) → Buf (Elt Ideal) ℓ) (g : Dev Cert.DHidIdeal.nD → PrngReg)
    (m' : (ℓ : Loc Cert.DHidRefIdeal.nD Cert.DHidRefIdeal.τ Cert.DHidRefIdeal.sig) → Buf (Elt Ideal) ℓ) (g' : Dev Cert.DHidRefIdeal.nD → PrngReg), Pre_DHidIdeal_finite_products m →
    (∀ c : Dev Cert.DHidIdeal.nD,
      m' ((c.tc : Thread Cert.DHidRefIdeal.nD Cert.DHidRefIdeal.τ).loc Cert.DHidRefIdeal.main_arg0) = m ((c.tc : Thread Cert.DHidIdeal.nD Cert.DHidIdeal.τ).loc Cert.DHidIdeal.main_arg0)
      ∧ m' ((c.tc : Thread Cert.DHidRefIdeal.nD Cert.DHidRefIdeal.τ).loc Cert.DHidRefIdeal.main_arg1) = m ((c.tc : Thread Cert.DHidIdeal.nD Cert.DHidIdeal.τ).loc Cert.DHidIdeal.main_arg1)
      ∧ m' ((c.tc : Thread Cert.DHidRefIdeal.nD Cert.DHidRefIdeal.τ).loc Cert.DHidRefIdeal.main_arg2) = m ((c.tc : Thread Cert.DHidIdeal.nD Cert.DHidIdeal.τ).loc Cert.DHidIdeal.main_arg2)
      ∧ m' ((c.tc : Thread Cert.DHidRefIdeal.nD Cert.DHidRefIdeal.τ).loc Cert.DHidRefIdeal.main_arg3) = m ((c.tc : Thread Cert.DHidIdeal.nD Cert.DHidIdeal.τ).loc Cert.DHidIdeal.main_arg3)) →
    ∃ (v0 : (c : Dev Cert.DHidIdeal.nD) → Buf (Elt Ideal) ((c.tc : Thread Cert.DHidIdeal.nD Cert.DHidIdeal.τ).loc Cert.DHidIdeal.main_v0_0)) (v1 : (c : Dev Cert.DHidIdeal.nD) → Buf (Elt Ideal) ((c.tc : Thread Cert.DHidIdeal.nD Cert.DHidIdeal.τ).loc Cert.DHidIdeal.main_v0_1)),
      θ_run (Cert.DHidIdeal.defs (F := Ideal)) (onTc (τ := Cert.DHidIdeal.τ) (Cert.DHidIdeal.main (F := Ideal))) ⟨m, fun _ => 0, g⟩ (fun r => ∀ c : Dev Cert.DHidIdeal.nD,
          r.2.mem ((c.tc : Thread Cert.DHidIdeal.nD Cert.DHidIdeal.τ).loc Cert.DHidIdeal.main_v0_0) = v0 c
          ∧ r.2.mem ((c.tc : Thread Cert.DHidIdeal.nD Cert.DHidIdeal.τ).loc Cert.DHidIdeal.main_v0_1) = v1 c
          ∧ r.2.mem ((c.tc : Thread Cert.DHidIdeal.nD Cert.DHidIdeal.τ).loc Cert.DHidIdeal.main_arg0) = m ((c.tc : Thread Cert.DHidIdeal.nD Cert.DHidIdeal.τ).loc Cert.DHidIdeal.main_arg0)
          ∧ r.2.mem ((c.tc : Thread Cert.DHidIdeal.nD Cert.DHidIdeal.τ).loc Cert.DHidIdeal.main_arg1) = m ((c.tc : Thread Cert.DHidIdeal.nD Cert.DHidIdeal.τ).loc Cert.DHidIdeal.main_arg1)
          ∧ r.2.mem ((c.tc : Thread Cert.DHidIdeal.nD Cert.DHidIdeal.τ).loc Cert.DHidIdeal.main_arg2) = m ((c.tc : Thread Cert.DHidIdeal.nD Cert.DHidIdeal.τ).loc Cert.DHidIdeal.main_arg2)
          ∧ r.2.mem ((c.tc : Thread Cert.DHidIdeal.nD Cert.DHidIdeal.τ).loc Cert.DHidIdeal.main_arg3) = m ((c.tc : Thread Cert.DHidIdeal.nD Cert.DHidIdeal.τ).loc Cert.DHidIdeal.main_arg3))
      ∧ θ_run (Cert.DHidRefIdeal.defs (F := Ideal)) (onTc (τ := Cert.DHidRefIdeal.τ) (Cert.DHidRefIdeal.main (F := Ideal))) ⟨m', fun _ => 0, g'⟩ (fun r => ∀ c : Dev Cert.DHidRefIdeal.nD,
          r.2.mem ((c.tc : Thread Cert.DHidRefIdeal.nD Cert.DHidRefIdeal.τ).loc Cert.DHidRefIdeal.main_v12) = v0 c
          ∧ r.2.mem ((c.tc : Thread Cert.DHidRefIdeal.nD Cert.DHidRefIdeal.τ).loc Cert.DHidRefIdeal.main_v13) = v1 c
          ∧ r.2.mem ((c.tc : Thread Cert.DHidRefIdeal.nD Cert.DHidRefIdeal.τ).loc Cert.DHidRefIdeal.main_arg0) = m' ((c.tc : Thread Cert.DHidRefIdeal.nD Cert.DHidRefIdeal.τ).loc Cert.DHidRefIdeal.main_arg0)
          ∧ r.2.mem ((c.tc : Thread Cert.DHidRefIdeal.nD Cert.DHidRefIdeal.τ).loc Cert.DHidRefIdeal.main_arg1) = m' ((c.tc : Thread Cert.DHidRefIdeal.nD Cert.DHidRefIdeal.τ).loc Cert.DHidRefIdeal.main_arg1)
          ∧ r.2.mem ((c.tc : Thread Cert.DHidRefIdeal.nD Cert.DHidRefIdeal.τ).loc Cert.DHidRefIdeal.main_arg2) = m' ((c.tc : Thread Cert.DHidRefIdeal.nD Cert.DHidRefIdeal.τ).loc Cert.DHidRefIdeal.main_arg2)
          ∧ r.2.mem ((c.tc : Thread Cert.DHidRefIdeal.nD Cert.DHidRefIdeal.τ).loc Cert.DHidRefIdeal.main_arg3) = m' ((c.tc : Thread Cert.DHidRefIdeal.nD Cert.DHidRefIdeal.τ).loc Cert.DHidRefIdeal.main_arg3))

def preserves_DU_DUIdeal : Prop :=
  True

def algebraic_DUIdeal_DURefIdeal [hDUIdeal : Cert.DUIdeal.Facts] [hDURefIdeal : Cert.DURefIdeal.Facts] : Prop :=
  ∀ (m : (ℓ : Loc Cert.DUIdeal.nD Cert.DUIdeal.τ Cert.DUIdeal.sig) → Buf (Elt Ideal) ℓ) (g : Dev Cert.DUIdeal.nD → PrngReg)
    (m' : (ℓ : Loc Cert.DURefIdeal.nD Cert.DURefIdeal.τ Cert.DURefIdeal.sig) → Buf (Elt Ideal) ℓ) (g' : Dev Cert.DURefIdeal.nD → PrngReg), Pre_DUIdeal m →
    (∀ c : Dev Cert.DUIdeal.nD,
      m' ((c.tc : Thread Cert.DURefIdeal.nD Cert.DURefIdeal.τ).loc Cert.DURefIdeal.main_arg0) = m ((c.tc : Thread Cert.DUIdeal.nD Cert.DUIdeal.τ).loc Cert.DUIdeal.main_arg0)
      ∧ m' ((c.tc : Thread Cert.DURefIdeal.nD Cert.DURefIdeal.τ).loc Cert.DURefIdeal.main_arg1) = m ((c.tc : Thread Cert.DUIdeal.nD Cert.DUIdeal.τ).loc Cert.DUIdeal.main_arg1)
      ∧ m' ((c.tc : Thread Cert.DURefIdeal.nD Cert.DURefIdeal.τ).loc Cert.DURefIdeal.main_arg2) = m ((c.tc : Thread Cert.DUIdeal.nD Cert.DUIdeal.τ).loc Cert.DUIdeal.main_arg2)
      ∧ m' ((c.tc : Thread Cert.DURefIdeal.nD Cert.DURefIdeal.τ).loc Cert.DURefIdeal.main_arg3) = m ((c.tc : Thread Cert.DUIdeal.nD Cert.DUIdeal.τ).loc Cert.DUIdeal.main_arg3)) →
    ∃ (v0 : (c : Dev Cert.DUIdeal.nD) → Buf (Elt Ideal) ((c.tc : Thread Cert.DUIdeal.nD Cert.DUIdeal.τ).loc Cert.DUIdeal.main_v0)),
      θ_run (Cert.DUIdeal.defs (F := Ideal)) (onTc (τ := Cert.DUIdeal.τ) (Cert.DUIdeal.main (F := Ideal))) ⟨m, fun _ => 0, g⟩ (fun r => ∀ c : Dev Cert.DUIdeal.nD,
          r.2.mem ((c.tc : Thread Cert.DUIdeal.nD Cert.DUIdeal.τ).loc Cert.DUIdeal.main_v0) = v0 c
          ∧ r.2.mem ((c.tc : Thread Cert.DUIdeal.nD Cert.DUIdeal.τ).loc Cert.DUIdeal.main_arg0) = m ((c.tc : Thread Cert.DUIdeal.nD Cert.DUIdeal.τ).loc Cert.DUIdeal.main_arg0)
          ∧ r.2.mem ((c.tc : Thread Cert.DUIdeal.nD Cert.DUIdeal.τ).loc Cert.DUIdeal.main_arg1) = m ((c.tc : Thread Cert.DUIdeal.nD Cert.DUIdeal.τ).loc Cert.DUIdeal.main_arg1)
          ∧ r.2.mem ((c.tc : Thread Cert.DUIdeal.nD Cert.DUIdeal.τ).loc Cert.DUIdeal.main_arg2) = m ((c.tc : Thread Cert.DUIdeal.nD Cert.DUIdeal.τ).loc Cert.DUIdeal.main_arg2)
          ∧ r.2.mem ((c.tc : Thread Cert.DUIdeal.nD Cert.DUIdeal.τ).loc Cert.DUIdeal.main_arg3) = m ((c.tc : Thread Cert.DUIdeal.nD Cert.DUIdeal.τ).loc Cert.DUIdeal.main_arg3))
      ∧ θ_run (Cert.DURefIdeal.defs (F := Ideal)) (onTc (τ := Cert.DURefIdeal.τ) (Cert.DURefIdeal.main (F := Ideal))) ⟨m', fun _ => 0, g'⟩ (fun r => ∀ c : Dev Cert.DURefIdeal.nD,
          r.2.mem ((c.tc : Thread Cert.DURefIdeal.nD Cert.DURefIdeal.τ).loc Cert.DURefIdeal.main_v15) = v0 c
          ∧ r.2.mem ((c.tc : Thread Cert.DURefIdeal.nD Cert.DURefIdeal.τ).loc Cert.DURefIdeal.main_arg0) = m' ((c.tc : Thread Cert.DURefIdeal.nD Cert.DURefIdeal.τ).loc Cert.DURefIdeal.main_arg0)
          ∧ r.2.mem ((c.tc : Thread Cert.DURefIdeal.nD Cert.DURefIdeal.τ).loc Cert.DURefIdeal.main_arg1) = m' ((c.tc : Thread Cert.DURefIdeal.nD Cert.DURefIdeal.τ).loc Cert.DURefIdeal.main_arg1)
          ∧ r.2.mem ((c.tc : Thread Cert.DURefIdeal.nD Cert.DURefIdeal.τ).loc Cert.DURefIdeal.main_arg2) = m' ((c.tc : Thread Cert.DURefIdeal.nD Cert.DURefIdeal.τ).loc Cert.DURefIdeal.main_arg2)
          ∧ r.2.mem ((c.tc : Thread Cert.DURefIdeal.nD Cert.DURefIdeal.τ).loc Cert.DURefIdeal.main_arg3) = m' ((c.tc : Thread Cert.DURefIdeal.nD Cert.DURefIdeal.τ).loc Cert.DURefIdeal.main_arg3))

def preserves_DWIn_DWInIdeal : Prop :=
  True

def algebraic_DWInIdeal_DWInRefIdeal [hDWInIdeal : Cert.DWInIdeal.Facts] [hDWInRefIdeal : Cert.DWInRefIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInRefIdeal.nD Cert.DWInRefIdeal.τ Cert.DWInRefIdeal.sig) → Buf (Elt Ideal) ℓ) (g' : Dev Cert.DWInRefIdeal.nD → PrngReg), Pre_DWInIdeal m →
    (∀ c : Dev Cert.DWInIdeal.nD,
      m' ((c.tc : Thread Cert.DWInRefIdeal.nD Cert.DWInRefIdeal.τ).loc Cert.DWInRefIdeal.main_arg0) = m ((c.tc : Thread Cert.DWInIdeal.nD Cert.DWInIdeal.τ).loc Cert.DWInIdeal.main_arg0)
      ∧ m' ((c.tc : Thread Cert.DWInRefIdeal.nD Cert.DWInRefIdeal.τ).loc Cert.DWInRefIdeal.main_arg1) = m ((c.tc : Thread Cert.DWInIdeal.nD Cert.DWInIdeal.τ).loc Cert.DWInIdeal.main_arg1)
      ∧ m' ((c.tc : Thread Cert.DWInRefIdeal.nD Cert.DWInRefIdeal.τ).loc Cert.DWInRefIdeal.main_arg2) = m ((c.tc : Thread Cert.DWInIdeal.nD Cert.DWInIdeal.τ).loc Cert.DWInIdeal.main_arg2)
      ∧ m' ((c.tc : Thread Cert.DWInRefIdeal.nD Cert.DWInRefIdeal.τ).loc Cert.DWInRefIdeal.main_arg3) = m ((c.tc : Thread Cert.DWInIdeal.nD Cert.DWInIdeal.τ).loc Cert.DWInIdeal.main_arg3)
      ∧ m' ((c.tc : Thread Cert.DWInRefIdeal.nD Cert.DWInRefIdeal.τ).loc Cert.DWInRefIdeal.main_arg4) = m ((c.tc : Thread Cert.DWInIdeal.nD Cert.DWInIdeal.τ).loc Cert.DWInIdeal.main_arg4)) →
    ∃ (v0 : (c : Dev Cert.DWInIdeal.nD) → Buf (Elt Ideal) ((c.tc : Thread Cert.DWInIdeal.nD Cert.DWInIdeal.τ).loc Cert.DWInIdeal.main_v0_0)) (v1 : (c : Dev Cert.DWInIdeal.nD) → Buf (Elt Ideal) ((c.tc : Thread Cert.DWInIdeal.nD Cert.DWInIdeal.τ).loc Cert.DWInIdeal.main_v0_1)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v0_0) = v0 c
          ∧ r.2.mem ((c.tc : Thread Cert.DWInIdeal.nD Cert.DWInIdeal.τ).loc Cert.DWInIdeal.main_v0_1) = v1 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1)
          ∧ r.2.mem ((c.tc : Thread Cert.DWInIdeal.nD Cert.DWInIdeal.τ).loc Cert.DWInIdeal.main_arg2) = m ((c.tc : Thread Cert.DWInIdeal.nD Cert.DWInIdeal.τ).loc Cert.DWInIdeal.main_arg2)
          ∧ r.2.mem ((c.tc : Thread Cert.DWInIdeal.nD Cert.DWInIdeal.τ).loc Cert.DWInIdeal.main_arg3) = m ((c.tc : Thread Cert.DWInIdeal.nD Cert.DWInIdeal.τ).loc Cert.DWInIdeal.main_arg3)
          ∧ r.2.mem ((c.tc : Thread Cert.DWInIdeal.nD Cert.DWInIdeal.τ).loc Cert.DWInIdeal.main_arg4) = m ((c.tc : Thread Cert.DWInIdeal.nD Cert.DWInIdeal.τ).loc Cert.DWInIdeal.main_arg4))
      ∧ θ_run (Cert.DWInRefIdeal.defs (F := Ideal)) (onTc (τ := Cert.DWInRefIdeal.τ) (Cert.DWInRefIdeal.main (F := Ideal))) ⟨m', fun _ => 0, g'⟩ (fun r => ∀ c : Dev Cert.DWInRefIdeal.nD,
          r.2.mem ((c.tc : Thread Cert.DWInRefIdeal.nD Cert.DWInRefIdeal.τ).loc Cert.DWInRefIdeal.main_v14) = v0 c
          ∧ r.2.mem ((c.tc : Thread Cert.DWInRefIdeal.nD Cert.DWInRefIdeal.τ).loc Cert.DWInRefIdeal.main_v15) = v1 c
          ∧ r.2.mem ((c.tc : Thread Cert.DWInRefIdeal.nD Cert.DWInRefIdeal.τ).loc Cert.DWInRefIdeal.main_arg0) = m' ((c.tc : Thread Cert.DWInRefIdeal.nD Cert.DWInRefIdeal.τ).loc Cert.DWInRefIdeal.main_arg0)
          ∧ r.2.mem ((c.tc : Thread Cert.DWInRefIdeal.nD Cert.DWInRefIdeal.τ).loc Cert.DWInRefIdeal.main_arg1) = m' ((c.tc : Thread Cert.DWInRefIdeal.nD Cert.DWInRefIdeal.τ).loc Cert.DWInRefIdeal.main_arg1)
          ∧ r.2.mem ((c.tc : Thread Cert.DWInRefIdeal.nD Cert.DWInRefIdeal.τ).loc Cert.DWInRefIdeal.main_arg2) = m' ((c.tc : Thread Cert.DWInRefIdeal.nD Cert.DWInRefIdeal.τ).loc Cert.DWInRefIdeal.main_arg2)
          ∧ r.2.mem ((c.tc : Thread Cert.DWInRefIdeal.nD Cert.DWInRefIdeal.τ).loc Cert.DWInRefIdeal.main_arg3) = m' ((c.tc : Thread Cert.DWInRefIdeal.nD Cert.DWInRefIdeal.τ).loc Cert.DWInRefIdeal.main_arg3)
          ∧ r.2.mem ((c.tc : Thread Cert.DWInRefIdeal.nD Cert.DWInRefIdeal.τ).loc Cert.DWInRefIdeal.main_arg4) = m' ((c.tc : Thread Cert.DWInRefIdeal.nD Cert.DWInRefIdeal.τ).loc Cert.DWInRefIdeal.main_arg4))

def preserves_DWDown_DWDownIdeal : Prop :=
  True

def algebraic_DWDownIdeal_DWDownRefIdeal [hDWDownIdeal : Cert.DWDownIdeal.Facts] [hDWDownRefIdeal : Cert.DWDownRefIdeal.Facts] : Prop :=
  ∀ (m : (ℓ : Loc Cert.DWDownIdeal.nD Cert.DWDownIdeal.τ Cert.DWDownIdeal.sig) → Buf (Elt Ideal) ℓ) (g : Dev Cert.DWDownIdeal.nD → PrngReg)
    (m' : (ℓ : Loc Cert.DWDownRefIdeal.nD Cert.DWDownRefIdeal.τ Cert.DWDownRefIdeal.sig) → Buf (Elt Ideal) ℓ) (g' : Dev Cert.DWDownRefIdeal.nD → PrngReg), Pre_DWDownIdeal m →
    (∀ c : Dev Cert.DWDownIdeal.nD,
      m' ((c.tc : Thread Cert.DWDownRefIdeal.nD Cert.DWDownRefIdeal.τ).loc Cert.DWDownRefIdeal.main_arg0) = m ((c.tc : Thread Cert.DWDownIdeal.nD Cert.DWDownIdeal.τ).loc Cert.DWDownIdeal.main_arg0)
      ∧ m' ((c.tc : Thread Cert.DWDownRefIdeal.nD Cert.DWDownRefIdeal.τ).loc Cert.DWDownRefIdeal.main_arg1) = m ((c.tc : Thread Cert.DWDownIdeal.nD Cert.DWDownIdeal.τ).loc Cert.DWDownIdeal.main_arg1)
      ∧ m' ((c.tc : Thread Cert.DWDownRefIdeal.nD Cert.DWDownRefIdeal.τ).loc Cert.DWDownRefIdeal.main_arg2) = m ((c.tc : Thread Cert.DWDownIdeal.nD Cert.DWDownIdeal.τ).loc Cert.DWDownIdeal.main_arg2)) →
    ∃ (v0 : (c : Dev Cert.DWDownIdeal.nD) → Buf (Elt Ideal) ((c.tc : Thread Cert.DWDownIdeal.nD Cert.DWDownIdeal.τ).loc Cert.DWDownIdeal.main_v0)),
      θ_run (Cert.DWDownIdeal.defs (F := Ideal)) (onTc (τ := Cert.DWDownIdeal.τ) (Cert.DWDownIdeal.main (F := Ideal))) ⟨m, fun _ => 0, g⟩ (fun r => ∀ c : Dev Cert.DWDownIdeal.nD,
          r.2.mem ((c.tc : Thread Cert.DWDownIdeal.nD Cert.DWDownIdeal.τ).loc Cert.DWDownIdeal.main_v0) = v0 c
          ∧ r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
          ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1)
          ∧ r.2.mem ((c.tc : Thread Cert.DWDownIdeal.nD Cert.DWDownIdeal.τ).loc Cert.DWDownIdeal.main_arg2) = m ((c.tc : Thread Cert.DWDownIdeal.nD Cert.DWDownIdeal.τ).loc Cert.DWDownIdeal.main_arg2))
      ∧ θ_run (Cert.DWDownRefIdeal.defs (F := Ideal)) (onTc (τ := Cert.DWDownRefIdeal.τ) (Cert.DWDownRefIdeal.main (F := Ideal))) ⟨m', fun _ => 0, g'⟩ (fun r => ∀ c : Dev Cert.DWDownRefIdeal.nD,
          r.2.mem ((c.tc : Thread Cert.DWDownRefIdeal.nD Cert.DWDownRefIdeal.τ).loc Cert.DWDownRefIdeal.main_v6) = v0 c
          ∧ r.2.mem ((c.tc : Thread Cert.DWDownRefIdeal.nD Cert.DWDownRefIdeal.τ).loc Cert.DWDownRefIdeal.main_arg0) = m' ((c.tc : Thread Cert.DWDownRefIdeal.nD Cert.DWDownRefIdeal.τ).loc Cert.DWDownRefIdeal.main_arg0)
          ∧ r.2.mem ((c.tc : Thread Cert.DWDownRefIdeal.nD Cert.DWDownRefIdeal.τ).loc Cert.DWDownRefIdeal.main_arg1) = m' ((c.tc : Thread Cert.DWDownRefIdeal.nD Cert.DWDownRefIdeal.τ).loc Cert.DWDownRefIdeal.main_arg1)
          ∧ r.2.mem ((c.tc : Thread Cert.DWDownRefIdeal.nD Cert.DWDownRefIdeal.τ).loc Cert.DWDownRefIdeal.main_arg2) = m' ((c.tc : Thread Cert.DWDownRefIdeal.nD Cert.DWDownRefIdeal.τ).loc Cert.DWDownRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_v10) = v1 c
          ∧ r.2.mem ((c.tc : Thread Cert.UpRefIdeal.nD Cert.UpRefIdeal.τ).loc Cert.UpRefIdeal.main_v13) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v13) = v0 c
          ∧ r.2.mem ((c.tc : Thread Cert.DownRefIdeal.nD Cert.DownRefIdeal.τ).loc Cert.DownRefIdeal.main_v2) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)) →
    ∃ (v0 : (c : Dev Cert.ConvInIdeal.nD) → Buf (Elt Ideal) ((c.tc : Thread Cert.ConvInIdeal.nD Cert.ConvInIdeal.τ).loc Cert.ConvInIdeal.main_v0)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v11) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1))

def preserves_ConvW_ConvWIdeal : Prop :=
  True

def algebraic_ConvWIdeal_ConvWRefIdeal [hConvWIdeal : Cert.ConvWIdeal.Facts] [hConvWRefIdeal : Cert.ConvWRefIdeal.Facts] : Prop :=
  ∀ (m : (ℓ : Loc Cert.ConvWIdeal.nD Cert.ConvWIdeal.τ Cert.ConvWIdeal.sig) → Buf (Elt Ideal) ℓ) (g : Dev Cert.ConvWIdeal.nD → PrngReg)
    (m' : (ℓ : Loc Cert.ConvWRefIdeal.nD Cert.ConvWRefIdeal.τ Cert.ConvWRefIdeal.sig) → Buf (Elt Ideal) ℓ) (g' : Dev Cert.ConvWRefIdeal.nD → PrngReg), Pre_ConvWIdeal m →
    (∀ c : Dev Cert.ConvWIdeal.nD,
      m' ((c.tc : Thread Cert.ConvWRefIdeal.nD Cert.ConvWRefIdeal.τ).loc Cert.ConvWRefIdeal.main_arg0) = m ((c.tc : Thread Cert.ConvWIdeal.nD Cert.ConvWIdeal.τ).loc Cert.ConvWIdeal.main_arg0)
      ∧ m' ((c.tc : Thread Cert.ConvWRefIdeal.nD Cert.ConvWRefIdeal.τ).loc Cert.ConvWRefIdeal.main_arg1) = m ((c.tc : Thread Cert.ConvWIdeal.nD Cert.ConvWIdeal.τ).loc Cert.ConvWIdeal.main_arg1)) →
    ∃ (v0 : (c : Dev Cert.ConvWIdeal.nD) → Buf (Elt Ideal) ((c.tc : Thread Cert.ConvWIdeal.nD Cert.ConvWIdeal.τ).loc Cert.ConvWIdeal.main_v0)),
      θ_run (Cert.ConvWIdeal.defs (F := Ideal)) (onTc (τ := Cert.ConvWIdeal.τ) (Cert.ConvWIdeal.main (F := Ideal))) ⟨m, fun _ => 0, g⟩ (fun r => ∀ c : Dev Cert.ConvWIdeal.nD,
          r.2.mem ((c.tc : Thread Cert.ConvWIdeal.nD Cert.ConvWIdeal.τ).loc Cert.ConvWIdeal.main_v0) = v0 c
          ∧ r.2.mem ((c.tc : Thread Cert.ConvWIdeal.nD Cert.ConvWIdeal.τ).loc Cert.ConvWIdeal.main_arg0) = m ((c.tc : Thread Cert.ConvWIdeal.nD Cert.ConvWIdeal.τ).loc Cert.ConvWIdeal.main_arg0)
          ∧ r.2.mem ((c.tc : Thread Cert.ConvWIdeal.nD Cert.ConvWIdeal.τ).loc Cert.ConvWIdeal.main_arg1) = m ((c.tc : Thread Cert.ConvWIdeal.nD Cert.ConvWIdeal.τ).loc Cert.ConvWIdeal.main_arg1))
      ∧ θ_run (Cert.ConvWRefIdeal.defs (F := Ideal)) (onTc (τ := Cert.ConvWRefIdeal.τ) (Cert.ConvWRefIdeal.main (F := Ideal))) ⟨m', fun _ => 0, g'⟩ (fun r => ∀ c : Dev Cert.ConvWRefIdeal.nD,
          r.2.mem ((c.tc : Thread Cert.ConvWRefIdeal.nD Cert.ConvWRefIdeal.τ).loc Cert.ConvWRefIdeal.main_v12) = v0 c
          ∧ r.2.mem ((c.tc : Thread Cert.ConvWRefIdeal.nD Cert.ConvWRefIdeal.τ).loc Cert.ConvWRefIdeal.main_arg0) = m' ((c.tc : Thread Cert.ConvWRefIdeal.nD Cert.ConvWRefIdeal.τ).loc Cert.ConvWRefIdeal.main_arg0)
          ∧ r.2.mem ((c.tc : Thread Cert.ConvWRefIdeal.nD Cert.ConvWRefIdeal.τ).loc Cert.ConvWRefIdeal.main_arg1) = m' ((c.tc : Thread Cert.ConvWRefIdeal.nD Cert.ConvWRefIdeal.τ).loc Cert.ConvWRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v4) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixW_MixWIdeal : Prop :=
  True

def algebraic_MixWIdeal_MixWRefIdeal [hMixWIdeal : Cert.MixWIdeal.Facts] [hMixWRefIdeal : Cert.MixWRefIdeal.Facts] : Prop :=
  ∀ (m : (ℓ : Loc Cert.MixWIdeal.nD Cert.MixWIdeal.τ Cert.MixWIdeal.sig) → Buf (Elt Ideal) ℓ) (g : Dev Cert.MixWIdeal.nD → PrngReg)
    (m' : (ℓ : Loc Cert.MixWRefIdeal.nD Cert.MixWRefIdeal.τ Cert.MixWRefIdeal.sig) → Buf (Elt Ideal) ℓ) (g' : Dev Cert.MixWRefIdeal.nD → PrngReg), Pre_MixWIdeal m →
    (∀ c : Dev Cert.MixWIdeal.nD,
      m' ((c.tc : Thread Cert.MixWRefIdeal.nD Cert.MixWRefIdeal.τ).loc Cert.MixWRefIdeal.main_arg0) = m ((c.tc : Thread Cert.MixWIdeal.nD Cert.MixWIdeal.τ).loc Cert.MixWIdeal.main_arg0)
      ∧ m' ((c.tc : Thread Cert.MixWRefIdeal.nD Cert.MixWRefIdeal.τ).loc Cert.MixWRefIdeal.main_arg1) = m ((c.tc : Thread Cert.MixWIdeal.nD Cert.MixWIdeal.τ).loc Cert.MixWIdeal.main_arg1)) →
    ∃ (v0 : (c : Dev Cert.MixWIdeal.nD) → Buf (Elt Ideal) ((c.tc : Thread Cert.MixWIdeal.nD Cert.MixWIdeal.τ).loc Cert.MixWIdeal.main_v0)),
      θ_run (Cert.MixWIdeal.defs (F := Ideal)) (onTc (τ := Cert.MixWIdeal.τ) (Cert.MixWIdeal.main (F := Ideal))) ⟨m, fun _ => 0, g⟩ (fun r => ∀ c : Dev Cert.MixWIdeal.nD,
          r.2.mem ((c.tc : Thread Cert.MixWIdeal.nD Cert.MixWIdeal.τ).loc Cert.MixWIdeal.main_v0) = v0 c
          ∧ r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
          ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1))
      ∧ θ_run (Cert.MixWRefIdeal.defs (F := Ideal)) (onTc (τ := Cert.MixWRefIdeal.τ) (Cert.MixWRefIdeal.main (F := Ideal))) ⟨m', fun _ => 0, g'⟩ (fun r => ∀ c : Dev Cert.MixWRefIdeal.nD,
          r.2.mem ((c.tc : Thread Cert.MixWRefIdeal.nD Cert.MixWRefIdeal.τ).loc Cert.MixWRefIdeal.main_v5) = v0 c
          ∧ r.2.mem ((c.tc : Thread Cert.MixWRefIdeal.nD Cert.MixWRefIdeal.τ).loc Cert.MixWRefIdeal.main_arg0) = m' ((c.tc : Thread Cert.MixWRefIdeal.nD Cert.MixWRefIdeal.τ).loc Cert.MixWRefIdeal.main_arg0)
          ∧ r.2.mem ((c.tc : Thread Cert.MixWRefIdeal.nD Cert.MixWRefIdeal.τ).loc Cert.MixWRefIdeal.main_arg1) = m' ((c.tc : Thread Cert.MixWRefIdeal.nD Cert.MixWRefIdeal.τ).loc Cert.MixWRefIdeal.main_arg1))

def preserves_DHidOne_DHidOneIdeal : Prop :=
  True

def algebraic_DHidOneIdeal_DHidOneRefIdeal_pre_finite_products_l1 [hDHidOneIdeal : Cert.DHidOneIdeal.Facts] [hDHidOneRefIdeal : Cert.DHidOneRefIdeal.Facts] [hPre_finite_products_l1 : Cert.Pre_finite_products_l1.Facts] : Prop :=
  ∀ (m : (ℓ : Loc Cert.DHidOneIdeal.nD Cert.DHidOneIdeal.τ Cert.DHidOneIdeal.sig) → Buf (Elt Ideal) ℓ) (g : Dev Cert.DHidOneIdeal.nD → PrngReg)
    (m' : (ℓ : Loc Cert.DHidOneRefIdeal.nD Cert.DHidOneRefIdeal.τ Cert.DHidOneRefIdeal.sig) → Buf (Elt Ideal) ℓ) (g' : Dev Cert.DHidOneRefIdeal.nD → PrngReg), Pre_DHidOneIdeal_finite_products_l1 m →
    (∀ c : Dev Cert.DHidOneIdeal.nD,
      m' ((c.tc : Thread Cert.DHidOneRefIdeal.nD Cert.DHidOneRefIdeal.τ).loc Cert.DHidOneRefIdeal.main_arg0) = m ((c.tc : Thread Cert.DHidOneIdeal.nD Cert.DHidOneIdeal.τ).loc Cert.DHidOneIdeal.main_arg0)
      ∧ m' ((c.tc : Thread Cert.DHidOneRefIdeal.nD Cert.DHidOneRefIdeal.τ).loc Cert.DHidOneRefIdeal.main_arg1) = m ((c.tc : Thread Cert.DHidOneIdeal.nD Cert.DHidOneIdeal.τ).loc Cert.DHidOneIdeal.main_arg1)
      ∧ m' ((c.tc : Thread Cert.DHidOneRefIdeal.nD Cert.DHidOneRefIdeal.τ).loc Cert.DHidOneRefIdeal.main_arg2) = m ((c.tc : Thread Cert.DHidOneIdeal.nD Cert.DHidOneIdeal.τ).loc Cert.DHidOneIdeal.main_arg2)
      ∧ m' ((c.tc : Thread Cert.DHidOneRefIdeal.nD Cert.DHidOneRefIdeal.τ).loc Cert.DHidOneRefIdeal.main_arg3) = m ((c.tc : Thread Cert.DHidOneIdeal.nD Cert.DHidOneIdeal.τ).loc Cert.DHidOneIdeal.main_arg3)) →
    ∃ (v0 : (c : Dev Cert.DHidOneIdeal.nD) → Buf (Elt Ideal) ((c.tc : Thread Cert.DHidOneIdeal.nD Cert.DHidOneIdeal.τ).loc Cert.DHidOneIdeal.main_v0_0)) (v1 : (c : Dev Cert.DHidOneIdeal.nD) → Buf (Elt Ideal) ((c.tc : Thread Cert.DHidOneIdeal.nD Cert.DHidOneIdeal.τ).loc Cert.DHidOneIdeal.main_v0_1)),
      θ_run (Cert.DHidOneIdeal.defs (F := Ideal)) (onTc (τ := Cert.DHidOneIdeal.τ) (Cert.DHidOneIdeal.main (F := Ideal))) ⟨m, fun _ => 0, g⟩ (fun r => ∀ c : Dev Cert.DHidOneIdeal.nD,
          r.2.mem ((c.tc : Thread Cert.DHidOneIdeal.nD Cert.DHidOneIdeal.τ).loc Cert.DHidOneIdeal.main_v0_0) = v0 c
          ∧ r.2.mem ((c.tc : Thread Cert.DHidOneIdeal.nD Cert.DHidOneIdeal.τ).loc Cert.DHidOneIdeal.main_v0_1) = v1 c
          ∧ r.2.mem ((c.tc : Thread Cert.DHidOneIdeal.nD Cert.DHidOneIdeal.τ).loc Cert.DHidOneIdeal.main_arg0) = m ((c.tc : Thread Cert.DHidOneIdeal.nD Cert.DHidOneIdeal.τ).loc Cert.DHidOneIdeal.main_arg0)
          ∧ r.2.mem ((c.tc : Thread Cert.DHidOneIdeal.nD Cert.DHidOneIdeal.τ).loc Cert.DHidOneIdeal.main_arg1) = m ((c.tc : Thread Cert.DHidOneIdeal.nD Cert.DHidOneIdeal.τ).loc Cert.DHidOneIdeal.main_arg1)
          ∧ r.2.mem ((c.tc : Thread Cert.DHidOneIdeal.nD Cert.DHidOneIdeal.τ).loc Cert.DHidOneIdeal.main_arg2) = m ((c.tc : Thread Cert.DHidOneIdeal.nD Cert.DHidOneIdeal.τ).loc Cert.DHidOneIdeal.main_arg2)
          ∧ r.2.mem ((c.tc : Thread Cert.DHidOneIdeal.nD Cert.DHidOneIdeal.τ).loc Cert.DHidOneIdeal.main_arg3) = m ((c.tc : Thread Cert.DHidOneIdeal.nD Cert.DHidOneIdeal.τ).loc Cert.DHidOneIdeal.main_arg3))
      ∧ θ_run (Cert.DHidOneRefIdeal.defs (F := Ideal)) (onTc (τ := Cert.DHidOneRefIdeal.τ) (Cert.DHidOneRefIdeal.main (F := Ideal))) ⟨m', fun _ => 0, g'⟩ (fun r => ∀ c : Dev Cert.DHidOneRefIdeal.nD,
          r.2.mem ((c.tc : Thread Cert.DHidOneRefIdeal.nD Cert.DHidOneRefIdeal.τ).loc Cert.DHidOneRefIdeal.main_v12) = v0 c
          ∧ r.2.mem ((c.tc : Thread Cert.DHidOneRefIdeal.nD Cert.DHidOneRefIdeal.τ).loc Cert.DHidOneRefIdeal.main_v13) = v1 c
          ∧ r.2.mem ((c.tc : Thread Cert.DHidOneRefIdeal.nD Cert.DHidOneRefIdeal.τ).loc Cert.DHidOneRefIdeal.main_arg0) = m' ((c.tc : Thread Cert.DHidOneRefIdeal.nD Cert.DHidOneRefIdeal.τ).loc Cert.DHidOneRefIdeal.main_arg0)
          ∧ r.2.mem ((c.tc : Thread Cert.DHidOneRefIdeal.nD Cert.DHidOneRefIdeal.τ).loc Cert.DHidOneRefIdeal.main_arg1) = m' ((c.tc : Thread Cert.DHidOneRefIdeal.nD Cert.DHidOneRefIdeal.τ).loc Cert.DHidOneRefIdeal.main_arg1)
          ∧ r.2.mem ((c.tc : Thread Cert.DHidOneRefIdeal.nD Cert.DHidOneRefIdeal.τ).loc Cert.DHidOneRefIdeal.main_arg2) = m' ((c.tc : Thread Cert.DHidOneRefIdeal.nD Cert.DHidOneRefIdeal.τ).loc Cert.DHidOneRefIdeal.main_arg2)
          ∧ r.2.mem ((c.tc : Thread Cert.DHidOneRefIdeal.nD Cert.DHidOneRefIdeal.τ).loc Cert.DHidOneRefIdeal.main_arg3) = m' ((c.tc : Thread Cert.DHidOneRefIdeal.nD Cert.DHidOneRefIdeal.τ).loc Cert.DHidOneRefIdeal.main_arg3))

def preserves_DUOne_DUOneIdeal : Prop :=
  True

def algebraic_DUOneIdeal_DUOneRefIdeal [hDUOneIdeal : Cert.DUOneIdeal.Facts] [hDUOneRefIdeal : Cert.DUOneRefIdeal.Facts] : Prop :=
  ∀ (m : (ℓ : Loc Cert.DUOneIdeal.nD Cert.DUOneIdeal.τ Cert.DUOneIdeal.sig) → Buf (Elt Ideal) ℓ) (g : Dev Cert.DUOneIdeal.nD → PrngReg)
    (m' : (ℓ : Loc Cert.DUOneRefIdeal.nD Cert.DUOneRefIdeal.τ Cert.DUOneRefIdeal.sig) → Buf (Elt Ideal) ℓ) (g' : Dev Cert.DUOneRefIdeal.nD → PrngReg), Pre_DUOneIdeal m →
    (∀ c : Dev Cert.DUOneIdeal.nD,
      m' ((c.tc : Thread Cert.DUOneRefIdeal.nD Cert.DUOneRefIdeal.τ).loc Cert.DUOneRefIdeal.main_arg0) = m ((c.tc : Thread Cert.DUOneIdeal.nD Cert.DUOneIdeal.τ).loc Cert.DUOneIdeal.main_arg0)
      ∧ m' ((c.tc : Thread Cert.DUOneRefIdeal.nD Cert.DUOneRefIdeal.τ).loc Cert.DUOneRefIdeal.main_arg1) = m ((c.tc : Thread Cert.DUOneIdeal.nD Cert.DUOneIdeal.τ).loc Cert.DUOneIdeal.main_arg1)
      ∧ m' ((c.tc : Thread Cert.DUOneRefIdeal.nD Cert.DUOneRefIdeal.τ).loc Cert.DUOneRefIdeal.main_arg2) = m ((c.tc : Thread Cert.DUOneIdeal.nD Cert.DUOneIdeal.τ).loc Cert.DUOneIdeal.main_arg2)
      ∧ m' ((c.tc : Thread Cert.DUOneRefIdeal.nD Cert.DUOneRefIdeal.τ).loc Cert.DUOneRefIdeal.main_arg3) = m ((c.tc : Thread Cert.DUOneIdeal.nD Cert.DUOneIdeal.τ).loc Cert.DUOneIdeal.main_arg3)) →
    ∃ (v0 : (c : Dev Cert.DUOneIdeal.nD) → Buf (Elt Ideal) ((c.tc : Thread Cert.DUOneIdeal.nD Cert.DUOneIdeal.τ).loc Cert.DUOneIdeal.main_v0)),
      θ_run (Cert.DUOneIdeal.defs (F := Ideal)) (onTc (τ := Cert.DUOneIdeal.τ) (Cert.DUOneIdeal.main (F := Ideal))) ⟨m, fun _ => 0, g⟩ (fun r => ∀ c : Dev Cert.DUOneIdeal.nD,
          r.2.mem ((c.tc : Thread Cert.DUOneIdeal.nD Cert.DUOneIdeal.τ).loc Cert.DUOneIdeal.main_v0) = v0 c
          ∧ r.2.mem ((c.tc : Thread Cert.DUOneIdeal.nD Cert.DUOneIdeal.τ).loc Cert.DUOneIdeal.main_arg0) = m ((c.tc : Thread Cert.DUOneIdeal.nD Cert.DUOneIdeal.τ).loc Cert.DUOneIdeal.main_arg0)
          ∧ r.2.mem ((c.tc : Thread Cert.DUOneIdeal.nD Cert.DUOneIdeal.τ).loc Cert.DUOneIdeal.main_arg1) = m ((c.tc : Thread Cert.DUOneIdeal.nD Cert.DUOneIdeal.τ).loc Cert.DUOneIdeal.main_arg1)
          ∧ r.2.mem ((c.tc : Thread Cert.DUOneIdeal.nD Cert.DUOneIdeal.τ).loc Cert.DUOneIdeal.main_arg2) = m ((c.tc : Thread Cert.DUOneIdeal.nD Cert.DUOneIdeal.τ).loc Cert.DUOneIdeal.main_arg2)
          ∧ r.2.mem ((c.tc : Thread Cert.DUOneIdeal.nD Cert.DUOneIdeal.τ).loc Cert.DUOneIdeal.main_arg3) = m ((c.tc : Thread Cert.DUOneIdeal.nD Cert.DUOneIdeal.τ).loc Cert.DUOneIdeal.main_arg3))
      ∧ θ_run (Cert.DUOneRefIdeal.defs (F := Ideal)) (onTc (τ := Cert.DUOneRefIdeal.τ) (Cert.DUOneRefIdeal.main (F := Ideal))) ⟨m', fun _ => 0, g'⟩ (fun r => ∀ c : Dev Cert.DUOneRefIdeal.nD,
          r.2.mem ((c.tc : Thread Cert.DUOneRefIdeal.nD Cert.DUOneRefIdeal.τ).loc Cert.DUOneRefIdeal.main_v15) = v0 c
          ∧ r.2.mem ((c.tc : Thread Cert.DUOneRefIdeal.nD Cert.DUOneRefIdeal.τ).loc Cert.DUOneRefIdeal.main_arg0) = m' ((c.tc : Thread Cert.DUOneRefIdeal.nD Cert.DUOneRefIdeal.τ).loc Cert.DUOneRefIdeal.main_arg0)
          ∧ r.2.mem ((c.tc : Thread Cert.DUOneRefIdeal.nD Cert.DUOneRefIdeal.τ).loc Cert.DUOneRefIdeal.main_arg1) = m' ((c.tc : Thread Cert.DUOneRefIdeal.nD Cert.DUOneRefIdeal.τ).loc Cert.DUOneRefIdeal.main_arg1)
          ∧ r.2.mem ((c.tc : Thread Cert.DUOneRefIdeal.nD Cert.DUOneRefIdeal.τ).loc Cert.DUOneRefIdeal.main_arg2) = m' ((c.tc : Thread Cert.DUOneRefIdeal.nD Cert.DUOneRefIdeal.τ).loc Cert.DUOneRefIdeal.main_arg2)
          ∧ r.2.mem ((c.tc : Thread Cert.DUOneRefIdeal.nD Cert.DUOneRefIdeal.τ).loc Cert.DUOneRefIdeal.main_arg3) = m' ((c.tc : Thread Cert.DUOneRefIdeal.nD Cert.DUOneRefIdeal.τ).loc Cert.DUOneRefIdeal.main_arg3))

def preserves_DWInOne_DWInOneIdeal : Prop :=
  True

def algebraic_DWInOneIdeal_DWInOneRefIdeal [hDWInOneIdeal : Cert.DWInOneIdeal.Facts] [hDWInOneRefIdeal : Cert.DWInOneRefIdeal.Facts] : Prop :=
  ∀ (m : (ℓ : Loc Cert.DWInOneIdeal.nD Cert.DWInOneIdeal.τ Cert.DWInOneIdeal.sig) → Buf (Elt Ideal) ℓ) (g : Dev Cert.DWInOneIdeal.nD → PrngReg)
    (m' : (ℓ : Loc Cert.DWInOneRefIdeal.nD Cert.DWInOneRefIdeal.τ Cert.DWInOneRefIdeal.sig) → Buf (Elt Ideal) ℓ) (g' : Dev Cert.DWInOneRefIdeal.nD → PrngReg), Pre_DWInOneIdeal m →
    (∀ c : Dev Cert.DWInOneIdeal.nD,
      m' ((c.tc : Thread Cert.DWInOneRefIdeal.nD Cert.DWInOneRefIdeal.τ).loc Cert.DWInOneRefIdeal.main_arg0) = m ((c.tc : Thread Cert.DWInOneIdeal.nD Cert.DWInOneIdeal.τ).loc Cert.DWInOneIdeal.main_arg0)
      ∧ m' ((c.tc : Thread Cert.DWInOneRefIdeal.nD Cert.DWInOneRefIdeal.τ).loc Cert.DWInOneRefIdeal.main_arg1) = m ((c.tc : Thread Cert.DWInOneIdeal.nD Cert.DWInOneIdeal.τ).loc Cert.DWInOneIdeal.main_arg1)
      ∧ m' ((c.tc : Thread Cert.DWInOneRefIdeal.nD Cert.DWInOneRefIdeal.τ).loc Cert.DWInOneRefIdeal.main_arg2) = m ((c.tc : Thread Cert.DWInOneIdeal.nD Cert.DWInOneIdeal.τ).loc Cert.DWInOneIdeal.main_arg2)
      ∧ m' ((c.tc : Thread Cert.DWInOneRefIdeal.nD Cert.DWInOneRefIdeal.τ).loc Cert.DWInOneRefIdeal.main_arg3) = m ((c.tc : Thread Cert.DWInOneIdeal.nD Cert.DWInOneIdeal.τ).loc Cert.DWInOneIdeal.main_arg3)
      ∧ m' ((c.tc : Thread Cert.DWInOneRefIdeal.nD Cert.DWInOneRefIdeal.τ).loc Cert.DWInOneRefIdeal.main_arg4) = m ((c.tc : Thread Cert.DWInOneIdeal.nD Cert.DWInOneIdeal.τ).loc Cert.DWInOneIdeal.main_arg4)) →
    ∃ (v0 : (c : Dev Cert.DWInOneIdeal.nD) → Buf (Elt Ideal) ((c.tc : Thread Cert.DWInOneIdeal.nD Cert.DWInOneIdeal.τ).loc Cert.DWInOneIdeal.main_v0_0)) (v1 : (c : Dev Cert.DWInOneIdeal.nD) → Buf (Elt Ideal) ((c.tc : Thread Cert.DWInOneIdeal.nD Cert.DWInOneIdeal.τ).loc Cert.DWInOneIdeal.main_v0_1)),
      θ_run (Cert.DWInOneIdeal.defs (F := Ideal)) (onTc (τ := Cert.DWInOneIdeal.τ) (Cert.DWInOneIdeal.main (F := Ideal))) ⟨m, fun _ => 0, g⟩ (fun r => ∀ c : Dev Cert.DWInOneIdeal.nD,
          r.2.mem ((c.tc : Thread Cert.DWInOneIdeal.nD Cert.DWInOneIdeal.τ).loc Cert.DWInOneIdeal.main_v0_0) = v0 c
          ∧ r.2.mem ((c.tc : Thread Cert.DWInOneIdeal.nD Cert.DWInOneIdeal.τ).loc Cert.DWInOneIdeal.main_v0_1) = v1 c
          ∧ r.2.mem ((c.tc : Thread Cert.DWInOneIdeal.nD Cert.DWInOneIdeal.τ).loc Cert.DWInOneIdeal.main_arg0) = m ((c.tc : Thread Cert.DWInOneIdeal.nD Cert.DWInOneIdeal.τ).loc Cert.DWInOneIdeal.main_arg0)
          ∧ r.2.mem ((c.tc : Thread Cert.DWInOneIdeal.nD Cert.DWInOneIdeal.τ).loc Cert.DWInOneIdeal.main_arg1) = m ((c.tc : Thread Cert.DWInOneIdeal.nD Cert.DWInOneIdeal.τ).loc Cert.DWInOneIdeal.main_arg1)
          ∧ r.2.mem ((c.tc : Thread Cert.DWInOneIdeal.nD Cert.DWInOneIdeal.τ).loc Cert.DWInOneIdeal.main_arg2) = m ((c.tc : Thread Cert.DWInOneIdeal.nD Cert.DWInOneIdeal.τ).loc Cert.DWInOneIdeal.main_arg2)
          ∧ r.2.mem ((c.tc : Thread Cert.DWInOneIdeal.nD Cert.DWInOneIdeal.τ).loc Cert.DWInOneIdeal.main_arg3) = m ((c.tc : Thread Cert.DWInOneIdeal.nD Cert.DWInOneIdeal.τ).loc Cert.DWInOneIdeal.main_arg3)
          ∧ r.2.mem ((c.tc : Thread Cert.DWInOneIdeal.nD Cert.DWInOneIdeal.τ).loc Cert.DWInOneIdeal.main_arg4) = m ((c.tc : Thread Cert.DWInOneIdeal.nD Cert.DWInOneIdeal.τ).loc Cert.DWInOneIdeal.main_arg4))
      ∧ θ_run (Cert.DWInOneRefIdeal.defs (F := Ideal)) (onTc (τ := Cert.DWInOneRefIdeal.τ) (Cert.DWInOneRefIdeal.main (F := Ideal))) ⟨m', fun _ => 0, g'⟩ (fun r => ∀ c : Dev Cert.DWInOneRefIdeal.nD,
          r.2.mem ((c.tc : Thread Cert.DWInOneRefIdeal.nD Cert.DWInOneRefIdeal.τ).loc Cert.DWInOneRefIdeal.main_v14) = v0 c
          ∧ r.2.mem ((c.tc : Thread Cert.DWInOneRefIdeal.nD Cert.DWInOneRefIdeal.τ).loc Cert.DWInOneRefIdeal.main_v15) = v1 c
          ∧ r.2.mem ((c.tc : Thread Cert.DWInOneRefIdeal.nD Cert.DWInOneRefIdeal.τ).loc Cert.DWInOneRefIdeal.main_arg0) = m' ((c.tc : Thread Cert.DWInOneRefIdeal.nD Cert.DWInOneRefIdeal.τ).loc Cert.DWInOneRefIdeal.main_arg0)
          ∧ r.2.mem ((c.tc : Thread Cert.DWInOneRefIdeal.nD Cert.DWInOneRefIdeal.τ).loc Cert.DWInOneRefIdeal.main_arg1) = m' ((c.tc : Thread Cert.DWInOneRefIdeal.nD Cert.DWInOneRefIdeal.τ).loc Cert.DWInOneRefIdeal.main_arg1)
          ∧ r.2.mem ((c.tc : Thread Cert.DWInOneRefIdeal.nD Cert.DWInOneRefIdeal.τ).loc Cert.DWInOneRefIdeal.main_arg2) = m' ((c.tc : Thread Cert.DWInOneRefIdeal.nD Cert.DWInOneRefIdeal.τ).loc Cert.DWInOneRefIdeal.main_arg2)
          ∧ r.2.mem ((c.tc : Thread Cert.DWInOneRefIdeal.nD Cert.DWInOneRefIdeal.τ).loc Cert.DWInOneRefIdeal.main_arg3) = m' ((c.tc : Thread Cert.DWInOneRefIdeal.nD Cert.DWInOneRefIdeal.τ).loc Cert.DWInOneRefIdeal.main_arg3)
          ∧ r.2.mem ((c.tc : Thread Cert.DWInOneRefIdeal.nD Cert.DWInOneRefIdeal.τ).loc Cert.DWInOneRefIdeal.main_arg4) = m' ((c.tc : Thread Cert.DWInOneRefIdeal.nD Cert.DWInOneRefIdeal.τ).loc Cert.DWInOneRefIdeal.main_arg4))

def preserves_DWDownOne_DWDownOneIdeal : Prop :=
  True

def algebraic_DWDownOneIdeal_DWDownOneRefIdeal [hDWDownOneIdeal : Cert.DWDownOneIdeal.Facts] [hDWDownOneRefIdeal : Cert.DWDownOneRefIdeal.Facts] : Prop :=
  ∀ (m : (ℓ : Loc Cert.DWDownOneIdeal.nD Cert.DWDownOneIdeal.τ Cert.DWDownOneIdeal.sig) → Buf (Elt Ideal) ℓ) (g : Dev Cert.DWDownOneIdeal.nD → PrngReg)
    (m' : (ℓ : Loc Cert.DWDownOneRefIdeal.nD Cert.DWDownOneRefIdeal.τ Cert.DWDownOneRefIdeal.sig) → Buf (Elt Ideal) ℓ) (g' : Dev Cert.DWDownOneRefIdeal.nD → PrngReg), Pre_DWDownOneIdeal m →
    (∀ c : Dev Cert.DWDownOneIdeal.nD,
      m' ((c.tc : Thread Cert.DWDownOneRefIdeal.nD Cert.DWDownOneRefIdeal.τ).loc Cert.DWDownOneRefIdeal.main_arg0) = m ((c.tc : Thread Cert.DWDownOneIdeal.nD Cert.DWDownOneIdeal.τ).loc Cert.DWDownOneIdeal.main_arg0)
      ∧ m' ((c.tc : Thread Cert.DWDownOneRefIdeal.nD Cert.DWDownOneRefIdeal.τ).loc Cert.DWDownOneRefIdeal.main_arg1) = m ((c.tc : Thread Cert.DWDownOneIdeal.nD Cert.DWDownOneIdeal.τ).loc Cert.DWDownOneIdeal.main_arg1)
      ∧ m' ((c.tc : Thread Cert.DWDownOneRefIdeal.nD Cert.DWDownOneRefIdeal.τ).loc Cert.DWDownOneRefIdeal.main_arg2) = m ((c.tc : Thread Cert.DWDownOneIdeal.nD Cert.DWDownOneIdeal.τ).loc Cert.DWDownOneIdeal.main_arg2)) →
    ∃ (v0 : (c : Dev Cert.DWDownOneIdeal.nD) → Buf (Elt Ideal) ((c.tc : Thread Cert.DWDownOneIdeal.nD Cert.DWDownOneIdeal.τ).loc Cert.DWDownOneIdeal.main_v0)),
      θ_run (Cert.DWDownOneIdeal.defs (F := Ideal)) (onTc (τ := Cert.DWDownOneIdeal.τ) (Cert.DWDownOneIdeal.main (F := Ideal))) ⟨m, fun _ => 0, g⟩ (fun r => ∀ c : Dev Cert.DWDownOneIdeal.nD,
          r.2.mem ((c.tc : Thread Cert.DWDownOneIdeal.nD Cert.DWDownOneIdeal.τ).loc Cert.DWDownOneIdeal.main_v0) = v0 c
          ∧ r.2.mem ((c.tc : Thread Cert.DWDownOneIdeal.nD Cert.DWDownOneIdeal.τ).loc Cert.DWDownOneIdeal.main_arg0) = m ((c.tc : Thread Cert.DWDownOneIdeal.nD Cert.DWDownOneIdeal.τ).loc Cert.DWDownOneIdeal.main_arg0)
          ∧ r.2.mem ((c.tc : Thread Cert.DWDownOneIdeal.nD Cert.DWDownOneIdeal.τ).loc Cert.DWDownOneIdeal.main_arg1) = m ((c.tc : Thread Cert.DWDownOneIdeal.nD Cert.DWDownOneIdeal.τ).loc Cert.DWDownOneIdeal.main_arg1)
          ∧ r.2.mem ((c.tc : Thread Cert.DWDownOneIdeal.nD Cert.DWDownOneIdeal.τ).loc Cert.DWDownOneIdeal.main_arg2) = m ((c.tc : Thread Cert.DWDownOneIdeal.nD Cert.DWDownOneIdeal.τ).loc Cert.DWDownOneIdeal.main_arg2))
      ∧ θ_run (Cert.DWDownOneRefIdeal.defs (F := Ideal)) (onTc (τ := Cert.DWDownOneRefIdeal.τ) (Cert.DWDownOneRefIdeal.main (F := Ideal))) ⟨m', fun _ => 0, g'⟩ (fun r => ∀ c : Dev Cert.DWDownOneRefIdeal.nD,
          r.2.mem ((c.tc : Thread Cert.DWDownOneRefIdeal.nD Cert.DWDownOneRefIdeal.τ).loc Cert.DWDownOneRefIdeal.main_v6) = v0 c
          ∧ r.2.mem ((c.tc : Thread Cert.DWDownOneRefIdeal.nD Cert.DWDownOneRefIdeal.τ).loc Cert.DWDownOneRefIdeal.main_arg0) = m' ((c.tc : Thread Cert.DWDownOneRefIdeal.nD Cert.DWDownOneRefIdeal.τ).loc Cert.DWDownOneRefIdeal.main_arg0)
          ∧ r.2.mem ((c.tc : Thread Cert.DWDownOneRefIdeal.nD Cert.DWDownOneRefIdeal.τ).loc Cert.DWDownOneRefIdeal.main_arg1) = m' ((c.tc : Thread Cert.DWDownOneRefIdeal.nD Cert.DWDownOneRefIdeal.τ).loc Cert.DWDownOneRefIdeal.main_arg1)
          ∧ r.2.mem ((c.tc : Thread Cert.DWDownOneRefIdeal.nD Cert.DWDownOneRefIdeal.τ).loc Cert.DWDownOneRefIdeal.main_arg2) = m' ((c.tc : Thread Cert.DWDownOneRefIdeal.nD Cert.DWDownOneRefIdeal.τ).loc Cert.DWDownOneRefIdeal.main_arg2))

def preserves_UpOne_UpOneIdeal : Prop :=
  True

def algebraic_UpOneIdeal_UpOneRefIdeal [hUpOneIdeal : Cert.UpOneIdeal.Facts] [hUpOneRefIdeal : Cert.UpOneRefIdeal.Facts] : Prop :=
  ∀ (m : (ℓ : Loc Cert.UpOneIdeal.nD Cert.UpOneIdeal.τ Cert.UpOneIdeal.sig) → Buf (Elt Ideal) ℓ) (g : Dev Cert.UpOneIdeal.nD → PrngReg)
    (m' : (ℓ : Loc Cert.UpOneRefIdeal.nD Cert.UpOneRefIdeal.τ Cert.UpOneRefIdeal.sig) → Buf (Elt Ideal) ℓ) (g' : Dev Cert.UpOneRefIdeal.nD → PrngReg), Pre_UpOneIdeal m →
    (∀ c : Dev Cert.UpOneIdeal.nD,
      m' ((c.tc : Thread Cert.UpOneRefIdeal.nD Cert.UpOneRefIdeal.τ).loc Cert.UpOneRefIdeal.main_arg0) = m ((c.tc : Thread Cert.UpOneIdeal.nD Cert.UpOneIdeal.τ).loc Cert.UpOneIdeal.main_arg0)
      ∧ m' ((c.tc : Thread Cert.UpOneRefIdeal.nD Cert.UpOneRefIdeal.τ).loc Cert.UpOneRefIdeal.main_arg1) = m ((c.tc : Thread Cert.UpOneIdeal.nD Cert.UpOneIdeal.τ).loc Cert.UpOneIdeal.main_arg1)
      ∧ m' ((c.tc : Thread Cert.UpOneRefIdeal.nD Cert.UpOneRefIdeal.τ).loc Cert.UpOneRefIdeal.main_arg2) = m ((c.tc : Thread Cert.UpOneIdeal.nD Cert.UpOneIdeal.τ).loc Cert.UpOneIdeal.main_arg2)) →
    ∃ (v0 : (c : Dev Cert.UpOneIdeal.nD) → Buf (Elt Ideal) ((c.tc : Thread Cert.UpOneIdeal.nD Cert.UpOneIdeal.τ).loc Cert.UpOneIdeal.main_v0_0)) (v1 : (c : Dev Cert.UpOneIdeal.nD) → Buf (Elt Ideal) ((c.tc : Thread Cert.UpOneIdeal.nD Cert.UpOneIdeal.τ).loc Cert.UpOneIdeal.main_v0_1)) (v2 : (c : Dev Cert.UpOneIdeal.nD) → Buf (Elt Ideal) ((c.tc : Thread Cert.UpOneIdeal.nD Cert.UpOneIdeal.τ).loc Cert.UpOneIdeal.main_v0_2)),
      θ_run (Cert.UpOneIdeal.defs (F := Ideal)) (onTc (τ := Cert.UpOneIdeal.τ) (Cert.UpOneIdeal.main (F := Ideal))) ⟨m, fun _ => 0, g⟩ (fun r => ∀ c : Dev Cert.UpOneIdeal.nD,
          r.2.mem ((c.tc : Thread Cert.UpOneIdeal.nD Cert.UpOneIdeal.τ).loc Cert.UpOneIdeal.main_v0_0) = v0 c
          ∧ r.2.mem ((c.tc : Thread Cert.UpOneIdeal.nD Cert.UpOneIdeal.τ).loc Cert.UpOneIdeal.main_v0_1) = v1 c
          ∧ r.2.mem ((c.tc : Thread Cert.UpOneIdeal.nD Cert.UpOneIdeal.τ).loc Cert.UpOneIdeal.main_v0_2) = v2 c
          ∧ r.2.mem ((c.tc : Thread Cert.UpOneIdeal.nD Cert.UpOneIdeal.τ).loc Cert.UpOneIdeal.main_arg0) = m ((c.tc : Thread Cert.UpOneIdeal.nD Cert.UpOneIdeal.τ).loc Cert.UpOneIdeal.main_arg0)
          ∧ r.2.mem ((c.tc : Thread Cert.UpOneIdeal.nD Cert.UpOneIdeal.τ).loc Cert.UpOneIdeal.main_arg1) = m ((c.tc : Thread Cert.UpOneIdeal.nD Cert.UpOneIdeal.τ).loc Cert.UpOneIdeal.main_arg1)
          ∧ r.2.mem ((c.tc : Thread Cert.UpOneIdeal.nD Cert.UpOneIdeal.τ).loc Cert.UpOneIdeal.main_arg2) = m ((c.tc : Thread Cert.UpOneIdeal.nD Cert.UpOneIdeal.τ).loc Cert.UpOneIdeal.main_arg2))
      ∧ θ_run (Cert.UpOneRefIdeal.defs (F := Ideal)) (onTc (τ := Cert.UpOneRefIdeal.τ) (Cert.UpOneRefIdeal.main (F := Ideal))) ⟨m', fun _ => 0, g'⟩ (fun r => ∀ c : Dev Cert.UpOneRefIdeal.nD,
          r.2.mem ((c.tc : Thread Cert.UpOneRefIdeal.nD Cert.UpOneRefIdeal.τ).loc Cert.UpOneRefIdeal.main_v9) = v0 c
          ∧ r.2.mem ((c.tc : Thread Cert.UpOneRefIdeal.nD Cert.UpOneRefIdeal.τ).loc Cert.UpOneRefIdeal.main_v10) = v1 c
          ∧ r.2.mem ((c.tc : Thread Cert.UpOneRefIdeal.nD Cert.UpOneRefIdeal.τ).loc Cert.UpOneRefIdeal.main_v13) = v2 c
          ∧ r.2.mem ((c.tc : Thread Cert.UpOneRefIdeal.nD Cert.UpOneRefIdeal.τ).loc Cert.UpOneRefIdeal.main_arg0) = m' ((c.tc : Thread Cert.UpOneRefIdeal.nD Cert.UpOneRefIdeal.τ).loc Cert.UpOneRefIdeal.main_arg0)
          ∧ r.2.mem ((c.tc : Thread Cert.UpOneRefIdeal.nD Cert.UpOneRefIdeal.τ).loc Cert.UpOneRefIdeal.main_arg1) = m' ((c.tc : Thread Cert.UpOneRefIdeal.nD Cert.UpOneRefIdeal.τ).loc Cert.UpOneRefIdeal.main_arg1)
          ∧ r.2.mem ((c.tc : Thread Cert.UpOneRefIdeal.nD Cert.UpOneRefIdeal.τ).loc Cert.UpOneRefIdeal.main_arg2) = m' ((c.tc : Thread Cert.UpOneRefIdeal.nD Cert.UpOneRefIdeal.τ).loc Cert.UpOneRefIdeal.main_arg2))

def preserves_DownOne_DownOneIdeal : Prop :=
  True

def algebraic_DownOneIdeal_DownOneRefIdeal [hDownOneIdeal : Cert.DownOneIdeal.Facts] [hDownOneRefIdeal : Cert.DownOneRefIdeal.Facts] : Prop :=
  ∀ (m : (ℓ : Loc Cert.DownOneIdeal.nD Cert.DownOneIdeal.τ Cert.DownOneIdeal.sig) → Buf (Elt Ideal) ℓ) (g : Dev Cert.DownOneIdeal.nD → PrngReg)
    (m' : (ℓ : Loc Cert.DownOneRefIdeal.nD Cert.DownOneRefIdeal.τ Cert.DownOneRefIdeal.sig) → Buf (Elt Ideal) ℓ) (g' : Dev Cert.DownOneRefIdeal.nD → PrngReg), Pre_DownOneIdeal m →
    (∀ c : Dev Cert.DownOneIdeal.nD,
      m' ((c.tc : Thread Cert.DownOneRefIdeal.nD Cert.DownOneRefIdeal.τ).loc Cert.DownOneRefIdeal.main_arg0) = m ((c.tc : Thread Cert.DownOneIdeal.nD Cert.DownOneIdeal.τ).loc Cert.DownOneIdeal.main_arg0)
      ∧ m' ((c.tc : Thread Cert.DownOneRefIdeal.nD Cert.DownOneRefIdeal.τ).loc Cert.DownOneRefIdeal.main_arg1) = m ((c.tc : Thread Cert.DownOneIdeal.nD Cert.DownOneIdeal.τ).loc Cert.DownOneIdeal.main_arg1)
      ∧ m' ((c.tc : Thread Cert.DownOneRefIdeal.nD Cert.DownOneRefIdeal.τ).loc Cert.DownOneRefIdeal.main_arg2) = m ((c.tc : Thread Cert.DownOneIdeal.nD Cert.DownOneIdeal.τ).loc Cert.DownOneIdeal.main_arg2)
      ∧ m' ((c.tc : Thread Cert.DownOneRefIdeal.nD Cert.DownOneRefIdeal.τ).loc Cert.DownOneRefIdeal.main_arg3) = m ((c.tc : Thread Cert.DownOneIdeal.nD Cert.DownOneIdeal.τ).loc Cert.DownOneIdeal.main_arg3)) →
    ∃ (v0 : (c : Dev Cert.DownOneIdeal.nD) → Buf (Elt Ideal) ((c.tc : Thread Cert.DownOneIdeal.nD Cert.DownOneIdeal.τ).loc Cert.DownOneIdeal.main_v0_0)) (v1 : (c : Dev Cert.DownOneIdeal.nD) → Buf (Elt Ideal) ((c.tc : Thread Cert.DownOneIdeal.nD Cert.DownOneIdeal.τ).loc Cert.DownOneIdeal.main_v0_1)),
      θ_run (Cert.DownOneIdeal.defs (F := Ideal)) (onTc (τ := Cert.DownOneIdeal.τ) (Cert.DownOneIdeal.main (F := Ideal))) ⟨m, fun _ => 0, g⟩ (fun r => ∀ c : Dev Cert.DownOneIdeal.nD,
          r.2.mem ((c.tc : Thread Cert.DownOneIdeal.nD Cert.DownOneIdeal.τ).loc Cert.DownOneIdeal.main_v0_0) = v0 c
          ∧ r.2.mem ((c.tc : Thread Cert.DownOneIdeal.nD Cert.DownOneIdeal.τ).loc Cert.DownOneIdeal.main_v0_1) = v1 c
          ∧ r.2.mem ((c.tc : Thread Cert.DownOneIdeal.nD Cert.DownOneIdeal.τ).loc Cert.DownOneIdeal.main_arg0) = m ((c.tc : Thread Cert.DownOneIdeal.nD Cert.DownOneIdeal.τ).loc Cert.DownOneIdeal.main_arg0)
          ∧ r.2.mem ((c.tc : Thread Cert.DownOneIdeal.nD Cert.DownOneIdeal.τ).loc Cert.DownOneIdeal.main_arg1) = m ((c.tc : Thread Cert.DownOneIdeal.nD Cert.DownOneIdeal.τ).loc Cert.DownOneIdeal.main_arg1)
          ∧ r.2.mem ((c.tc : Thread Cert.DownOneIdeal.nD Cert.DownOneIdeal.τ).loc Cert.DownOneIdeal.main_arg2) = m ((c.tc : Thread Cert.DownOneIdeal.nD Cert.DownOneIdeal.τ).loc Cert.DownOneIdeal.main_arg2)
          ∧ r.2.mem ((c.tc : Thread Cert.DownOneIdeal.nD Cert.DownOneIdeal.τ).loc Cert.DownOneIdeal.main_arg3) = m ((c.tc : Thread Cert.DownOneIdeal.nD Cert.DownOneIdeal.τ).loc Cert.DownOneIdeal.main_arg3))
      ∧ θ_run (Cert.DownOneRefIdeal.defs (F := Ideal)) (onTc (τ := Cert.DownOneRefIdeal.τ) (Cert.DownOneRefIdeal.main (F := Ideal))) ⟨m', fun _ => 0, g'⟩ (fun r => ∀ c : Dev Cert.DownOneRefIdeal.nD,
          r.2.mem ((c.tc : Thread Cert.DownOneRefIdeal.nD Cert.DownOneRefIdeal.τ).loc Cert.DownOneRefIdeal.main_v10) = v0 c
          ∧ r.2.mem ((c.tc : Thread Cert.DownOneRefIdeal.nD Cert.DownOneRefIdeal.τ).loc Cert.DownOneRefIdeal.main_v2) = v1 c
          ∧ r.2.mem ((c.tc : Thread Cert.DownOneRefIdeal.nD Cert.DownOneRefIdeal.τ).loc Cert.DownOneRefIdeal.main_arg0) = m' ((c.tc : Thread Cert.DownOneRefIdeal.nD Cert.DownOneRefIdeal.τ).loc Cert.DownOneRefIdeal.main_arg0)
          ∧ r.2.mem ((c.tc : Thread Cert.DownOneRefIdeal.nD Cert.DownOneRefIdeal.τ).loc Cert.DownOneRefIdeal.main_arg1) = m' ((c.tc : Thread Cert.DownOneRefIdeal.nD Cert.DownOneRefIdeal.τ).loc Cert.DownOneRefIdeal.main_arg1)
          ∧ r.2.mem ((c.tc : Thread Cert.DownOneRefIdeal.nD Cert.DownOneRefIdeal.τ).loc Cert.DownOneRefIdeal.main_arg2) = m' ((c.tc : Thread Cert.DownOneRefIdeal.nD Cert.DownOneRefIdeal.τ).loc Cert.DownOneRefIdeal.main_arg2)
          ∧ r.2.mem ((c.tc : Thread Cert.DownOneRefIdeal.nD Cert.DownOneRefIdeal.τ).loc Cert.DownOneRefIdeal.main_arg3) = m' ((c.tc : Thread Cert.DownOneRefIdeal.nD Cert.DownOneRefIdeal.τ).loc Cert.DownOneRefIdeal.main_arg3))

def preserves_DownB_DownBIdeal : Prop :=
  True

def algebraic_DownBIdeal_DownBRefIdeal [hDownBIdeal : Cert.DownBIdeal.Facts] [hDownBRefIdeal : Cert.DownBRefIdeal.Facts] : Prop :=
  ∀ (m : (ℓ : Loc Cert.DownBIdeal.nD Cert.DownBIdeal.τ Cert.DownBIdeal.sig) → Buf (Elt Ideal) ℓ) (g : Dev Cert.DownBIdeal.nD → PrngReg)
    (m' : (ℓ : Loc Cert.DownBRefIdeal.nD Cert.DownBRefIdeal.τ Cert.DownBRefIdeal.sig) → Buf (Elt Ideal) ℓ) (g' : Dev Cert.DownBRefIdeal.nD → PrngReg), Pre_DownBIdeal m →
    (∀ c : Dev Cert.DownBIdeal.nD,
      m' ((c.tc : Thread Cert.DownBRefIdeal.nD Cert.DownBRefIdeal.τ).loc Cert.DownBRefIdeal.main_arg0) = m ((c.tc : Thread Cert.DownBIdeal.nD Cert.DownBIdeal.τ).loc Cert.DownBIdeal.main_arg0)
      ∧ m' ((c.tc : Thread Cert.DownBRefIdeal.nD Cert.DownBRefIdeal.τ).loc Cert.DownBRefIdeal.main_arg1) = m ((c.tc : Thread Cert.DownBIdeal.nD Cert.DownBIdeal.τ).loc Cert.DownBIdeal.main_arg1)
      ∧ m' ((c.tc : Thread Cert.DownBRefIdeal.nD Cert.DownBRefIdeal.τ).loc Cert.DownBRefIdeal.main_arg2) = m ((c.tc : Thread Cert.DownBIdeal.nD Cert.DownBIdeal.τ).loc Cert.DownBIdeal.main_arg2)
      ∧ m' ((c.tc : Thread Cert.DownBRefIdeal.nD Cert.DownBRefIdeal.τ).loc Cert.DownBRefIdeal.main_arg3) = m ((c.tc : Thread Cert.DownBIdeal.nD Cert.DownBIdeal.τ).loc Cert.DownBIdeal.main_arg3)) →
    ∃ (v0 : (c : Dev Cert.DownBIdeal.nD) → Buf (Elt Ideal) ((c.tc : Thread Cert.DownBIdeal.nD Cert.DownBIdeal.τ).loc Cert.DownBIdeal.main_v0_0)) (v1 : (c : Dev Cert.DownBIdeal.nD) → Buf (Elt Ideal) ((c.tc : Thread Cert.DownBIdeal.nD Cert.DownBIdeal.τ).loc Cert.DownBIdeal.main_v0_1)),
      θ_run (Cert.DownBIdeal.defs (F := Ideal)) (onTc (τ := Cert.DownBIdeal.τ) (Cert.DownBIdeal.main (F := Ideal))) ⟨m, fun _ => 0, g⟩ (fun r => ∀ c : Dev Cert.DownBIdeal.nD,
          r.2.mem ((c.tc : Thread Cert.DownBIdeal.nD Cert.DownBIdeal.τ).loc Cert.DownBIdeal.main_v0_0) = v0 c
          ∧ r.2.mem ((c.tc : Thread Cert.DownBIdeal.nD Cert.DownBIdeal.τ).loc Cert.DownBIdeal.main_v0_1) = v1 c
          ∧ r.2.mem ((c.tc : Thread Cert.DownBIdeal.nD Cert.DownBIdeal.τ).loc Cert.DownBIdeal.main_arg0) = m ((c.tc : Thread Cert.DownBIdeal.nD Cert.DownBIdeal.τ).loc Cert.DownBIdeal.main_arg0)
          ∧ r.2.mem ((c.tc : Thread Cert.DownBIdeal.nD Cert.DownBIdeal.τ).loc Cert.DownBIdeal.main_arg1) = m ((c.tc : Thread Cert.DownBIdeal.nD Cert.DownBIdeal.τ).loc Cert.DownBIdeal.main_arg1)
          ∧ r.2.mem ((c.tc : Thread Cert.DownBIdeal.nD Cert.DownBIdeal.τ).loc Cert.DownBIdeal.main_arg2) = m ((c.tc : Thread Cert.DownBIdeal.nD Cert.DownBIdeal.τ).loc Cert.DownBIdeal.main_arg2)
          ∧ r.2.mem ((c.tc : Thread Cert.DownBIdeal.nD Cert.DownBIdeal.τ).loc Cert.DownBIdeal.main_arg3) = m ((c.tc : Thread Cert.DownBIdeal.nD Cert.DownBIdeal.τ).loc Cert.DownBIdeal.main_arg3))
      ∧ θ_run (Cert.DownBRefIdeal.defs (F := Ideal)) (onTc (τ := Cert.DownBRefIdeal.τ) (Cert.DownBRefIdeal.main (F := Ideal))) ⟨m', fun _ => 0, g'⟩ (fun r => ∀ c : Dev Cert.DownBRefIdeal.nD,
          r.2.mem ((c.tc : Thread Cert.DownBRefIdeal.nD Cert.DownBRefIdeal.τ).loc Cert.DownBRefIdeal.main_v13) = v0 c
          ∧ r.2.mem ((c.tc : Thread Cert.DownBRefIdeal.nD Cert.DownBRefIdeal.τ).loc Cert.DownBRefIdeal.main_v2) = v1 c
          ∧ r.2.mem ((c.tc : Thread Cert.DownBRefIdeal.nD Cert.DownBRefIdeal.τ).loc Cert.DownBRefIdeal.main_arg0) = m' ((c.tc : Thread Cert.DownBRefIdeal.nD Cert.DownBRefIdeal.τ).loc Cert.DownBRefIdeal.main_arg0)
          ∧ r.2.mem ((c.tc : Thread Cert.DownBRefIdeal.nD Cert.DownBRefIdeal.τ).loc Cert.DownBRefIdeal.main_arg1) = m' ((c.tc : Thread Cert.DownBRefIdeal.nD Cert.DownBRefIdeal.τ).loc Cert.DownBRefIdeal.main_arg1)
          ∧ r.2.mem ((c.tc : Thread Cert.DownBRefIdeal.nD Cert.DownBRefIdeal.τ).loc Cert.DownBRefIdeal.main_arg2) = m' ((c.tc : Thread Cert.DownBRefIdeal.nD Cert.DownBRefIdeal.τ).loc Cert.DownBRefIdeal.main_arg2)
          ∧ r.2.mem ((c.tc : Thread Cert.DownBRefIdeal.nD Cert.DownBRefIdeal.τ).loc Cert.DownBRefIdeal.main_arg3) = m' ((c.tc : Thread Cert.DownBRefIdeal.nD Cert.DownBRefIdeal.τ).loc Cert.DownBRefIdeal.main_arg3))

def preserves_DownOneB_DownOneBIdeal : Prop :=
  True

def algebraic_DownOneBIdeal_DownOneBRefIdeal [hDownOneBIdeal : Cert.DownOneBIdeal.Facts] [hDownOneBRefIdeal : Cert.DownOneBRefIdeal.Facts] : Prop :=
  ∀ (m : (ℓ : Loc Cert.DownOneBIdeal.nD Cert.DownOneBIdeal.τ Cert.DownOneBIdeal.sig) → Buf (Elt Ideal) ℓ) (g : Dev Cert.DownOneBIdeal.nD → PrngReg)
    (m' : (ℓ : Loc Cert.DownOneBRefIdeal.nD Cert.DownOneBRefIdeal.τ Cert.DownOneBRefIdeal.sig) → Buf (Elt Ideal) ℓ) (g' : Dev Cert.DownOneBRefIdeal.nD → PrngReg), Pre_DownOneBIdeal m →
    (∀ c : Dev Cert.DownOneBIdeal.nD,
      m' ((c.tc : Thread Cert.DownOneBRefIdeal.nD Cert.DownOneBRefIdeal.τ).loc Cert.DownOneBRefIdeal.main_arg0) = m ((c.tc : Thread Cert.DownOneBIdeal.nD Cert.DownOneBIdeal.τ).loc Cert.DownOneBIdeal.main_arg0)
      ∧ m' ((c.tc : Thread Cert.DownOneBRefIdeal.nD Cert.DownOneBRefIdeal.τ).loc Cert.DownOneBRefIdeal.main_arg1) = m ((c.tc : Thread Cert.DownOneBIdeal.nD Cert.DownOneBIdeal.τ).loc Cert.DownOneBIdeal.main_arg1)
      ∧ m' ((c.tc : Thread Cert.DownOneBRefIdeal.nD Cert.DownOneBRefIdeal.τ).loc Cert.DownOneBRefIdeal.main_arg2) = m ((c.tc : Thread Cert.DownOneBIdeal.nD Cert.DownOneBIdeal.τ).loc Cert.DownOneBIdeal.main_arg2)
      ∧ m' ((c.tc : Thread Cert.DownOneBRefIdeal.nD Cert.DownOneBRefIdeal.τ).loc Cert.DownOneBRefIdeal.main_arg3) = m ((c.tc : Thread Cert.DownOneBIdeal.nD Cert.DownOneBIdeal.τ).loc Cert.DownOneBIdeal.main_arg3)) →
    ∃ (v0 : (c : Dev Cert.DownOneBIdeal.nD) → Buf (Elt Ideal) ((c.tc : Thread Cert.DownOneBIdeal.nD Cert.DownOneBIdeal.τ).loc Cert.DownOneBIdeal.main_v0_0)) (v1 : (c : Dev Cert.DownOneBIdeal.nD) → Buf (Elt Ideal) ((c.tc : Thread Cert.DownOneBIdeal.nD Cert.DownOneBIdeal.τ).loc Cert.DownOneBIdeal.main_v0_1)),
      θ_run (Cert.DownOneBIdeal.defs (F := Ideal)) (onTc (τ := Cert.DownOneBIdeal.τ) (Cert.DownOneBIdeal.main (F := Ideal))) ⟨m, fun _ => 0, g⟩ (fun r => ∀ c : Dev Cert.DownOneBIdeal.nD,
          r.2.mem ((c.tc : Thread Cert.DownOneBIdeal.nD Cert.DownOneBIdeal.τ).loc Cert.DownOneBIdeal.main_v0_0) = v0 c
          ∧ r.2.mem ((c.tc : Thread Cert.DownOneBIdeal.nD Cert.DownOneBIdeal.τ).loc Cert.DownOneBIdeal.main_v0_1) = v1 c
          ∧ r.2.mem ((c.tc : Thread Cert.DownOneBIdeal.nD Cert.DownOneBIdeal.τ).loc Cert.DownOneBIdeal.main_arg0) = m ((c.tc : Thread Cert.DownOneBIdeal.nD Cert.DownOneBIdeal.τ).loc Cert.DownOneBIdeal.main_arg0)
          ∧ r.2.mem ((c.tc : Thread Cert.DownOneBIdeal.nD Cert.DownOneBIdeal.τ).loc Cert.DownOneBIdeal.main_arg1) = m ((c.tc : Thread Cert.DownOneBIdeal.nD Cert.DownOneBIdeal.τ).loc Cert.DownOneBIdeal.main_arg1)
          ∧ r.2.mem ((c.tc : Thread Cert.DownOneBIdeal.nD Cert.DownOneBIdeal.τ).loc Cert.DownOneBIdeal.main_arg2) = m ((c.tc : Thread Cert.DownOneBIdeal.nD Cert.DownOneBIdeal.τ).loc Cert.DownOneBIdeal.main_arg2)
          ∧ r.2.mem ((c.tc : Thread Cert.DownOneBIdeal.nD Cert.DownOneBIdeal.τ).loc Cert.DownOneBIdeal.main_arg3) = m ((c.tc : Thread Cert.DownOneBIdeal.nD Cert.DownOneBIdeal.τ).loc Cert.DownOneBIdeal.main_arg3))
      ∧ θ_run (Cert.DownOneBRefIdeal.defs (F := Ideal)) (onTc (τ := Cert.DownOneBRefIdeal.τ) (Cert.DownOneBRefIdeal.main (F := Ideal))) ⟨m', fun _ => 0, g'⟩ (fun r => ∀ c : Dev Cert.DownOneBRefIdeal.nD,
          r.2.mem ((c.tc : Thread Cert.DownOneBRefIdeal.nD Cert.DownOneBRefIdeal.τ).loc Cert.DownOneBRefIdeal.main_v10) = v0 c
          ∧ r.2.mem ((c.tc : Thread Cert.DownOneBRefIdeal.nD Cert.DownOneBRefIdeal.τ).loc Cert.DownOneBRefIdeal.main_v2) = v1 c
          ∧ r.2.mem ((c.tc : Thread Cert.DownOneBRefIdeal.nD Cert.DownOneBRefIdeal.τ).loc Cert.DownOneBRefIdeal.main_arg0) = m' ((c.tc : Thread Cert.DownOneBRefIdeal.nD Cert.DownOneBRefIdeal.τ).loc Cert.DownOneBRefIdeal.main_arg0)
          ∧ r.2.mem ((c.tc : Thread Cert.DownOneBRefIdeal.nD Cert.DownOneBRefIdeal.τ).loc Cert.DownOneBRefIdeal.main_arg1) = m' ((c.tc : Thread Cert.DownOneBRefIdeal.nD Cert.DownOneBRefIdeal.τ).loc Cert.DownOneBRefIdeal.main_arg1)
          ∧ r.2.mem ((c.tc : Thread Cert.DownOneBRefIdeal.nD Cert.DownOneBRefIdeal.τ).loc Cert.DownOneBRefIdeal.main_arg2) = m' ((c.tc : Thread Cert.DownOneBRefIdeal.nD Cert.DownOneBRefIdeal.τ).loc Cert.DownOneBRefIdeal.main_arg2)
          ∧ r.2.mem ((c.tc : Thread Cert.DownOneBRefIdeal.nD Cert.DownOneBRefIdeal.τ).loc Cert.DownOneBRefIdeal.main_arg3) = m' ((c.tc : Thread Cert.DownOneBRefIdeal.nD Cert.DownOneBRefIdeal.τ).loc Cert.DownOneBRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v2) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v11) = v0 c
          ∧ r.2.mem ((c.tc : Thread Cert.MixRefIdeal.nD Cert.MixRefIdeal.τ).loc Cert.MixRefIdeal.main_v2) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3))

def preserves_MixOne_MixOneIdeal : Prop :=
  True

def algebraic_MixOneIdeal_MixOneRefIdeal [hMixOneIdeal : Cert.MixOneIdeal.Facts] [hMixOneRefIdeal : Cert.MixOneRefIdeal.Facts] : Prop :=
  ∀ (m : (ℓ : Loc Cert.MixOneIdeal.nD Cert.MixOneIdeal.τ Cert.MixOneIdeal.sig) → Buf (Elt Ideal) ℓ) (g : Dev Cert.MixOneIdeal.nD → PrngReg)
    (m' : (ℓ : Loc Cert.MixOneRefIdeal.nD Cert.MixOneRefIdeal.τ Cert.MixOneRefIdeal.sig) → Buf (Elt Ideal) ℓ) (g' : Dev Cert.MixOneRefIdeal.nD → PrngReg), Pre_MixOneIdeal m →
    (∀ c : Dev Cert.MixOneIdeal.nD,
      m' ((c.tc : Thread Cert.MixOneRefIdeal.nD Cert.MixOneRefIdeal.τ).loc Cert.MixOneRefIdeal.main_arg0) = m ((c.tc : Thread Cert.MixOneIdeal.nD Cert.MixOneIdeal.τ).loc Cert.MixOneIdeal.main_arg0)
      ∧ m' ((c.tc : Thread Cert.MixOneRefIdeal.nD Cert.MixOneRefIdeal.τ).loc Cert.MixOneRefIdeal.main_arg1) = m ((c.tc : Thread Cert.MixOneIdeal.nD Cert.MixOneIdeal.τ).loc Cert.MixOneIdeal.main_arg1)
      ∧ m' ((c.tc : Thread Cert.MixOneRefIdeal.nD Cert.MixOneRefIdeal.τ).loc Cert.MixOneRefIdeal.main_arg2) = m ((c.tc : Thread Cert.MixOneIdeal.nD Cert.MixOneIdeal.τ).loc Cert.MixOneIdeal.main_arg2)
      ∧ m' ((c.tc : Thread Cert.MixOneRefIdeal.nD Cert.MixOneRefIdeal.τ).loc Cert.MixOneRefIdeal.main_arg3) = m ((c.tc : Thread Cert.MixOneIdeal.nD Cert.MixOneIdeal.τ).loc Cert.MixOneIdeal.main_arg3)) →
    ∃ (v0 : (c : Dev Cert.MixOneIdeal.nD) → Buf (Elt Ideal) ((c.tc : Thread Cert.MixOneIdeal.nD Cert.MixOneIdeal.τ).loc Cert.MixOneIdeal.main_v0_0)) (v1 : (c : Dev Cert.MixOneIdeal.nD) → Buf (Elt Ideal) ((c.tc : Thread Cert.MixOneIdeal.nD Cert.MixOneIdeal.τ).loc Cert.MixOneIdeal.main_v0_1)),
      θ_run (Cert.MixOneIdeal.defs (F := Ideal)) (onTc (τ := Cert.MixOneIdeal.τ) (Cert.MixOneIdeal.main (F := Ideal))) ⟨m, fun _ => 0, g⟩ (fun r => ∀ c : Dev Cert.MixOneIdeal.nD,
          r.2.mem ((c.tc : Thread Cert.MixOneIdeal.nD Cert.MixOneIdeal.τ).loc Cert.MixOneIdeal.main_v0_0) = v0 c
          ∧ r.2.mem ((c.tc : Thread Cert.MixOneIdeal.nD Cert.MixOneIdeal.τ).loc Cert.MixOneIdeal.main_v0_1) = v1 c
          ∧ r.2.mem ((c.tc : Thread Cert.MixOneIdeal.nD Cert.MixOneIdeal.τ).loc Cert.MixOneIdeal.main_arg0) = m ((c.tc : Thread Cert.MixOneIdeal.nD Cert.MixOneIdeal.τ).loc Cert.MixOneIdeal.main_arg0)
          ∧ r.2.mem ((c.tc : Thread Cert.MixOneIdeal.nD Cert.MixOneIdeal.τ).loc Cert.MixOneIdeal.main_arg1) = m ((c.tc : Thread Cert.MixOneIdeal.nD Cert.MixOneIdeal.τ).loc Cert.MixOneIdeal.main_arg1)
          ∧ r.2.mem ((c.tc : Thread Cert.MixOneIdeal.nD Cert.MixOneIdeal.τ).loc Cert.MixOneIdeal.main_arg2) = m ((c.tc : Thread Cert.MixOneIdeal.nD Cert.MixOneIdeal.τ).loc Cert.MixOneIdeal.main_arg2)
          ∧ r.2.mem ((c.tc : Thread Cert.MixOneIdeal.nD Cert.MixOneIdeal.τ).loc Cert.MixOneIdeal.main_arg3) = m ((c.tc : Thread Cert.MixOneIdeal.nD Cert.MixOneIdeal.τ).loc Cert.MixOneIdeal.main_arg3))
      ∧ θ_run (Cert.MixOneRefIdeal.defs (F := Ideal)) (onTc (τ := Cert.MixOneRefIdeal.τ) (Cert.MixOneRefIdeal.main (F := Ideal))) ⟨m', fun _ => 0, g'⟩ (fun r => ∀ c : Dev Cert.MixOneRefIdeal.nD,
          r.2.mem ((c.tc : Thread Cert.MixOneRefIdeal.nD Cert.MixOneRefIdeal.τ).loc Cert.MixOneRefIdeal.main_v8) = v0 c
          ∧ r.2.mem ((c.tc : Thread Cert.MixOneRefIdeal.nD Cert.MixOneRefIdeal.τ).loc Cert.MixOneRefIdeal.main_v2) = v1 c
          ∧ r.2.mem ((c.tc : Thread Cert.MixOneRefIdeal.nD Cert.MixOneRefIdeal.τ).loc Cert.MixOneRefIdeal.main_arg0) = m' ((c.tc : Thread Cert.MixOneRefIdeal.nD Cert.MixOneRefIdeal.τ).loc Cert.MixOneRefIdeal.main_arg0)
          ∧ r.2.mem ((c.tc : Thread Cert.MixOneRefIdeal.nD Cert.MixOneRefIdeal.τ).loc Cert.MixOneRefIdeal.main_arg1) = m' ((c.tc : Thread Cert.MixOneRefIdeal.nD Cert.MixOneRefIdeal.τ).loc Cert.MixOneRefIdeal.main_arg1)
          ∧ r.2.mem ((c.tc : Thread Cert.MixOneRefIdeal.nD Cert.MixOneRefIdeal.τ).loc Cert.MixOneRefIdeal.main_arg2) = m' ((c.tc : Thread Cert.MixOneRefIdeal.nD Cert.MixOneRefIdeal.τ).loc Cert.MixOneRefIdeal.main_arg2)
          ∧ r.2.mem ((c.tc : Thread Cert.MixOneRefIdeal.nD Cert.MixOneRefIdeal.τ).loc Cert.MixOneRefIdeal.main_arg3) = m' ((c.tc : Thread Cert.MixOneRefIdeal.nD Cert.MixOneRefIdeal.τ).loc Cert.MixOneRefIdeal.main_arg3))

def preserves_MixInOne_MixInOneIdeal : Prop :=
  True

def algebraic_MixInOneIdeal_MixInOneRefIdeal [hMixInOneIdeal : Cert.MixInOneIdeal.Facts] [hMixInOneRefIdeal : Cert.MixInOneRefIdeal.Facts] : Prop :=
  ∀ (m : (ℓ : Loc Cert.MixInOneIdeal.nD Cert.MixInOneIdeal.τ Cert.MixInOneIdeal.sig) → Buf (Elt Ideal) ℓ) (g : Dev Cert.MixInOneIdeal.nD → PrngReg)
    (m' : (ℓ : Loc Cert.MixInOneRefIdeal.nD Cert.MixInOneRefIdeal.τ Cert.MixInOneRefIdeal.sig) → Buf (Elt Ideal) ℓ) (g' : Dev Cert.MixInOneRefIdeal.nD → PrngReg), Pre_MixInOneIdeal m →
    (∀ c : Dev Cert.MixInOneIdeal.nD,
      m' ((c.tc : Thread Cert.MixInOneRefIdeal.nD Cert.MixInOneRefIdeal.τ).loc Cert.MixInOneRefIdeal.main_arg0) = m ((c.tc : Thread Cert.MixInOneIdeal.nD Cert.MixInOneIdeal.τ).loc Cert.MixInOneIdeal.main_arg0)
      ∧ m' ((c.tc : Thread Cert.MixInOneRefIdeal.nD Cert.MixInOneRefIdeal.τ).loc Cert.MixInOneRefIdeal.main_arg1) = m ((c.tc : Thread Cert.MixInOneIdeal.nD Cert.MixInOneIdeal.τ).loc Cert.MixInOneIdeal.main_arg1)) →
    ∃ (v0 : (c : Dev Cert.MixInOneIdeal.nD) → Buf (Elt Ideal) ((c.tc : Thread Cert.MixInOneIdeal.nD Cert.MixInOneIdeal.τ).loc Cert.MixInOneIdeal.main_v0)),
      θ_run (Cert.MixInOneIdeal.defs (F := Ideal)) (onTc (τ := Cert.MixInOneIdeal.τ) (Cert.MixInOneIdeal.main (F := Ideal))) ⟨m, fun _ => 0, g⟩ (fun r => ∀ c : Dev Cert.MixInOneIdeal.nD,
          r.2.mem ((c.tc : Thread Cert.MixInOneIdeal.nD Cert.MixInOneIdeal.τ).loc Cert.MixInOneIdeal.main_v0) = v0 c
          ∧ r.2.mem ((c.tc : Thread Cert.MixInOneIdeal.nD Cert.MixInOneIdeal.τ).loc Cert.MixInOneIdeal.main_arg0) = m ((c.tc : Thread Cert.MixInOneIdeal.nD Cert.MixInOneIdeal.τ).loc Cert.MixInOneIdeal.main_arg0)
          ∧ r.2.mem ((c.tc : Thread Cert.MixInOneIdeal.nD Cert.MixInOneIdeal.τ).loc Cert.MixInOneIdeal.main_arg1) = m ((c.tc : Thread Cert.MixInOneIdeal.nD Cert.MixInOneIdeal.τ).loc Cert.MixInOneIdeal.main_arg1))
      ∧ θ_run (Cert.MixInOneRefIdeal.defs (F := Ideal)) (onTc (τ := Cert.MixInOneRefIdeal.τ) (Cert.MixInOneRefIdeal.main (F := Ideal))) ⟨m', fun _ => 0, g'⟩ (fun r => ∀ c : Dev Cert.MixInOneRefIdeal.nD,
          r.2.mem ((c.tc : Thread Cert.MixInOneRefIdeal.nD Cert.MixInOneRefIdeal.τ).loc Cert.MixInOneRefIdeal.main_v4) = v0 c
          ∧ r.2.mem ((c.tc : Thread Cert.MixInOneRefIdeal.nD Cert.MixInOneRefIdeal.τ).loc Cert.MixInOneRefIdeal.main_arg0) = m' ((c.tc : Thread Cert.MixInOneRefIdeal.nD Cert.MixInOneRefIdeal.τ).loc Cert.MixInOneRefIdeal.main_arg0)
          ∧ r.2.mem ((c.tc : Thread Cert.MixInOneRefIdeal.nD Cert.MixInOneRefIdeal.τ).loc Cert.MixInOneRefIdeal.main_arg1) = m' ((c.tc : Thread Cert.MixInOneRefIdeal.nD Cert.MixInOneRefIdeal.τ).loc Cert.MixInOneRefIdeal.main_arg1))

def preserves_MixWOne_MixWOneIdeal : Prop :=
  True

def algebraic_MixWOneIdeal_MixWOneRefIdeal [hMixWOneIdeal : Cert.MixWOneIdeal.Facts] [hMixWOneRefIdeal : Cert.MixWOneRefIdeal.Facts] : Prop :=
  ∀ (m : (ℓ : Loc Cert.MixWOneIdeal.nD Cert.MixWOneIdeal.τ Cert.MixWOneIdeal.sig) → Buf (Elt Ideal) ℓ) (g : Dev Cert.MixWOneIdeal.nD → PrngReg)
    (m' : (ℓ : Loc Cert.MixWOneRefIdeal.nD Cert.MixWOneRefIdeal.τ Cert.MixWOneRefIdeal.sig) → Buf (Elt Ideal) ℓ) (g' : Dev Cert.MixWOneRefIdeal.nD → PrngReg), Pre_MixWOneIdeal m →
    (∀ c : Dev Cert.MixWOneIdeal.nD,
      m' ((c.tc : Thread Cert.MixWOneRefIdeal.nD Cert.MixWOneRefIdeal.τ).loc Cert.MixWOneRefIdeal.main_arg0) = m ((c.tc : Thread Cert.MixWOneIdeal.nD Cert.MixWOneIdeal.τ).loc Cert.MixWOneIdeal.main_arg0)
      ∧ m' ((c.tc : Thread Cert.MixWOneRefIdeal.nD Cert.MixWOneRefIdeal.τ).loc Cert.MixWOneRefIdeal.main_arg1) = m ((c.tc : Thread Cert.MixWOneIdeal.nD Cert.MixWOneIdeal.τ).loc Cert.MixWOneIdeal.main_arg1)) →
    ∃ (v0 : (c : Dev Cert.MixWOneIdeal.nD) → Buf (Elt Ideal) ((c.tc : Thread Cert.MixWOneIdeal.nD Cert.MixWOneIdeal.τ).loc Cert.MixWOneIdeal.main_v0)),
      θ_run (Cert.MixWOneIdeal.defs (F := Ideal)) (onTc (τ := Cert.MixWOneIdeal.τ) (Cert.MixWOneIdeal.main (F := Ideal))) ⟨m, fun _ => 0, g⟩ (fun r => ∀ c : Dev Cert.MixWOneIdeal.nD,
          r.2.mem ((c.tc : Thread Cert.MixWOneIdeal.nD Cert.MixWOneIdeal.τ).loc Cert.MixWOneIdeal.main_v0) = v0 c
          ∧ r.2.mem ((c.tc : Thread Cert.MixWOneIdeal.nD Cert.MixWOneIdeal.τ).loc Cert.MixWOneIdeal.main_arg0) = m ((c.tc : Thread Cert.MixWOneIdeal.nD Cert.MixWOneIdeal.τ).loc Cert.MixWOneIdeal.main_arg0)
          ∧ r.2.mem ((c.tc : Thread Cert.MixWOneIdeal.nD Cert.MixWOneIdeal.τ).loc Cert.MixWOneIdeal.main_arg1) = m ((c.tc : Thread Cert.MixWOneIdeal.nD Cert.MixWOneIdeal.τ).loc Cert.MixWOneIdeal.main_arg1))
      ∧ θ_run (Cert.MixWOneRefIdeal.defs (F := Ideal)) (onTc (τ := Cert.MixWOneRefIdeal.τ) (Cert.MixWOneRefIdeal.main (F := Ideal))) ⟨m', fun _ => 0, g'⟩ (fun r => ∀ c : Dev Cert.MixWOneRefIdeal.nD,
          r.2.mem ((c.tc : Thread Cert.MixWOneRefIdeal.nD Cert.MixWOneRefIdeal.τ).loc Cert.MixWOneRefIdeal.main_v5) = v0 c
          ∧ r.2.mem ((c.tc : Thread Cert.MixWOneRefIdeal.nD Cert.MixWOneRefIdeal.τ).loc Cert.MixWOneRefIdeal.main_arg0) = m' ((c.tc : Thread Cert.MixWOneRefIdeal.nD Cert.MixWOneRefIdeal.τ).loc Cert.MixWOneRefIdeal.main_arg0)
          ∧ r.2.mem ((c.tc : Thread Cert.MixWOneRefIdeal.nD Cert.MixWOneRefIdeal.τ).loc Cert.MixWOneRefIdeal.main_arg1) = m' ((c.tc : Thread Cert.MixWOneRefIdeal.nD Cert.MixWOneRefIdeal.τ).loc Cert.MixWOneRefIdeal.main_arg1))

def preserves_AttnF_AttnFIdeal : Prop :=
  True

def algebraic_AttnFIdeal_AttnFRefIdeal_pre_finite_queries_keys [hAttnFIdeal : Cert.AttnFIdeal.Facts] [hAttnFRefIdeal : Cert.AttnFRefIdeal.Facts] [hPre_finite_queries_keys : Cert.Pre_finite_queries_keys.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_finite_queries_keys m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)) →
    ∃ (v0 : (c : Dev Cert.AttnFIdeal.nD) → Buf (Elt Ideal) ((c.tc : Thread Cert.AttnFIdeal.nD Cert.AttnFIdeal.τ).loc Cert.AttnFIdeal.main_v0_0)) (v1 : (c : Dev Cert.AttnFIdeal.nD) → Buf (Elt Ideal) ((c.tc : Thread Cert.AttnFIdeal.nD Cert.AttnFIdeal.τ).loc Cert.AttnFIdeal.main_v0_1)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v0_0) = v0 c
          ∧ r.2.mem ((c.tc : Thread Cert.AttnFIdeal.nD Cert.AttnFIdeal.τ).loc Cert.AttnFIdeal.main_v0_1) = v1 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v33) = v0 c
          ∧ r.2.mem ((c.tc : Thread Cert.AttnFRefIdeal.nD Cert.AttnFRefIdeal.τ).loc Cert.AttnFRefIdeal.main_v34) = v1 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v71) = v0 c
          ∧ r.2.mem ((c.tc : Thread Cert.ConvRefIdeal.nD Cert.ConvRefIdeal.τ).loc Cert.ConvRefIdeal.main_v73) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)) →
    ∃ (v0 : (c : Dev Cert.ConvOutIdeal.nD) → Buf (Elt Ideal) ((c.tc : Thread Cert.ConvOutIdeal.nD Cert.ConvOutIdeal.τ).loc Cert.ConvOutIdeal.main_v0)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v0) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v27) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v15) = v0 c
          ∧ r.2.mem ((c.tc : Thread Cert.GateRefIdeal.nD Cert.GateRefIdeal.τ).loc Cert.GateRefIdeal.main_v19) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def Claim : Prop :=
  ∃ (hAttn : Cert.Attn.Facts) (hAttnIdeal : Cert.AttnIdeal.Facts) (hAttnRefIdeal : Cert.AttnRefIdeal.Facts) (hDHid : Cert.DHid.Facts) (hDHidIdeal : Cert.DHidIdeal.Facts) (hDHidRefIdeal : Cert.DHidRefIdeal.Facts) (hDU : Cert.DU.Facts) (hDUIdeal : Cert.DUIdeal.Facts) (hDURefIdeal : Cert.DURefIdeal.Facts) (hDWIn : Cert.DWIn.Facts) (hDWInIdeal : Cert.DWInIdeal.Facts) (hDWInRefIdeal : Cert.DWInRefIdeal.Facts) (hDWDown : Cert.DWDown.Facts) (hDWDownIdeal : Cert.DWDownIdeal.Facts) (hDWDownRefIdeal : Cert.DWDownRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hConvIn : Cert.ConvIn.Facts) (hConvInIdeal : Cert.ConvInIdeal.Facts) (hConvInRefIdeal : Cert.ConvInRefIdeal.Facts) (hConvW : Cert.ConvW.Facts) (hConvWIdeal : Cert.ConvWIdeal.Facts) (hConvWRefIdeal : Cert.ConvWRefIdeal.Facts) (hMixIn : Cert.MixIn.Facts) (hMixInIdeal : Cert.MixInIdeal.Facts) (hMixInRefIdeal : Cert.MixInRefIdeal.Facts) (hMixW : Cert.MixW.Facts) (hMixWIdeal : Cert.MixWIdeal.Facts) (hMixWRefIdeal : Cert.MixWRefIdeal.Facts) (hDHidOne : Cert.DHidOne.Facts) (hDHidOneIdeal : Cert.DHidOneIdeal.Facts) (hDHidOneRefIdeal : Cert.DHidOneRefIdeal.Facts) (hDUOne : Cert.DUOne.Facts) (hDUOneIdeal : Cert.DUOneIdeal.Facts) (hDUOneRefIdeal : Cert.DUOneRefIdeal.Facts) (hDWInOne : Cert.DWInOne.Facts) (hDWInOneIdeal : Cert.DWInOneIdeal.Facts) (hDWInOneRefIdeal : Cert.DWInOneRefIdeal.Facts) (hDWDownOne : Cert.DWDownOne.Facts) (hDWDownOneIdeal : Cert.DWDownOneIdeal.Facts) (hDWDownOneRefIdeal : Cert.DWDownOneRefIdeal.Facts) (hUpOne : Cert.UpOne.Facts) (hUpOneIdeal : Cert.UpOneIdeal.Facts) (hUpOneRefIdeal : Cert.UpOneRefIdeal.Facts) (hDownOne : Cert.DownOne.Facts) (hDownOneIdeal : Cert.DownOneIdeal.Facts) (hDownOneRefIdeal : Cert.DownOneRefIdeal.Facts) (hDownB : Cert.DownB.Facts) (hDownBIdeal : Cert.DownBIdeal.Facts) (hDownBRefIdeal : Cert.DownBRefIdeal.Facts) (hDownOneB : Cert.DownOneB.Facts) (hDownOneBIdeal : Cert.DownOneBIdeal.Facts) (hDownOneBRefIdeal : Cert.DownOneBRefIdeal.Facts) (hConvFwd : Cert.ConvFwd.Facts) (hConvFwdIdeal : Cert.ConvFwdIdeal.Facts) (hConvFwdRefIdeal : Cert.ConvFwdRefIdeal.Facts) (hMix : Cert.Mix.Facts) (hMixIdeal : Cert.MixIdeal.Facts) (hMixRefIdeal : Cert.MixRefIdeal.Facts) (hMixOne : Cert.MixOne.Facts) (hMixOneIdeal : Cert.MixOneIdeal.Facts) (hMixOneRefIdeal : Cert.MixOneRefIdeal.Facts) (hMixInOne : Cert.MixInOne.Facts) (hMixInOneIdeal : Cert.MixInOneIdeal.Facts) (hMixInOneRefIdeal : Cert.MixInOneRefIdeal.Facts) (hMixWOne : Cert.MixWOne.Facts) (hMixWOneIdeal : Cert.MixWOneIdeal.Facts) (hMixWOneRefIdeal : Cert.MixWOneRefIdeal.Facts) (hAttnF : Cert.AttnF.Facts) (hAttnFIdeal : Cert.AttnFIdeal.Facts) (hAttnFRefIdeal : Cert.AttnFRefIdeal.Facts) (hConv : Cert.Conv.Facts) (hConvIdeal : Cert.ConvIdeal.Facts) (hConvRefIdeal : Cert.ConvRefIdeal.Facts) (hConvOut : Cert.ConvOut.Facts) (hConvOutIdeal : Cert.ConvOutIdeal.Facts) (hConvOutRefIdeal : Cert.ConvOutRefIdeal.Facts) (hGate : Cert.Gate.Facts) (hGateIdeal : Cert.GateIdeal.Facts) (hGateRefIdeal : Cert.GateRefIdeal.Facts) (hPre_finite_operands : Cert.Pre_finite_operands.Facts) (hPre_finite_products : Cert.Pre_finite_products.Facts) (hPre_finite_products_l1 : Cert.Pre_finite_products_l1.Facts) (hPre_finite_queries_keys : Cert.Pre_finite_queries_keys.Facts),
    quiescent_Attn (hAttn := hAttn)
    ∧ quiescent_AttnIdeal (hAttnIdeal := hAttnIdeal)
    ∧ quiescent_AttnIdeal_pre_finite_operands (hAttnIdeal := hAttnIdeal) (hPre_finite_operands := hPre_finite_operands)
    ∧ quiescent_AttnRefIdeal (hAttnRefIdeal := hAttnRefIdeal)
    ∧ quiescent_AttnRefIdeal_pre_finite_operands (hAttnRefIdeal := hAttnRefIdeal) (hPre_finite_operands := hPre_finite_operands)
    ∧ quiescent_DHid (hDHid := hDHid)
    ∧ quiescent_DHidIdeal (hDHidIdeal := hDHidIdeal)
    ∧ quiescent_DHidIdeal_pre_finite_products (hDHidIdeal := hDHidIdeal) (hPre_finite_products := hPre_finite_products)
    ∧ quiescent_DHidRefIdeal (hDHidRefIdeal := hDHidRefIdeal)
    ∧ quiescent_DHidRefIdeal_pre_finite_products (hDHidRefIdeal := hDHidRefIdeal) (hPre_finite_products := hPre_finite_products)
    ∧ quiescent_DU (hDU := hDU)
    ∧ quiescent_DUIdeal (hDUIdeal := hDUIdeal)
    ∧ quiescent_DURefIdeal (hDURefIdeal := hDURefIdeal)
    ∧ quiescent_DWIn (hDWIn := hDWIn)
    ∧ quiescent_DWInIdeal (hDWInIdeal := hDWInIdeal)
    ∧ quiescent_DWInRefIdeal (hDWInRefIdeal := hDWInRefIdeal)
    ∧ quiescent_DWDown (hDWDown := hDWDown)
    ∧ quiescent_DWDownIdeal (hDWDownIdeal := hDWDownIdeal)
    ∧ quiescent_DWDownRefIdeal (hDWDownRefIdeal := hDWDownRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_ConvW (hConvW := hConvW)
    ∧ quiescent_ConvWIdeal (hConvWIdeal := hConvWIdeal)
    ∧ quiescent_ConvWRefIdeal (hConvWRefIdeal := hConvWRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixW (hMixW := hMixW)
    ∧ quiescent_MixWIdeal (hMixWIdeal := hMixWIdeal)
    ∧ quiescent_MixWRefIdeal (hMixWRefIdeal := hMixWRefIdeal)
    ∧ quiescent_DHidOne (hDHidOne := hDHidOne)
    ∧ quiescent_DHidOneIdeal (hDHidOneIdeal := hDHidOneIdeal)
    ∧ quiescent_DHidOneIdeal_pre_finite_products_l1 (hDHidOneIdeal := hDHidOneIdeal) (hPre_finite_products_l1 := hPre_finite_products_l1)
    ∧ quiescent_DHidOneRefIdeal (hDHidOneRefIdeal := hDHidOneRefIdeal)
    ∧ quiescent_DHidOneRefIdeal_pre_finite_products_l1 (hDHidOneRefIdeal := hDHidOneRefIdeal) (hPre_finite_products_l1 := hPre_finite_products_l1)
    ∧ quiescent_DUOne (hDUOne := hDUOne)
    ∧ quiescent_DUOneIdeal (hDUOneIdeal := hDUOneIdeal)
    ∧ quiescent_DUOneRefIdeal (hDUOneRefIdeal := hDUOneRefIdeal)
    ∧ quiescent_DWInOne (hDWInOne := hDWInOne)
    ∧ quiescent_DWInOneIdeal (hDWInOneIdeal := hDWInOneIdeal)
    ∧ quiescent_DWInOneRefIdeal (hDWInOneRefIdeal := hDWInOneRefIdeal)
    ∧ quiescent_DWDownOne (hDWDownOne := hDWDownOne)
    ∧ quiescent_DWDownOneIdeal (hDWDownOneIdeal := hDWDownOneIdeal)
    ∧ quiescent_DWDownOneRefIdeal (hDWDownOneRefIdeal := hDWDownOneRefIdeal)
    ∧ quiescent_UpOne (hUpOne := hUpOne)
    ∧ quiescent_UpOneIdeal (hUpOneIdeal := hUpOneIdeal)
    ∧ quiescent_UpOneRefIdeal (hUpOneRefIdeal := hUpOneRefIdeal)
    ∧ quiescent_DownOne (hDownOne := hDownOne)
    ∧ quiescent_DownOneIdeal (hDownOneIdeal := hDownOneIdeal)
    ∧ quiescent_DownOneRefIdeal (hDownOneRefIdeal := hDownOneRefIdeal)
    ∧ quiescent_DownB (hDownB := hDownB)
    ∧ quiescent_DownBIdeal (hDownBIdeal := hDownBIdeal)
    ∧ quiescent_DownBRefIdeal (hDownBRefIdeal := hDownBRefIdeal)
    ∧ quiescent_DownOneB (hDownOneB := hDownOneB)
    ∧ quiescent_DownOneBIdeal (hDownOneBIdeal := hDownOneBIdeal)
    ∧ quiescent_DownOneBRefIdeal (hDownOneBRefIdeal := hDownOneBRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_Mix (hMix := hMix)
    ∧ quiescent_MixIdeal (hMixIdeal := hMixIdeal)
    ∧ quiescent_MixRefIdeal (hMixRefIdeal := hMixRefIdeal)
    ∧ quiescent_MixOne (hMixOne := hMixOne)
    ∧ quiescent_MixOneIdeal (hMixOneIdeal := hMixOneIdeal)
    ∧ quiescent_MixOneRefIdeal (hMixOneRefIdeal := hMixOneRefIdeal)
    ∧ quiescent_MixInOne (hMixInOne := hMixInOne)
    ∧ quiescent_MixInOneIdeal (hMixInOneIdeal := hMixInOneIdeal)
    ∧ quiescent_MixInOneRefIdeal (hMixInOneRefIdeal := hMixInOneRefIdeal)
    ∧ quiescent_MixWOne (hMixWOne := hMixWOne)
    ∧ quiescent_MixWOneIdeal (hMixWOneIdeal := hMixWOneIdeal)
    ∧ quiescent_MixWOneRefIdeal (hMixWOneRefIdeal := hMixWOneRefIdeal)
    ∧ quiescent_AttnF (hAttnF := hAttnF)
    ∧ quiescent_AttnFIdeal (hAttnFIdeal := hAttnFIdeal)
    ∧ quiescent_AttnFIdeal_pre_finite_queries_keys (hAttnFIdeal := hAttnFIdeal) (hPre_finite_queries_keys := hPre_finite_queries_keys)
    ∧ quiescent_AttnFRefIdeal (hAttnFRefIdeal := hAttnFRefIdeal)
    ∧ quiescent_AttnFRefIdeal_pre_finite_queries_keys (hAttnFRefIdeal := hAttnFRefIdeal) (hPre_finite_queries_keys := hPre_finite_queries_keys)
    ∧ quiescent_Conv (hConv := hConv)
    ∧ quiescent_ConvIdeal (hConvIdeal := hConvIdeal)
    ∧ quiescent_ConvRefIdeal (hConvRefIdeal := hConvRefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_Gate (hGate := hGate)
    ∧ quiescent_GateIdeal (hGateIdeal := hGateIdeal)
    ∧ quiescent_GateRefIdeal (hGateRefIdeal := hGateRefIdeal)
    ∧ preserves_Attn_AttnIdeal
    ∧ algebraic_AttnIdeal_AttnRefIdeal_pre_finite_operands (hAttnIdeal := hAttnIdeal) (hAttnRefIdeal := hAttnRefIdeal) (hPre_finite_operands := hPre_finite_operands)
    ∧ preserves_DHid_DHidIdeal
    ∧ algebraic_DHidIdeal_DHidRefIdeal_pre_finite_products (hDHidIdeal := hDHidIdeal) (hDHidRefIdeal := hDHidRefIdeal) (hPre_finite_products := hPre_finite_products)
    ∧ preserves_DU_DUIdeal
    ∧ algebraic_DUIdeal_DURefIdeal (hDUIdeal := hDUIdeal) (hDURefIdeal := hDURefIdeal)
    ∧ preserves_DWIn_DWInIdeal
    ∧ algebraic_DWInIdeal_DWInRefIdeal (hDWInIdeal := hDWInIdeal) (hDWInRefIdeal := hDWInRefIdeal)
    ∧ preserves_DWDown_DWDownIdeal
    ∧ algebraic_DWDownIdeal_DWDownRefIdeal (hDWDownIdeal := hDWDownIdeal) (hDWDownRefIdeal := hDWDownRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_ConvIn_ConvInIdeal
    ∧ algebraic_ConvInIdeal_ConvInRefIdeal (hConvInIdeal := hConvInIdeal) (hConvInRefIdeal := hConvInRefIdeal)
    ∧ preserves_ConvW_ConvWIdeal
    ∧ algebraic_ConvWIdeal_ConvWRefIdeal (hConvWIdeal := hConvWIdeal) (hConvWRefIdeal := hConvWRefIdeal)
    ∧ preserves_MixIn_MixInIdeal
    ∧ algebraic_MixInIdeal_MixInRefIdeal (hMixInIdeal := hMixInIdeal) (hMixInRefIdeal := hMixInRefIdeal)
    ∧ preserves_MixW_MixWIdeal
    ∧ algebraic_MixWIdeal_MixWRefIdeal (hMixWIdeal := hMixWIdeal) (hMixWRefIdeal := hMixWRefIdeal)
    ∧ preserves_DHidOne_DHidOneIdeal
    ∧ algebraic_DHidOneIdeal_DHidOneRefIdeal_pre_finite_products_l1 (hDHidOneIdeal := hDHidOneIdeal) (hDHidOneRefIdeal := hDHidOneRefIdeal) (hPre_finite_products_l1 := hPre_finite_products_l1)
    ∧ preserves_DUOne_DUOneIdeal
    ∧ algebraic_DUOneIdeal_DUOneRefIdeal (hDUOneIdeal := hDUOneIdeal) (hDUOneRefIdeal := hDUOneRefIdeal)
    ∧ preserves_DWInOne_DWInOneIdeal
    ∧ algebraic_DWInOneIdeal_DWInOneRefIdeal (hDWInOneIdeal := hDWInOneIdeal) (hDWInOneRefIdeal := hDWInOneRefIdeal)
    ∧ preserves_DWDownOne_DWDownOneIdeal
    ∧ algebraic_DWDownOneIdeal_DWDownOneRefIdeal (hDWDownOneIdeal := hDWDownOneIdeal) (hDWDownOneRefIdeal := hDWDownOneRefIdeal)
    ∧ preserves_UpOne_UpOneIdeal
    ∧ algebraic_UpOneIdeal_UpOneRefIdeal (hUpOneIdeal := hUpOneIdeal) (hUpOneRefIdeal := hUpOneRefIdeal)
    ∧ preserves_DownOne_DownOneIdeal
    ∧ algebraic_DownOneIdeal_DownOneRefIdeal (hDownOneIdeal := hDownOneIdeal) (hDownOneRefIdeal := hDownOneRefIdeal)
    ∧ preserves_DownB_DownBIdeal
    ∧ algebraic_DownBIdeal_DownBRefIdeal (hDownBIdeal := hDownBIdeal) (hDownBRefIdeal := hDownBRefIdeal)
    ∧ preserves_DownOneB_DownOneBIdeal
    ∧ algebraic_DownOneBIdeal_DownOneBRefIdeal (hDownOneBIdeal := hDownOneBIdeal) (hDownOneBRefIdeal := hDownOneBRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_Mix_MixIdeal
    ∧ algebraic_MixIdeal_MixRefIdeal (hMixIdeal := hMixIdeal) (hMixRefIdeal := hMixRefIdeal)
    ∧ preserves_MixOne_MixOneIdeal
    ∧ algebraic_MixOneIdeal_MixOneRefIdeal (hMixOneIdeal := hMixOneIdeal) (hMixOneRefIdeal := hMixOneRefIdeal)
    ∧ preserves_MixInOne_MixInOneIdeal
    ∧ algebraic_MixInOneIdeal_MixInOneRefIdeal (hMixInOneIdeal := hMixInOneIdeal) (hMixInOneRefIdeal := hMixInOneRefIdeal)
    ∧ preserves_MixWOne_MixWOneIdeal
    ∧ algebraic_MixWOneIdeal_MixWOneRefIdeal (hMixWOneIdeal := hMixWOneIdeal) (hMixWOneRefIdeal := hMixWOneRefIdeal)
    ∧ preserves_AttnF_AttnFIdeal
    ∧ algebraic_AttnFIdeal_AttnFRefIdeal_pre_finite_queries_keys (hAttnFIdeal := hAttnFIdeal) (hAttnFRefIdeal := hAttnFRefIdeal) (hPre_finite_queries_keys := hPre_finite_queries_keys)
    ∧ preserves_Conv_ConvIdeal
    ∧ algebraic_ConvIdeal_ConvRefIdeal (hConvIdeal := hConvIdeal) (hConvRefIdeal := hConvRefIdeal)
    ∧ preserves_ConvOut_ConvOutIdeal
    ∧ algebraic_ConvOutIdeal_ConvOutRefIdeal (hConvOutIdeal := hConvOutIdeal) (hConvOutRefIdeal := hConvOutRefIdeal)
    ∧ preserves_Gate_GateIdeal
    ∧ algebraic_GateIdeal_GateRefIdeal (hGateIdeal := hGateIdeal) (hGateRefIdeal := hGateRefIdeal)
-- ==== Pre_finite_operands.lean ====
abbrev S2304x1024 : Shape := ⟨2, ![2304, 1024]⟩
abbrev S2304x512 : Shape := ⟨2, ![2304, 512]⟩
abbrev S2304x1536 : Shape := ⟨2, ![2304, 1536]⟩
abbrev S2048x1024 : Shape := ⟨2, ![2048, 1024]⟩
abbrev S_ : Shape := ⟨0, ![]⟩

class Facts : Prop where
  slices_S2304x1024_S2048x1024_0_0 : S2304x1024.Slices ![0, 0] S2048x1024
  bitsLt_bf16_f32 : FTy.bits .bf16 < FTy.bits .f32
  bcast_S_S2048x1024 : S_.BroadcastsInDim S2048x1024 (![] : Fin 0 → Fin S2048x1024.rank)
  bcast_S_S2304x1024 : S_.BroadcastsInDim S2304x1024 (![] : Fin 0 → Fin S2304x1024.rank)
  slices_S2304x1536_S2048x1024_0_512 : S2304x1536.Slices ![0, 512] S2048x1024

variable [Facts]

def fn {F : FTy → Type} [FloatOps F] (main_arg0 : FVec F S2304x1024 .bf16) (main_arg1 : FVec F S2304x1024 .bf16) (main_arg2 : FVec F S2304x1024 .bf16) (main_arg3 : FVec F S2304x512 .bf16) (main_arg4 : FVec F S2304x1536 .f32) : IVec S2048x1024 1 × IVec S2304x1024 1 × IVec S2304x1024 1 × IVec S2048x1024 1 :=
  let main_v0 : FVec F S2048x1024 .bf16 := (extractStridedSlice S2048x1024 ![0, 0] · slices_S2304x1024_S2048x1024_0_0) main_arg0
  let main_v1 : FVec F S2048x1024 .f32 := (extf .f32 · bitsLt_bf16_f32) main_v0
  let main_v2 : FVec F S2048x1024 .f32 := Host.absf main_v1
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_v5 : FVec F S2304x1024 .f32 := (extf .f32 · bitsLt_bf16_f32) main_arg1
  let main_v6 : FVec F S2304x1024 .f32 := Host.absf main_v5
  let main_cst_0 : FVec F S_ .f32 := constant S_ .f32 0x7F800000#32
  let main_v7 : FVec F S2304x1024 .f32 := broadcastInDim S2304x1024 ![] bcast_S_S2304x1024 main_cst_0
  let main_v8 : IVec S2304x1024 1 := cmpf .olt main_v6 main_v7
  let main_v9 : FVec F S2304x1024 .f32 := (extf .f32 · bitsLt_bf16_f32) main_arg2
  let main_v10 : FVec F S2304x1024 .f32 := Host.absf main_v9
  let main_cst_1 : FVec F S_ .f32 := constant S_ .f32 0x7F800000#32
  let main_v11 : FVec F S2304x1024 .f32 := broadcastInDim S2304x1024 ![] bcast_S_S2304x1024 main_cst_1
  let main_v12 : IVec S2304x1024 1 := cmpf .olt main_v10 main_v11
  let main_v13 : FVec F S2048x1024 .f32 := (extractStridedSlice S2048x1024 ![0, 512] · slices_S2304x1536_S2048x1024_0_512) main_arg4
  let main_v14 : FVec F S2048x1024 .f32 := Host.absf main_v13
  let main_cst_2 : FVec F S_ .f32 := constant S_ .f32 0x7F800000#32
  let main_v15 : FVec F S2048x1024 .f32 := broadcastInDim S2048x1024 ![] bcast_S_S2048x1024 main_cst_2
  let main_v16 : IVec S2048x1024 1 := cmpf .olt main_v14 main_v15
  (main_v4, main_v8, main_v12, main_v16)
-- ==== Pre_finite_products.lean ====
abbrev S2304x1024 : Shape := ⟨2, ![2304, 1024]⟩
abbrev S4x704x1024 : Shape := ⟨3, ![4, 704, 1024]⟩
abbrev S4x2304x704 : Shape := ⟨3, ![4, 2304, 704]⟩
abbrev S_ : Shape := ⟨0, ![]⟩

class Facts : Prop where
  bitsLt_bf16_f32 : FTy.bits .bf16 < FTy.bits .f32
  bcast_S_S2304x1024 : S_.BroadcastsInDim S2304x1024 (![] : Fin 0 → Fin S2304x1024.rank)
  bcast_S_S4x704x1024 : S_.BroadcastsInDim S4x704x1024 (![] : Fin 0 → Fin S4x704x1024.rank)
  bcast_S_S4x2304x704 : S_.BroadcastsInDim S4x2304x704 (![] : Fin 0 → Fin S4x2304x704.rank)

variable [Facts]

def fn {F : FTy → Type} [FloatOps F] (main_arg0 : FVec F S2304x1024 .bf16) (main_arg1 : FVec F S4x704x1024 .bf16) (main_arg2 : FVec F S4x2304x704 .bf16) (main_arg3 : FVec F S4x2304x704 .bf16) : IVec S2304x1024 1 × IVec S4x704x1024 1 × IVec S4x2304x704 1 :=
  let main_v0 : FVec F S2304x1024 .f32 := (extf .f32 · bitsLt_bf16_f32) main_arg0
  let main_v1 : FVec F S2304x1024 .f32 := Host.absf main_v0
  let main_cst : FVec F S_ .f32 := constant S_ .f32 0x7F800000#32
  let main_v2 : FVec F S2304x1024 .f32 := broadcastInDim S2304x1024 ![] bcast_S_S2304x1024 main_cst
  let main_v3 : IVec S2304x1024 1 := cmpf .olt main_v1 main_v2
  let main_v4 : FVec F S4x704x1024 .f32 := (extf .f32 · bitsLt_bf16_f32) main_arg1
  let main_v5 : FVec F S4x704x1024 .f32 := Host.absf main_v4
  let main_cst_0 : FVec F S_ .f32 := constant S_ .f32 0x7F800000#32
  let main_v6 : FVec F S4x704x1024 .f32 := broadcastInDim S4x704x1024 ![] bcast_S_S4x704x1024 main_cst_0
  let main_v7 : IVec S4x704x1024 1 := cmpf .olt main_v5 main_v6
  let main_v8 : FVec F S4x2304x704 .f32 := (extf .f32 · bitsLt_bf16_f32) main_arg3
  let main_v9 : FVec F S4x2304x704 .f32 := Host.absf main_v8
  let main_cst_1 : FVec F S_ .f32 := constant S_ .f32 0x7F800000#32
  let main_v10 : FVec F S4x2304x704 .f32 := broadcastInDim S4x2304x704 ![] bcast_S_S4x2304x704 main_cst_1
  let main_v11 : IVec S4x2304x704 1 := cmpf .olt main_v9 main_v10
  (main_v3, main_v7, main_v11)
-- ==== Pre_finite_products_l1.lean ====
abbrev S2048x1024 : Shape := ⟨2, ![2048, 1024]⟩
abbrev S4x704x1024 : Shape := ⟨3, ![4, 704, 1024]⟩
abbrev S4x2048x704 : Shape := ⟨3, ![4, 2048, 704]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S4x704x1024 : S_.BroadcastsInDim S4x704x1024 (![] : Fin 0 → Fin S4x704x1024.rank)
  bcast_S_S4x2048x704 : S_.BroadcastsInDim S4x2048x704 (![] : Fin 0 → Fin S4x2048x704.rank)

variable [Facts]

def fn {F : FTy → Type} [FloatOps F] (main_arg0 : FVec F S2048x1024 .bf16) (main_arg1 : FVec F S4x704x1024 .bf16) (main_arg2 : FVec F S4x2048x704 .bf16) (main_arg3 : FVec F S4x2048x704 .bf16) : IVec S2048x1024 1 × IVec S4x704x1024 1 × IVec S4x2048x704 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S4x704x1024 .f32 := (extf .f32 · bitsLt_bf16_f32) main_arg1
  let main_v5 : FVec F S4x704x1024 .f32 := Host.absf main_v4
  let main_cst_0 : FVec F S_ .f32 := constant S_ .f32 0x7F800000#32
  let main_v6 : FVec F S4x704x1024 .f32 := broadcastInDim S4x704x1024 ![] bcast_S_S4x704x1024 main_cst_0
  let main_v7 : IVec S4x704x1024 1 := cmpf .olt main_v5 main_v6
  let main_v8 : FVec F S4x2048x704 .f32 := (extf .f32 · bitsLt_bf16_f32) main_arg3
  let main_v9 : FVec F S4x2048x704 .f32 := Host.absf main_v8
  let main_cst_1 : FVec F S_ .f32 := constant S_ .f32 0x7F800000#32
  let main_v10 : FVec F S4x2048x704 .f32 := broadcastInDim S4x2048x704 ![] bcast_S_S4x2048x704 main_cst_1
  let main_v11 : IVec S4x2048x704 1 := cmpf .olt main_v9 main_v10
  (main_v3, main_v7, main_v11)
-- ==== Pre_finite_queries_keys.lean ====
abbrev S2304x1024 : Shape := ⟨2, ![2304, 1024]⟩
abbrev S2048x1024 : Shape := ⟨2, ![2048, 1024]⟩
abbrev S_ : Shape := ⟨0, ![]⟩

class Facts : Prop where
  slices_S2304x1024_S2048x1024_0_0 : S2304x1024.Slices ![0, 0] S2048x1024
  bitsLt_bf16_f32 : FTy.bits .bf16 < FTy.bits .f32
  bcast_S_S2048x1024 : S_.BroadcastsInDim S2048x1024 (![] : Fin 0 → Fin S2048x1024.rank)
  bcast_S_S2304x1024 : S_.BroadcastsInDim S2304x1024 (![] : Fin 0 → Fin S2304x1024.rank)

variable [Facts]

def fn {F : FTy → Type} [FloatOps F] (main_arg0 : FVec F S2304x1024 .bf16) (main_arg1 : FVec F S2304x1024 .bf16) (main_arg2 : FVec F S2304x1024 .bf16) : IVec S2048x1024 1 × IVec S2304x1024 1 :=
  let main_v0 : FVec F S2048x1024 .bf16 := (extractStridedSlice S2048x1024 ![0, 0] · slices_S2304x1024_S2048x1024_0_0) main_arg0
  let main_v1 : FVec F S2048x1024 .f32 := (extf .f32 · bitsLt_bf16_f32) main_v0
  let main_v2 : FVec F S2048x1024 .f32 := Host.absf main_v1
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_v5 : FVec F S2304x1024 .f32 := (extf .f32 · bitsLt_bf16_f32) main_arg1
  let main_v6 : FVec F S2304x1024 .f32 := Host.absf main_v5
  let main_cst_0 : FVec F S_ .f32 := constant S_ .f32 0x7F800000#32
  let main_v7 : FVec F S2304x1024 .f32 := broadcastInDim S2304x1024 ![] bcast_S_S2304x1024 main_cst_0
  let main_v8 : IVec S2304x1024 1 := cmpf .olt main_v6 main_v7
  (main_v4, main_v8)
-- ==== Attn.lean ====
abbrev S2304x1024 : Shape := ⟨2, ![2304, 1024]⟩
abbrev S2304x512 : Shape := ⟨2, ![2304, 512]⟩
abbrev S2304x1536 : Shape := ⟨2, ![2304, 1536]⟩
abbrev S2048x1024 : Shape := ⟨2, ![2048, 1024]⟩
abbrev S2048x8x128 : Shape := ⟨3, ![2048, 8, 128]⟩
abbrev S2304x8x128 : Shape := ⟨3, ![2304, 8, 128]⟩
abbrev S8x2048x2304 : Shape := ⟨3, ![8, 2048, 2304]⟩
abbrev S_ : Shape := ⟨0, ![]⟩
abbrev S8x2048 : Shape := ⟨2, ![8, 2048]⟩
abbrev S8x2048x1 : Shape := ⟨3, ![8, 2048, 1]⟩
abbrev S8x128x2048 : Shape := ⟨3, ![8, 128, 2048]⟩
abbrev S2048x8x1 : Shape := ⟨3, ![2048, 8, 1]⟩
abbrev S256x1024 : Shape := ⟨2, ![256, 1024]⟩
abbrev S512x128 : Shape := ⟨2, ![512, 128]⟩
abbrev S2304x128 : Shape := ⟨2, ![2304, 128]⟩
abbrev S512x2304 : Shape := ⟨2, ![512, 2304]⟩
abbrev S512x1 : Shape := ⟨2, ![512, 1]⟩
abbrev S512 : Shape := ⟨1, ![512]⟩

abbrev nBuf : Space → Nat
  | .hbm => 43
  | .vmem => 18
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S2304x1024, .bf16⟩
  | .hbm, ⟨3, _⟩ => ⟨S2304x512, .bf16⟩
  | .hbm, ⟨4, _⟩ => ⟨S2304x1536, .f32⟩
  | .hbm, ⟨5, _⟩ => ⟨S2048x1024, .bf16⟩
  | .hbm, ⟨6, _⟩ => ⟨S2048x1024, .f32⟩
  | .hbm, ⟨7, _⟩ => ⟨S2048x8x128, .f32⟩
  | .hbm, ⟨8, _⟩ => ⟨S2304x1024, .f32⟩
  | .hbm, ⟨9, _⟩ => ⟨S2304x8x128, .f32⟩
  | .hbm, ⟨10, _⟩ => ⟨S2304x1024, .f32⟩
  | .hbm, ⟨11, _⟩ => ⟨S2304x8x128, .f32⟩
  | .hbm, ⟨12, _⟩ => ⟨S8x2048x2304, .f32⟩
  | .hbm, ⟨13, _⟩ => ⟨S_, .f32⟩
  | .hbm, ⟨14, _⟩ => ⟨S8x2048x2304, .f32⟩
  | .hbm, ⟨15, _⟩ => ⟨S8x2048x2304, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S8x2048x2304, .f32⟩
  | .hbm, ⟨20, _⟩ => ⟨S8x2048x2304, .f32⟩
  | .hbm, ⟨21, _⟩ => ⟨S8x2048x2304, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2304, .f32⟩
  | .hbm, ⟨26, _⟩ => ⟨S8x2048x2304, .f32⟩
  | .hbm, ⟨27, _⟩ => ⟨S8x128x2048, .f32⟩
  | .hbm, ⟨28, _⟩ => ⟨S2048x8x128, .f32⟩
  | .hbm, ⟨29, _⟩ => ⟨S2048x1024, .f32⟩
  | .hbm, ⟨30, _⟩ => ⟨S2048x1024, .bf16⟩
  | .hbm, ⟨31, _⟩ => ⟨S8x2048x1, .f32⟩
  | .hbm, ⟨32, _⟩ => ⟨S8x2048x1, .f32⟩
  | .hbm, ⟨33, _⟩ => ⟨S2048x8x1, .f32⟩
  | .hbm, ⟨34, _⟩ => ⟨S2048x8x128, .f32⟩
  | .hbm, ⟨35, _⟩ => ⟨S2048x1024, .f32⟩
  | .hbm, ⟨36, _⟩ => ⟨S_, .bf16⟩
  | .hbm, ⟨37, _⟩ => ⟨S256x1024, .bf16⟩
  | .hbm, ⟨38, _⟩ => ⟨S2304x1024, .bf16⟩
  | .hbm, ⟨39, _⟩ => ⟨S2304x1536, .bf16⟩
  | .hbm, ⟨40, _⟩ => ⟨S2048x1024, .f32⟩
  | .hbm, ⟨41, _⟩ => ⟨S2304x1024, .f32⟩
  | .hbm, ⟨42, _⟩ => ⟨S2304x1024, .f32⟩
  | .local _ .vmem, ⟨0, _⟩ => ⟨S512x128, .bf16⟩
  | .local _ .vmem, ⟨1, _⟩ => ⟨S512x128, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S2304x128, .f32⟩
  | .local _ .vmem, ⟨15, _⟩ => ⟨S2304x128, .f32⟩
  | .local _ .vmem, ⟨16, _⟩ => ⟨S2304x128, .f32⟩
  | .local _ .vmem, ⟨17, _⟩ => ⟨S2304x128, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v32 : BitVec 1 := Scalar.cmpi .eq arg1 c0_i32
  let v33 : BitVec 32 := Scalar.extui v32
  let c0_i32_20 : BitVec 32 := 0#32
  let v34 : BitVec 1 := Scalar.cmpi .ne v33 c0_i32_20
  v34

def k0_cond2 (i : grid0.Coords) : BitVec 1 :=
  let arg1 : BitVec 32 := BitVec.ofNat 32 (i 1).val
  let c0_i32_21 : BitVec 32 := 0#32
  let v35 : BitVec 1 := Scalar.cmpi .sgt arg1 c0_i32_21
  let v36 : BitVec 32 := Scalar.extui v35
  let c0_i32_22 : BitVec 32 := 0#32
  let v37 : BitVec 1 := Scalar.cmpi .ne v36 c0_i32_22
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c4_i32 : BitVec 32 := 4#32
  let v1 : BitVec 32 := Scalar.addi c4_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c4_i32 : BitVec 32 := 4#32
  let v1 : BitVec 32 := Scalar.addi c4_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2304x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2304x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnRefIdeal.lean ====
abbrev S2304x1024 : Shape := ⟨2, ![2304, 1024]⟩
abbrev S2304x512 : Shape := ⟨2, ![2304, 512]⟩
abbrev S2304x1536 : Shape := ⟨2, ![2304, 1536]⟩
abbrev S2048x1024 : Shape := ⟨2, ![2048, 1024]⟩
abbrev S2048x8x128 : Shape := ⟨3, ![2048, 8, 128]⟩
abbrev S2304x8x128 : Shape := ⟨3, ![2304, 8, 128]⟩
abbrev S8x2048x2304 : Shape := ⟨3, ![8, 2048, 2304]⟩
abbrev S_ : Shape := ⟨0, ![]⟩
abbrev S8x2048 : Shape := ⟨2, ![8, 2048]⟩
abbrev S8x2048x1 : Shape := ⟨3, ![8, 2048, 1]⟩
abbrev S8x128x2048 : Shape := ⟨3, ![8, 128, 2048]⟩
abbrev S8x128x2304 : Shape := ⟨3, ![8, 128, 2304]⟩
abbrev S8x2304x128 : Shape := ⟨3, ![8, 2304, 128]⟩
abbrev S8x2048x128 : Shape := ⟨3, ![8, 2048, 128]⟩

abbrev nBuf : Space → Nat
  | .hbm => 86
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S2304x1024, .bf16⟩
  | .hbm, ⟨3, _⟩ => ⟨S2304x512, .bf16⟩
  | .hbm, ⟨4, _⟩ => ⟨S2304x1536, .f32⟩
  | .hbm, ⟨5, _⟩ => ⟨S2048x1024, .bf16⟩
  | .hbm, ⟨6, _⟩ => ⟨S2048x1024, .f32⟩
  | .hbm, ⟨7, _⟩ => ⟨S2048x1024, .f32⟩
  | .hbm, ⟨8, _⟩ => ⟨S2048x8x128, .f32⟩
  | .hbm, ⟨9, _⟩ => ⟨S2304x1024, .f32⟩
  | .hbm, ⟨10, _⟩ => ⟨S2304x8x128, .f32⟩
  | .hbm, ⟨11, _⟩ => ⟨S2304x1024, .f32⟩
  | .hbm, ⟨12, _⟩ => ⟨S2304x8x128, .f32⟩
  | .hbm, ⟨13, _⟩ => ⟨S2048x8x128, .f32⟩
  | .hbm, ⟨14, _⟩ => ⟨S8x2048x2304, .f32⟩
  | .hbm, ⟨15, _⟩ => ⟨S_, .f32⟩
  | .hbm, ⟨16, _⟩ => ⟨S8x2048x2304, .f32⟩
  | .hbm, ⟨17, _⟩ => ⟨S8x2048x2304, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x2304, .f32⟩
  | .hbm, ⟨22, _⟩ => ⟨S8x2048x2304, .i1⟩
  | .hbm, ⟨23, _⟩ => ⟨S8x2048x2304, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .i1⟩
  | .hbm, ⟨32, _⟩ => ⟨S_, .f32⟩
  | .hbm, ⟨33, _⟩ => ⟨S8x2048, .f32⟩
  | .hbm, ⟨34, _⟩ => ⟨S8x2048, .i1⟩
  | .hbm, ⟨35, _⟩ => ⟨S_, .f32⟩
  | .hbm, ⟨36, _⟩ => ⟨S8x2048, .f32⟩
  | .hbm, ⟨37, _⟩ => ⟨S_, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S8x2048, .f32⟩
  | .hbm, ⟨43, _⟩ => ⟨S8x2048x1, .f32⟩
  | .hbm, ⟨44, _⟩ => ⟨S8x2048x2304, .f32⟩
  | .hbm, ⟨45, _⟩ => ⟨S8x2048x2304, .f32⟩
  | .hbm, ⟨46, _⟩ => ⟨S8x2048x2304, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S8x2048x2304, .f32⟩
  | .hbm, ⟨51, _⟩ => ⟨S8x2048x2304, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x128x2048, .f32⟩
  | .hbm, ⟨57, _⟩ => ⟨S2048x8x128, .f32⟩
  | .hbm, ⟨58, _⟩ => ⟨S8x128x2048, .f32⟩
  | .hbm, ⟨59, _⟩ => ⟨S8x2048x2304, .f32⟩
  | .hbm, ⟨60, _⟩ => ⟨S8x128x2304, .f32⟩
  | .hbm, ⟨61, _⟩ => ⟨S2304x8x128, .f32⟩
  | .hbm, ⟨62, _⟩ => ⟨S8x2048x2304, .f32⟩
  | .hbm, ⟨63, _⟩ => ⟨S8x2048x2304, .f32⟩
  | .hbm, ⟨64, _⟩ => ⟨S8x2048x2304, .f32⟩
  | .hbm, ⟨65, _⟩ => ⟨S_, .f32⟩
  | .hbm, ⟨66, _⟩ => ⟨S8x2048, .f32⟩
  | .hbm, ⟨67, _⟩ => ⟨S8x2048x1, .f32⟩
  | .hbm, ⟨68, _⟩ => ⟨S8x2048x1, .f32⟩
  | .hbm, ⟨69, _⟩ => ⟨S8x2048x2304, .f32⟩
  | .hbm, ⟨70, _⟩ => ⟨S8x2048x2304, .f32⟩
  | .hbm, ⟨71, _⟩ => ⟨S_, .f32⟩
  | .hbm, ⟨72, _⟩ => ⟨S8x2048, .f32⟩
  | .hbm, ⟨73, _⟩ => ⟨S8x2048x2304, .f32⟩
  | .hbm, ⟨74, _⟩ => ⟨S8x2048x2304, .f32⟩
  | .hbm, ⟨75, _⟩ => ⟨S8x2048x2304, .f32⟩
  | .hbm, ⟨76, _⟩ => ⟨S_, .f32⟩
  | .hbm, ⟨77, _⟩ => ⟨S8x2048x2304, .f32⟩
  | .hbm, ⟨78, _⟩ => ⟨S8x2048x2304, .f32⟩
  | .hbm, ⟨79, _⟩ => ⟨S8x2304x128, .f32⟩
  | .hbm, ⟨80, _⟩ => ⟨S2304x8x128, .f32⟩
  | .hbm, ⟨81, _⟩ => ⟨S8x2048x128, .f32⟩
  | .hbm, ⟨82, _⟩ => ⟨S2048x8x128, .f32⟩
  | .hbm, ⟨83, _⟩ => ⟨S2048x1024, .f32⟩
  | .hbm, ⟨84, _⟩ => ⟨S2304x1024, .f32⟩
  | .hbm, ⟨85, _⟩ => ⟨S2304x1024, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== DHid.lean ====
abbrev S2304x1024 : Shape := ⟨2, ![2304, 1024]⟩
abbrev S4x704x1024 : Shape := ⟨3, ![4, 704, 1024]⟩
abbrev S4x2304x704 : Shape := ⟨3, ![4, 2304, 704]⟩
abbrev S1152x1024 : Shape := ⟨2, ![1152, 1024]⟩
abbrev S1x704x1024 : Shape := ⟨3, ![1, 704, 1024]⟩
abbrev S1x1152x704 : Shape := ⟨3, ![1, 1152, 704]⟩
abbrev S704x1024 : Shape := ⟨2, ![704, 1024]⟩
abbrev S1152x704 : Shape := ⟨2, ![1152, 704]⟩

abbrev nBuf : Space → Nat
  | .hbm => 6
  | .vmem => 12
  | .smem => 0
  | _ => 0

abbrev bufTy : (tb : Table) → Fin (tcTables nBuf tb) → BufTy
  | .hbm, ⟨0, _⟩ => ⟨S2304x1024, .bf16⟩
  | .hbm, ⟨1, _⟩ => ⟨S4x704x1024, .bf16⟩
  | .hbm, ⟨2, _⟩ => ⟨S4x2304x704, .bf16⟩
  | .hbm, ⟨3, _⟩ => ⟨S4x2304x704, .bf16⟩
  | .hbm, ⟨4, _⟩ => ⟨S4x2304x704, .bf16⟩
  | .hbm, ⟨5, _⟩ => ⟨S4x2304x704, .bf16⟩
  | .local _ .vmem, ⟨0, _⟩ => ⟨S1152x1024, .bf16⟩
  | .local _ .vmem, ⟨1, _⟩ => ⟨S1152x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1152x704, .bf16⟩
  | .local _ .vmem, ⟨5, _⟩ => ⟨S1x1152x704, .bf16⟩
  | .local _ .vmem, ⟨6, _⟩ => ⟨S1x1152x704, .bf16⟩
  | .local _ .vmem, ⟨7, _⟩ => ⟨S1x1152x704, .bf16⟩
  | .local _ .vmem, ⟨8, _⟩ => ⟨S1x1152x704, .bf16⟩
  | .local _ .vmem, ⟨9, _⟩ => ⟨S1x1152x704, .bf16⟩
  | .local _ .vmem, ⟨10, _⟩ => ⟨S1x1152x704, .bf16⟩
  | .local _ .vmem, ⟨11, _⟩ => ⟨S1x1152x704, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1152x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1152x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1152x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1152x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DHidRefIdeal.lean ====
abbrev S2304x1024 : Shape := ⟨2, ![2304, 1024]⟩
abbrev S4x704x1024 : Shape := ⟨3, ![4, 704, 1024]⟩
abbrev S4x2304x704 : Shape := ⟨3, ![4, 2304, 704]⟩
abbrev S_ : Shape := ⟨0, ![]⟩
abbrev S2304x4x704 : Shape := ⟨3, ![2304, 4, 704]⟩

abbrev nBuf : Space → Nat
  | .hbm => 33
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S4x704x1024, .bf16⟩
  | .hbm, ⟨2, _⟩ => ⟨S4x2304x704, .bf16⟩
  | .hbm, ⟨3, _⟩ => ⟨S4x2304x704, .bf16⟩
  | .hbm, ⟨4, _⟩ => ⟨S2304x1024, .f32⟩
  | .hbm, ⟨5, _⟩ => ⟨S4x704x1024, .f32⟩
  | .hbm, ⟨6, _⟩ => ⟨S4x2304x704, .f32⟩
  | .hbm, ⟨7, _⟩ => ⟨S4x2304x704, .f32⟩
  | .hbm, ⟨8, _⟩ => ⟨S4x2304x704, .f32⟩
  | .hbm, ⟨9, _⟩ => ⟨S4x2304x704, .f32⟩
  | .hbm, ⟨10, _⟩ => ⟨S_, .f32⟩
  | .hbm, ⟨11, _⟩ => ⟨S4x2304x704, .f32⟩
  | .hbm, ⟨12, _⟩ => ⟨S4x2304x704, .f32⟩
  | .hbm, ⟨13, _⟩ => ⟨S_, .f32⟩
  | .hbm, ⟨14, _⟩ => ⟨S4x2304x704, .f32⟩
  | .hbm, ⟨15, _⟩ => ⟨S4x2304x704, .f32⟩
  | .hbm, ⟨16, _⟩ => ⟨S_, .f32⟩
  | .hbm, ⟨17, _⟩ => ⟨S4x2304x704, .f32⟩
  | .hbm, ⟨18, _⟩ => ⟨S4x2304x704, .f32⟩
  | .hbm, ⟨19, _⟩ => ⟨S4x2304x704, .f32⟩
  | .hbm, ⟨20, _⟩ => ⟨S4x2304x704, .f32⟩
  | .hbm, ⟨21, _⟩ => ⟨S4x2304x704, .f32⟩
  | .hbm, ⟨22, _⟩ => ⟨S2304x1024, .f32⟩
  | .hbm, ⟨23, _⟩ => ⟨S2304x4x704, .f32⟩
  | .hbm, ⟨24, _⟩ => ⟨S4x2304x704, .f32⟩
  | .hbm, ⟨25, _⟩ => ⟨S4x2304x704, .f32⟩
  | .hbm, ⟨26, _⟩ => ⟨S4x2304x704, .f32⟩
  | .hbm, ⟨27, _⟩ => ⟨S4x2304x704, .f32⟩
  | .hbm, ⟨28, _⟩ => ⟨S4x2304x704, .f32⟩
  | .hbm, ⟨29, _⟩ => ⟨S4x2304x704, .f32⟩
  | .hbm, ⟨30, _⟩ => ⟨S4x2304x704, .f32⟩
  | .hbm, ⟨31, _⟩ => ⟨S4x2304x704, .bf16⟩
  | .hbm, ⟨32, _⟩ => ⟨S4x2304x704, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== DU.lean ====
abbrev S4x2304x704 : Shape := ⟨3, ![4, 2304, 704]⟩
abbrev S4x1x1024x704 : Shape := ⟨4, ![4, 1, 1024, 704]⟩
abbrev S2304x1024 : Shape := ⟨2, ![2304, 1024]⟩
abbrev S4x768x704 : Shape := ⟨3, ![4, 768, 704]⟩
abbrev S768x1024 : Shape := ⟨2, ![768, 1024]⟩
abbrev S1x768x704 : Shape := ⟨3, ![1, 768, 704]⟩
abbrev S768x704 : Shape := ⟨2, ![768, 704]⟩
abbrev S1x1x1024x704 : Shape := ⟨4, ![1, 1, 1024, 704]⟩
abbrev S1024x704 : Shape := ⟨2, ![1024, 704]⟩

abbrev nBuf : Space → Nat
  | .hbm => 5
  | .vmem => 8
  | .smem => 0
  | _ => 0

abbrev bufTy : (tb : Table) → Fin (tcTables nBuf tb) → BufTy
  | .hbm, ⟨0, _⟩ => ⟨S4x2304x704, .bf16⟩
  | .hbm, ⟨1, _⟩ => ⟨S4x2304x704, .bf16⟩
  | .hbm, ⟨2, _⟩ => ⟨S4x1x1024x704, .bf16⟩
  | .hbm, ⟨3, _⟩ => ⟨S4x1x1024x704, .bf16⟩
  | .hbm, ⟨4, _⟩ => ⟨S2304x1024, .f32⟩
  | .local _ .vmem, ⟨0, _⟩ => ⟨S4x768x704, .bf16⟩
  | .local _ .vmem, ⟨1, _⟩ => ⟨S4x768x704, .bf16⟩
  | .local _ .vmem, ⟨2, _⟩ => ⟨S4x768x704, .bf16⟩
  | .local _ .vmem, ⟨3, _⟩ => ⟨S4x768x704, .bf16⟩
  | .local _ .vmem, ⟨4, _⟩ => ⟨S4x1x1024x704, .bf16⟩
  | .local _ .vmem, ⟨5, _⟩ => ⟨S4x1x1024x704, .bf16⟩
  | .local _ .vmem, ⟨6, _⟩ => ⟨S768x1024, .f32⟩
  | .local _ .vmem, ⟨7, _⟩ => ⟨S768x1024, .f32⟩
  | _, _ => ⟨S4x2304x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x768x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x768x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DURefIdeal.lean ====
abbrev S4x2304x704 : Shape := ⟨3, ![4, 2304, 704]⟩
abbrev S4x1x1024x704 : Shape := ⟨4, ![4, 1, 1024, 704]⟩
abbrev S4x1024x704 : Shape := ⟨3, ![4, 1024, 704]⟩
abbrev S_ : Shape := ⟨0, ![]⟩
abbrev S2304x1024 : Shape := ⟨2, ![2304, 1024]⟩
abbrev S4x704x2304 : Shape := ⟨3, ![4, 704, 2304]⟩

abbrev nBuf : Space → Nat
  | .hbm => 21
  | .vmem => 0
  | .smem => 0
  | _ => 0

abbrev bufTy : (tb : Table) → Fin (tcTables nBuf tb) → BufTy
  | .hbm, ⟨0, _⟩ => ⟨S4x2304x704, .bf16⟩
  | .hbm, ⟨1, _⟩ => ⟨S4x2304x704, .bf16⟩
  | .hbm, ⟨2, _⟩ => ⟨S4x1x1024x704, .bf16⟩
  | .hbm, ⟨3, _⟩ => ⟨S4x1x1024x704, .bf16⟩
  | .hbm, ⟨4, _⟩ => ⟨S4x1024x704, .bf16⟩
  | .hbm, ⟨5, _⟩ => ⟨S4x1024x704, .bf16⟩
  | .hbm, ⟨6, _⟩ => ⟨S4x2304x704, .f32⟩
  | .hbm, ⟨7, _⟩ => ⟨S4x2304x704, .f32⟩
  | .hbm, ⟨8, _⟩ => ⟨S4x1024x704, .f32⟩
  | .hbm, ⟨9, _⟩ => ⟨S4x1024x704, .f32⟩
  | .hbm, ⟨10, _⟩ => ⟨S_, .f32⟩
  | .hbm, ⟨11, _⟩ => ⟨S2304x1024, .f32⟩
  | .hbm, ⟨12, _⟩ => ⟨S4x704x2304, .f32⟩
  | .hbm, ⟨13, _⟩ => ⟨S4x2304x704, .f32⟩
  | .hbm, ⟨14, _⟩ => ⟨S4x704x2304, .f32⟩
  | .hbm, ⟨15, _⟩ => ⟨S4x2304x704, .f32⟩
  | .hbm, ⟨16, _⟩ => ⟨S4x704x2304, .f32⟩
  | .hbm, ⟨17, _⟩ => ⟨S2304x1024, .f32⟩
  | .hbm, ⟨18, _⟩ => ⟨S4x704x2304, .f32⟩
  | .hbm, ⟨19, _⟩ => ⟨S2304x1024, .f32⟩
  | .hbm, ⟨20, _⟩ => ⟨S2304x1024, .f32⟩
  | _, _ => ⟨S4x2304x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== DWIn.lean ====
abbrev S2304x1024 : Shape := ⟨2, ![2304, 1024]⟩
abbrev S4x2304x704 : Shape := ⟨3, ![4, 2304, 704]⟩
abbrev S4x1024x704 : Shape := ⟨3, ![4, 1024, 704]⟩
abbrev S1x2304x704 : Shape := ⟨3, ![1, 2304, 704]⟩
abbrev S1x1024x704 : Shape := ⟨3, ![1, 1024, 704]⟩
abbrev S1024x2304 : Shape := ⟨2, ![1024, 2304]⟩
abbrev S2304x704 : Shape := ⟨2, ![2304, 704]⟩
abbrev S1024x704 : Shape := ⟨2, ![1024, 704]⟩

abbrev nBuf : Space → Nat
  | .hbm => 7
  | .vmem => 9
  | .smem => 0
  | _ => 0

abbrev bufTy : (tb : Table) → Fin (tcTables nBuf tb) → BufTy
  | .hbm, ⟨0, _⟩ => ⟨S2304x1024, .bf16⟩
  | .hbm, ⟨1, _⟩ => ⟨S4x2304x704, .bf16⟩
  | .hbm, ⟨2, _⟩ => ⟨S4x2304x704, .bf16⟩
  | .hbm, ⟨3, _⟩ => ⟨S4x1024x704, .bf16⟩
  | .hbm, ⟨4, _⟩ => ⟨S4x1024x704, .bf16⟩
  | .hbm, ⟨5, _⟩ => ⟨S4x1024x704, .bf16⟩
  | .hbm, ⟨6, _⟩ => ⟨S4x1024x704, .bf16⟩
  | .local _ .vmem, ⟨0, _⟩ => ⟨S2304x1024, .bf16⟩
  | .local _ .vmem, ⟨1, _⟩ => ⟨S1x2304x704, .bf16⟩
  | .local _ .vmem, ⟨2, _⟩ => ⟨S1x2304x704, .bf16⟩
  | .local _ .vmem, ⟨3, _⟩ => ⟨S1x2304x704, .bf16⟩
  | .local _ .vmem, ⟨4, _⟩ => ⟨S1x2304x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2304x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DWInRefIdeal.lean ====
abbrev S2304x1024 : Shape := ⟨2, ![2304, 1024]⟩
abbrev S4x2304x704 : Shape := ⟨3, ![4, 2304, 704]⟩
abbrev S4x1024x704 : Shape := ⟨3, ![4, 1024, 704]⟩
abbrev S_ : Shape := ⟨0, ![]⟩
abbrev S4x704x2304 : Shape := ⟨3, ![4, 704, 2304]⟩
abbrev S4x704x1024 : Shape := ⟨3, ![4, 704, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S4x2304x704, .bf16⟩
  | .hbm, ⟨2, _⟩ => ⟨S4x2304x704, .bf16⟩
  | .hbm, ⟨3, _⟩ => ⟨S4x1024x704, .bf16⟩
  | .hbm, ⟨4, _⟩ => ⟨S4x1024x704, .bf16⟩
  | .hbm, ⟨5, _⟩ => ⟨S2304x1024, .f32⟩
  | .hbm, ⟨6, _⟩ => ⟨S4x2304x704, .f32⟩
  | .hbm, ⟨7, _⟩ => ⟨S4x2304x704, .f32⟩
  | .hbm, ⟨8, _⟩ => ⟨S_, .f32⟩
  | .hbm, ⟨9, _⟩ => ⟨S4x1024x704, .f32⟩
  | .hbm, ⟨10, _⟩ => ⟨S4x704x2304, .f32⟩
  | .hbm, ⟨11, _⟩ => ⟨S4x2304x704, .f32⟩
  | .hbm, ⟨12, _⟩ => ⟨S4x704x2304, .f32⟩
  | .hbm, ⟨13, _⟩ => ⟨S4x2304x704, .f32⟩
  | .hbm, ⟨14, _⟩ => ⟨S4x704x2304, .f32⟩
  | .hbm, ⟨15, _⟩ => ⟨S4x704x1024, .f32⟩
  | .hbm, ⟨16, _⟩ => ⟨S4x1024x704, .f32⟩
  | .hbm, ⟨17, _⟩ => ⟨S4x704x2304, .f32⟩
  | .hbm, ⟨18, _⟩ => ⟨S4x704x1024, .f32⟩
  | .hbm, ⟨19, _⟩ => ⟨S4x1024x704, .f32⟩
  | .hbm, ⟨20, _⟩ => ⟨S4x1024x704, .bf16⟩
  | .hbm, ⟨21, _⟩ => ⟨S4x1024x704, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== DWDown.lean ====
abbrev S4x2304x704 : Shape := ⟨3, ![4, 2304, 704]⟩
abbrev S2304x1024 : Shape := ⟨2, ![2304, 1024]⟩
abbrev S4x704x1024 : Shape := ⟨3, ![4, 704, 1024]⟩
abbrev S1x2304x704 : Shape := ⟨3, ![1, 2304, 704]⟩
abbrev S2304x512 : Shape := ⟨2, ![2304, 512]⟩
abbrev S1x704x512 : Shape := ⟨3, ![1, 704, 512]⟩
abbrev S2304x704 : Shape := ⟨2, ![2304, 704]⟩
abbrev S704x512 : Shape := ⟨2, ![704, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x2304x704, .bf16⟩
  | .hbm, ⟨1, _⟩ => ⟨S2304x1024, .bf16⟩
  | .hbm, ⟨2, _⟩ => ⟨S4x704x1024, .bf16⟩
  | .hbm, ⟨3, _⟩ => ⟨S4x704x1024, .bf16⟩
  | .local _ .vmem, ⟨0, _⟩ => ⟨S1x2304x704, .bf16⟩
  | .local _ .vmem, ⟨1, _⟩ => ⟨S1x2304x704, .bf16⟩
  | .local _ .vmem, ⟨2, _⟩ => ⟨S2304x512, .bf16⟩
  | .local _ .vmem, ⟨3, _⟩ => ⟨S2304x512, .bf16⟩
  | .local _ .vmem, ⟨4, _⟩ => ⟨S1x704x512, .bf16⟩
  | .local _ .vmem, ⟨5, _⟩ => ⟨S1x704x512, .bf16⟩
  | _, _ => ⟨S4x2304x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DWDownRefIdeal.lean ====
abbrev S4x2304x704 : Shape := ⟨3, ![4, 2304, 704]⟩
abbrev S2304x1024 : Shape := ⟨2, ![2304, 1024]⟩
abbrev S4x704x1024 : Shape := ⟨3, ![4, 704, 1024]⟩
abbrev S_ : Shape := ⟨0, ![]⟩
abbrev S1024x4x704 : Shape := ⟨3, ![1024, 4, 704]⟩

abbrev nBuf : Space → Nat
  | .hbm => 11
  | .vmem => 0
  | .smem => 0
  | _ => 0

abbrev bufTy : (tb : Table) → Fin (tcTables nBuf tb) → BufTy
  | .hbm, ⟨0, _⟩ => ⟨S4x2304x704, .bf16⟩
  | .hbm, ⟨1, _⟩ => ⟨S2304x1024, .bf16⟩
  | .hbm, ⟨2, _⟩ => ⟨S4x704x1024, .bf16⟩
  | .hbm, ⟨3, _⟩ => ⟨S4x2304x704, .f32⟩
  | .hbm, ⟨4, _⟩ => ⟨S2304x1024, .f32⟩
  | .hbm, ⟨5, _⟩ => ⟨S_, .f32⟩
  | .hbm, ⟨6, _⟩ => ⟨S4x704x1024, .f32⟩
  | .hbm, ⟨7, _⟩ => ⟨S2304x1024, .f32⟩
  | .hbm, ⟨8, _⟩ => ⟨S1024x4x704, .f32⟩
  | .hbm, ⟨9, _⟩ => ⟨S4x704x1024, .f32⟩
  | .hbm, ⟨10, _⟩ => ⟨S4x704x1024, .bf16⟩
  | _, _ => ⟨S4x2304x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Up.lean ====
abbrev S2304x1024 : Shape := ⟨2, ![2304, 1024]⟩
abbrev S4x1x1024x704 : Shape := ⟨4, ![4, 1, 1024, 704]⟩
abbrev S4x2304x704 : Shape := ⟨3, ![4, 2304, 704]⟩
abbrev S1152x1024 : Shape := ⟨2, ![1152, 1024]⟩
abbrev S1x1x1024x704 : Shape := ⟨4, ![1, 1, 1024, 704]⟩
abbrev S1x1152x704 : Shape := ⟨3, ![1, 1152, 704]⟩
abbrev S1024x704 : Shape := ⟨2, ![1024, 704]⟩
abbrev S1152x704 : Shape := ⟨2, ![1152, 704]⟩

abbrev nBuf : Space → Nat
  | .hbm => 6
  | .vmem => 12
  | .smem => 0
  | _ => 0

abbrev bufTy : (tb : Table) → Fin (tcTables nBuf tb) → BufTy
  | .hbm, ⟨0, _⟩ => ⟨S2304x1024, .bf16⟩
  | .hbm, ⟨1, _⟩ => ⟨S4x1x1024x704, .bf16⟩
  | .hbm, ⟨2, _⟩ => ⟨S4x1x1024x704, .bf16⟩
  | .hbm, ⟨3, _⟩ => ⟨S4x2304x704, .bf16⟩
  | .hbm, ⟨4, _⟩ => ⟨S4x2304x704, .bf16⟩
  | .hbm, ⟨5, _⟩ => ⟨S4x2304x704, .bf16⟩
  | .local _ .vmem, ⟨0, _⟩ => ⟨S1152x1024, .bf16⟩
  | .local _ .vmem, ⟨1, _⟩ => ⟨S1152x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1152x704, .bf16⟩
  | .local _ .vmem, ⟨7, _⟩ => ⟨S1x1152x704, .bf16⟩
  | .local _ .vmem, ⟨8, _⟩ => ⟨S1x1152x704, .bf16⟩
  | .local _ .vmem, ⟨9, _⟩ => ⟨S1x1152x704, .bf16⟩
  | .local _ .vmem, ⟨10, _⟩ => ⟨S1x1152x704, .bf16⟩
  | .local _ .vmem, ⟨11, _⟩ => ⟨S1x1152x704, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1152x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1152x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1152x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S2304x1024 : Shape := ⟨2, ![2304, 1024]⟩
abbrev S4x1x1024x704 : Shape := ⟨4, ![4, 1, 1024, 704]⟩
abbrev S4x1024x704 : Shape := ⟨3, ![4, 1024, 704]⟩
abbrev S4x704x2304 : Shape := ⟨3, ![4, 704, 2304]⟩
abbrev S4x2304x704 : Shape := ⟨3, ![4, 2304, 704]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S4x1x1024x704, .bf16⟩
  | .hbm, ⟨2, _⟩ => ⟨S4x1x1024x704, .bf16⟩
  | .hbm, ⟨3, _⟩ => ⟨S2304x1024, .f32⟩
  | .hbm, ⟨4, _⟩ => ⟨S4x1024x704, .bf16⟩
  | .hbm, ⟨5, _⟩ => ⟨S4x1024x704, .f32⟩
  | .hbm, ⟨6, _⟩ => ⟨S4x1024x704, .bf16⟩
  | .hbm, ⟨7, _⟩ => ⟨S4x1024x704, .f32⟩
  | .hbm, ⟨8, _⟩ => ⟨S4x704x2304, .f32⟩
  | .hbm, ⟨9, _⟩ => ⟨S4x2304x704, .f32⟩
  | .hbm, ⟨10, _⟩ => ⟨S4x704x2304, .f32⟩
  | .hbm, ⟨11, _⟩ => ⟨S4x2304x704, .f32⟩
  | .hbm, ⟨12, _⟩ => ⟨S4x2304x704, .bf16⟩
  | .hbm, ⟨13, _⟩ => ⟨S4x2304x704, .bf16⟩
  | .hbm, ⟨14, _⟩ => ⟨S4x2304x704, .f32⟩
  | .hbm, ⟨15, _⟩ => ⟨S4x2304x704, .f32⟩
  | .hbm, ⟨16, _⟩ => ⟨S_, .f32⟩
  | .hbm, ⟨17, _⟩ => ⟨S4x2304x704, .f32⟩
  | .hbm, ⟨18, _⟩ => ⟨S4x2304x704, .f32⟩
  | .hbm, ⟨19, _⟩ => ⟨S_, .f32⟩
  | .hbm, ⟨20, _⟩ => ⟨S4x2304x704, .f32⟩
  | .hbm, ⟨21, _⟩ => ⟨S4x2304x704, .f32⟩
  | .hbm, ⟨22, _⟩ => ⟨S4x2304x704, .f32⟩
  | .hbm, ⟨23, _⟩ => ⟨S4x2304x704, .f32⟩
  | .hbm, ⟨24, _⟩ => ⟨S4x2304x704, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Down.lean ====
abbrev S4x2304x704 : Shape := ⟨3, ![4, 2304, 704]⟩
abbrev S4x704x1024 : Shape := ⟨3, ![4, 704, 1024]⟩
abbrev S2304x1024 : Shape := ⟨2, ![2304, 1024]⟩
abbrev S2x16x1024 : Shape := ⟨3, ![2, 16, 1024]⟩
abbrev S4x768x704 : Shape := ⟨3, ![4, 768, 704]⟩
abbrev S768x1024 : Shape := ⟨2, ![768, 1024]⟩
abbrev S1x768x704 : Shape := ⟨3, ![1, 768, 704]⟩
abbrev S768x704 : Shape := ⟨2, ![768, 704]⟩
abbrev S1x704x1024 : Shape := ⟨3, ![1, 704, 1024]⟩
abbrev S704x1024 : Shape := ⟨2, ![704, 1024]⟩
abbrev S1x1x1024 : Shape := ⟨3, ![1, 1, 1024]⟩
abbrev S1x1024 : Shape := ⟨2, ![1, 1024]⟩
abbrev S768x1 : Shape := ⟨2, ![768, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x2304x704, .bf16⟩
  | .hbm, ⟨1, _⟩ => ⟨S4x704x1024, .bf16⟩
  | .hbm, ⟨2, _⟩ => ⟨S2304x1024, .f32⟩
  | .hbm, ⟨3, _⟩ => ⟨S2x16x1024, .f32⟩
  | .hbm, ⟨4, _⟩ => ⟨S2304x1024, .f32⟩
  | .hbm, ⟨5, _⟩ => ⟨S2304x1024, .f32⟩
  | .local _ .vmem, ⟨0, _⟩ => ⟨S4x768x704, .bf16⟩
  | .local _ .vmem, ⟨1, _⟩ => ⟨S4x768x704, .bf16⟩
  | .local _ .vmem, ⟨2, _⟩ => ⟨S4x704x1024, .bf16⟩
  | .local _ .vmem, ⟨3, _⟩ => ⟨S768x1024, .f32⟩
  | .local _ .vmem, ⟨4, _⟩ => ⟨S768x1024, .f32⟩
  | .local _ .vmem, ⟨5, _⟩ => ⟨S2x16x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | _, _ => ⟨S4x2304x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x768x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S4x2304x704 : Shape := ⟨3, ![4, 2304, 704]⟩
abbrev S4x704x1024 : Shape := ⟨3, ![4, 704, 1024]⟩
abbrev S2304x1024 : Shape := ⟨2, ![2304, 1024]⟩
abbrev S2x16x1024 : Shape := ⟨3, ![2, 16, 1024]⟩
abbrev S1x1x1024 : Shape := ⟨3, ![1, 1, 1024]⟩
abbrev S1x1024 : Shape := ⟨2, ![1, 1024]⟩
abbrev S2048x1024 : Shape := ⟨2, ![2048, 1024]⟩
abbrev S256x1024 : Shape := ⟨2, ![256, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4x2304x704, .bf16⟩
  | .hbm, ⟨1, _⟩ => ⟨S4x704x1024, .bf16⟩
  | .hbm, ⟨2, _⟩ => ⟨S2304x1024, .f32⟩
  | .hbm, ⟨3, _⟩ => ⟨S2x16x1024, .f32⟩
  | .hbm, ⟨4, _⟩ => ⟨S4x2304x704, .f32⟩
  | .hbm, ⟨5, _⟩ => ⟨S4x704x1024, .f32⟩
  | .hbm, ⟨6, _⟩ => ⟨S2304x1024, .f32⟩
  | .hbm, ⟨7, _⟩ => ⟨S1x1x1024, .f32⟩
  | .hbm, ⟨8, _⟩ => ⟨S1x1024, .f32⟩
  | .hbm, ⟨9, _⟩ => ⟨S2048x1024, .f32⟩
  | .hbm, ⟨10, _⟩ => ⟨S1x1x1024, .f32⟩
  | .hbm, ⟨11, _⟩ => ⟨S1x1024, .f32⟩
  | .hbm, ⟨12, _⟩ => ⟨S256x1024, .f32⟩
  | .hbm, ⟨13, _⟩ => ⟨S2304x1024, .f32⟩
  | .hbm, ⟨14, _⟩ => ⟨S_, .f32⟩
  | .hbm, ⟨15, _⟩ => ⟨S2304x1024, .f32⟩
  | .hbm, ⟨16, _⟩ => ⟨S2304x1024, .f32⟩
  | .hbm, ⟨17, _⟩ => ⟨S2304x1024, .f32⟩
  | .hbm, ⟨18, _⟩ => ⟨S2304x1024, .f32⟩
  | _, _ => ⟨S4x2304x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ConvIn.lean ====
abbrev S3x2048x1024 : Shape := ⟨3, ![3, 2048, 1024]⟩
abbrev S1024x3072 : Shape := ⟨2, ![1024, 3072]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S3x2048x1024, .bf16⟩
  | .hbm, ⟨1, _⟩ => ⟨S1024x3072, .bf16⟩
  | .hbm, ⟨2, _⟩ => ⟨S2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c2_i32 : BitVec 32 := 2#32
  let v10 : BitVec 1 := Scalar.cmpi .eq arg1 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ConvInRefIdeal.lean ====
abbrev S3x2048x1024 : Shape := ⟨3, ![3, 2048, 1024]⟩
abbrev S1024x3072 : Shape := ⟨2, ![1024, 3072]⟩
abbrev S1x2048x1024 : Shape := ⟨3, ![1, 2048, 1024]⟩
abbrev S2048x1024 : Shape := ⟨2, ![2048, 1024]⟩
abbrev S2048x3072 : Shape := ⟨2, ![2048, 3072]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S3x2048x1024, .bf16⟩
  | .hbm, ⟨1, _⟩ => ⟨S1024x3072, .bf16⟩
  | .hbm, ⟨2, _⟩ => ⟨S1x2048x1024, .bf16⟩
  | .hbm, ⟨3, _⟩ => ⟨S2048x1024, .bf16⟩
  | .hbm, ⟨4, _⟩ => ⟨S1x2048x1024, .bf16⟩
  | .hbm, ⟨5, _⟩ => ⟨S2048x1024, .bf16⟩
  | .hbm, ⟨6, _⟩ => ⟨S1x2048x1024, .bf16⟩
  | .hbm, ⟨7, _⟩ => ⟨S2048x1024, .bf16⟩
  | .hbm, ⟨8, _⟩ => ⟨S2048x3072, .bf16⟩
  | .hbm, ⟨9, _⟩ => ⟨S2048x3072, .f32⟩
  | .hbm, ⟨10, _⟩ => ⟨S_, .f32⟩
  | .hbm, ⟨11, _⟩ => ⟨S2048x1024, .f32⟩
  | .hbm, ⟨12, _⟩ => ⟨S1024x3072, .f32⟩
  | .hbm, ⟨13, _⟩ => ⟨S2048x3072, .f32⟩
  | .hbm, ⟨14, _⟩ => ⟨S2048x1024, .f32⟩
  | _, _ => ⟨S3x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== ConvW.lean ====
abbrev S2048x1024 : Shape := ⟨2, ![2048, 1024]⟩
abbrev S3x2048x1024 : Shape := ⟨3, ![3, 2048, 1024]⟩
abbrev S1024x3072 : Shape := ⟨2, ![1024, 3072]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S3x2048x1024, .bf16⟩
  | .hbm, ⟨2, _⟩ => ⟨S1024x3072, .f32⟩
  | .local _ .vmem, ⟨0, _⟩ => ⟨S2048x1024, .bf16⟩
  | .local _ .vmem, ⟨1, _⟩ => ⟨S1x2048x512, .bf16⟩
  | .local _ .vmem, ⟨2, _⟩ => ⟨S1x2048x512, .bf16⟩
  | .local _ .vmem, ⟨3, _⟩ => ⟨S1024x512, .f32⟩
  | .local _ .vmem, ⟨4, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvWRefIdeal.lean ====
abbrev S2048x1024 : Shape := ⟨2, ![2048, 1024]⟩
abbrev S3x2048x1024 : Shape := ⟨3, ![3, 2048, 1024]⟩
abbrev S1x2048x1024 : Shape := ⟨3, ![1, 2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3x2048x1024, .bf16⟩
  | .hbm, ⟨2, _⟩ => ⟨S1x2048x1024, .bf16⟩
  | .hbm, ⟨3, _⟩ => ⟨S2048x1024, .bf16⟩
  | .hbm, ⟨4, _⟩ => ⟨S1x2048x1024, .bf16⟩
  | .hbm, ⟨5, _⟩ => ⟨S2048x1024, .bf16⟩
  | .hbm, ⟨6, _⟩ => ⟨S1x2048x1024, .bf16⟩
  | .hbm, ⟨7, _⟩ => ⟨S2048x1024, .bf16⟩
  | .hbm, ⟨8, _⟩ => ⟨S2048x3072, .bf16⟩
  | .hbm, ⟨9, _⟩ => ⟨S2048x3072, .f32⟩
  | .hbm, ⟨10, _⟩ => ⟨S_, .f32⟩
  | .hbm, ⟨11, _⟩ => ⟨S1024x3072, .f32⟩
  | .hbm, ⟨12, _⟩ => ⟨S2048x1024, .f32⟩
  | .hbm, ⟨13, _⟩ => ⟨S2048x3072, .f32⟩
  | .hbm, ⟨14, _⟩ => ⟨S3072x1024, .f32⟩
  | .hbm, ⟨15, _⟩ => ⟨S1024x3072, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== MixIn.lean ====
abbrev S2304x1024 : Shape := ⟨2, ![2304, 1024]⟩
abbrev S1536x1024 : Shape := ⟨2, ![1536, 1024]⟩
abbrev S2304x1536 : Shape := ⟨2, ![2304, 1536]⟩
abbrev S768x1024 : Shape := ⟨2, ![768, 1024]⟩
abbrev S768x1536 : Shape := ⟨2, ![768, 1536]⟩

abbrev nBuf : Space → Nat
  | .hbm => 3
  | .vmem => 5
  | .smem => 0
  | _ => 0

abbrev bufTy : (tb : Table) → Fin (tcTables nBuf tb) → BufTy
  | .hbm, ⟨0, _⟩ => ⟨S2304x1024, .bf16⟩
  | .hbm, ⟨1, _⟩ => ⟨S1536x1024, .bf16⟩
  | .hbm, ⟨2, _⟩ => ⟨S2304x1536, .f32⟩
  | .local _ .vmem, ⟨0, _⟩ => ⟨S768x1024, .bf16⟩
  | .local _ .vmem, ⟨1, _⟩ => ⟨S768x1024, .bf16⟩
  | .local _ .vmem, ⟨2, _⟩ => ⟨S1536x1024, .bf16⟩
  | .local _ .vmem, ⟨3, _⟩ => ⟨S768x1536, .f32⟩
  | .local _ .vmem, ⟨4, _⟩ => ⟨S768x1536, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixInRefIdeal.lean ====
abbrev S2304x1024 : Shape := ⟨2, ![2304, 1024]⟩
abbrev S1536x1024 : Shape := ⟨2, ![1536, 1024]⟩
abbrev S_ : Shape := ⟨0, ![]⟩
abbrev S2304x1536 : Shape := ⟨2, ![2304, 1536]⟩

abbrev nBuf : Space → Nat
  | .hbm => 8
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1536x1024, .bf16⟩
  | .hbm, ⟨2, _⟩ => ⟨S_, .f32⟩
  | .hbm, ⟨3, _⟩ => ⟨S2304x1536, .f32⟩
  | .hbm, ⟨4, _⟩ => ⟨S1536x1024, .f32⟩
  | .hbm, ⟨5, _⟩ => ⟨S2304x1024, .f32⟩
  | .hbm, ⟨6, _⟩ => ⟨S2304x1024, .f32⟩
  | .hbm, ⟨7, _⟩ => ⟨S2304x1536, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixW.lean ====
abbrev S2304x1536 : Shape := ⟨2, ![2304, 1536]⟩
abbrev S2304x1024 : Shape := ⟨2, ![2304, 1024]⟩
abbrev S1536x1024 : Shape := ⟨2, ![1536, 1024]⟩
abbrev S2304x512 : Shape := ⟨2, ![2304, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2304x1536, .bf16⟩
  | .hbm, ⟨1, _⟩ => ⟨S2304x1024, .bf16⟩
  | .hbm, ⟨2, _⟩ => ⟨S1536x1024, .f32⟩
  | .local _ .vmem, ⟨0, _⟩ => ⟨S2304x512, .bf16⟩
  | .local _ .vmem, ⟨1, _⟩ => ⟨S2304x512, .bf16⟩
  | .local _ .vmem, ⟨2, _⟩ => ⟨S2304x512, .bf16⟩
  | .local _ .vmem, ⟨3, _⟩ => ⟨S2304x512, .bf16⟩
  | .local _ .vmem, ⟨4, _⟩ => ⟨S512x512, .f32⟩
  | .local _ .vmem, ⟨5, _⟩ => ⟨S512x512, .f32⟩
  | _, _ => ⟨S2304x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixWRefIdeal.lean ====
abbrev S2304x1536 : Shape := ⟨2, ![2304, 1536]⟩
abbrev S2304x1024 : Shape := ⟨2, ![2304, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S2304x1536, .bf16⟩
  | .hbm, ⟨1, _⟩ => ⟨S2304x1024, .bf16⟩
  | .hbm, ⟨2, _⟩ => ⟨S_, .f32⟩
  | .hbm, ⟨3, _⟩ => ⟨S1536x1024, .f32⟩
  | .hbm, ⟨4, _⟩ => ⟨S2304x1536, .f32⟩
  | .hbm, ⟨5, _⟩ => ⟨S2304x1024, .f32⟩
  | .hbm, ⟨6, _⟩ => ⟨S2304x1024, .f32⟩
  | .hbm, ⟨7, _⟩ => ⟨S1024x1536, .f32⟩
  | .hbm, ⟨8, _⟩ => ⟨S1536x1024, .f32⟩
  | _, _ => ⟨S2304x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DHidOne.lean ====
abbrev S2048x1024 : Shape := ⟨2, ![2048, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S4x704x1024, .bf16⟩
  | .hbm, ⟨2, _⟩ => ⟨S4x2048x704, .bf16⟩
  | .hbm, ⟨3, _⟩ => ⟨S4x2048x704, .bf16⟩
  | .hbm, ⟨4, _⟩ => ⟨S4x2048x704, .bf16⟩
  | .hbm, ⟨5, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DHidOneRefIdeal.lean ====
abbrev S2048x1024 : Shape := ⟨2, ![2048, 1024]⟩
abbrev S4x704x1024 : Shape := ⟨3, ![4, 704, 1024]⟩
abbrev S4x2048x704 : Shape := ⟨3, ![4, 2048, 704]⟩
abbrev S_ : Shape := ⟨0, ![]⟩
abbrev S2048x4x704 : Shape := ⟨3, ![2048, 4, 704]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x704x1024, .bf16⟩
  | .hbm, ⟨2, _⟩ => ⟨S4x2048x704, .bf16⟩
  | .hbm, ⟨3, _⟩ => ⟨S4x2048x704, .bf16⟩
  | .hbm, ⟨4, _⟩ => ⟨S2048x1024, .f32⟩
  | .hbm, ⟨5, _⟩ => ⟨S4x704x1024, .f32⟩
  | .hbm, ⟨6, _⟩ => ⟨S4x2048x704, .f32⟩
  | .hbm, ⟨7, _⟩ => ⟨S4x2048x704, .f32⟩
  | .hbm, ⟨8, _⟩ => ⟨S4x2048x704, .f32⟩
  | .hbm, ⟨9, _⟩ => ⟨S4x2048x704, .f32⟩
  | .hbm, ⟨10, _⟩ => ⟨S_, .f32⟩
  | .hbm, ⟨11, _⟩ => ⟨S4x2048x704, .f32⟩
  | .hbm, ⟨12, _⟩ => ⟨S4x2048x704, .f32⟩
  | .hbm, ⟨13, _⟩ => ⟨S_, .f32⟩
  | .hbm, ⟨14, _⟩ => ⟨S4x2048x704, .f32⟩
  | .hbm, ⟨15, _⟩ => ⟨S4x2048x704, .f32⟩
  | .hbm, ⟨16, _⟩ => ⟨S_, .f32⟩
  | .hbm, ⟨17, _⟩ => ⟨S4x2048x704, .f32⟩
  | .hbm, ⟨18, _⟩ => ⟨S4x2048x704, .f32⟩
  | .hbm, ⟨19, _⟩ => ⟨S4x2048x704, .f32⟩
  | .hbm, ⟨20, _⟩ => ⟨S4x2048x704, .f32⟩
  | .hbm, ⟨21, _⟩ => ⟨S4x2048x704, .f32⟩
  | .hbm, ⟨22, _⟩ => ⟨S2048x1024, .f32⟩
  | .hbm, ⟨23, _⟩ => ⟨S2048x4x704, .f32⟩
  | .hbm, ⟨24, _⟩ => ⟨S4x2048x704, .f32⟩
  | .hbm, ⟨25, _⟩ => ⟨S4x2048x704, .f32⟩
  | .hbm, ⟨26, _⟩ => ⟨S4x2048x704, .f32⟩
  | .hbm, ⟨27, _⟩ => ⟨S4x2048x704, .f32⟩
  | .hbm, ⟨28, _⟩ => ⟨S4x2048x704, .f32⟩
  | .hbm, ⟨29, _⟩ => ⟨S4x2048x704, .f32⟩
  | .hbm, ⟨30, _⟩ => ⟨S4x2048x704, .f32⟩
  | .hbm, ⟨31, _⟩ => ⟨S4x2048x704, .bf16⟩
  | .hbm, ⟨32, _⟩ => ⟨S4x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== DUOne.lean ====
abbrev S4x2048x704 : Shape := ⟨3, ![4, 2048, 704]⟩
abbrev S4x1x1024x704 : Shape := ⟨4, ![4, 1, 1024, 704]⟩
abbrev S2048x1024 : Shape := ⟨2, ![2048, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x1x1024x704 : Shape := ⟨4, ![1, 1, 1024, 704]⟩

abbrev nBuf : Space → Nat
  | .hbm => 5
  | .vmem => 8
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x1x1024x704, .bf16⟩
  | .hbm, ⟨3, _⟩ => ⟨S4x1x1024x704, .bf16⟩
  | .hbm, ⟨4, _⟩ => ⟨S2048x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x1024x704, .bf16⟩
  | .local _ .vmem, ⟨3, _⟩ => ⟨S4x1024x704, .bf16⟩
  | .local _ .vmem, ⟨4, _⟩ => ⟨S4x1x1024x704, .bf16⟩
  | .local _ .vmem, ⟨5, _⟩ => ⟨S4x1x1024x704, .bf16⟩
  | .local _ .vmem, ⟨6, _⟩ => ⟨S1024x1024, .f32⟩
  | .local _ .vmem, ⟨7, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DUOneRefIdeal.lean ====
abbrev S4x2048x704 : Shape := ⟨3, ![4, 2048, 704]⟩
abbrev S4x1x1024x704 : Shape := ⟨4, ![4, 1, 1024, 704]⟩
abbrev S4x1024x704 : Shape := ⟨3, ![4, 1024, 704]⟩
abbrev S_ : Shape := ⟨0, ![]⟩
abbrev S2048x1024 : Shape := ⟨2, ![2048, 1024]⟩
abbrev S4x704x2048 : Shape := ⟨3, ![4, 704, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x1x1024x704, .bf16⟩
  | .hbm, ⟨3, _⟩ => ⟨S4x1x1024x704, .bf16⟩
  | .hbm, ⟨4, _⟩ => ⟨S4x1024x704, .bf16⟩
  | .hbm, ⟨5, _⟩ => ⟨S4x1024x704, .bf16⟩
  | .hbm, ⟨6, _⟩ => ⟨S4x2048x704, .f32⟩
  | .hbm, ⟨7, _⟩ => ⟨S4x2048x704, .f32⟩
  | .hbm, ⟨8, _⟩ => ⟨S4x1024x704, .f32⟩
  | .hbm, ⟨9, _⟩ => ⟨S4x1024x704, .f32⟩
  | .hbm, ⟨10, _⟩ => ⟨S_, .f32⟩
  | .hbm, ⟨11, _⟩ => ⟨S2048x1024, .f32⟩
  | .hbm, ⟨12, _⟩ => ⟨S4x704x2048, .f32⟩
  | .hbm, ⟨13, _⟩ => ⟨S4x2048x704, .f32⟩
  | .hbm, ⟨14, _⟩ => ⟨S4x704x2048, .f32⟩
  | .hbm, ⟨15, _⟩ => ⟨S4x2048x704, .f32⟩
  | .hbm, ⟨16, _⟩ => ⟨S4x704x2048, .f32⟩
  | .hbm, ⟨17, _⟩ => ⟨S2048x1024, .f32⟩
  | .hbm, ⟨18, _⟩ => ⟨S4x704x2048, .f32⟩
  | .hbm, ⟨19, _⟩ => ⟨S2048x1024, .f32⟩
  | .hbm, ⟨20, _⟩ => ⟨S2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== DWInOne.lean ====
abbrev S2048x1024 : Shape := ⟨2, ![2048, 1024]⟩
abbrev S4x2048x704 : Shape := ⟨3, ![4, 2048, 704]⟩
abbrev S4x1024x704 : Shape := ⟨3, ![4, 1024, 704]⟩
abbrev S1x2048x704 : Shape := ⟨3, ![1, 2048, 704]⟩
abbrev S1x1024x704 : Shape := ⟨3, ![1, 1024, 704]⟩
abbrev S1024x2048 : Shape := ⟨2, ![1024, 2048]⟩
abbrev S2048x704 : Shape := ⟨2, ![2048, 704]⟩
abbrev S1024x704 : Shape := ⟨2, ![1024, 704]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S4x2048x704, .bf16⟩
  | .hbm, ⟨2, _⟩ => ⟨S4x2048x704, .bf16⟩
  | .hbm, ⟨3, _⟩ => ⟨S4x1024x704, .bf16⟩
  | .hbm, ⟨4, _⟩ => ⟨S4x1024x704, .bf16⟩
  | .hbm, ⟨5, _⟩ => ⟨S4x1024x704, .bf16⟩
  | .hbm, ⟨6, _⟩ => ⟨S4x1024x704, .bf16⟩
  | .local _ .vmem, ⟨0, _⟩ => ⟨S2048x1024, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DWInOneRefIdeal.lean ====
abbrev S2048x1024 : Shape := ⟨2, ![2048, 1024]⟩
abbrev S4x2048x704 : Shape := ⟨3, ![4, 2048, 704]⟩
abbrev S4x1024x704 : Shape := ⟨3, ![4, 1024, 704]⟩
abbrev S_ : Shape := ⟨0, ![]⟩
abbrev S4x704x2048 : Shape := ⟨3, ![4, 704, 2048]⟩
abbrev S4x704x1024 : Shape := ⟨3, ![4, 704, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x2048x704, .bf16⟩
  | .hbm, ⟨2, _⟩ => ⟨S4x2048x704, .bf16⟩
  | .hbm, ⟨3, _⟩ => ⟨S4x1024x704, .bf16⟩
  | .hbm, ⟨4, _⟩ => ⟨S4x1024x704, .bf16⟩
  | .hbm, ⟨5, _⟩ => ⟨S2048x1024, .f32⟩
  | .hbm, ⟨6, _⟩ => ⟨S4x2048x704, .f32⟩
  | .hbm, ⟨7, _⟩ => ⟨S4x2048x704, .f32⟩
  | .hbm, ⟨8, _⟩ => ⟨S_, .f32⟩
  | .hbm, ⟨9, _⟩ => ⟨S4x1024x704, .f32⟩
  | .hbm, ⟨10, _⟩ => ⟨S4x704x2048, .f32⟩
  | .hbm, ⟨11, _⟩ => ⟨S4x2048x704, .f32⟩
  | .hbm, ⟨12, _⟩ => ⟨S4x704x2048, .f32⟩
  | .hbm, ⟨13, _⟩ => ⟨S4x2048x704, .f32⟩
  | .hbm, ⟨14, _⟩ => ⟨S4x704x2048, .f32⟩
  | .hbm, ⟨15, _⟩ => ⟨S4x704x1024, .f32⟩
  | .hbm, ⟨16, _⟩ => ⟨S4x1024x704, .f32⟩
  | .hbm, ⟨17, _⟩ => ⟨S4x704x2048, .f32⟩
  | .hbm, ⟨18, _⟩ => ⟨S4x704x1024, .f32⟩
  | .hbm, ⟨19, _⟩ => ⟨S4x1024x704, .f32⟩
  | .hbm, ⟨20, _⟩ => ⟨S4x1024x704, .bf16⟩
  | .hbm, ⟨21, _⟩ => ⟨S4x1024x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== DWDownOne.lean ====
abbrev S4x2048x704 : Shape := ⟨3, ![4, 2048, 704]⟩
abbrev S2048x1024 : Shape := ⟨2, ![2048, 1024]⟩
abbrev S4x704x1024 : Shape := ⟨3, ![4, 704, 1024]⟩
abbrev S1x2048x704 : Shape := ⟨3, ![1, 2048, 704]⟩
abbrev S2048x512 : Shape := ⟨2, ![2048, 512]⟩
abbrev S1x704x512 : Shape := ⟨3, ![1, 704, 512]⟩
abbrev S2048x704 : Shape := ⟨2, ![2048, 704]⟩
abbrev S704x512 : Shape := ⟨2, ![704, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S4x704x1024, .bf16⟩
  | .hbm, ⟨3, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x512, .bf16⟩
  | .local _ .vmem, ⟨3, _⟩ => ⟨S2048x512, .bf16⟩
  | .local _ .vmem, ⟨4, _⟩ => ⟨S1x704x512, .bf16⟩
  | .local _ .vmem, ⟨5, _⟩ => ⟨S1x704x512, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DWDownOneRefIdeal.lean ====
abbrev S4x2048x704 : Shape := ⟨3, ![4, 2048, 704]⟩
abbrev S2048x1024 : Shape := ⟨2, ![2048, 1024]⟩
abbrev S4x704x1024 : Shape := ⟨3, ![4, 704, 1024]⟩
abbrev S_ : Shape := ⟨0, ![]⟩
abbrev S1024x4x704 : Shape := ⟨3, ![1024, 4, 704]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S4x704x1024, .bf16⟩
  | .hbm, ⟨3, _⟩ => ⟨S4x2048x704, .f32⟩
  | .hbm, ⟨4, _⟩ => ⟨S2048x1024, .f32⟩
  | .hbm, ⟨5, _⟩ => ⟨S_, .f32⟩
  | .hbm, ⟨6, _⟩ => ⟨S4x704x1024, .f32⟩
  | .hbm, ⟨7, _⟩ => ⟨S2048x1024, .f32⟩
  | .hbm, ⟨8, _⟩ => ⟨S1024x4x704, .f32⟩
  | .hbm, ⟨9, _⟩ => ⟨S4x704x1024, .f32⟩
  | .hbm, ⟨10, _⟩ => ⟨S4x704x1024, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== UpOne.lean ====
abbrev S2048x1024 : Shape := ⟨2, ![2048, 1024]⟩
abbrev S4x1x1024x704 : Shape := ⟨4, ![4, 1, 1024, 704]⟩
abbrev S4x2048x704 : Shape := ⟨3, ![4, 2048, 704]⟩
abbrev S1024x1024 : Shape := ⟨2, ![1024, 1024]⟩
abbrev S1x1x1024x704 : Shape := ⟨4, ![1, 1, 1024, 704]⟩
abbrev S1x1024x704 : Shape := ⟨3, ![1, 1024, 704]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S4x1x1024x704, .bf16⟩
  | .hbm, ⟨2, _⟩ => ⟨S4x1x1024x704, .bf16⟩
  | .hbm, ⟨3, _⟩ => ⟨S4x2048x704, .bf16⟩
  | .hbm, ⟨4, _⟩ => ⟨S4x2048x704, .bf16⟩
  | .hbm, ⟨5, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpOneRefIdeal.lean ====
abbrev S2048x1024 : Shape := ⟨2, ![2048, 1024]⟩
abbrev S4x1x1024x704 : Shape := ⟨4, ![4, 1, 1024, 704]⟩
abbrev S4x1024x704 : Shape := ⟨3, ![4, 1024, 704]⟩
abbrev S4x704x2048 : Shape := ⟨3, ![4, 704, 2048]⟩
abbrev S4x2048x704 : Shape := ⟨3, ![4, 2048, 704]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1x1024x704, .bf16⟩
  | .hbm, ⟨2, _⟩ => ⟨S4x1x1024x704, .bf16⟩
  | .hbm, ⟨3, _⟩ => ⟨S2048x1024, .f32⟩
  | .hbm, ⟨4, _⟩ => ⟨S4x1024x704, .bf16⟩
  | .hbm, ⟨5, _⟩ => ⟨S4x1024x704, .f32⟩
  | .hbm, ⟨6, _⟩ => ⟨S4x1024x704, .bf16⟩
  | .hbm, ⟨7, _⟩ => ⟨S4x1024x704, .f32⟩
  | .hbm, ⟨8, _⟩ => ⟨S4x704x2048, .f32⟩
  | .hbm, ⟨9, _⟩ => ⟨S4x2048x704, .f32⟩
  | .hbm, ⟨10, _⟩ => ⟨S4x704x2048, .f32⟩
  | .hbm, ⟨11, _⟩ => ⟨S4x2048x704, .f32⟩
  | .hbm, ⟨12, _⟩ => ⟨S4x2048x704, .bf16⟩
  | .hbm, ⟨13, _⟩ => ⟨S4x2048x704, .bf16⟩
  | .hbm, ⟨14, _⟩ => ⟨S4x2048x704, .f32⟩
  | .hbm, ⟨15, _⟩ => ⟨S4x2048x704, .f32⟩
  | .hbm, ⟨16, _⟩ => ⟨S_, .f32⟩
  | .hbm, ⟨17, _⟩ => ⟨S4x2048x704, .f32⟩
  | .hbm, ⟨18, _⟩ => ⟨S4x2048x704, .f32⟩
  | .hbm, ⟨19, _⟩ => ⟨S_, .f32⟩
  | .hbm, ⟨20, _⟩ => ⟨S4x2048x704, .f32⟩
  | .hbm, ⟨21, _⟩ => ⟨S4x2048x704, .f32⟩
  | .hbm, ⟨22, _⟩ => ⟨S4x2048x704, .f32⟩
  | .hbm, ⟨23, _⟩ => ⟨S4x2048x704, .f32⟩
  | .hbm, ⟨24, _⟩ => ⟨S4x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== DownOne.lean ====
abbrev S4x2048x704 : Shape := ⟨3, ![4, 2048, 704]⟩
abbrev S4x704x1024 : Shape := ⟨3, ![4, 704, 1024]⟩
abbrev S2048x1024 : Shape := ⟨2, ![2048, 1024]⟩
abbrev S1x16x1024 : Shape := ⟨3, ![1, 16, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S2048x1024, .f32⟩
  | .hbm, ⟨3, _⟩ => ⟨S1x16x1024, .f32⟩
  | .hbm, ⟨4, _⟩ => ⟨S2048x1024, .f32⟩
  | .hbm, ⟨5, _⟩ => ⟨S2048x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x704x1024, .bf16⟩
  | .local _ .vmem, ⟨3, _⟩ => ⟨S1024x1024, .f32⟩
  | .local _ .vmem, ⟨4, _⟩ => ⟨S1024x1024, .f32⟩
  | .local _ .vmem, ⟨5, _⟩ => ⟨S1x16x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownOneRefIdeal.lean ====
abbrev S4x2048x704 : Shape := ⟨3, ![4, 2048, 704]⟩
abbrev S4x704x1024 : Shape := ⟨3, ![4, 704, 1024]⟩
abbrev S2048x1024 : Shape := ⟨2, ![2048, 1024]⟩
abbrev S1x16x1024 : Shape := ⟨3, ![1, 16, 1024]⟩
abbrev S1x1x1024 : Shape := ⟨3, ![1, 1, 1024]⟩
abbrev S1024 : Shape := ⟨1, ![1024]⟩
abbrev S_ : Shape := ⟨0, ![]⟩
abbrev S1x1024 : Shape := ⟨2, ![1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S2048x1024, .f32⟩
  | .hbm, ⟨3, _⟩ => ⟨S1x16x1024, .f32⟩
  | .hbm, ⟨4, _⟩ => ⟨S4x2048x704, .f32⟩
  | .hbm, ⟨5, _⟩ => ⟨S4x704x1024, .f32⟩
  | .hbm, ⟨6, _⟩ => ⟨S2048x1024, .f32⟩
  | .hbm, ⟨7, _⟩ => ⟨S1x1x1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== DownB.lean ====
abbrev S4x2304x704 : Shape := ⟨3, ![4, 2304, 704]⟩
abbrev S4x704x1024 : Shape := ⟨3, ![4, 704, 1024]⟩
abbrev S2304x1024 : Shape := ⟨2, ![2304, 1024]⟩
abbrev S2x16x1024 : Shape := ⟨3, ![2, 16, 1024]⟩
abbrev S4x768x704 : Shape := ⟨3, ![4, 768, 704]⟩
abbrev S768x1024 : Shape := ⟨2, ![768, 1024]⟩
abbrev S1x768x704 : Shape := ⟨3, ![1, 768, 704]⟩
abbrev S768x704 : Shape := ⟨2, ![768, 704]⟩
abbrev S1x704x1024 : Shape := ⟨3, ![1, 704, 1024]⟩
abbrev S704x1024 : Shape := ⟨2, ![704, 1024]⟩
abbrev S1x1x1024 : Shape := ⟨3, ![1, 1, 1024]⟩
abbrev S1x1024 : Shape := ⟨2, ![1, 1024]⟩
abbrev S768x1 : Shape := ⟨2, ![768, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x2304x704, .bf16⟩
  | .hbm, ⟨1, _⟩ => ⟨S4x704x1024, .bf16⟩
  | .hbm, ⟨2, _⟩ => ⟨S2304x1024, .f32⟩
  | .hbm, ⟨3, _⟩ => ⟨S2x16x1024, .f32⟩
  | .hbm, ⟨4, _⟩ => ⟨S2304x1024, .f32⟩
  | .hbm, ⟨5, _⟩ => ⟨S2304x1024, .f32⟩
  | .local _ .vmem, ⟨0, _⟩ => ⟨S4x768x704, .bf16⟩
  | .local _ .vmem, ⟨1, _⟩ => ⟨S4x768x704, .bf16⟩
  | .local _ .vmem, ⟨2, _⟩ => ⟨S4x704x1024, .bf16⟩
  | .local _ .vmem, ⟨3, _⟩ => ⟨S768x1024, .f32⟩
  | .local _ .vmem, ⟨4, _⟩ => ⟨S768x1024, .f32⟩
  | .local _ .vmem, ⟨5, _⟩ => ⟨S2x16x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | _, _ => ⟨S4x2304x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x768x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownBRefIdeal.lean ====
abbrev S4x2304x704 : Shape := ⟨3, ![4, 2304, 704]⟩
abbrev S4x704x1024 : Shape := ⟨3, ![4, 704, 1024]⟩
abbrev S2304x1024 : Shape := ⟨2, ![2304, 1024]⟩
abbrev S2x16x1024 : Shape := ⟨3, ![2, 16, 1024]⟩
abbrev S1x1x1024 : Shape := ⟨3, ![1, 1, 1024]⟩
abbrev S1x1024 : Shape := ⟨2, ![1, 1024]⟩
abbrev S2048x1024 : Shape := ⟨2, ![2048, 1024]⟩
abbrev S256x1024 : Shape := ⟨2, ![256, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4x2304x704, .bf16⟩
  | .hbm, ⟨1, _⟩ => ⟨S4x704x1024, .bf16⟩
  | .hbm, ⟨2, _⟩ => ⟨S2304x1024, .f32⟩
  | .hbm, ⟨3, _⟩ => ⟨S2x16x1024, .f32⟩
  | .hbm, ⟨4, _⟩ => ⟨S4x2304x704, .f32⟩
  | .hbm, ⟨5, _⟩ => ⟨S4x704x1024, .f32⟩
  | .hbm, ⟨6, _⟩ => ⟨S2304x1024, .f32⟩
  | .hbm, ⟨7, _⟩ => ⟨S1x1x1024, .f32⟩
  | .hbm, ⟨8, _⟩ => ⟨S1x1024, .f32⟩
  | .hbm, ⟨9, _⟩ => ⟨S2048x1024, .f32⟩
  | .hbm, ⟨10, _⟩ => ⟨S1x1x1024, .f32⟩
  | .hbm, ⟨11, _⟩ => ⟨S1x1024, .f32⟩
  | .hbm, ⟨12, _⟩ => ⟨S256x1024, .f32⟩
  | .hbm, ⟨13, _⟩ => ⟨S2304x1024, .f32⟩
  | .hbm, ⟨14, _⟩ => ⟨S_, .f32⟩
  | .hbm, ⟨15, _⟩ => ⟨S2304x1024, .f32⟩
  | .hbm, ⟨16, _⟩ => ⟨S2304x1024, .f32⟩
  | .hbm, ⟨17, _⟩ => ⟨S2304x1024, .f32⟩
  | .hbm, ⟨18, _⟩ => ⟨S2304x1024, .f32⟩
  | _, _ => ⟨S4x2304x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DownOneB.lean ====
abbrev S4x2048x704 : Shape := ⟨3, ![4, 2048, 704]⟩
abbrev S4x704x1024 : Shape := ⟨3, ![4, 704, 1024]⟩
abbrev S2048x1024 : Shape := ⟨2, ![2048, 1024]⟩
abbrev S1x16x1024 : Shape := ⟨3, ![1, 16, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S2048x1024, .f32⟩
  | .hbm, ⟨3, _⟩ => ⟨S1x16x1024, .f32⟩
  | .hbm, ⟨4, _⟩ => ⟨S2048x1024, .f32⟩
  | .hbm, ⟨5, _⟩ => ⟨S2048x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x704x1024, .bf16⟩
  | .local _ .vmem, ⟨3, _⟩ => ⟨S1024x1024, .f32⟩
  | .local _ .vmem, ⟨4, _⟩ => ⟨S1024x1024, .f32⟩
  | .local _ .vmem, ⟨5, _⟩ => ⟨S1x16x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownOneBRefIdeal.lean ====
abbrev S4x2048x704 : Shape := ⟨3, ![4, 2048, 704]⟩
abbrev S4x704x1024 : Shape := ⟨3, ![4, 704, 1024]⟩
abbrev S2048x1024 : Shape := ⟨2, ![2048, 1024]⟩
abbrev S1x16x1024 : Shape := ⟨3, ![1, 16, 1024]⟩
abbrev S1x1x1024 : Shape := ⟨3, ![1, 1, 1024]⟩
abbrev S1024 : Shape := ⟨1, ![1024]⟩
abbrev S_ : Shape := ⟨0, ![]⟩
abbrev S1x1024 : Shape := ⟨2, ![1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x704x1024, .bf16⟩
  | .hbm, ⟨2, _⟩ => ⟨S2048x1024, .f32⟩
  | .hbm, ⟨3, _⟩ => ⟨S1x16x1024, .f32⟩
  | .hbm, ⟨4, _⟩ => ⟨S4x2048x704, .f32⟩
  | .hbm, ⟨5, _⟩ => ⟨S4x704x1024, .f32⟩
  | .hbm, ⟨6, _⟩ => ⟨S2048x1024, .f32⟩
  | .hbm, ⟨7, _⟩ => ⟨S1x1x1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== ConvFwd.lean ====
abbrev S2048x1024 : Shape := ⟨2, ![2048, 1024]⟩
abbrev S1024x3072 : Shape := ⟨2, ![1024, 3072]⟩
abbrev S2048x3072 : Shape := ⟨2, ![2048, 3072]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .bf16⟩
  | .hbm, ⟨2, _⟩ => ⟨S2048x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvFwdRefIdeal.lean ====
abbrev S2048x1024 : Shape := ⟨2, ![2048, 1024]⟩
abbrev S1024x3072 : Shape := ⟨2, ![1024, 3072]⟩
abbrev S2048x3072 : Shape := ⟨2, ![2048, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .bf16⟩
  | .hbm, ⟨2, _⟩ => ⟨S2048x1024, .f32⟩
  | .hbm, ⟨3, _⟩ => ⟨S1024x3072, .f32⟩
  | .hbm, ⟨4, _⟩ => ⟨S2048x3072, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mix.lean ====
abbrev S2304x1536 : Shape := ⟨2, ![2304, 1536]⟩
abbrev S1536x1024 : Shape := ⟨2, ![1536, 1024]⟩
abbrev S2304x1024 : Shape := ⟨2, ![2304, 1024]⟩
abbrev S2x16x1024 : Shape := ⟨3, ![2, 16, 1024]⟩
abbrev S768x1536 : Shape := ⟨2, ![768, 1536]⟩
abbrev S768x1024 : Shape := ⟨2, ![768, 1024]⟩
abbrev S1x1x1024 : Shape := ⟨3, ![1, 1, 1024]⟩
abbrev S1x1024 : Shape := ⟨2, ![1, 1024]⟩
abbrev S768x1 : Shape := ⟨2, ![768, 1]⟩

abbrev nBuf : Space → Nat
  | .hbm => 6
  | .vmem => 10
  | .smem => 0
  | _ => 0

abbrev bufTy : (tb : Table) → Fin (tcTables nBuf tb) → BufTy
  | .hbm, ⟨0, _⟩ => ⟨S2304x1536, .bf16⟩
  | .hbm, ⟨1, _⟩ => ⟨S1536x1024, .bf16⟩
  | .hbm, ⟨2, _⟩ => ⟨S2304x1024, .f32⟩
  | .hbm, ⟨3, _⟩ => ⟨S2x16x1024, .f32⟩
  | .hbm, ⟨4, _⟩ => ⟨S2304x1024, .f32⟩
  | .hbm, ⟨5, _⟩ => ⟨S2304x1024, .f32⟩
  | .local _ .vmem, ⟨0, _⟩ => ⟨S768x1536, .bf16⟩
  | .local _ .vmem, ⟨1, _⟩ => ⟨S768x1536, .bf16⟩
  | .local _ .vmem, ⟨2, _⟩ => ⟨S1536x1024, .bf16⟩
  | .local _ .vmem, ⟨3, _⟩ => ⟨S768x1024, .f32⟩
  | .local _ .vmem, ⟨4, _⟩ => ⟨S768x1024, .f32⟩
  | .local _ .vmem, ⟨5, _⟩ => ⟨S2x16x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | _, _ => ⟨S2304x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixRefIdeal.lean ====
abbrev S2304x1536 : Shape := ⟨2, ![2304, 1536]⟩
abbrev S1536x1024 : Shape := ⟨2, ![1536, 1024]⟩
abbrev S2304x1024 : Shape := ⟨2, ![2304, 1024]⟩
abbrev S2x16x1024 : Shape := ⟨3, ![2, 16, 1024]⟩
abbrev S1x1x1024 : Shape := ⟨3, ![1, 1, 1024]⟩
abbrev S1x1024 : Shape := ⟨2, ![1, 1024]⟩
abbrev S2048x1024 : Shape := ⟨2, ![2048, 1024]⟩
abbrev S256x1024 : Shape := ⟨2, ![256, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2304x1536, .bf16⟩
  | .hbm, ⟨1, _⟩ => ⟨S1536x1024, .bf16⟩
  | .hbm, ⟨2, _⟩ => ⟨S2304x1024, .f32⟩
  | .hbm, ⟨3, _⟩ => ⟨S2x16x1024, .f32⟩
  | .hbm, ⟨4, _⟩ => ⟨S2304x1536, .f32⟩
  | .hbm, ⟨5, _⟩ => ⟨S1536x1024, .f32⟩
  | .hbm, ⟨6, _⟩ => ⟨S2304x1024, .f32⟩
  | .hbm, ⟨7, _⟩ => ⟨S1x1x1024, .f32⟩
  | .hbm, ⟨8, _⟩ => ⟨S1x1024, .f32⟩
  | .hbm, ⟨9, _⟩ => ⟨S2048x1024, .f32⟩
  | .hbm, ⟨10, _⟩ => ⟨S1x1x1024, .f32⟩
  | .hbm, ⟨11, _⟩ => ⟨S1x1024, .f32⟩
  | .hbm, ⟨12, _⟩ => ⟨S256x1024, .f32⟩
  | .hbm, ⟨13, _⟩ => ⟨S2304x1024, .f32⟩
  | .hbm, ⟨14, _⟩ => ⟨S2304x1024, .f32⟩
  | .hbm, ⟨15, _⟩ => ⟨S2304x1024, .f32⟩
  | _, _ => ⟨S2304x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== MixOne.lean ====
abbrev S2048x1024 : Shape := ⟨2, ![2048, 1024]⟩
abbrev S1024x1024 : Shape := ⟨2, ![1024, 1024]⟩
abbrev S1x16x1024 : Shape := ⟨3, ![1, 16, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x16x1024, .f32⟩
  | .hbm, ⟨4, _⟩ => ⟨S2048x1024, .f32⟩
  | .hbm, ⟨5, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x16x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOneRefIdeal.lean ====
abbrev S2048x1024 : Shape := ⟨2, ![2048, 1024]⟩
abbrev S1024x1024 : Shape := ⟨2, ![1024, 1024]⟩
abbrev S1x16x1024 : Shape := ⟨3, ![1, 16, 1024]⟩
abbrev S1x1x1024 : Shape := ⟨3, ![1, 1, 1024]⟩
abbrev S1024 : Shape := ⟨1, ![1024]⟩
abbrev S1x1024 : Shape := ⟨2, ![1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x16x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S1x1x1024, .f32⟩
  | .hbm, ⟨8, _⟩ => ⟨S1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MixInOne.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixInOneRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixWOne.lean ====
abbrev S2048x1024 : Shape := ⟨2, ![2048, 1024]⟩
abbrev S1024x1024 : Shape := ⟨2, ![1024, 1024]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixWOneRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnF.lean ====
abbrev S2304x1024 : Shape := ⟨2, ![2304, 1024]⟩
abbrev S2048x1024 : Shape := ⟨2, ![2048, 1024]⟩
abbrev S256x512 : Shape := ⟨2, ![256, 512]⟩
abbrev S2304x512 : Shape := ⟨2, ![2304, 512]⟩
abbrev S256x128 : Shape := ⟨2, ![256, 128]⟩
abbrev S2304x128 : Shape := ⟨2, ![2304, 128]⟩
abbrev S256x2304 : Shape := ⟨2, ![256, 2304]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S2304x1024, .bf16⟩
  | .hbm, ⟨3, _⟩ => ⟨S2048x1024, .bf16⟩
  | .hbm, ⟨4, _⟩ => ⟨S2048x1024, .f32⟩
  | .local _ .vmem, ⟨0, _⟩ => ⟨S256x512, .bf16⟩
  | .local _ .vmem, ⟨1, _⟩ => ⟨S256x512, .bf16⟩
  | .local _ .vmem, ⟨2, _⟩ => ⟨S2304x512, .bf16⟩
  | .local _ .vmem, ⟨3, _⟩ => ⟨S2304x512, .bf16⟩
  | .local _ .vmem, ⟨4, _⟩ => ⟨S2304x512, .bf16⟩
  | .local _ .vmem, ⟨5, _⟩ => ⟨S2304x512, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFRefIdeal.lean ====
abbrev S2304x1024 : Shape := ⟨2, ![2304, 1024]⟩
abbrev S2048x1024 : Shape := ⟨2, ![2048, 1024]⟩
abbrev S2048x8x128 : Shape := ⟨3, ![2048, 8, 128]⟩
abbrev S2304x8x128 : Shape := ⟨3, ![2304, 8, 128]⟩
abbrev S8x2048x2304 : Shape := ⟨3, ![8, 2048, 2304]⟩
abbrev S_ : Shape := ⟨0, ![]⟩
abbrev S8x2048 : Shape := ⟨2, ![8, 2048]⟩
abbrev S2048x8 : Shape := ⟨2, ![2048, 8]⟩
abbrev S2048x8x1 : Shape := ⟨3, ![2048, 8, 1]⟩
abbrev S8x2048x1 : Shape := ⟨3, ![8, 2048, 1]⟩
abbrev S8x128x2048 : Shape := ⟨3, ![8, 128, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S2304x1024, .bf16⟩
  | .hbm, ⟨3, _⟩ => ⟨S2048x1024, .bf16⟩
  | .hbm, ⟨4, _⟩ => ⟨S2048x1024, .f32⟩
  | .hbm, ⟨5, _⟩ => ⟨S2048x8x128, .f32⟩
  | .hbm, ⟨6, _⟩ => ⟨S2304x1024, .f32⟩
  | .hbm, ⟨7, _⟩ => ⟨S2304x8x128, .f32⟩
  | .hbm, ⟨8, _⟩ => ⟨S2304x1024, .f32⟩
  | .hbm, ⟨9, _⟩ => ⟨S2304x8x128, .f32⟩
  | .hbm, ⟨10, _⟩ => ⟨S8x2048x2304, .f32⟩
  | .hbm, ⟨11, _⟩ => ⟨S_, .f32⟩
  | .hbm, ⟨12, _⟩ => ⟨S8x2048x2304, .f32⟩
  | .hbm, ⟨13, _⟩ => ⟨S8x2048x2304, .f32⟩
  | .hbm, ⟨14, _⟩ => ⟨S8x2048x2304, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S2048x8, .f32⟩
  | .hbm, ⟨19, _⟩ => ⟨S2048x8x1, .f32⟩
  | .hbm, ⟨20, _⟩ => ⟨S2048x8x128, .f32⟩
  | .hbm, ⟨21, _⟩ => ⟨S8x2048x2304, .f32⟩
  | .hbm, ⟨22, _⟩ => ⟨S_, .f32⟩
  | .hbm, ⟨23, _⟩ => ⟨S8x2048x2304, .f32⟩
  | .hbm, ⟨24, _⟩ => ⟨S8x2048x2304, .f32⟩
  | .hbm, ⟨25, _⟩ => ⟨S_, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S8x2048x1, .f32⟩
  | .hbm, ⟨31, _⟩ => ⟨S8x2048x2304, .f32⟩
  | .hbm, ⟨32, _⟩ => ⟨S8x2048x2304, .f32⟩
  | .hbm, ⟨33, _⟩ => ⟨S8x2048x2304, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x2304, .f32⟩
  | .hbm, ⟨38, _⟩ => ⟨S8x2048x2304, .f32⟩
  | .hbm, ⟨39, _⟩ => ⟨S8x128x2048, .f32⟩
  | .hbm, ⟨40, _⟩ => ⟨S2048x8x128, .f32⟩
  | .hbm, ⟨41, _⟩ => ⟨S2048x1024, .f32⟩
  | .hbm, ⟨42, _⟩ => ⟨S2048x1024, .bf16⟩
  | .hbm, ⟨43, _⟩ => ⟨S2048x1024, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Conv.lean ====
abbrev S2048x3072 : Shape := ⟨2, ![2048, 3072]⟩
abbrev S3x1024 : Shape := ⟨2, ![3, 1024]⟩
abbrev S2048x1024 : Shape := ⟨2, ![2048, 1024]⟩
abbrev S3x2048x1024 : Shape := ⟨3, ![3, 2048, 1024]⟩
abbrev S8x1024 : Shape := ⟨2, ![8, 1024]⟩
abbrev S2048x256 : Shape := ⟨2, ![2048, 256]⟩
abbrev S3x256 : Shape := ⟨2, ![3, 256]⟩
abbrev S3x2048x256 : Shape := ⟨3, ![3, 2048, 256]⟩
abbrev S8x256 : Shape := ⟨2, ![8, 256]⟩
abbrev S2048x1 : Shape := ⟨2, ![2048, 1]⟩
abbrev S1x256 : Shape := ⟨2, ![1, 256]⟩
abbrev S1x2048x256 : Shape := ⟨3, ![1, 2048, 256]⟩
abbrev S256 : Shape := ⟨1, ![256]⟩

abbrev nBuf : Space → Nat
  | .hbm => 5
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .f32⟩
  | .hbm, ⟨3, _⟩ => ⟨S3x2048x1024, .bf16⟩
  | .hbm, ⟨4, _⟩ => ⟨S8x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .f32⟩
  | .local _ .vmem, ⟨9, _⟩ => ⟨S2048x256, .f32⟩
  | .local _ .vmem, ⟨10, _⟩ => ⟨S3x2048x256, .bf16⟩
  | .local _ .vmem, ⟨11, _⟩ => ⟨S3x2048x256, .bf16⟩
  | .local _ .vmem, ⟨12, _⟩ => ⟨S8x256, .f32⟩
  | .local _ .vmem, ⟨13, _⟩ => ⟨S8x256, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvRefIdeal.lean ====
abbrev S2048x3072 : Shape := ⟨2, ![2048, 3072]⟩
abbrev S3x1024 : Shape := ⟨2, ![3, 1024]⟩
abbrev S2048x1024 : Shape := ⟨2, ![2048, 1024]⟩
abbrev S_ : Shape := ⟨0, ![]⟩
abbrev S1x1024 : Shape := ⟨2, ![1, 1024]⟩
abbrev S2047x1024 : Shape := ⟨2, ![2047, 1024]⟩
abbrev S1024 : Shape := ⟨1, ![1024]⟩
abbrev S1x2048x1024 : Shape := ⟨3, ![1, 2048, 1024]⟩
abbrev S3x2048x1024 : Shape := ⟨3, ![3, 2048, 1024]⟩
abbrev S5x1024 : Shape := ⟨2, ![5, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S1x1024, .f32⟩
  | .hbm, ⟨9, _⟩ => ⟨S2047x1024, .f32⟩
  | .hbm, ⟨10, _⟩ => ⟨S2048x1024, .f32⟩
  | .hbm, ⟨11, _⟩ => ⟨S_, .f32⟩
  | .hbm, ⟨12, _⟩ => ⟨S1x1024, .f32⟩
  | .hbm, ⟨13, _⟩ => ⟨S2047x1024, .f32⟩
  | .hbm, ⟨14, _⟩ => ⟨S2048x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S3x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S3x1024, .f32⟩
  | .hbm, ⟨59, _⟩ => ⟨S3x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S3x1024, .f32⟩
  | .hbm, ⟨71, _⟩ => ⟨S3x1024, .f32⟩
  | .hbm, ⟨72, _⟩ => ⟨S2047x1024, .f32⟩
  | .hbm, ⟨73, _⟩ => ⟨S1x1024, .f32⟩
  | .hbm, ⟨74, _⟩ => ⟨S_, .f32⟩
  | .hbm, ⟨75, _⟩ => ⟨S2048x1024, .f32⟩
  | .hbm, ⟨76, _⟩ => ⟨S2048x1024, .f32⟩
  | .hbm, ⟨77, _⟩ => ⟨S1x1024, .f32⟩
  | .hbm, ⟨78, _⟩ => ⟨S2047x1024, .f32⟩
  | .hbm, ⟨79, _⟩ => ⟨S_, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S1x2048x1024, .f32⟩
  | .hbm, ⟨85, _⟩ => ⟨S1x2048x1024, .f32⟩
  | .hbm, ⟨86, _⟩ => ⟨S1x2048x1024, .f32⟩
  | .hbm, ⟨87, _⟩ => ⟨S3x2048x1024, .f32⟩
  | .hbm, ⟨88, _⟩ => ⟨S3x2048x1024, .bf16⟩
  | .hbm, ⟨89, _⟩ => ⟨S_, .f32⟩
  | .hbm, ⟨90, _⟩ => ⟨S5x1024, .f32⟩
  | .hbm, ⟨91, _⟩ => ⟨S8x1024, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_13 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== ConvOut.lean ====
abbrev S2048x3072 : Shape := ⟨2, ![2048, 3072]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩
abbrev S2048x1 : Shape := ⟨2, ![2048, 1]⟩

abbrev nBuf : Space → Nat
  | .hbm => 3
  | .vmem => 10
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvOutRefIdeal.lean ====
abbrev S2048x3072 : Shape := ⟨2, ![2048, 3072]⟩
abbrev S3x1024 : Shape := ⟨2, ![3, 1024]⟩
abbrev S2048x1024 : Shape := ⟨2, ![2048, 1024]⟩
abbrev S_ : Shape := ⟨0, ![]⟩
abbrev S1x1024 : Shape := ⟨2, ![1, 1024]⟩
abbrev S2047x1024 : Shape := ⟨2, ![2047, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S1x1024, .f32⟩
  | .hbm, ⟨8, _⟩ => ⟨S2047x1024, .f32⟩
  | .hbm, ⟨9, _⟩ => ⟨S2048x1024, .f32⟩
  | .hbm, ⟨10, _⟩ => ⟨S2047x1024, .f32⟩
  | .hbm, ⟨11, _⟩ => ⟨S2048x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== Gate.lean ====
abbrev S2048x1024 : Shape := ⟨2, ![2048, 1024]⟩
abbrev S1x16x1024 : Shape := ⟨3, ![1, 16, 1024]⟩
abbrev S1x8x1024 : Shape := ⟨3, ![1, 8, 1024]⟩
abbrev S256x1024 : Shape := ⟨2, ![256, 1024]⟩
abbrev S16x1024 : Shape := ⟨2, ![16, 1024]⟩
abbrev S1x1024 : Shape := ⟨2, ![1, 1024]⟩
abbrev S1024 : Shape := ⟨1, ![1024]⟩
abbrev S8x1024 : Shape := ⟨2, ![8, 1024]⟩
abbrev S1x1x1024 : Shape := ⟨3, ![1, 1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x16x1024, .f32⟩
  | .hbm, ⟨3, _⟩ => ⟨S2048x1024, .bf16⟩
  | .hbm, ⟨4, _⟩ => ⟨S1x8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x16x1024, .f32⟩
  | .local _ .vmem, ⟨5, _⟩ => ⟨S1x16x1024, .f32⟩
  | .local _ .vmem, ⟨6, _⟩ => ⟨S256x1024, .bf16⟩
  | .local _ .vmem, ⟨7, _⟩ => ⟨S256x1024, .bf16⟩
  | .local _ .vmem, ⟨8, _⟩ => ⟨S1x8x1024, .f32⟩
  | .local _ .vmem, ⟨9, _⟩ => ⟨S1x8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateRefIdeal.lean ====
abbrev S2048x1024 : Shape := ⟨2, ![2048, 1024]⟩
abbrev S1x16x1024 : Shape := ⟨3, ![1, 16, 1024]⟩
abbrev S1x1x1024 : Shape := ⟨3, ![1, 1, 1024]⟩
abbrev S1024 : Shape := ⟨1, ![1024]⟩
abbrev S_ : Shape := ⟨0, ![]⟩
abbrev S1x1024 : Shape := ⟨2, ![1, 1024]⟩
abbrev S7x1024 : Shape := ⟨2, ![7, 1024]⟩
abbrev S8x1024 : Shape := ⟨2, ![8, 1024]⟩
abbrev S1x8x1024 : Shape := ⟨3, ![1, 8, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x16x1024, .f32⟩
  | .hbm, ⟨3, _⟩ => ⟨S1x1x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S2048x1024, .bf16⟩
  | .hbm, ⟨23, _⟩ => ⟨S1x1024, .f32⟩
  | .hbm, ⟨24, _⟩ => ⟨S_, .f32⟩
  | .hbm, ⟨25, _⟩ => ⟨S7x1024, .f32⟩
  | .hbm, ⟨26, _⟩ => ⟨S8x1024, .f32⟩
  | .hbm, ⟨27, _⟩ => ⟨S1x8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Real.lean ====
/- Extended reals that are real numbers, and the comparison by which a precondition says so. -/
module

public import Idealize.ShloMosaic.Lib.Pointwise

@[expose] public section

noncomputable section

namespace Cert.AttnMath

open Idealize.ShloMosaic

/-- An extended real that is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, by push_cast; rfl⟩

/-- A finite sum of real numbers, taken among the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

/-- An extended real below the top in absolute value is a real number. -/
theorem IsReal.of_abs_lt {x : EReal} (h : max x (-x) < ⊤) : IsReal x := by
  induction x using EReal.rec with
  | bot => simp at h
  | coe r => exact ⟨r, rfl⟩
  | top => simp at h

/-- The largest of finitely many real numbers (at least one) is a real number. -/
theorem IsReal.fold_max {n : ℕ} (hn : 0 < n) {f : Fin n → EReal} (h : ∀ i, IsReal (f i)) :
    IsReal (Finset.univ.fold max ⊥ f) := by
  have hsup : Finset.univ.fold max ⊥ f = Finset.univ.sup f := rfl
  have : Nonempty (Fin n) := ⟨⟨0, hn⟩⟩
  obtain ⟨i, _, hi⟩ := Finset.exists_mem_eq_sup (Finset.univ : Finset (Fin n)) Finset.univ_nonempty f
  rw [hsup, hi]; exact h i

/-- Dividing real numbers, the second not zero. -/
theorem div_real (a : ℝ) {b : ℝ} (hb : b ≠ 0) : Ideal.div (a : EReal) (b : EReal) = ((a / b : ℝ) : EReal) := by
  rw [Ideal.div_coe hb, ← EReal.coe_mul, mul_one_div]

/-- An element whose absolute value compares below the infinite word is a real number. -/
theorem mask_real {s : Shape} (x b : FVec Ideal s .f32) (i : s.Idx) (hb : b i = Ideal.ofBits .f32 0x7F800000#32)
    (h : cmpf .olt (Host.absf x) b i = 1#1) : IsReal (x i) := by
  refine IsReal.of_abs_lt ?_
  have e : (⊤ : EReal) = b i := by rw [hb]; simp [Ideal.ofBits, Ideal.ieee]
  rw [e]
  by_contra hn
  have h' : BitVec.ofBool (decide (max (x i) (-(x i)) < b i)) = 1#1 := h
  rw [decide_eq_false hn] at h'
  exact absurd h' (by decide)

end Cert.AttnMath
-- ==== Proof.Chunks.lean ====
/- Chunks of the hidden width: the products over one of four, loaded; and the slope of the gate. -/
module

public import proofs.«01_k».proof.Proof.Real
public import Idealize.ShloMosaic.Lib.Pipeline.Value
public import Idealize.ShloMosaic.Lib.Pipeline.ValueKit
public import Idealize.ShloMosaic.Lib.Pointwise

@[expose] public section

set_option maxRecDepth 16384

noncomputable section

namespace Cert.Chunks

open Idealize.ShloMosaic Idealize.ShloMosaic.TcCoe
open Cert.AttnMath (IsReal)

/-- One chunk of `n` rows and one of a stacked weight, loaded: the products of a row and a row of the weight, summed. -/
theorem product_of_rows {n d k : ℕ} (x : FVec Ideal ⟨3, ![4, n, k]⟩ .bf16) (w : FVec Ideal ⟨4, ![4, 1, d, k]⟩ .bf16) (o : ℕ) (h h')
    (j : Fin 4) (hj : j.val = o) (a : Fin n) (c : Fin d) :
    (∑ f : Fin k, ((View.ld (Val := Elt Ideal) (S := ⟨3, ![4, n, k]⟩) (e' := .bf16) x (Rect.unit ![o, 0, 0] ![1, n, k] h) : FVec Ideal ⟨3, ![1, n, k]⟩ .bf16) (ix3 0 a f) : EReal)
        * (View.ld (Val := Elt Ideal) (S := ⟨4, ![4, 1, d, k]⟩) (e' := .bf16) w (Rect.unit ![o, 0, 0, 0] ![1, 1, d, k] h') : FVec Ideal ⟨4, ![1, 1, d, k]⟩ .bf16) (ix4 0 0 c f))
      = ∑ f : Fin k, (x (ix3 j a f) : EReal) * w (ix4 j 0 c f) := by
  subst hj
  refine Finset.sum_congr rfl fun f _ => congrArg₂ (· * ·) (congrArg x ?_) (congrArg w ?_)
  all_goals blk_ext
  all_goals simp [LoadRect.idx, Rect.unit]

/-- The same with a column of the weight. -/
theorem product_of_columns {n d k : ℕ} (x : FVec Ideal ⟨3, ![4, n, k]⟩ .bf16) (w : FVec Ideal ⟨3, ![4, k, d]⟩ .bf16) (o : ℕ) (h h')
    (j : Fin 4) (hj : j.val = o) (a : Fin n) (c : Fin d) :
    (∑ f : Fin k, ((View.ld (Val := Elt Ideal) (S := ⟨3, ![4, n, k]⟩) (e' := .bf16) x (Rect.unit ![o, 0, 0] ![1, n, k] h) : FVec Ideal ⟨3, ![1, n, k]⟩ .bf16) (ix3 0 a f) : EReal)
        * (View.ld (Val := Elt Ideal) (S := ⟨3, ![4, k, d]⟩) (e' := .bf16) w (Rect.unit ![o, 0, 0] ![1, k, d] h') : FVec Ideal ⟨3, ![1, k, d]⟩ .bf16) (ix3 0 f c))
      = ∑ f : Fin k, (x (ix3 j a f) : EReal) * w (ix3 j f c) := by
  subst hj
  refine Finset.sum_congr rfl fun f _ => congrArg₂ (· * ·) (congrArg x ?_) (congrArg w ?_)
  all_goals blk_ext
  all_goals simp [LoadRect.idx, Rect.unit]

/-- The slope of `a ↦ a · σ(a)`, times a real factor `x`, in the two forms the programs use: as a product, and
as the product rule leaves it. The factor must be real; `a` may be infinite. -/
theorem slope_mul {x : EReal} (hx : IsReal x) (a : EReal) :
    x * (Ideal.logistic a * (1 + a * (1 - Ideal.logistic a)))
      = x * Ideal.logistic a + a * x * (Ideal.logistic a * (1 - Ideal.logistic a)) := by
  obtain ⟨x, rfl⟩ := hx
  have one_sub_one : (1 : EReal) - 1 = 0 := by rw [← EReal.coe_one, ← EReal.coe_sub, sub_self, EReal.coe_zero]
  induction a using EReal.rec with
  | bot => simp
  | top => simp [one_sub_one]
  | coe a =>
    rw [Ideal.logistic_coe]
    norm_cast
    ring

end Cert.Chunks
-- ==== Proof.AttnMath.lean ====
/- One row of softmax attention and of its gradient, over the extended reals.

   The forward pass keeps a row's maximum plus the logarithm of its sum of exponentials; the gradient rebuilds the
   weights from that one number. Here the rebuilt weights, and the gradient of the scores computed from them, are shown
   to be those of the plain formula, when every operand is a real number. -/
module

public import proofs.«01_k».proof.Proof.Real

@[expose] public section

noncomputable section

namespace Cert.AttnMath

open Idealize.ShloMosaic

variable {n d : ℕ}

/-- A row's sum of exponentials, as a real number. -/
def total (s : Fin n → ℝ) (m : ℝ) : ℝ := ∑ k, Real.exp (s k - m)

theorem total_pos (hn : 0 < n) (s : Fin n → ℝ) (m : ℝ) : 0 < total s m :=
  haveI : Nonempty (Fin n) := ⟨⟨0, hn⟩⟩
  Finset.sum_pos (fun _ _ => Real.exp_pos _) Finset.univ_nonempty

theorem exp_real (x m : ℝ) : Ideal.exp ((x : EReal) - (m : EReal)) = ((Real.exp (x - m) : ℝ) : EReal) := by
  rw [← EReal.coe_sub, Ideal.exp_coe]

theorem total_real (s : Fin n → ℝ) (m : ℝ) : ∑ k, Ideal.exp ((s k : EReal) - (m : EReal)) = ((total s m : ℝ) : EReal) := by
  simp only [exp_real]; exact coe_sum _ _

/-- The weight rebuilt from the saved number: `exp (s - (m + log l)) = exp (s - m) / l`. -/
theorem weight_real (hn : 0 < n) (s : Fin n → ℝ) (m : ℝ) (k : Fin n) :
    Ideal.exp ((s k : EReal) - ((m : EReal) + Ideal.log (∑ x, Ideal.exp ((s x : EReal) - (m : EReal)))))
      = ((Real.exp (s k - m) / total s m : ℝ) : EReal) := by
  have hl := total_pos hn s m
  rw [total_real, Ideal.log_coe, if_neg (not_le.mpr hl), ← EReal.coe_add, exp_real, ← sub_sub, Real.exp_sub,
    Real.exp_log hl]

/-- The rebuilt weight is the plain one. -/
theorem weight_eq (hn : 0 < n) {s : Fin n → EReal} {m : EReal} (hs : ∀ k, IsReal (s k)) (hm : IsReal m) (k : Fin n) :
    Ideal.exp (s k - (m + Ideal.log (∑ x, Ideal.exp (s x - m))))
      = Ideal.div (Ideal.exp (s k - m)) (∑ x, Ideal.exp (s x - m)) := by
  choose s' hs' using hs
  obtain ⟨m, rfl⟩ := hm
  obtain rfl : s = fun k => (s' k : EReal) := funext hs'
  rw [weight_real hn, total_real, exp_real, div_real _ (total_pos hn s' m).ne']

/-- The gradient of a row's scores: the weight times what is left of the output's gradient after the row's mean is
    taken off, against the two terms that differentiating the quotient gives. -/
theorem score_grad_eq (hn : 0 < n) {s : Fin n → EReal} {m c : EReal} {g : Fin d → EReal} {v : Fin n → Fin d → EReal}
    (hs : ∀ k, IsReal (s k)) (hm : IsReal m) (hg : ∀ i, IsReal (g i)) (hv : ∀ k i, IsReal (v k i)) (k : Fin n) :
    Ideal.exp (s k - (m + Ideal.log (∑ x, Ideal.exp (s x - m))))
        * ((∑ i, g i * v k i) - ∑ i, g i * ∑ x, v x i * Ideal.div (Ideal.exp (s x - m)) (∑ y, Ideal.exp (s y - m))) * c
      = (Ideal.div (∑ i, g i * v k i) (∑ y, Ideal.exp (s y - m))
          + -∑ x, (∑ i, g i * v x i) * Ideal.div 1 ((∑ y, Ideal.exp (s y - m)) * ∑ y, Ideal.exp (s y - m))
              * Ideal.exp (s x - m)) * Ideal.exp (s k - m) * c := by
  choose s' hs' using hs
  choose g' hg' using hg
  choose v' hv' using hv
  obtain ⟨m, rfl⟩ := hm
  obtain rfl : s = fun k => (s' k : EReal) := funext hs'
  obtain rfl : g = fun i => (g' i : EReal) := funext hg'
  obtain rfl : v = fun k i => (v' k i : EReal) := funext fun k => funext fun i => hv' k i
  have hl := (total_pos hn s' m).ne'
  have hl2 : total s' m * total s' m ≠ 0 := mul_ne_zero hl hl
  congr 1
  rw [weight_real hn s' m k]
  simp only [total_real]
  simp only [exp_real]
  simp only [div_real _ hl, ← EReal.coe_mul, coe_sum, ← EReal.coe_one,
    div_real _ hl2, ← EReal.coe_sub, ← EReal.coe_neg, ← EReal.coe_add, EReal.coe_eq_coe_iff]
  generalize total s' m = l at hl hl2
  have hswap : ∑ i, g' i * ∑ x, v' x i * (Real.exp (s' x - m) / l)
      = ∑ x, (∑ i, g' i * v' x i) * (Real.exp (s' x - m) / l) := by
    simp only [Finset.mul_sum, Finset.sum_mul]
    rw [Finset.sum_comm]
    exact Finset.sum_congr rfl fun x _ => Finset.sum_congr rfl fun i _ => by ring
  have hout : ∑ x, (∑ i, g' i * v' x i) * (1 / (l * l)) * Real.exp (s' x - m)
      = (∑ x, (∑ i, g' i * v' x i) * (Real.exp (s' x - m) / l)) / l := by
    rw [Finset.sum_div]
    exact Finset.sum_congr rfl fun x _ => by field_simp
  rw [hswap, hout]
  field_simp
  ring

end Cert.AttnMath

end
-- ==== Proof.AttnRef.lean ====
/- The reference's gradients of the attention, read at an index: head by head, a row of scores, its weights and the
   gradient of its scores, and the three products they enter. -/
module

public import proofs.«01_k».proof.Proof.AttnMath
public import proofs.«01_k».proof.Proof.Gen.AttnRefIdeal.Read
public import Idealize.ShloMosaic.Lib.Pointwise
public import Idealize.ShloMosaic.Lib.Pipeline.ValueKit

@[expose] public section

set_option maxRecDepth 16384

noncomputable section

namespace Cert.AttnRefIdeal.Rows

open Cert.AttnRefIdeal Cert.AttnRefIdeal.Gen Cert.AttnRefIdeal.Read Cert.AttnMath
open Idealize.ShloMosaic Idealize.ShloMosaic.TcCoe Idealize.SL.Sem

/-- The column of lane `i` of head `h`. -/
abbrev col (h : Fin 8) (i : Fin 128) : Fin 1024 := ⟨h.val * 128 + i.val, by omega⟩
/-- A query row among the rows of the padded array. -/
abbrev up (r : Fin 2048) : Fin 2304 := ⟨r.val, by omega⟩
/-- The column of lane `i` of head `h` behind the 512 columns of the pool. -/
abbrev col' (h : Fin 8) (i : Fin 128) : Fin 1536 := ⟨512 + (h.val * 128 + i.val), by omega⟩
/-- The scale of the scores. -/
abbrev scale : EReal := Ideal.ofBits .f32 0x3DD105EC#32

abbrev Arr := FVec Ideal S2304x1024 .bf16
abbrev Grad := FVec Ideal S2304x1536 .f32

/-- The score of query row `r` against key row `k` in head `h`. -/
def score (q k : Arr) (h : Fin 8) (r : Fin 2048) (j : Fin 2304) : EReal :=
  (∑ i : Fin 128, (q (ix2 (up r) (col h i)) : EReal) * k (ix2 j (col h i))) * scale

/-- The largest score of a row. -/
def top (q k : Arr) (h : Fin 8) (r : Fin 2048) : EReal := Finset.univ.fold max ⊥ fun j => score q k h r j

/-- The weight of key row `j` in query row `r`. -/
def weight (q k : Arr) (h : Fin 8) (r : Fin 2048) (j : Fin 2304) : EReal :=
  Ideal.div (Ideal.exp (score q k h r j - top q k h r)) (∑ x, Ideal.exp (score q k h r x - top q k h r))

/-- The gradient of the weight: the output's gradient against a value row. -/
def outGrad (v : Arr) (g : Grad) (h : Fin 8) (r : Fin 2048) (j : Fin 2304) : EReal :=
  ∑ i : Fin 128, (g (ix2 (up r) (col' h i)) : EReal) * v (ix2 j (col h i))

/-- The gradient of the score (scaled), as differentiating the quotient gives it. -/
def scoreGrad (q k v : Arr) (g : Grad) (h : Fin 8) (r : Fin 2048) (j : Fin 2304) : EReal :=
  (Ideal.div (outGrad v g h r j) (∑ y, Ideal.exp (score q k h r y - top q k h r))
    + -∑ x, outGrad v g h r x * Ideal.div 1 ((∑ y, Ideal.exp (score q k h r y - top q k h r))
          * ∑ y, Ideal.exp (score q k h r y - top q k h r)) * Ideal.exp (score q k h r x - top q k h r))
    * Ideal.exp (score q k h r j - top q k h r) * scale

variable (q k v : Arr) (g : Grad)

/-- The host's reduction to the largest element along the last of three axes. -/
theorem hostMax_apply {a b n : ℕ} {u : Shape} (x : (⟨3, ![a, b, n]⟩ : Shape).Idx → EReal) (init : u.Idx → EReal)
    (h : (⟨3, ![a, b, n]⟩ : Shape).ReducesTo [2] ⟨2, ![a, b]⟩) (hu : 0 < u.numel) (i : Fin a) (j : Fin b) :
    Host.reduce max x init h hu (ix2 i j)
      = Finset.univ.fold max (init (Shape.Idx.first hu)) (fun k : Fin n => x (ix3 i j k)) := by
  pointwise

theorem bottom : Ideal.ofBits .f32 0xFF800000#32 = ⊥ := by simp [Ideal.ofBits, Ideal.ieee]

theorem v3_at (r : Fin 2048) (h : Fin 8) (i : Fin 128) :
    val_main_v3 (F := Ideal) q (ix3 r h i) = (q (ix2 (up r) (col h i)) : EReal) := by
  pointwise [val_main_v3, val_main_v2, val_main_v0]

theorem v5_at (j : Fin 2304) (h : Fin 8) (i : Fin 128) :
    val_main_v5 (F := Ideal) k (ix3 j h i) = (k (ix2 j (col h i)) : EReal) := by
  pointwise [val_main_v5, val_main_v4]

theorem v7_at (j : Fin 2304) (h : Fin 8) (i : Fin 128) :
    val_main_v7 (F := Ideal) v (ix3 j h i) = (v (ix2 j (col h i)) : EReal) := by
  pointwise [val_main_v7, val_main_v6]

theorem v8_at (r : Fin 2048) (h : Fin 8) (i : Fin 128) :
    val_main_v8 (F := Ideal) g (ix3 r h i) = (g (ix2 (up r) (col' h i)) : EReal) := by
  pointwise [val_main_v8, val_main_v1]

theorem v11_at (h : Fin 8) (r : Fin 2048) (j : Fin 2304) :
    val_main_v11 (F := Ideal) q k (ix3 h r j) = score q k h r j := by
  pointwise [val_main_v11, val_main_v9, val_main_v10, val_main_cst]
  simp only [v3_at, v5_at]; rfl

theorem v12_at (h : Fin 8) (r : Fin 2048) : val_main_v12 (F := Ideal) q k (ix2 h r) = top q k h r := by
  unfold val_main_v12
  refine (hostMax_apply _ _ _ _ _ _).trans ?_
  simp only [v11_at]
  show Finset.univ.fold max (Ideal.ofBits .f32 0xFF800000#32) _ = _
  rw [bottom]; rfl

theorem v19_at (h : Fin 8) (r : Fin 2048) : val_main_v19 (F := Ideal) q k (ix2 h r) = top q k h r := by
  have e := v12_at q k h r
  generalize top q k h r = t at e ⊢
  rw [val_main_v19_apply, e, val_main_v18_apply, val_main_cst_2_apply]
  show max (Ideal.ofBits .f32 0xFF800000#32) t = t
  rw [bottom]; exact max_eq_right bot_le

theorem v32_at (h : Fin 8) (r : Fin 2048) (j : Fin 2304) :
    val_main_v32 (F := Ideal) q k (ix3 h r j) = Ideal.exp (score q k h r j - top q k h r) := by
  pointwise [val_main_v32, val_main_v31, val_main_v30, val_main_v29]
  rw [v19_at, v11_at]

theorem v33_at (h : Fin 8) (r : Fin 2048) :
    val_main_v33 (F := Ideal) q k (ix2 h r) = ∑ j, Ideal.exp (score q k h r j - top q k h r) := by
  pointwise [val_main_v33, val_main_cst_8]
  simp only [v32_at]

theorem v36_at (h : Fin 8) (r : Fin 2048) (j : Fin 2304) :
    val_main_v36 (F := Ideal) q k (ix3 h r j) = weight q k h r j := by
  pointwise [val_main_v36, val_main_v35, val_main_v34]
  rw [v32_at, v33_at]; rfl

theorem v43_at (h : Fin 8) (r : Fin 2048) (j : Fin 2304) :
    val_main_v43 (F := Ideal) v g (ix3 h r j) = outGrad v g h r j := by
  pointwise [val_main_v43, val_main_v42]
  simp only [v7_at, v8_at]; rfl

theorem v59_at (h : Fin 8) (r : Fin 2048) (j : Fin 2304) :
    val_main_v59 (F := Ideal) q k v g (ix3 h r j) = scoreGrad q k v g h r j := by
  pointwise [val_main_v59, val_main_v58, val_main_v57, val_main_v56, val_main_v55, val_main_v54, val_main_v53,
    val_main_v52, val_main_v51, val_main_v50, val_main_v49, val_main_v48, val_main_v47, val_main_v46, val_main_v39,
    val_main_v38, val_main_v37, val_main_v34, val_main_cst_9, val_main_cst_10, val_main_cst_11, val_main_cst_12]
  simp only [v43_at, v33_at, v32_at, Fin.sum_univ_one]
  rfl

/-- The head and the lane of a column of head `h`. -/
theorem head_of (h : Fin 8) (i : Fin 128) (p) : (⟨(h.val * 128 + i.val) / 128, p⟩ : Fin 8) = h := Fin.ext (by simp; omega)
theorem lane_of (h : Fin 8) (i : Fin 128) (p) : (⟨(h.val * 128 + i.val) % 128, p⟩ : Fin 128) = i := Fin.ext (by simp)

/-- The gradient of the queries. -/
theorem v64_at (r : Fin 2048) (h : Fin 8) (i : Fin 128) :
    val_main_v64 (F := Ideal) q k v g (ix2 r (col h i))
      = ∑ j, scoreGrad q k v g h r j * (k (ix2 j (col h i)) : EReal) := by
  pointwise [val_main_v64, val_main_v63, val_main_v62]
  simp only [head_of, lane_of, v59_at, v5_at]

/-- The gradient of the keys. -/
theorem v65_at (j : Fin 2304) (h : Fin 8) (i : Fin 128) :
    val_main_v65 (F := Ideal) q k v g (ix2 j (col h i))
      = ∑ r, scoreGrad q k v g h r j * (q (ix2 (up r) (col h i)) : EReal) := by
  pointwise [val_main_v65, val_main_v61, val_main_v60]
  simp only [head_of, lane_of, v59_at, v3_at]

/-- The gradient of the values. -/
theorem v66_at (j : Fin 2304) (h : Fin 8) (i : Fin 128) :
    val_main_v66 (F := Ideal) q k g (ix2 j (col h i))
      = ∑ r, (g (ix2 (up r) (col' h i)) : EReal) * weight q k h r j := by
  pointwise [val_main_v66, val_main_v45, val_main_v44, val_main_v42]
  simp only [head_of, lane_of, v36_at, v8_at]

end Cert.AttnRefIdeal.Rows

end
-- ==== Proof.AttnValue.lean ====
/- What the kernel of the attention's gradient leaves in its three results. -/
module

public import proofs.«01_k».proof.Proof.AttnRef
public import proofs.«01_k».proof.Proof.Gen.AttnIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.AttnMath
open Cert.AttnRefIdeal.Rows (col up col' scale score top weight outGrad scoreGrad)

variable (m : (ℓ : Loc nD τ sig) → Buf (Elt Ideal) ℓ)

/-- The block of every window at every grid point: the point is head `t / 4`, row block `t % 4`. -/
theorem block_at : ∀ t : Fin cfg0.N, win0_0.index t = ![t.val % 4, t.val / 4]
    ∧ win0_1.index t = ![0, t.val / 4]
    ∧ win0_2.index t = ![0, t.val / 4]
    ∧ win0_3.index t = ![t.val % 4, 4 + t.val / 4]
    ∧ win0_4.index t = ![t.val % 4, 4 + t.val / 4]
    ∧ win0_5.index t = ![t.val % 4, t.val / 4]
    ∧ win0_6.index t = ![t.val % 4, t.val / 4]
    ∧ win0_7.index t = ![0, t.val / 4]
    ∧ win0_8.index t = ![0, t.val / 4] :=
  (by decide +kernel : ∀ t : Fin grid0.N, _)

abbrev argQ (c : Dev nD) : FVec Ideal S2304x1024 .bf16 := m ((c.tc : Thread nD τ).loc main_arg0)
abbrev argK (c : Dev nD) : FVec Ideal S2304x1024 .bf16 := m ((c.tc : Thread nD τ).loc main_arg1)
abbrev argV (c : Dev nD) : FVec Ideal S2304x1024 .bf16 := m ((c.tc : Thread nD τ).loc main_arg2)
abbrev argG (c : Dev nD) : FVec Ideal S2304x1536 .f32 := m ((c.tc : Thread nD τ).loc main_arg4)

/-- The head of a grid point. -/
abbrev head (t : Fin cfg0.N) : Fin 8 := ⟨t.val / 4, by have := t.isLt; have : cfg0.N = 32 := rfl; omega⟩
/-- The query row of row `a` of a point's block. -/
abbrev row (t : Fin cfg0.N) (a : Fin 512) : Fin 2048 := ⟨t.val % 4 * 512 + a.val, by omega⟩

/-! ## The host's lines in front of the call: a row's log-sum and the attention's output -/

/-- The log-sum of every row of scores `s` with the rows' largest `M`, repeated over a head's lanes. -/
def lseOf (s : FVec Ideal S8x2048x2304 .f32) (M : FVec Ideal S8x2048 .f32) : FVec Ideal S2048x1024 .f32 :=
  shapeCast S2048x1024 (broadcastInDim S2048x8x128 ![0, 1, 2] bcast_S2048x8x1_S2048x8x128_0_1_2
    (transpose S2048x8x1 [1, 0, 2] (addf (broadcastInDim S8x2048x1 ![0, 1] bcast_S8x2048_S8x2048x1_0_1 M)
      (Host.log (broadcastInDim S8x2048x1 ![0, 1] bcast_S8x2048_S8x2048x1_0_1
        (Host.reduceAdd (Host.exp (subf s (broadcastInDim S8x2048x2304 ![0, 1, 2] bcast_S8x2048x1_S8x2048x2304_0_1_2
            (broadcastInDim S8x2048x1 ![0, 1] bcast_S8x2048_S8x2048x1_0_1 M))))
          (constant (F := Ideal) S_ FTy.f32 0#32) reducesTo_S8x2048x2304_S8x2048_d2 h_S_))))
      transposes_S8x2048x1_S2048x8x1_1_0_2)) shapeCasts_S2048x8x128_S2048x1024

/-- The attention's output from the same scores: the value rows weighed. -/
def outOf (s : FVec Ideal S8x2048x2304 .f32) (M : FVec Ideal S8x2048 .f32) (v : FVec Ideal S2304x1024 .bf16) :
    FVec Ideal S2048x1024 .bf16 :=
  truncf .bf16 (shapeCast S2048x1024 (transpose S2048x8x128 [2, 0, 1]
    (Host.dotGeneral dot_S2304x8x128_S8x2048x2304_S8x128x2048_0_2_2_1_1_0 none
      (shapeCast S2304x8x128 (extf FTy.f32 v bitsLt_bf16_f32) shapeCasts_S2304x1024_S2304x8x128)
      (Host.divf (Host.exp (subf s (broadcastInDim S8x2048x2304 ![0, 1, 2] bcast_S8x2048x1_S8x2048x2304_0_1_2
          (broadcastInDim S8x2048x1 ![0, 1] bcast_S8x2048_S8x2048x1_0_1 M))))
        (broadcastInDim S8x2048x2304 ![0, 1, 2] bcast_S8x2048x1_S8x2048x2304_0_1_2
          (broadcastInDim S8x2048x1 ![0, 1] bcast_S8x2048_S8x2048x1_0_1
            (Host.reduceAdd (Host.exp (subf s (broadcastInDim S8x2048x2304 ![0, 1, 2] bcast_S8x2048x1_S8x2048x2304_0_1_2
                (broadcastInDim S8x2048x1 ![0, 1] bcast_S8x2048_S8x2048x1_0_1 M))))
              (constant (F := Ideal) S_ FTy.f32 0#32) reducesTo_S8x2048x2304_S8x2048_d2 h_S_)))))
      transposes_S8x128x2048_S2048x8x128_2_0_1) shapeCasts_S2048x8x128_S2048x1024) bitsLt_bf16_f32

/-- The rows the call reads the output from: behind the pool's columns, with rows of zeros below. -/
def catOf (p : FVec Ideal S2304x512 .bf16) (o : FVec Ideal S2048x1024 .bf16) : FVec Ideal S2304x1536 .bf16 :=
  concatenate S2304x1536 1 [⟨S2304x512, p⟩, ⟨S2304x1024, concatenate S2304x1024 0 [⟨S2048x1024, o⟩,
      ⟨S256x1024, broadcastInDim S256x1024 ![] bcast_S_S256x1024 (constant (F := Ideal) S_ FTy.bf16 0#16)⟩]
    concatenates_S2048x1024_S256x1024_S2304x1024_d0⟩] concatenates_S2304x512_S2304x1024_S2304x1536_d1

theorem lseOf_at (s : FVec Ideal S8x2048x2304 .f32) (M : FVec Ideal S8x2048 .f32) (r : Fin 2048) (h : Fin 8) (i : Fin 128) :
    (lseOf s M (ix2 r (col h i)) : EReal)
      = M (ix2 h r) + Ideal.log (∑ j, Ideal.exp (s (ix3 h r j) - M (ix2 h r))) := by
  pointwise [lseOf]
  simp only [Cert.AttnRefIdeal.Rows.head_of]

theorem outOf_at (s : FVec Ideal S8x2048x2304 .f32) (M : FVec Ideal S8x2048 .f32) (v : FVec Ideal S2304x1024 .bf16)
    (r : Fin 2048) (h : Fin 8) (i : Fin 128) :
    (outOf s M v (ix2 r (col h i)) : EReal)
      = ∑ x, (v (ix2 x (col h i)) : EReal) * Ideal.div (Ideal.exp (s (ix3 h r x) - M (ix2 h r)))
          (∑ y, Ideal.exp (s (ix3 h r y) - M (ix2 h r))) := by
  pointwise [outOf]
  simp only [Cert.AttnRefIdeal.Rows.head_of, Nat.div_add_mod']

theorem catOf_at (p : FVec Ideal S2304x512 .bf16) (o : FVec Ideal S2048x1024 .bf16) (r : Fin 2048) (h : Fin 8) (i : Fin 128) :
    (catOf p o (ix2 (up r) (col' h i)) : EReal) = o (ix2 r (col h i)) := by
  pointwise [catOf]

/-- The log-sums the call reads. -/
theorem saved_lse (c : Dev nD) : V m c main_v27
    = lseOf (Cert.AttnRefIdeal.Read.val_main_v11 (F := Ideal) (argQ m c) (argK m c))
        (Cert.AttnRefIdeal.Read.val_main_v12 (F := Ideal) (argQ m c) (argK m c)) := by
  entry_read
  rfl

/-- The output the call reads. -/
theorem saved_out (c : Dev nD) : V m c main_v30
    = catOf (m ((c.tc : Thread nD τ).loc main_arg3))
        (outOf (Cert.AttnRefIdeal.Read.val_main_v11 (F := Ideal) (argQ m c) (argK m c))
          (Cert.AttnRefIdeal.Read.val_main_v12 (F := Ideal) (argQ m c) (argK m c)) (argV m c)) := by
  entry_read
  rfl

/-! ## A point's blocks -/

theorem q_block (c : Dev nD) (t : Fin cfg0.N) (a : Fin 512) (i : Fin 128) :
    (X0_0 m c t (ix2 a i) : EReal) = argQ m c (ix2 (up (row t a)) (col (head t) i)) := by
  unfold X0_0 Pipeline.Window.fill
  rw [dif_pos (moved0_0 t (ix2 a i))]
  blk_simp [iblk]; rw [V_main_arg0 m c]
  refine congrArg (argQ m c) ?_
  blk_ext [block_at t]

theorem k_block (c : Dev nD) (t : Fin cfg0.N) (a : Fin 2304) (i : Fin 128) :
    (iblk m c 1 t (ix2 a i) : EReal) = argK m c (ix2 a (col (head t) i)) := by
  have e : (win0_1.blk t).view.emb (ix2 a i) = ix2 a (col (head t) i) := by
    blk_ext [block_at t]
  blk_simp [iblk]; rw [V_main_arg1 m c]; exact congrArg (argK m c) e

theorem v_block (c : Dev nD) (t : Fin cfg0.N) (a : Fin 2304) (i : Fin 128) :
    (iblk m c 2 t (ix2 a i) : EReal) = argV m c (ix2 a (col (head t) i)) := by
  have e : (win0_2.blk t).view.emb (ix2 a i) = ix2 a (col (head t) i) := by
    blk_ext [block_at t]
  blk_simp [iblk]; rw [V_main_arg2 m c]; exact congrArg (argV m c) e

theorem g_block (c : Dev nD) (t : Fin cfg0.N) (a : Fin 512) (i : Fin 128) :
    (X0_4 m c t (ix2 a i) : EReal) = argG m c (ix2 (up (row t a)) (col' (head t) i)) := by
  unfold X0_4 Pipeline.Window.fill
  rw [dif_pos (moved0_4 t (ix2 a i))]
  blk_simp [iblk]; rw [V_main_arg4 m c]
  refine congrArg (argG m c) ?_
  blk_ext [block_at t]

theorem o_block_of (c : Dev nD) (t : Fin cfg0.N) (a : Fin 512) (i : Fin 128) (x : FVec Ideal S2304x1536 .bf16)
    (h : V m c main_v30 = x) : (X0_3 m c t (ix2 a i) : EReal) = x (ix2 (up (row t a)) (col' (head t) i)) := by
  generalize hV : V m = W at h
  unfold X0_3 Pipeline.Window.fill
  rw [dif_pos (moved0_3 t (ix2 a i))]
  unfold iblk
  rw [hV]
  show W c main_v30 _ = _
  rw [h]
  refine congrArg x ?_
  blk_ext [block_at t]

theorem lse_block_of (c : Dev nD) (t : Fin cfg0.N) (a : Fin 512) (i : Fin 128) (x : FVec Ideal S2048x1024 .f32)
    (h : V m c main_v27 = x) : (iblk m c 5 t (ix2 a i) : EReal) = x (ix2 (row t a) (col (head t) i)) := by
  have e : ((View.whole main_v27).slice ((win0 5).rect t)).emb (ix2 a i) = ix2 (row t a) (col (head t) i) := by
    blk_ext [block_at t]
  generalize hV : V m = W at h
  unfold iblk
  rw [hV]
  generalize hA : W c (Pipeline.arrRef spec0 5) = A
  have hx : A = x := hA.symm.trans h
  subst hx
  simp only [View.read]
  rw [cast_eq]
  exact congrArg A e

theorem lse_block (c : Dev nD) (t : Fin cfg0.N) (a : Fin 512) (i : Fin 128) :
    (iblk m c 5 t (ix2 a i) : EReal) = top (argQ m c) (argK m c) (head t) (row t a)
      + Ideal.log (∑ x, Ideal.exp (score (argQ m c) (argK m c) (head t) (row t a) x
          - top (argQ m c) (argK m c) (head t) (row t a))) := by
  refine (lse_block_of m c t a i _ (saved_lse m c)).trans ((lseOf_at _ _ _ _ _).trans ?_)
  simp only [Cert.AttnRefIdeal.Rows.v11_at, Cert.AttnRefIdeal.Rows.v12_at]

theorem o_block (c : Dev nD) (t : Fin cfg0.N) (a : Fin 512) (i : Fin 128) :
    (X0_3 m c t (ix2 a i) : EReal) = ∑ x, (argV m c (ix2 x (col (head t) i)) : EReal)
      * weight (argQ m c) (argK m c) (head t) (row t a) x := by
  refine (o_block_of m c t a i _ (saved_out m c)).trans ((catOf_at _ _ _ _ _).trans ((outOf_at _ _ _ _ _ _).trans ?_))
  simp only [Cert.AttnRefIdeal.Rows.v11_at, Cert.AttnRefIdeal.Rows.v12_at]
  rfl

/-- The first column of a block, loaded, at a row. -/
theorem first_column (x : FVec Ideal S512x128 .f32) (a : Fin 512) :
    (View.ld (Val := Elt Ideal) (S := S512x128) (e' := .f32) x (Rect.unit ![0, 0] ![512, 1] inb_S512x128_S512x1_0_0) : FVec Ideal S512x1 .f32)
      (ix2 a 0) = (x (ix2 a 0) : EReal) := by
  refine congrArg x ?_
  blk_ext
  all_goals simp [LoadRect.idx, Rect.unit]

/-! ## The body's expressions at an index -/

section Payloads
variable (x0 : FVec Ideal S512x128 .bf16) (x1 x2 : FVec Ideal S2304x128 .bf16) (x3 : FVec Ideal S512x128 .f32)
  (x7 : FVec Ideal S512x1 .f32) (x14 : FVec Ideal S512x128 .bf16) (a : Fin 512) (j : Fin 2304) (i : Fin 128)

theorem k0_pay3_at : (k0_pay3 (F := Ideal) x0 x1 x7 (ix2 a j) : EReal)
    = Ideal.exp ((∑ i, (x0 (ix2 a i) : EReal) * x1 (ix2 j i)) * scale - x7 (ix2 a 0)) := by
  pointwise [k0_pay3]

theorem k0_pay4_at : (k0_pay4 (F := Ideal) x0 x1 x2 x3 x7 x14 (ix2 a j) : EReal)
    = k0_pay3 (F := Ideal) x0 x1 x7 (ix2 a j)
      * ((∑ i, (x3 (ix2 a i) : EReal) * x2 (ix2 j i)) - ∑ i, (x3 (ix2 a i) : EReal) * x14 (ix2 a i)) * scale := by
  pointwise [k0_pay4]

theorem k0_pay5_at : (k0_pay5 (F := Ideal) x0 x1 x2 x3 x7 x14 (ix2 a i) : EReal)
    = ∑ j, (k0_pay4 (F := Ideal) x0 x1 x2 x3 x7 x14 (ix2 a j) : EReal) * x1 (ix2 j i) := by
  pointwise [k0_pay5]

theorem k0_pay6_at : (k0_pay6 (F := Ideal) x0 x1 x2 x3 x7 x14 (ix2 j i) : EReal)
    = ∑ a, (k0_pay4 (F := Ideal) x0 x1 x2 x3 x7 x14 (ix2 a j) : EReal) * x0 (ix2 a i) := by
  pointwise [k0_pay6]

theorem k0_pay7_at : (k0_pay7 (F := Ideal) x0 x1 x3 x7 (ix2 j i) : EReal)
    = ∑ a, (k0_pay3 (F := Ideal) x0 x1 x7 (ix2 a j) : EReal) * x3 (ix2 a i) := by
  pointwise [k0_pay7]

end Payloads

/-! ## What a point computes, where its operands are real numbers -/

/-- The operands the gradients depend on are real numbers. -/
structure Finite (c : Dev nD) : Prop where
  q : ∀ (r : Fin 2048) (h : Fin 8) (i : Fin 128), IsReal (argQ m c (ix2 (up r) (col h i)))
  k : ∀ (j : Fin 2304) (h : Fin 8) (i : Fin 128), IsReal (argK m c (ix2 j (col h i)))
  v : ∀ (j : Fin 2304) (h : Fin 8) (i : Fin 128), IsReal (argV m c (ix2 j (col h i)))
  g : ∀ (r : Fin 2048) (h : Fin 8) (i : Fin 128), IsReal (argG m c (ix2 (up r) (col' h i)))

theorem scale_real : IsReal scale := ⟨_, by simp [Ideal.ofBits, Ideal.ieee]; rfl⟩

variable {m} {c : Dev nD} (fin : Finite m c)
include fin

theorem score_real (h : Fin 8) (r : Fin 2048) (j : Fin 2304) : IsReal (score (argQ m c) (argK m c) h r j) :=
  (IsReal.sum _ fun i => (fin.q r h i).mul (fin.k j h i)).mul scale_real

theorem top_real (h : Fin 8) (r : Fin 2048) : IsReal (top (argQ m c) (argK m c) h r) :=
  IsReal.fold_max (by decide) fun j => score_real fin h r j

/-- The rebuilt weights are the softmax's. -/
theorem weights_at (t : Fin cfg0.N) (a : Fin 512) (j : Fin 2304) :
    (k0_pay3 (F := Ideal) (X0_0 m c t) (iblk m c 1 t)
      (View.ld (iblk m c 5 t) (Rect.unit ![0, 0] ![512, 1] inb_S512x128_S512x1_0_0)) (ix2 a j) : EReal)
      = weight (argQ m c) (argK m c) (head t) (row t a) j := by
  refine (k0_pay3_at _ _ _ a j).trans ?_
  rw [first_column, lse_block]
  simp only [q_block, k_block]
  exact weight_eq (by decide) (score_real fin (head t) (row t a)) (top_real fin (head t) (row t a)) j

/-- The rebuilt gradient of the scores is the one differentiating the softmax gives. -/
theorem scoreGrads_at (t : Fin cfg0.N) (a : Fin 512) (j : Fin 2304) :
    (k0_pay4 (F := Ideal) (X0_0 m c t) (iblk m c 1 t) (iblk m c 2 t) (X0_4 m c t)
      (View.ld (iblk m c 5 t) (Rect.unit ![0, 0] ![512, 1] inb_S512x128_S512x1_0_0)) (X0_3 m c t) (ix2 a j) : EReal)
      = scoreGrad (argQ m c) (argK m c) (argV m c) (argG m c) (head t) (row t a) j := by
  refine (k0_pay4_at _ _ _ _ _ _ a j).trans ?_
  rw [k0_pay3_at, first_column, lse_block]
  simp only [q_block, k_block, v_block, g_block, o_block]
  exact score_grad_eq (by decide) (score_real fin (head t) (row t a)) (top_real fin (head t) (row t a))
    (g := fun i => argG m c (ix2 (up (row t a)) (col' (head t) i)))
    (v := fun j i => argV m c (ix2 j (col (head t) i)))
    (fun i => fin.g _ _ i) (fun j i => fin.v j _ i) j

end Cert.AttnIdeal.Value
-- ==== Proof.AttnFinal.lean ====
/- The three results of the attention's gradient kernel, array by array. -/
module

public import proofs.«01_k».proof.Proof.AttnValue

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.AttnMath
open Cert.AttnRefIdeal.Rows (col up col' scale score top weight outGrad scoreGrad)
open Cert.AttnRefIdeal.Read (val_main_v64 val_main_v65 val_main_v66)

variable {m : (ℓ : Loc nD τ sig) → Buf (Elt Ideal) ℓ}

/-- The body's addition to what a run has accumulated, of the keys' gradient. -/
theorem k0_pay1_at (x y : FVec Ideal S2304x128 .f32) (j : S2304x128.Idx) : (k0_pay1 (F := Ideal) x y j : EReal) = y j + x j := by
  obtain ⟨a, i, rfl⟩ : ∃ (a : Fin 2304) (i : Fin 128), j = ix2 a i := ⟨j 0, j 1, by blk_ext⟩
  pointwise [k0_pay1]

/-- The same, of the values' gradient. -/
theorem k0_pay2_at (x y : FVec Ideal S2304x128 .f32) (j : S2304x128.Idx) : (k0_pay2 (F := Ideal) x y j : EReal) = y j + x j := by
  obtain ⟨a, i, rfl⟩ : ∃ (a : Fin 2304) (i : Fin 128), j = ix2 a i := ⟨j 0, j 1, by blk_ext⟩
  pointwise [k0_pay2]

/-- The four points of a run have one head. -/
theorem run_head (t : Fin cfg0.N) (s : Fin 4) (p) : head ⟨4 * (t.val / 4) + s.val, p⟩ = head t :=
  Fin.ext (by show (4 * (t.val / 4) + s.val) / 4 = t.val / 4; omega)

/-- The rows of the four points of a run, one after another. -/
theorem run_row (t : Fin cfg0.N) (s : Fin 4) (p) (a : Fin 512) (hl : s.val * 512 + a.val < 2048) :
    row ⟨4 * (t.val / 4) + s.val, p⟩ a = ⟨s.val * 512 + a.val, hl⟩ :=
  Fin.ext (by show (4 * (t.val / 4) + s.val) % 4 * 512 + a.val = s.val * 512 + a.val; omega)

/-- The queries' gradient. -/
theorem final_6 {c : Dev nD} (fin : Finite m c) : (dats m 0 c).arrAt 6 (cfgs 0).N
    = val_main_v64 (F := Ideal) (argQ m c) (argK m c) (argV m c) (argG m c) := by
  refine (dats m 0 c).arrAt_eq_of_covers 6 _ (by decide +kernel) fun t hf y => ?_
  blk_simp; rw [after0_6]
  obtain ⟨a, i, rfl⟩ : ∃ (a : Fin 512) (i : Fin 128), y = ix2 a i := ⟨y 0, y 1, by blk_ext⟩
  have e : (win0_6.blk t).view.emb (ix2 a i) = ix2 (row t a) (col (head t) i) := by
    blk_ext [block_at t]
  have key : (outsAt0 m c t.val t.isLt).1 (ix2 a i) = k0_pay5 (F := Ideal) (X0_0 m c t) (iblk m c 1 t) (iblk m c 2 t) (X0_4 m c t)
      (View.ld (iblk m c 5 t) (Rect.unit ![0, 0] ![512, 1] inb_S512x128_S512x1_0_0)) (X0_3 m c t) (ix2 a i) := by
    by_cases h : t.val % 4 = 0
    · rw [outsAt0_A m c t h (by omega)]; frame_out; rfl
    · rw [outsAt0_B m c t h (by omega)]; frame_out; rfl
  rw [e]
  refine key.trans ((k0_pay5_at _ _ _ _ _ _ a i).trans ?_)
  refine Eq.trans ?_ (Cert.AttnRefIdeal.Rows.v64_at (argQ m c) (argK m c) (argV m c) (argG m c) (row t a) (head t) i).symm
  simp only [scoreGrads_at fin, k_block]

/-- The keys' gradient: a head's four points add up the rows. -/
theorem final_7 {c : Dev nD} (fin : Finite m c) : (dats m 0 c).arrAt 7 (cfgs 0).N
    = val_main_v65 (F := Ideal) (argQ m c) (argK m c) (argV m c) (argG m c) := by
  refine (dats m 0 c).arrAt_eq_of_covers 7 _ (by decide +kernel) fun t hf y => ?_
  blk_simp
  rw [after0_7, Pipeline.eq_sum_fin_of_reset_step_apply_of_flush (fun n h => (outsAt0 m c n h).2.1) 4 (fun _ => (0:EReal))
    (fun t y => (k0_pay6 (F := Ideal) (X0_0 m c t) (iblk m c 1 t) (iblk m c 2 t) (X0_4 m c t)
      (View.ld (iblk m c 5 t) (Rect.unit ![0, 0] ![512, 1] inb_S512x128_S512x1_0_0)) (X0_3 m c t) y : EReal))
    (fun t h j => by rw [outsAt0_A m c t h (by omega)]; frame_out; exact (zero_add (_ : EReal)).symm)
    (fun t h j => by rw [outsAt0_B m c t h (by omega)]; frame_out; exact k0_pay1_at _ _ _)
    t ((flush0_7 t).mp hf) _, zero_add]
  obtain ⟨j, i, rfl⟩ : ∃ (j : Fin 2304) (i : Fin 128), y = ix2 j i := ⟨y 0, y 1, by blk_ext⟩
  have e : (win0_7.blk t).view.emb (ix2 j i) = ix2 j (col (head t) i) := by
    blk_ext [block_at t]
  rw [e]
  refine Eq.trans ?_ (Cert.AttnRefIdeal.Rows.v65_at (argQ m c) (argK m c) (argV m c) (argG m c) j (head t) i).symm
  refine (Finset.sum_congr rfl fun s _ => k0_pay6_at _ _ _ _ _ _ j i).trans ?_
  simp only [scoreGrads_at fin, q_block]
  refine Fin.sum_mul_add_congr (S := 4) (n := 512) fun s a hl => ?_
  rw [run_head, run_row t s _ a hl]

/-- The values' gradient, likewise. -/
theorem final_8 {c : Dev nD} (fin : Finite m c) : (dats m 0 c).arrAt 8 (cfgs 0).N
    = val_main_v66 (F := Ideal) (argQ m c) (argK m c) (argG m c) := by
  refine (dats m 0 c).arrAt_eq_of_covers 8 _ (by decide +kernel) fun t hf y => ?_
  blk_simp
  rw [after0_8, Pipeline.eq_sum_fin_of_reset_step_apply_of_flush (fun n h => (outsAt0 m c n h).2.2) 4 (fun _ => (0:EReal))
    (fun t y => (k0_pay7 (F := Ideal) (X0_0 m c t) (iblk m c 1 t) (X0_4 m c t)
      (View.ld (iblk m c 5 t) (Rect.unit ![0, 0] ![512, 1] inb_S512x128_S512x1_0_0)) y : EReal))
    (fun t h j => by rw [outsAt0_A m c t h (by omega)]; frame_out; exact (zero_add (_ : EReal)).symm)
    (fun t h j => by rw [outsAt0_B m c t h (by omega)]; frame_out; exact k0_pay2_at _ _ _)
    t ((flush0_8 t).mp hf) _, zero_add]
  obtain ⟨j, i, rfl⟩ : ∃ (j : Fin 2304) (i : Fin 128), y = ix2 j i := ⟨y 0, y 1, by blk_ext⟩
  have e : (win0_8.blk t).view.emb (ix2 j i) = ix2 j (col (head t) i) := by
    blk_ext [block_at t]
  rw [e]
  refine Eq.trans ?_ (Cert.AttnRefIdeal.Rows.v66_at (argQ m c) (argK m c) (argG m c) j (head t) i).symm
  refine (Finset.sum_congr rfl fun s _ => k0_pay7_at _ _ _ _ j i).trans ?_
  simp only [weights_at fin, g_block]
  refine Fin.sum_mul_add_congr (S := 4) (n := 512) fun s a hl => ?_
  rw [run_head, run_row t s _ a hl]
  exact mul_comm _ _

end Cert.AttnIdeal.Value
-- ==== Proof.AttnClaim.lean ====
/- The attention's precondition read as real operands, and its value claim. -/
module

public import proofs.«01_k».proof.Defs
public import proofs.«01_k».proof.Proof.AttnFinal
public import proofs.«01_k».proof.Proof.Gen.Attn
public import proofs.«01_k».proof.Proof.Gen.Pre_finite_operands
public import proofs.«01_k».proof.Proof.Gen.AttnRefIdeal.Run
public import Idealize.ShloMosaic.Lib.Claim

@[expose] public section

set_option maxRecDepth 16384

noncomputable section

open Idealize.ShloMosaic Idealize.ShloMosaic.TcCoe Idealize.SL.Sem

namespace Cert.AttnRefIdeal.Value
open Cert.AttnRefIdeal.Read (val_main_v64 val_main_v65 val_main_v66)
/-- The reference's run: its three results as functions of the arguments, which stay. -/
theorem run_gradients (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = val_main_v64 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v65) = val_main_v65 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v66) = val_main_v66 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (Cert.AttnRefIdeal.Read.val_main_v64_eq m c), (h c).2.1.trans (Cert.AttnRefIdeal.Read.val_main_v65_eq m c),
    (h c).2.2.1.trans (Cert.AttnRefIdeal.Read.val_main_v66_eq _ _ _), (h c).2.2.2⟩) (run m ρ)

/-- The reference's frame: its arguments stay, and it declares no semaphore. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2.2.2, sem_eq_zero_of_no_sems (by decide) r.2⟩) (run_gradients m ρ)

end Cert.AttnRefIdeal.Value

namespace Cert.AttnIdeal.Value

open Cert.AttnIdeal Cert.AttnIdeal.Gen Cert.AttnMath
open Cert.AttnRefIdeal.Rows (col up col')
open Cert.AttnRefIdeal.Read (val_main_v64 val_main_v65 val_main_v66)

/-- The precondition says that the operands the attention reads are real. -/
theorem finite_of_pre (m : (ℓ : Loc nD τ sig) → Buf (Elt Ideal) ℓ)
    (hpre : @Cert.Pre_AttnIdeal_finite_operands Cert.Pre_finite_operands.Gen.facts m) (c : Dev nD) : Finite m c := by
  obtain ⟨h1, h2, h3, h4⟩ := hpre c
  refine ⟨fun r h i => ?_, fun j h i => ?_, fun j h i => ?_, fun r h i => ?_⟩
  · have e := mask_real _ _ (ix2 r (col h i)) rfl (congrFun h1 (ix2 r (col h i)))
    have e2 : extractStridedSlice Cert.Pre_finite_operands.S2048x1024 ![0, 0] (argQ m c)
        Cert.Pre_finite_operands.Gen.facts.slices_S2304x1024_S2048x1024_0_0 (ix2 r (col h i))
        = argQ m c (ix2 (up r) (col h i)) := by pointwise
    rw [← e2]; exact e
  · exact mask_real _ _ (ix2 j (col h i)) rfl (congrFun h2 (ix2 j (col h i)))
  · exact mask_real _ _ (ix2 j (col h i)) rfl (congrFun h3 (ix2 j (col h i)))
  · have e := mask_real _ _ (ix2 r (col h i)) rfl (congrFun h4 (ix2 r (col h i)))
    have e2 : extractStridedSlice Cert.Pre_finite_operands.S2048x1024 ![0, 512] (argG m c)
        Cert.Pre_finite_operands.Gen.facts.slices_S2304x1536_S2048x1024_0_512 (ix2 r (col h i))
        = argG m c (ix2 (up r) (col' h i)) := by pointwise
    rw [← e2]; exact e

/-- The kernel's run: each result holds what its window's write-backs leave, the arguments stay. -/
theorem run_arrays (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v31_0) = (Gen.dats m 0 c).arrAt 6 (cfgs 0).N
      ∧ r.2.mem ((c.tc : Thread nD τ).loc main_v31_1) = (Gen.dats m 0 c).arrAt 7 (cfgs 0).N
      ∧ r.2.mem ((c.tc : Thread nD τ).loc main_v31_2) = (Gen.dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  run_from Cert.AttnIdeal.Gen.run_main m g
/-- The kernel's three gradients are the reference's, over real operands. -/
theorem claim : @Cert.algebraic_AttnIdeal_AttnRefIdeal_pre_finite_operands Cert.AttnIdeal.Gen.facts Cert.AttnRefIdeal.Gen.facts Cert.Pre_finite_operands.Gen.facts := by
  pair_intro
  pick_goal 3
  · exact fun c => val_main_v64 (F := Ideal) (argQ m c) (argK m c) (argV m c) (argG m c)
  pick_goal 3
  · exact fun c => val_main_v65 (F := Ideal) (argQ m c) (argK m c) (argV m c) (argG m c)
  pick_goal 3
  · exact fun c => val_main_v66 (F := Ideal) (argQ m c) (argK m c) (argG m c)
  · refine (θ_run _ _ _).mono (fun r h c => ?_) (run_arrays m g)
    have fin := finite_of_pre m hpre c
    exact ⟨(h c).1.trans (final_6 fin), (h c).2.1.trans (final_7 fin), (h c).2.2.1.trans (final_8 fin), (h c).2.2.2⟩
  · refine (θ_run _ _ _).mono (fun r h c => ?_) (Cert.AttnRefIdeal.Value.run_gradients m' g')
    obtain ⟨a0, a1, a2, a3, a4⟩ := hagree c
    obtain ⟨h1, h2, h3, rest⟩ := h c
    rw [a0, a1, a2, a4] at h1 h2
    rw [a0, a1, a4] at h3
    exact ⟨h1, h2, h3, rest⟩

end Cert.AttnIdeal.Value
-- ==== Proof.AttnRow.lean ====
/- One row of the attention's forward pass, over the extended reals: the output, divided once after the product, and the
   row's log-sum, kept with the largest score taken out. -/
module

public import proofs.«01_k».proof.Proof.AttnMath

@[expose] public section

noncomputable section

namespace Cert.AttnMath

open Idealize.ShloMosaic

variable {n : ℕ}

/-- A real factor that is not negative goes into a sum of extended reals. -/
theorem sum_mul_real {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- Dividing the weighed sum by the row's total is weighing by the divided weights. The values may be anything. -/
theorem out_eq (hn : 0 < n) {s : Fin n → EReal} {m : EReal} (hs : ∀ k, IsReal (s k)) (hm : IsReal m) (v : Fin n → EReal) :
    Ideal.div (∑ k, Ideal.exp (s k - m) * v k) (∑ x, Ideal.exp (s x - m))
      = ∑ k, v k * Ideal.div (Ideal.exp (s k - m)) (∑ x, Ideal.exp (s x - m)) := by
  choose s' hs' using hs
  obtain ⟨m, rfl⟩ := hm
  obtain rfl : s = fun k => (s' k : EReal) := funext hs'
  have hl := total_pos hn s' m
  simp only [total_real, Ideal.div_coe hl.ne']
  rw [sum_mul_real _ _ (one_div_nonneg.mpr hl.le)]
  exact Finset.sum_congr rfl fun k _ => by rw [mul_comm (Ideal.exp _) (v k), mul_assoc]

/-- The largest score and the logarithm of what is left add up to the logarithm of the sum of exponentials. -/
theorem log_sum_eq (hn : 0 < n) {s : Fin n → EReal} {m : EReal} (hs : ∀ k, IsReal (s k)) (hm : IsReal m) :
    m + Ideal.log (∑ x, Ideal.exp (s x - m)) = Ideal.log (∑ x, Ideal.exp (s x)) := by
  choose s' hs' using hs
  obtain ⟨m, rfl⟩ := hm
  obtain rfl : s = fun k => (s' k : EReal) := funext hs'
  have hl := total_pos hn s' m
  have e : ∑ k, Real.exp (s' k) = Real.exp m * total s' m := by
    rw [total, Finset.mul_sum]
    exact Finset.sum_congr rfl fun k _ => by rw [← Real.exp_add]; congr 1; ring
  have h0 : 0 < Real.exp m * total s' m := mul_pos (Real.exp_pos m) hl
  simp only [total_real, Ideal.exp_coe, coe_sum, e]
  rw [Ideal.log_coe, if_neg (not_le.mpr hl), Ideal.log_coe, if_neg (not_le.mpr h0), ← EReal.coe_add,
    Real.log_mul (Real.exp_pos m).ne' hl.ne', Real.log_exp]

end Cert.AttnMath
-- ==== Proof.Shift.lean ====
/- The row before and the row after, zero past the two ends: how a kernel's rotated and masked rows read. -/
module

public import proofs.«01_k».proof.Defs
public import Idealize.ShloMosaic.Lib.Pointwise
public import Idealize.ShloMosaic.Lib.Pipeline.Value
public import Idealize.ShloMosaic.Lib.Pipeline.ValueKit
public import Idealize.ShloMosaic.Lib.Tactic.WordOmega

@[expose] public section

noncomputable section

open Idealize.ShloMosaic

namespace Cert.Shift

/-- The value one row before, zero before the first row. -/
def before (f : Fin 2048 → EReal) (r : Fin 2048) : EReal := if h : r.val < 1 then 0 else f ⟨r.val - 1, by omega⟩

/-- The value one row after, zero after the last row. -/
def after (f : Fin 2048 → EReal) (r : Fin 2048) : EReal := if h : r.val < 2047 then f ⟨1 + r.val, by omega⟩ else 0

/-- Rows rotated down by one, the first one masked. -/
theorem select_before (f : Fin 2048 → EReal) (r : Fin 2048) :
    before f r = Scalar.select (IntOp.cmpi .sge (BitVec.ofNat 32 r.val) 1#32) (f ⟨(r.val + 2048 - 1) % 2048, by omega⟩) 0 := by
  have e : IntOp.cmpi .sge (BitVec.ofNat 32 r.val) 1#32 = if r.val < 1 then 0#1 else 1#1 := by split_ifs with h <;> word_omega
  rw [e, before]
  split_ifs with h
  · rfl
  · exact congrArg f (Fin.ext (show r.val - 1 = (r.val + 2048 - 1) % 2048 by omega))

/-- Rows rotated up by one, the last one masked. -/
theorem select_after (f : Fin 2048 → EReal) (r : Fin 2048) :
    after f r = Scalar.select (IntOp.cmpi .slt (BitVec.ofNat 32 r.val) 2047#32) (f ⟨(r.val + 2048 - 2047) % 2048, by omega⟩) 0 := by
  have e : IntOp.cmpi .slt (BitVec.ofNat 32 r.val) 2047#32 = if r.val < 2047 then 1#1 else 0#1 := by split_ifs with h <;> word_omega
  rw [e, after]
  split_ifs with h
  · exact congrArg f (Fin.ext (show 1 + r.val = (r.val + 2048 - 2047) % 2048 by omega))
  · rfl

/-- A factor goes inside the row before, -/
theorem before_mul (f : Fin 2048 → EReal) (w : EReal) (r : Fin 2048) :
    (if h : r.val < 1 then 0 else f ⟨r.val - 1, by omega⟩) * w = before (fun s => w * f s) r := by
  unfold before; split_ifs
  · exact zero_mul w
  · exact mul_comm _ w

/-- and inside the row after. -/
theorem after_mul (f : Fin 2048 → EReal) (w : EReal) (r : Fin 2048) :
    (if h : r.val < 2047 then f ⟨1 + r.val, by omega⟩ else 0) * w = after (fun s => w * f s) r := by
  unfold after; split_ifs
  · exact mul_comm _ w
  · exact zero_mul w

/-- Column `x` of the gate, the factor and the value, which lie side by side in one array. -/
abbrev gate (x : Fin 1024) : Fin 3072 := ⟨x.val, by omega⟩
abbrev factor (x : Fin 1024) : Fin 3072 := ⟨1024 + x.val, by omega⟩
abbrev value (x : Fin 1024) : Fin 3072 := ⟨2048 + x.val, by omega⟩

/-- A row padded above is the row before, -/
theorem before_pad (f g : Fin 2048 → EReal) (e : ∀ s, f s = g s) (r : Fin 2048) :
    (if h : 1 ≤ r.val ∧ r.val - 1 < 2047 then f ⟨r.val - 1, by omega⟩ else 0) = before g r := by
  unfold before; split_ifs
  · omega
  · exact e _
  · rfl
  · omega

/-- and padded below the row after. -/
theorem after_pad (f g : Fin 2048 → EReal) (e : ∀ s, f s = g s) (r : Fin 2048) :
    (if h : r.val < 2047 then f ⟨1 + r.val, by omega⟩ else 0) = after g r := by
  unfold after; split_ifs
  · exact e _
  · rfl

end Cert.Shift
-- ==== Proof.DWDownGrad.lean ====
/- The gradient of the down weight: each chunk is the transposed hidden rows times the output's gradient. -/
module

public import proofs.«01_k».proof.Defs
public import proofs.«01_k».proof.Proof.Gen.DWDownIdeal.Frame
public import proofs.«01_k».proof.Proof.Gen.DWDownIdeal.Value
public import proofs.«01_k».proof.Proof.Gen.DWDownRefIdeal.Run
public import proofs.«01_k».proof.Proof.Gen.DWDownRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DWDownIdeal.Gradient

open Cert.DWDownIdeal Cert.DWDownIdeal.Gen

variable (m : (ℓ : Loc nD τ sig) → Buf (Elt Ideal) ℓ)

/-- The block of every window at every grid point: the point is chunk `t / 2`, column block `t % 2`. -/
theorem block_at : ∀ t : Fin cfg0.N, win0_0.index t = ![t.val / 2, 0, 0] ∧ win0_1.index t = ![0, t.val % 2]
    ∧ win0_2.index t = ![t.val / 2, 0, t.val % 2] :=
  (by decide +kernel : ∀ t : Fin grid0.N, _)

abbrev argH (c : Dev nD) : FVec Ideal S4x2304x704 .bf16 := m ((c.tc : Thread nD τ).loc main_arg0)
abbrev argG (c : Dev nD) : FVec Ideal S2304x1024 .bf16 := m ((c.tc : Thread nD τ).loc main_arg1)

/-- The chunk of a grid point. -/
abbrev chunk (t : Fin cfg0.N) : Fin 4 := ⟨t.val / 2, by have := t.isLt; have : cfg0.N = 8 := rfl; omega⟩
/-- The column of column `n` of a point's block. -/
abbrev col (t : Fin cfg0.N) (n : Fin 512) : Fin 1024 := ⟨t.val % 2 * 512 + n.val, by omega⟩

theorem h_block (c : Dev nD) (t : Fin cfg0.N) (r : Fin 2304) (f : Fin 704) :
    (iblk m c 0 t (ix3 0 r f) : EReal) = argH m c (ix3 (chunk t) r f) := by
  have e : (win0_0.blk t).view.emb (ix3 0 r f) = ix3 (chunk t) r f := by blk_ext [block_at t]
  blk_simp [iblk]; rw [V_main_arg0 m c]; exact congrArg (argH m c) e

theorem g_block (c : Dev nD) (t : Fin cfg0.N) (r : Fin 2304) (n : Fin 512) :
    (iblk m c 1 t (ix2 r n) : EReal) = argG m c (ix2 r (col t n)) := by
  have e : (win0_1.blk t).view.emb (ix2 r n) = ix2 r (col t n) := by blk_ext [block_at t]
  blk_simp [iblk]; rw [V_main_arg1 m c]; exact congrArg (argG m c) e

theorem stored_at (x : FVec Ideal S1x2304x704 .bf16) (y : FVec Ideal S2304x512 .bf16) (f : Fin 704) (n : Fin 512) :
    (k0_pay1 (F := Ideal) x y (ix3 0 f n) : EReal) = ∑ r : Fin 2304, (x (ix3 0 r f) : EReal) * y (ix2 r n) := by
  pointwise [k0_pay1]

open Cert.DWDownRefIdeal.Read in
theorem reference_at (x : FVec Ideal S4x2304x704 .bf16) (y : FVec Ideal S2304x1024 .bf16) (j : Fin 4) (f : Fin 704) (n : Fin 1024) :
    (val_main_v6 (F := Ideal) x y (ix3 j f n) : EReal) = ∑ r : Fin 2304, (x (ix3 j r f) : EReal) * y (ix2 r n) := by
  pointwise [val_main_v6, val_main_v5, val_main_v4, val_main_v0, val_main_v1]
  exact Finset.sum_congr rfl fun _ _ => mul_comm _ _

theorem final (c : Dev nD) : (dats m 0 c).arrAt 2 (cfgs 0).N
    = Cert.DWDownRefIdeal.Read.val_main_v6 (F := Ideal) (argH m c) (argG m c) := by
  refine (dats m 0 c).arrAt_eq_of_covers 2 _ (by decide +kernel) fun t hf y => ?_
  blk_simp; rw [after0_2]
  obtain ⟨f, n, rfl⟩ : ∃ (f : Fin 704) (n : Fin 512), y = ix3 0 f n := ⟨y 1, y 2, by blk_ext⟩
  have e : (win0_2.blk t).view.emb (ix3 0 f n) = ix3 (chunk t) f (col t n) := by blk_ext [block_at t]
  rw [e, reference_at]
  unfold outsAt0
  frame_out
  refine (stored_at _ _ f n).trans ?_
  simp only [h_block, g_block]

theorem reference_frame : @Cert.quiescent_DWDownRefIdeal Cert.DWDownRefIdeal.Gen.facts := fun m ρ _ =>
  (θ_run Cert.DWDownRefIdeal.defs _ _).mono (fun r h => ⟨fun c => (h c).2, sem_eq_zero_of_no_sems (by decide) r.2⟩)
    (Cert.DWDownRefIdeal.Value.run m ρ)

theorem claim : @Cert.algebraic_DWDownIdeal_DWDownRefIdeal Cert.DWDownIdeal.Gen.facts Cert.DWDownRefIdeal.Gen.facts := by
  pair_intro
  pick_goal 3
  · exact fun c => Cert.DWDownRefIdeal.Read.val_main_v6 (F := Ideal) (argH m c) (argG m c)
  · exact (θ_run _ _ _).mono (fun r h c => ⟨(h c).1.trans (final m c), (h c).2⟩) (Cert.DWDownIdeal.Value.run_blocks m g)
  · refine (θ_run _ _ _).mono (fun r h c => ?_) (Cert.DWDownRefIdeal.Value.run m' g')
    obtain ⟨h1, rest⟩ := h c
    refine ⟨h1.trans ((Cert.DWDownRefIdeal.Read.val_main_v6_eq _ _).trans ?_), rest⟩
    obtain ⟨a0, a1, -⟩ := hagree c
    rw [a0, a1]

end Cert.DWDownIdeal.Gradient
-- ==== Proof.DWInGrad.lean ====
/- The gradients of the gate and up weights: each chunk is the transposed input times that chunk's gradient. -/
module

public import proofs.«01_k».proof.Defs
public import proofs.«01_k».proof.Proof.Gen.DWInIdeal.Frame
public import proofs.«01_k».proof.Proof.Gen.DWInIdeal.Value
public import proofs.«01_k».proof.Proof.Gen.DWInRefIdeal.Run
public import proofs.«01_k».proof.Proof.Gen.DWInRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DWInIdeal.Gradient

open Cert.DWInIdeal Cert.DWInIdeal.Gen

variable (m : (ℓ : Loc nD τ sig) → Buf (Elt Ideal) ℓ)

/-- The block of every window at every grid point: the point is chunk `t`. -/
theorem block_at : ∀ t : Fin cfg0.N, win0_0.index t = ![0, 0] ∧ win0_1.index t = ![t.val, 0, 0]
    ∧ win0_2.index t = ![t.val, 0, 0] ∧ win0_3.index t = ![t.val, 0, 0] ∧ win0_4.index t = ![t.val, 0, 0] :=
  (by decide +kernel : ∀ t : Fin grid0.N, _)

abbrev argU (c : Dev nD) : FVec Ideal S2304x1024 .bf16 := m ((c.tc : Thread nD τ).loc main_arg0)
abbrev argA (c : Dev nD) : FVec Ideal S4x2304x704 .bf16 := m ((c.tc : Thread nD τ).loc main_arg1)
abbrev argB (c : Dev nD) : FVec Ideal S4x2304x704 .bf16 := m ((c.tc : Thread nD τ).loc main_arg2)

/-- The chunk of a grid point. -/
abbrev chunk (t : Fin cfg0.N) : Fin 4 := ⟨t.val, t.isLt⟩

theorem u_block (c : Dev nD) (t : Fin cfg0.N) (r : Fin 2304) (d : Fin 1024) :
    (iblk m c 0 t (ix2 r d) : EReal) = argU m c (ix2 r d) := by
  have e : (win0_0.blk t).view.emb (ix2 r d) = ix2 r d := by blk_ext [block_at t]
  blk_simp [iblk]; rw [V_main_arg0 m c]; exact congrArg (argU m c) e

theorem a_block (c : Dev nD) (t : Fin cfg0.N) (r : Fin 2304) (f : Fin 704) :
    (iblk m c 1 t (ix3 0 r f) : EReal) = argA m c (ix3 (chunk t) r f) := by
  have e : (win0_1.blk t).view.emb (ix3 0 r f) = ix3 (chunk t) r f := by blk_ext [block_at t]
  blk_simp [iblk]; rw [V_main_arg1 m c]; exact congrArg (argA m c) e

theorem b_block (c : Dev nD) (t : Fin cfg0.N) (r : Fin 2304) (f : Fin 704) :
    (iblk m c 2 t (ix3 0 r f) : EReal) = argB m c (ix3 (chunk t) r f) := by
  have e : (win0_2.blk t).view.emb (ix3 0 r f) = ix3 (chunk t) r f := by blk_ext [block_at t]
  blk_simp [iblk]; rw [V_main_arg2 m c]; exact congrArg (argB m c) e

theorem stored_gate_at (x : FVec Ideal S2304x1024 .bf16) (y : FVec Ideal S1x2304x704 .bf16) (d : Fin 1024) (f : Fin 704) :
    (k0_pay2 (F := Ideal) x y (ix3 0 d f) : EReal) = ∑ r : Fin 2304, (x (ix2 r d) : EReal) * y (ix3 0 r f) := by
  pointwise [k0_pay2, k0_pay1]

theorem stored_up_at (x : FVec Ideal S2304x1024 .bf16) (y : FVec Ideal S1x2304x704 .bf16) (d : Fin 1024) (f : Fin 704) :
    (k0_pay3 (F := Ideal) x y (ix3 0 d f) : EReal) = ∑ r : Fin 2304, (x (ix2 r d) : EReal) * y (ix3 0 r f) := by
  pointwise [k0_pay3, k0_pay1]

open Cert.DWInRefIdeal.Read in
theorem reference_gate_at (x : FVec Ideal S2304x1024 .bf16) (y : FVec Ideal S4x2304x704 .bf16) (j : Fin 4) (d : Fin 1024) (f : Fin 704) :
    (val_main_v14 (F := Ideal) x y (ix3 j d f) : EReal) = ∑ r : Fin 2304, (x (ix2 r d) : EReal) * y (ix3 j r f) := by
  pointwise [val_main_v14, val_main_v13, val_main_v12, val_main_v11, val_main_v1, val_main_v0]
  exact Finset.sum_congr rfl fun _ _ => mul_comm _ _

open Cert.DWInRefIdeal.Read in
theorem reference_up_at (x : FVec Ideal S2304x1024 .bf16) (y : FVec Ideal S4x2304x704 .bf16) (j : Fin 4) (d : Fin 1024) (f : Fin 704) :
    (val_main_v15 (F := Ideal) x y (ix3 j d f) : EReal) = ∑ r : Fin 2304, (x (ix2 r d) : EReal) * y (ix3 j r f) := by
  pointwise [val_main_v15, val_main_v10, val_main_v9, val_main_v8, val_main_v2, val_main_v0]
  exact Finset.sum_congr rfl fun _ _ => mul_comm _ _

theorem final_gate (c : Dev nD) : (dats m 0 c).arrAt 3 (cfgs 0).N
    = Cert.DWInRefIdeal.Read.val_main_v14 (F := Ideal) (argU m c) (argA m c) := by
  refine (dats m 0 c).arrAt_eq_of_covers 3 _ (by decide +kernel) fun t hf y => ?_
  blk_simp; rw [after0_3]
  obtain ⟨d, f, rfl⟩ : ∃ (d : Fin 1024) (f : Fin 704), y = ix3 0 d f := ⟨y 1, y 2, by blk_ext⟩
  have e : (win0_3.blk t).view.emb (ix3 0 d f) = ix3 (chunk t) d f := by blk_ext [block_at t]
  rw [e, reference_gate_at]
  unfold outsAt0
  frame_out
  refine (stored_gate_at _ _ d f).trans ?_
  simp only [u_block, a_block]

theorem final_up (c : Dev nD) : (dats m 0 c).arrAt 4 (cfgs 0).N
    = Cert.DWInRefIdeal.Read.val_main_v15 (F := Ideal) (argU m c) (argB m c) := by
  refine (dats m 0 c).arrAt_eq_of_covers 4 _ (by decide +kernel) fun t hf y => ?_
  blk_simp; rw [after0_4]
  obtain ⟨d, f, rfl⟩ : ∃ (d : Fin 1024) (f : Fin 704), y = ix3 0 d f := ⟨y 1, y 2, by blk_ext⟩
  have e : (win0_4.blk t).view.emb (ix3 0 d f) = ix3 (chunk t) d f := by blk_ext [block_at t]
  rw [e, reference_up_at]
  unfold outsAt0
  frame_out
  refine (stored_up_at _ _ d f).trans ?_
  simp only [u_block, b_block]

theorem reference_frame : @Cert.quiescent_DWInRefIdeal Cert.DWInRefIdeal.Gen.facts := fun m ρ _ =>
  (θ_run Cert.DWInRefIdeal.defs _ _).mono (fun r h => ⟨fun c => (h c).2.2, sem_eq_zero_of_no_sems (by decide) r.2⟩)
    (Cert.DWInRefIdeal.Value.run m ρ)

theorem claim : @Cert.algebraic_DWInIdeal_DWInRefIdeal Cert.DWInIdeal.Gen.facts Cert.DWInRefIdeal.Gen.facts := by
  pair_intro
  pick_goal 3
  · exact fun c => Cert.DWInRefIdeal.Read.val_main_v14 (F := Ideal) (argU m c) (argA m c)
  pick_goal 3
  · exact fun c => Cert.DWInRefIdeal.Read.val_main_v15 (F := Ideal) (argU m c) (argB m c)
  · exact (θ_run _ _ _).mono (fun r h c => ⟨(h c).1.trans (final_gate m c), (h c).2.1.trans (final_up m c), (h c).2.2⟩)
      (Cert.DWInIdeal.Value.run_blocks m g)
  · refine (θ_run _ _ _).mono (fun r h c => ?_) (Cert.DWInRefIdeal.Value.run m' g')
    obtain ⟨h1, h2, rest⟩ := h c
    obtain ⟨a0, a1, a2, -⟩ := hagree c
    refine ⟨h1.trans ((Cert.DWInRefIdeal.Read.val_main_v14_eq _ _).trans ?_), h2.trans ((Cert.DWInRefIdeal.Read.val_main_v15_eq _ _).trans ?_), rest⟩
    · rw [a0, a1]
    · rw [a0, a2]

end Cert.DWInIdeal.Gradient
-- ==== Proof.DUGrad.lean ====
/- The gradient of the feed-forward input: both weights' products, summed over the four chunks of the hidden width. -/
module

public import proofs.«01_k».proof.Defs
public import proofs.«01_k».proof.Proof.Gen.DUIdeal.Frame
public import proofs.«01_k».proof.Proof.Gen.DUIdeal.Value
public import proofs.«01_k».proof.Proof.Gen.DURefIdeal.Run
public import proofs.«01_k».proof.Proof.Gen.DURefIdeal.Read
public import proofs.«01_k».proof.Proof.Chunks
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DUIdeal.Gradient

open Cert.DUIdeal Cert.DUIdeal.Gen

variable (m : (ℓ : Loc nD τ sig) → Buf (Elt Ideal) ℓ)

/-- The block of every window at every grid point: the point is row block `t`. -/
theorem block_at : ∀ t : Fin cfg0.N, win0_0.index t = ![0, t.val, 0] ∧ win0_1.index t = ![0, t.val, 0]
    ∧ win0_2.index t = ![0, 0, 0, 0] ∧ win0_3.index t = ![0, 0, 0, 0] ∧ win0_4.index t = ![t.val, 0] :=
  (by decide +kernel : ∀ t : Fin grid0.N, _)

abbrev argA (c : Dev nD) : FVec Ideal S4x2304x704 .bf16 := m ((c.tc : Thread nD τ).loc main_arg0)
abbrev argB (c : Dev nD) : FVec Ideal S4x2304x704 .bf16 := m ((c.tc : Thread nD τ).loc main_arg1)
abbrev argG (c : Dev nD) : FVec Ideal S4x1x1024x704 .bf16 := m ((c.tc : Thread nD τ).loc main_arg2)
abbrev argU (c : Dev nD) : FVec Ideal S4x1x1024x704 .bf16 := m ((c.tc : Thread nD τ).loc main_arg3)

/-- The row of row `a` of a point's block. -/
abbrev row (t : Fin cfg0.N) (a : Fin 768) : Fin 2304 := ⟨t.val * 768 + a.val, by have := t.isLt; have : cfg0.N = 3 := rfl; omega⟩

theorem a_block (c : Dev nD) (t : Fin cfg0.N) (j : Fin 4) (a : Fin 768) (f : Fin 704) :
    (iblk m c 0 t (ix3 j a f) : EReal) = argA m c (ix3 j (row t a) f) := by
  have e : (win0_0.blk t).view.emb (ix3 j a f) = ix3 j (row t a) f := by blk_ext [block_at t]
  blk_simp [iblk]; rw [V_main_arg0 m c]; exact congrArg (argA m c) e

theorem b_block (c : Dev nD) (t : Fin cfg0.N) (j : Fin 4) (a : Fin 768) (f : Fin 704) :
    (iblk m c 1 t (ix3 j a f) : EReal) = argB m c (ix3 j (row t a) f) := by
  have e : (win0_1.blk t).view.emb (ix3 j a f) = ix3 j (row t a) f := by blk_ext [block_at t]
  blk_simp [iblk]; rw [V_main_arg1 m c]; exact congrArg (argB m c) e

theorem g_block (c : Dev nD) (t : Fin cfg0.N) (j : Fin 4) (d : Fin 1024) (f : Fin 704) :
    (iblk m c 2 t (ix4 j 0 d f) : EReal) = argG m c (ix4 j 0 d f) := by
  have e : (win0_2.blk t).view.emb (ix4 j 0 d f) = ix4 j 0 d f := by blk_ext [block_at t]
  blk_simp [iblk]; rw [V_main_arg2 m c]; exact congrArg (argG m c) e

theorem u_block (c : Dev nD) (t : Fin cfg0.N) (j : Fin 4) (d : Fin 1024) (f : Fin 704) :
    (iblk m c 3 t (ix4 j 0 d f) : EReal) = argU m c (ix4 j 0 d f) := by
  have e : (win0_3.blk t).view.emb (ix4 j 0 d f) = ix4 j 0 d f := by blk_ext [block_at t]
  blk_simp [iblk]; rw [V_main_arg3 m c]; exact congrArg (argU m c) e

theorem stored_at (x0 x1 x2 x3 y0 y1 y2 y3 : FVec Ideal S1x768x704 .bf16) (g0 g1 g2 g3 u0 u1 u2 u3 : FVec Ideal S1x1x1024x704 .bf16) (a : Fin 768) (d : Fin 1024) :
    (k0_pay1 (F := Ideal) (k0_pay2 x0 g0 y0 u0 x1 g1 y1 u1) x2 g2 y2 u2 x3 g3 y3 u3 (ix2 a d) : EReal)
      = ((∑ f : Fin 704, (y0 (ix3 0 a f) : EReal) * u0 (ix4 0 0 d f)) + (∑ f : Fin 704, (y1 (ix3 0 a f) : EReal) * u1 (ix4 0 0 d f))
          + (∑ f : Fin 704, (y2 (ix3 0 a f) : EReal) * u2 (ix4 0 0 d f)) + ∑ f : Fin 704, (y3 (ix3 0 a f) : EReal) * u3 (ix4 0 0 d f))
        + ((∑ f : Fin 704, (x0 (ix3 0 a f) : EReal) * g0 (ix4 0 0 d f)) + (∑ f : Fin 704, (x1 (ix3 0 a f) : EReal) * g1 (ix4 0 0 d f))
          + (∑ f : Fin 704, (x2 (ix3 0 a f) : EReal) * g2 (ix4 0 0 d f)) + ∑ f : Fin 704, (x3 (ix3 0 a f) : EReal) * g3 (ix4 0 0 d f)) := by
  pointwise [k0_pay1, k0_pay2]
  ac_rfl

open Cert.DURefIdeal.Read in
theorem reference_at (x y : FVec Ideal S4x2304x704 .bf16) (g u : FVec Ideal S4x1x1024x704 .bf16) (r : Fin 2304) (d : Fin 1024) :
    (val_main_v15 (F := Ideal) x y g u (ix2 r d) : EReal)
      = (∑ j : Fin 4, ∑ f : Fin 704, (y (ix3 j r f) : EReal) * u (ix4 j 0 d f)) + ∑ j : Fin 4, ∑ f : Fin 704, (x (ix3 j r f) : EReal) * g (ix4 j 0 d f) := by
  pointwise [val_main_v15, val_main_v14, val_main_v13, val_main_v2, val_main_v4, val_main_v0, val_main_v12, val_main_v11, val_main_v3, val_main_v5, val_main_v1]

theorem final (c : Dev nD) : (dats m 0 c).arrAt 4 (cfgs 0).N
    = Cert.DURefIdeal.Read.val_main_v15 (F := Ideal) (argA m c) (argB m c) (argG m c) (argU m c) := by
  refine (dats m 0 c).arrAt_eq_of_covers 4 _ (by decide +kernel) fun t hf y => ?_
  blk_simp; rw [after0_4]
  obtain ⟨a, d, rfl⟩ : ∃ (a : Fin 768) (d : Fin 1024), y = ix2 a d := ⟨y 0, y 1, by blk_ext⟩
  have e : (win0_4.blk t).view.emb (ix2 a d) = ix2 (row t a) d := by blk_ext [block_at t]
  rw [e, reference_at]
  frame_out
  refine (stored_at _ _ _ _ _ _ _ _ _ _ _ _ _ _ _ _ a d).trans ?_
  simp only [Fin.sum_univ_four]
  have A (o h h' j) (hj : j.val = o) := Chunks.product_of_rows (iblk m c 0 t) (iblk m c 2 t) o h h' j hj a d
  have B (o h h' j) (hj : j.val = o) := Chunks.product_of_rows (iblk m c 1 t) (iblk m c 3 t) o h h' j hj a d
  simp only [a_block, b_block, g_block, u_block] at A B
  exact congrArg₂ (· + ·)
    (congrArg₂ (· + ·) (congrArg₂ (· + ·) (congrArg₂ (· + ·) (B 0 _ _ 0 rfl) (B 1 _ _ 1 rfl)) (B 2 _ _ 2 rfl)) (B 3 _ _ 3 rfl))
    (congrArg₂ (· + ·) (congrArg₂ (· + ·) (congrArg₂ (· + ·) (A 0 _ _ 0 rfl) (A 1 _ _ 1 rfl)) (A 2 _ _ 2 rfl)) (A 3 _ _ 3 rfl))

theorem reference_frame : @Cert.quiescent_DURefIdeal Cert.DURefIdeal.Gen.facts := fun m ρ _ =>
  (θ_run Cert.DURefIdeal.defs _ _).mono (fun r h => ⟨fun c => (h c).2, sem_eq_zero_of_no_sems (by decide) r.2⟩)
    (Cert.DURefIdeal.Value.run m ρ)

theorem claim : @Cert.algebraic_DUIdeal_DURefIdeal Cert.DUIdeal.Gen.facts Cert.DURefIdeal.Gen.facts := by
  pair_intro
  pick_goal 3
  · exact fun c => Cert.DURefIdeal.Read.val_main_v15 (F := Ideal) (argA m c) (argB m c) (argG m c) (argU m c)
  · exact (θ_run _ _ _).mono (fun r h c => ⟨(h c).1.trans (final m c), (h c).2⟩) (Cert.DUIdeal.Value.run_blocks m g)
  · refine (θ_run _ _ _).mono (fun r h c => ?_) (Cert.DURefIdeal.Value.run m' g')
    obtain ⟨h1, rest⟩ := h c
    refine ⟨h1.trans ((Cert.DURefIdeal.Read.val_main_v15_eq _ _ _ _).trans ?_), rest⟩
    obtain ⟨a0, a1, a2, a3⟩ := hagree c
    rw [a0, a1, a2, a3]

end Cert.DUIdeal.Gradient
-- ==== Proof.DHidGrad.lean ====
/- The gradients of the gated hidden rows: the output's gradient through the down weight, then through the gate. -/
module

public import proofs.«01_k».proof.Defs
public import proofs.«01_k».proof.Proof.Gen.DHidIdeal.Frame
public import proofs.«01_k».proof.Proof.Gen.DHidIdeal.Value
public import proofs.«01_k».proof.Proof.Gen.DHidRefIdeal.Run
public import proofs.«01_k».proof.Proof.Gen.DHidRefIdeal.Read
public import proofs.«01_k».proof.Proof.Chunks
public import proofs.«01_k».proof.Proof.Gen.Pre_finite_products
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DHidIdeal.Gradient

open Cert.DHidIdeal Cert.DHidIdeal.Gen

open Cert.AttnMath (IsReal mask_real)
open Cert.Chunks (slope_mul)

variable (m : (ℓ : Loc nD τ sig) → Buf (Elt Ideal) ℓ)

/-- The block of every window at every grid point: the point is chunk `t / 2`, row block `t % 2`. -/
theorem block_at : ∀ t : Fin cfg0.N, win0_0.index t = ![t.val % 2, 0] ∧ win0_1.index t = ![t.val / 2, 0, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0] :=
  (by decide +kernel : ∀ t : Fin grid0.N, _)

abbrev argG (c : Dev nD) : FVec Ideal S2304x1024 .bf16 := m ((c.tc : Thread nD τ).loc main_arg0)
abbrev argW (c : Dev nD) : FVec Ideal S4x704x1024 .bf16 := m ((c.tc : Thread nD τ).loc main_arg1)
abbrev argA (c : Dev nD) : FVec Ideal S4x2304x704 .bf16 := m ((c.tc : Thread nD τ).loc main_arg2)
abbrev argB (c : Dev nD) : FVec Ideal S4x2304x704 .bf16 := m ((c.tc : Thread nD τ).loc main_arg3)

/-- The chunk of a grid point. -/
abbrev chunk (t : Fin cfg0.N) : Fin 4 := ⟨t.val / 2, by have := t.isLt; have : cfg0.N = 8 := rfl; omega⟩
/-- The row of row `r` of a point's block. -/
abbrev row (t : Fin cfg0.N) (r : Fin 1152) : Fin 2304 := ⟨t.val % 2 * 1152 + r.val, by omega⟩

theorem g_block (c : Dev nD) (t : Fin cfg0.N) (r : Fin 1152) (d : Fin 1024) :
    (iblk m c 0 t (ix2 r d) : EReal) = argG m c (ix2 (row t r) d) := by
  have e : (win0_0.blk t).view.emb (ix2 r d) = ix2 (row t r) d := by blk_ext [block_at t]
  blk_simp [iblk]; rw [V_main_arg0 m c]; exact congrArg (argG m c) e

theorem w_block (c : Dev nD) (t : Fin cfg0.N) (f : Fin 704) (d : Fin 1024) :
    (iblk m c 1 t (ix3 0 f d) : EReal) = argW m c (ix3 (chunk t) f d) := by
  have e : (win0_1.blk t).view.emb (ix3 0 f d) = ix3 (chunk t) f d := by blk_ext [block_at t]
  blk_simp [iblk]; rw [V_main_arg1 m c]; exact congrArg (argW m c) e

theorem a_block (c : Dev nD) (t : Fin cfg0.N) (r : Fin 1152) (f : Fin 704) :
    (iblk m c 2 t (ix3 0 r f) : EReal) = argA m c (ix3 (chunk t) (row t r) f) := by
  have e : (win0_2.blk t).view.emb (ix3 0 r f) = ix3 (chunk t) (row t r) f := by blk_ext [block_at t]
  blk_simp [iblk]; rw [V_main_arg2 m c]; exact congrArg (argA m c) e

theorem b_block (c : Dev nD) (t : Fin cfg0.N) (r : Fin 1152) (f : Fin 704) :
    (iblk m c 3 t (ix3 0 r f) : EReal) = argB m c (ix3 (chunk t) (row t r) f) := by
  have e : (win0_3.blk t).view.emb (ix3 0 r f) = ix3 (chunk t) (row t r) f := by blk_ext [block_at t]
  blk_simp [iblk]; rw [V_main_arg3 m c]; exact congrArg (argB m c) e

theorem stored_a_at (g : FVec Ideal S1152x1024 .bf16) (w : FVec Ideal S1x704x1024 .bf16) (a b : FVec Ideal S1x1152x704 .bf16) (r : Fin 1152) (f : Fin 704) :
    (k0_pay4 (F := Ideal) g w a b (ix3 0 r f) : EReal) = (∑ d : Fin 1024, (g (ix2 r d) : EReal) * w (ix3 0 f d)) * b (ix3 0 r f)
      * (Ideal.logistic (a (ix3 0 r f)) * (1 + a (ix3 0 r f) * (1 - Ideal.logistic (a (ix3 0 r f))))) := by
  pointwise [k0_pay4, k0_pay3, k0_pay2, k0_pay1]

theorem stored_b_at (g : FVec Ideal S1152x1024 .bf16) (w : FVec Ideal S1x704x1024 .bf16) (a : FVec Ideal S1x1152x704 .bf16) (r : Fin 1152) (f : Fin 704) :
    (k0_pay5 (F := Ideal) g w a (ix3 0 r f) : EReal) = (∑ d : Fin 1024, (g (ix2 r d) : EReal) * w (ix3 0 f d))
      * (a (ix3 0 r f) * Ideal.logistic (a (ix3 0 r f))) := by
  pointwise [k0_pay5, k0_pay3, k0_pay2, k0_pay1]

open Cert.DHidRefIdeal.Read in
theorem reference_a_at (g : FVec Ideal S2304x1024 .bf16) (w : FVec Ideal S4x704x1024 .bf16) (a b : FVec Ideal S4x2304x704 .bf16) (j : Fin 4) (r : Fin 2304) (f : Fin 704) :
    (val_main_v12 (F := Ideal) g w a b (ix3 j r f) : EReal)
      = (∑ d : Fin 1024, (g (ix2 r d) : EReal) * w (ix3 j f d)) * b (ix3 j r f) * Ideal.logistic (a (ix3 j r f))
        + a (ix3 j r f) * ((∑ d : Fin 1024, (g (ix2 r d) : EReal) * w (ix3 j f d)) * b (ix3 j r f))
          * (Ideal.logistic (a (ix3 j r f)) * (1 - Ideal.logistic (a (ix3 j r f)))) := by
  pointwise [val_main_v12, val_main_v11, val_main_call1_v2, val_main_call1_v1, val_main_call1_v0, val_main_v10, val_main_v8,
    val_main_v7, val_main_v4_1, val_main_v4_2, val_main_call0_v7, val_main_call0_v6, val_main_call0_v4, val_main_call0_v3,
    val_main_call0_v2, val_main_call0_v1, val_main_call0_v0, val_main_call0_cst, val_main_call0_cst_0, val_main_call0_cst_1,
    val_main_v0, val_main_v1, val_main_v2, val_main_v3]
  rfl

open Cert.DHidRefIdeal.Read in
theorem reference_b_at (g : FVec Ideal S2304x1024 .bf16) (w : FVec Ideal S4x704x1024 .bf16) (a : FVec Ideal S4x2304x704 .bf16) (j : Fin 4) (r : Fin 2304) (f : Fin 704) :
    (val_main_v13 (F := Ideal) g w a (ix3 j r f) : EReal)
      = (∑ d : Fin 1024, (g (ix2 r d) : EReal) * w (ix3 j f d)) * (a (ix3 j r f) * Ideal.logistic (a (ix3 j r f))) := by
  pointwise [val_main_v13, val_main_v9, val_main_v8, val_main_v7, val_main_v4_0, val_main_v4_2, val_main_call0_v4, val_main_call0_v3,
    val_main_call0_v2, val_main_call0_v1, val_main_call0_v0, val_main_call0_cst, val_main_call0_cst_0,
    val_main_v0, val_main_v1, val_main_v2]
  exact mul_comm _ _

theorem final_b (c : Dev nD) : (dats m 0 c).arrAt 5 (cfgs 0).N
    = Cert.DHidRefIdeal.Read.val_main_v13 (F := Ideal) (argG m c) (argW m c) (argA m c) := by
  refine (dats m 0 c).arrAt_eq_of_covers 5 _ (by decide +kernel) fun t hf y => ?_
  blk_simp; rw [after0_5]
  obtain ⟨r, f, rfl⟩ : ∃ (r : Fin 1152) (f : Fin 704), y = ix3 0 r f := ⟨y 1, y 2, by blk_ext⟩
  have e : (win0_5.blk t).view.emb (ix3 0 r f) = ix3 (chunk t) (row t r) f := by blk_ext [block_at t]
  rw [e, reference_b_at]
  frame_out
  refine (stored_b_at _ _ _ r f).trans ?_
  simp only [g_block, w_block, a_block]

/-- The precondition says that what the down product reads, and the up rows, are real. -/
theorem real_of_pre (hpre : @Cert.Pre_DHidIdeal_finite_products Cert.Pre_finite_products.Gen.facts m) (c : Dev nD) (j : Fin 4) (r : Fin 2304) (f : Fin 704) :
    IsReal ((∑ d : Fin 1024, (argG m c (ix2 r d) : EReal) * argW m c (ix3 j f d)) * argB m c (ix3 j r f)) := by
  obtain ⟨h1, h2, h3⟩ := hpre c
  exact (IsReal.sum _ fun d => (mask_real _ _ (ix2 r d) rfl (congrFun h1 (ix2 r d))).mul
    (mask_real _ _ (ix3 j f d) rfl (congrFun h2 (ix3 j f d)))).mul (mask_real _ _ (ix3 j r f) rfl (congrFun h3 (ix3 j r f)))

theorem final_a (hpre : @Cert.Pre_DHidIdeal_finite_products Cert.Pre_finite_products.Gen.facts m) (c : Dev nD) : (dats m 0 c).arrAt 4 (cfgs 0).N
    = Cert.DHidRefIdeal.Read.val_main_v12 (F := Ideal) (argG m c) (argW m c) (argA m c) (argB m c) := by
  refine (dats m 0 c).arrAt_eq_of_covers 4 _ (by decide +kernel) fun t hf y => ?_
  blk_simp; rw [after0_4]
  obtain ⟨r, f, rfl⟩ : ∃ (r : Fin 1152) (f : Fin 704), y = ix3 0 r f := ⟨y 1, y 2, by blk_ext⟩
  have e : (win0_4.blk t).view.emb (ix3 0 r f) = ix3 (chunk t) (row t r) f := by blk_ext [block_at t]
  rw [e, reference_a_at]
  frame_out
  refine (stored_a_at _ _ _ _ r f).trans ?_
  simp only [g_block, w_block, a_block, b_block]
  exact slope_mul (real_of_pre m hpre c (chunk t) (row t r) f) _

theorem reference_frame : @Cert.quiescent_DHidRefIdeal Cert.DHidRefIdeal.Gen.facts := fun m ρ _ =>
  (θ_run Cert.DHidRefIdeal.defs _ _).mono (fun r h => ⟨fun c => (h c).2.2, sem_eq_zero_of_no_sems (by decide) r.2⟩)
    (Cert.DHidRefIdeal.Value.run m ρ)

theorem claim : @Cert.algebraic_DHidIdeal_DHidRefIdeal_pre_finite_products Cert.DHidIdeal.Gen.facts Cert.DHidRefIdeal.Gen.facts Cert.Pre_finite_products.Gen.facts := by
  pair_intro
  pick_goal 3
  · exact fun c => Cert.DHidRefIdeal.Read.val_main_v12 (F := Ideal) (argG m c) (argW m c) (argA m c) (argB m c)
  pick_goal 3
  · exact fun c => Cert.DHidRefIdeal.Read.val_main_v13 (F := Ideal) (argG m c) (argW m c) (argA m c)
  · exact (θ_run _ _ _).mono (fun r h c => ⟨(h c).1.trans (final_a m hpre c), (h c).2.1.trans (final_b m c), (h c).2.2⟩)
      (Cert.DHidIdeal.Value.run_blocks m g)
  · refine (θ_run _ _ _).mono (fun r h c => ?_) (Cert.DHidRefIdeal.Value.run m' g')
    obtain ⟨h1, h2, rest⟩ := h c
    obtain ⟨a0, a1, a2, a3⟩ := hagree c
    refine ⟨h1.trans ((Cert.DHidRefIdeal.Read.val_main_v12_eq _ _ _ _).trans ?_), h2.trans ((Cert.DHidRefIdeal.Read.val_main_v13_eq _ _ _).trans ?_), rest⟩
    · rw [a0, a1, a2, a3]
    · rw [a0, a1, a2]

end Cert.DHidIdeal.Gradient
-- ==== Proof.UpForward.lean ====
/- The gate, up and gated hidden rows of a feed-forward half, chunk by chunk of the hidden width. -/
module

public import proofs.«01_k».proof.Defs
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.UpIdeal.Forward

open Cert.UpIdeal Cert.UpIdeal.Gen

variable (m : (ℓ : Loc nD τ sig) → Buf (Elt Ideal) ℓ)

/-- The block of every window at every grid point: the point is chunk `t / 2`, row block `t % 2`. -/
theorem block_at : ∀ t : Fin cfg0.N, win0_0.index t = ![t.val % 2, 0] ∧ win0_1.index t = ![t.val / 2, 0, 0, 0]
    ∧ win0_2.index t = ![t.val / 2, 0, 0, 0] ∧ win0_3.index t = ![t.val / 2, t.val % 2, 0]
    ∧ win0_4.index t = ![t.val / 2, t.val % 2, 0] ∧ win0_5.index t = ![t.val / 2, t.val % 2, 0] :=
  (by decide +kernel : ∀ t : Fin grid0.N, _)

abbrev argU (c : Dev nD) : FVec Ideal S2304x1024 .bf16 := m ((c.tc : Thread nD τ).loc main_arg0)
abbrev argG (c : Dev nD) : FVec Ideal S4x1x1024x704 .bf16 := m ((c.tc : Thread nD τ).loc main_arg1)
abbrev argW (c : Dev nD) : FVec Ideal S4x1x1024x704 .bf16 := m ((c.tc : Thread nD τ).loc main_arg2)

/-- The chunk of a grid point. -/
abbrev chunk (t : Fin cfg0.N) : Fin 4 := ⟨t.val / 2, by have := t.isLt; have : cfg0.N = 8 := rfl; omega⟩
/-- The row of row `r` of a point's block. -/
abbrev row (t : Fin cfg0.N) (r : Fin 1152) : Fin 2304 := ⟨t.val % 2 * 1152 + r.val, by omega⟩

theorem u_block (c : Dev nD) (t : Fin cfg0.N) (r : Fin 1152) (d : Fin 1024) :
    (iblk m c 0 t (ix2 r d) : EReal) = argU m c (ix2 (row t r) d) := by
  have e : (win0_0.blk t).view.emb (ix2 r d) = ix2 (row t r) d := by blk_ext [block_at t]
  blk_simp [iblk]; rw [V_main_arg0 m c]; exact congrArg (argU m c) e

theorem gate_block (c : Dev nD) (t : Fin cfg0.N) (d : Fin 1024) (f : Fin 704) :
    (iblk m c 1 t (ix4 0 0 d f) : EReal) = argG m c (ix4 (chunk t) 0 d f) := by
  have e : (win0_1.blk t).view.emb (ix4 0 0 d f) = ix4 (chunk t) 0 d f := by blk_ext [block_at t]
  blk_simp [iblk]; rw [V_main_arg1 m c]; exact congrArg (argG m c) e

theorem up_block (c : Dev nD) (t : Fin cfg0.N) (d : Fin 1024) (f : Fin 704) :
    (iblk m c 2 t (ix4 0 0 d f) : EReal) = argW m c (ix4 (chunk t) 0 d f) := by
  have e : (win0_2.blk t).view.emb (ix4 0 0 d f) = ix4 (chunk t) 0 d f := by blk_ext [block_at t]
  blk_simp [iblk]; rw [V_main_arg2 m c]; exact congrArg (argW m c) e

theorem stored_gate_at (u : FVec Ideal S1152x1024 .bf16) (g : FVec Ideal S1x1x1024x704 .bf16) (r : Fin 1152) (f : Fin 704) :
    (k0_pay3 (F := Ideal) u g (ix3 0 r f) : EReal) = ∑ d : Fin 1024, (u (ix2 r d) : EReal) * g (ix4 0 0 d f) := by
  pointwise [k0_pay3, k0_pay1]

theorem stored_up_at (u : FVec Ideal S1152x1024 .bf16) (g : FVec Ideal S1x1x1024x704 .bf16) (r : Fin 1152) (f : Fin 704) :
    (k0_pay4 (F := Ideal) u g (ix3 0 r f) : EReal) = ∑ d : Fin 1024, (u (ix2 r d) : EReal) * g (ix4 0 0 d f) := by
  pointwise [k0_pay4, k0_pay2]

theorem stored_hidden_at (u : FVec Ideal S1152x1024 .bf16) (g w : FVec Ideal S1x1x1024x704 .bf16) (r : Fin 1152) (f : Fin 704) :
    (k0_pay5 (F := Ideal) u g w (ix3 0 r f) : EReal) = (∑ d : Fin 1024, (u (ix2 r d) : EReal) * g (ix4 0 0 d f))
      * Ideal.logistic (∑ d : Fin 1024, (u (ix2 r d) : EReal) * g (ix4 0 0 d f)) * ∑ d : Fin 1024, (u (ix2 r d) : EReal) * w (ix4 0 0 d f) := by
  pointwise [k0_pay5, k0_pay2, k0_pay1]

open Cert.UpRefIdeal.Read in
theorem reference_gate_at (u : FVec Ideal S2304x1024 .bf16) (g : FVec Ideal S4x1x1024x704 .bf16) (j : Fin 4) (r : Fin 2304) (f : Fin 704) :
    (val_main_v6 (F := Ideal) u g (ix3 j r f) : EReal) = ∑ d : Fin 1024, (u (ix2 r d) : EReal) * g (ix4 j 0 d f) := by
  pointwise [val_main_v6, val_main_v5, val_main_v2, val_main_v1, val_main_v0]
  exact Finset.sum_congr rfl fun _ _ => mul_comm _ _

open Cert.UpRefIdeal.Read in
theorem reference_up_at (u : FVec Ideal S2304x1024 .bf16) (g : FVec Ideal S4x1x1024x704 .bf16) (j : Fin 4) (r : Fin 2304) (f : Fin 704) :
    (val_main_v8 (F := Ideal) u g (ix3 j r f) : EReal) = ∑ d : Fin 1024, (u (ix2 r d) : EReal) * g (ix4 j 0 d f) := by
  pointwise [val_main_v8, val_main_v7, val_main_v4, val_main_v3, val_main_v0]
  exact Finset.sum_congr rfl fun _ _ => mul_comm _ _

open Cert.UpRefIdeal.Read in
theorem reference_hidden_at (u : FVec Ideal S2304x1024 .bf16) (g w : FVec Ideal S4x1x1024x704 .bf16) (j : Fin 4) (r : Fin 2304) (f : Fin 704) :
    (val_main_v13 (F := Ideal) u g w (ix3 j r f) : EReal) = (val_main_v6 (F := Ideal) u g (ix3 j r f) : EReal)
      * Ideal.logistic (val_main_v6 (F := Ideal) u g (ix3 j r f)) * (val_main_v8 (F := Ideal) u w (ix3 j r f) : EReal) := by
  pointwise [val_main_v13, val_main_v12, val_main_v11, val_main_call0_v5, val_main_call0_v4, val_main_call0_v3,
    val_main_call0_v2, val_main_call0_v1, val_main_call0_v0, val_main_call0_cst, val_main_call0_cst_0]
  rfl

theorem final_gate (c : Dev nD) : (dats m 0 c).arrAt 3 (cfgs 0).N
    = Cert.UpRefIdeal.Read.val_main_v9 (F := Ideal) (argU m c) (argG m c) := by
  refine (dats m 0 c).arrAt_eq_of_covers 3 _ (by decide +kernel) fun t hf y => ?_
  blk_simp; rw [after0_3]
  obtain ⟨r, f, rfl⟩ : ∃ (r : Fin 1152) (f : Fin 704), y = ix3 0 r f := ⟨y 1, y 2, by blk_ext⟩
  have e : (win0_3.blk t).view.emb (ix3 0 r f) = ix3 (chunk t) (row t r) f := by blk_ext [block_at t]
  rw [e]
  refine Eq.trans ?_ (reference_gate_at _ _ _ _ _).symm
  frame_out
  refine (stored_gate_at _ _ r f).trans ?_
  simp only [u_block, gate_block]

theorem final_up (c : Dev nD) : (dats m 0 c).arrAt 4 (cfgs 0).N
    = Cert.UpRefIdeal.Read.val_main_v10 (F := Ideal) (argU m c) (argW m c) := by
  refine (dats m 0 c).arrAt_eq_of_covers 4 _ (by decide +kernel) fun t hf y => ?_
  blk_simp; rw [after0_4]
  obtain ⟨r, f, rfl⟩ : ∃ (r : Fin 1152) (f : Fin 704), y = ix3 0 r f := ⟨y 1, y 2, by blk_ext⟩
  have e : (win0_4.blk t).view.emb (ix3 0 r f) = ix3 (chunk t) (row t r) f := by blk_ext [block_at t]
  rw [e]
  refine Eq.trans ?_ (reference_up_at _ _ _ _ _).symm
  frame_out
  refine (stored_up_at _ _ r f).trans ?_
  simp only [u_block, up_block]

theorem final_hidden (c : Dev nD) : (dats m 0 c).arrAt 5 (cfgs 0).N
    = Cert.UpRefIdeal.Read.val_main_v13 (F := Ideal) (argU m c) (argG m c) (argW m c) := by
  refine (dats m 0 c).arrAt_eq_of_covers 5 _ (by decide +kernel) fun t hf y => ?_
  blk_simp; rw [after0_5]
  obtain ⟨r, f, rfl⟩ : ∃ (r : Fin 1152) (f : Fin 704), y = ix3 0 r f := ⟨y 1, y 2, by blk_ext⟩
  have e : (win0_5.blk t).view.emb (ix3 0 r f) = ix3 (chunk t) (row t r) f := by blk_ext [block_at t]
  rw [e, reference_hidden_at, reference_gate_at, reference_up_at]
  frame_out
  refine (stored_hidden_at _ _ _ r f).trans ?_
  simp only [u_block, gate_block, up_block]

theorem reference_frame : @Cert.quiescent_UpRefIdeal Cert.UpRefIdeal.Gen.facts := fun m ρ _ =>
  (θ_run Cert.UpRefIdeal.defs _ _).mono (fun r h => ⟨fun c => (h c).2.2.2, sem_eq_zero_of_no_sems (by decide) r.2⟩)
    (Cert.UpRefIdeal.Value.run m ρ)

theorem claim : @Cert.algebraic_UpIdeal_UpRefIdeal Cert.UpIdeal.Gen.facts Cert.UpRefIdeal.Gen.facts := by
  pair_intro
  pick_goal 3
  · exact fun c => Cert.UpRefIdeal.Read.val_main_v9 (F := Ideal) (argU m c) (argG m c)
  pick_goal 3
  · exact fun c => Cert.UpRefIdeal.Read.val_main_v10 (F := Ideal) (argU m c) (argW m c)
  pick_goal 3
  · exact fun c => Cert.UpRefIdeal.Read.val_main_v13 (F := Ideal) (argU m c) (argG m c) (argW m c)
  · exact (θ_run _ _ _).mono (fun r h c => ⟨(h c).1.trans (final_gate m c), (h c).2.1.trans (final_up m c),
      (h c).2.2.1.trans (final_hidden m c), (h c).2.2.2⟩) (Cert.UpIdeal.Value.run_blocks m g)
  · refine (θ_run _ _ _).mono (fun r h c => ?_) (Cert.UpRefIdeal.Value.run m' g')
    obtain ⟨h1, h2, h3, rest⟩ := h c
    obtain ⟨a0, a1, a2⟩ := hagree c
    refine ⟨h1.trans ((Cert.UpRefIdeal.Read.val_main_v9_eq _ _).trans ?_), h2.trans ((Cert.UpRefIdeal.Read.val_main_v10_eq _ _).trans ?_),
      h3.trans ((Cert.UpRefIdeal.Read.val_main_v13_eq _ _ _).trans ?_), rest⟩
    · rw [a0, a1]
    · rw [a0, a2]
    · rw [a0, a1, a2]

end Cert.UpIdeal.Forward
-- ==== Proof.DownForward.lean ====
/- The output of a feed-forward half, summed over its four chunks, and the gated sum of it and the half's input. -/
module

public import proofs.«01_k».proof.Defs
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Chunks
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.Tactic.WordOmega

@[expose] public section

set_option maxRecDepth 16384

noncomputable section

open Idealize.ShloMosaic Idealize.ShloMosaic.TcCoe Idealize.SL.Sem

namespace Cert.DownIdeal.Forward

open Cert.DownIdeal Cert.DownIdeal.Gen

variable (m : (ℓ : Loc nD τ sig) → Buf (Elt Ideal) ℓ)

/-- The block of every window at every grid point: the point is row block `t`. -/
theorem block_at : ∀ t : Fin cfg0.N, win0_0.index t = ![0, t.val, 0] ∧ win0_1.index t = ![0, 0, 0] ∧ win0_2.index t = ![t.val, 0]
    ∧ win0_3.index t = ![0, 0, 0] ∧ win0_4.index t = ![t.val, 0] ∧ win0_5.index t = ![t.val, 0] :=
  (by decide +kernel : ∀ t : Fin grid0.N, _)

abbrev argH (c : Dev nD) : FVec Ideal S4x2304x704 .bf16 := m ((c.tc : Thread nD τ).loc main_arg0)
abbrev argW (c : Dev nD) : FVec Ideal S4x704x1024 .bf16 := m ((c.tc : Thread nD τ).loc main_arg1)
abbrev argS (c : Dev nD) : FVec Ideal S2304x1024 .f32 := m ((c.tc : Thread nD τ).loc main_arg2)
abbrev argM (c : Dev nD) : FVec Ideal S2x16x1024 .f32 := m ((c.tc : Thread nD τ).loc main_arg3)

/-- The row of row `a` of a point's block. -/
abbrev row (t : Fin cfg0.N) (a : Fin 768) : Fin 2304 := ⟨t.val * 768 + a.val, by have := t.isLt; have : cfg0.N = 3 := rfl; omega⟩

theorem h_block (c : Dev nD) (t : Fin cfg0.N) (j : Fin 4) (a : Fin 768) (f : Fin 704) :
    (iblk m c 0 t (ix3 j a f) : EReal) = argH m c (ix3 j (row t a) f) := by
  have e : (win0_0.blk t).view.emb (ix3 j a f) = ix3 j (row t a) f := by blk_ext [block_at t]
  blk_simp [iblk]; rw [V_main_arg0 m c]; exact congrArg (argH m c) e

theorem w_block (c : Dev nD) (t : Fin cfg0.N) (j : Fin 4) (f : Fin 704) (d : Fin 1024) :
    (iblk m c 1 t (ix3 j f d) : EReal) = argW m c (ix3 j f d) := by
  have e : (win0_1.blk t).view.emb (ix3 j f d) = ix3 j f d := by blk_ext [block_at t]
  blk_simp [iblk]; rw [V_main_arg1 m c]; exact congrArg (argW m c) e

theorem s_block (c : Dev nD) (t : Fin cfg0.N) (a : Fin 768) (d : Fin 1024) :
    (iblk m c 2 t (ix2 a d) : EReal) = argS m c (ix2 (row t a) d) := by
  have e : (win0_2.blk t).view.emb (ix2 a d) = ix2 (row t a) d := by blk_ext [block_at t]
  blk_simp [iblk]; rw [V_main_arg2 m c]; exact congrArg (argS m c) e

theorem m_block (c : Dev nD) (t : Fin cfg0.N) (i : Fin 2) (k : Fin 16) (d : Fin 1024) :
    (iblk m c 3 t (ix3 i k d) : EReal) = argM m c (ix3 i k d) := by
  have e : (win0_3.blk t).view.emb (ix3 i k d) = ix3 i k d := by blk_ext [block_at t]
  blk_simp [iblk]; rw [V_main_arg3 m c]; exact congrArg (argM m c) e

theorem product_at (x0 x1 x2 x3 : FVec Ideal S1x768x704 .bf16) (w0 w1 w2 w3 : FVec Ideal S1x704x1024 .bf16) (a : Fin 768) (d : Fin 1024) :
    (k0_pay2 (F := Ideal) x0 w0 x1 w1 x2 w2 x3 w3 (ix2 a d) : EReal)
      = (∑ f : Fin 704, (x0 (ix3 0 a f) : EReal) * w0 (ix3 0 f d)) + (∑ f : Fin 704, (x1 (ix3 0 a f) : EReal) * w1 (ix3 0 f d))
        + (∑ f : Fin 704, (x2 (ix3 0 a f) : EReal) * w2 (ix3 0 f d)) + ∑ f : Fin 704, (x3 (ix3 0 a f) : EReal) * w3 (ix3 0 f d) := by
  pointwise [k0_pay2]

/-- The comparison that tells the image's rows from the text's. -/
theorem row_below (t : Fin 3) (a : Fin 768) : IntOp.cmpi .slt (IntOp.addi (Scalar.muli (BitVec.ofNat 32 t.val) 768#32) (BitVec.ofNat 32 a.val)) 2048#32
    = if t.val * 768 + a.val < 2048 then 1#1 else 0#1 := by
  show IntOp.cmpi .slt (BitVec.ofNat 32 t.val * BitVec.ofNat 32 768 + BitVec.ofNat 32 a.val) 2048#32 = _
  rw [← BitVec.ofNat_mul, ← BitVec.ofNat_add]
  split_ifs with h <;> word_omega

/-- A block's rows keep the image's gate below row 2048 and the text's from there on. -/
theorem stored_at (t : Fin 3) (o s : FVec Ideal S768x1024 .f32) (g : FVec Ideal S2x16x1024 .f32) (a : Fin 768) (d : Fin 1024) :
    (k0_pay1 (F := Ideal) (BitVec.ofNat 32 t.val) o s g (ix2 a d) : EReal)
      = s (ix2 a d) + Ideal.ofBits .f32 0x3F000000#32 * (if t.val * 768 + a.val < 2048 then g (ix3 0 2 d) else g (ix3 1 2 d)) * o (ix2 a d) := by
  pointwise [k0_pay1]
  rw [row_below]
  split_ifs <;> rfl

open Cert.DownRefIdeal.Read in
theorem reference_product_at (x : FVec Ideal S4x2304x704 .bf16) (w : FVec Ideal S4x704x1024 .bf16) (r : Fin 2304) (d : Fin 1024) :
    (val_main_v2 (F := Ideal) x w (ix2 r d) : EReal) = ∑ j : Fin 4, ∑ f : Fin 704, (x (ix3 j r f) : EReal) * w (ix3 j f d) := by
  pointwise [val_main_v2, val_main_v1, val_main_v0]
  exact Finset.sum_comm

open Cert.DownRefIdeal.Read in
theorem reference_at (x : FVec Ideal S4x2304x704 .bf16) (w : FVec Ideal S4x704x1024 .bf16) (s : FVec Ideal S2304x1024 .f32) (g : FVec Ideal S2x16x1024 .f32)
    (r : Fin 2304) (d : Fin 1024) :
    (val_main_v13 (F := Ideal) x w s g (ix2 r d) : EReal)
      = s (ix2 r d) + Ideal.ofBits .f32 0x3F000000#32 * (if r.val < 2048 then g (ix3 0 2 d) else g (ix3 1 2 d)) * (val_main_v2 (F := Ideal) x w (ix2 r d) : EReal) := by
  pointwise [val_main_v13, val_main_v12, val_main_v11, val_main_v10, val_main_cst, val_main_v9, val_main_v8, val_main_v7, val_main_v6, val_main_v5, val_main_v4, val_main_v3]
  simp only [dite_eq_ite]

theorem product_block (c : Dev nD) (t : Fin cfg0.N) (a : Fin 768) (d : Fin 1024) :
    (k0_pay2 (F := Ideal) (View.ld (iblk m c 0 t) r0_0) (View.ld (iblk m c 1 t) r0_1) (View.ld (iblk m c 0 t) r0_2) (View.ld (iblk m c 1 t) r0_3)
        (View.ld (iblk m c 0 t) r0_4) (View.ld (iblk m c 1 t) r0_5) (View.ld (iblk m c 0 t) r0_6) (View.ld (iblk m c 1 t) r0_7) (ix2 a d) : EReal)
      = Cert.DownRefIdeal.Read.val_main_v2 (F := Ideal) (argH m c) (argW m c) (ix2 (row t a) d) := by
  rw [reference_product_at]
  refine (product_at _ _ _ _ _ _ _ _ a d).trans ?_
  simp only [Fin.sum_univ_four]
  have A (o h h' j) (hj : j.val = o) := Chunks.product_of_columns (iblk m c 0 t) (iblk m c 1 t) o h h' j hj a d
  simp only [h_block, w_block] at A
  exact congrArg₂ (· + ·) (congrArg₂ (· + ·) (congrArg₂ (· + ·) (A 0 _ _ 0 rfl) (A 1 _ _ 1 rfl)) (A 2 _ _ 2 rfl)) (A 3 _ _ 3 rfl)

theorem final_product (c : Dev nD) : (dats m 0 c).arrAt 5 (cfgs 0).N
    = Cert.DownRefIdeal.Read.val_main_v2 (F := Ideal) (argH m c) (argW m c) := by
  refine (dats m 0 c).arrAt_eq_of_covers 5 _ (by decide +kernel) fun t hf y => ?_
  blk_simp; rw [after0_5]
  obtain ⟨a, d, rfl⟩ : ∃ (a : Fin 768) (d : Fin 1024), y = ix2 a d := ⟨y 0, y 1, by blk_ext⟩
  have e : (win0_5.blk t).view.emb (ix2 a d) = ix2 (row t a) d := by blk_ext [block_at t]
  rw [e]
  frame_out
  exact product_block m c t a d

theorem final_sum (c : Dev nD) : (dats m 0 c).arrAt 4 (cfgs 0).N
    = Cert.DownRefIdeal.Read.val_main_v13 (F := Ideal) (argH m c) (argW m c) (argS m c) (argM m c) := by
  refine (dats m 0 c).arrAt_eq_of_covers 4 _ (by decide +kernel) fun t hf y => ?_
  blk_simp; rw [after0_4]
  obtain ⟨a, d, rfl⟩ : ∃ (a : Fin 768) (d : Fin 1024), y = ix2 a d := ⟨y 0, y 1, by blk_ext⟩
  have e : (win0_4.blk t).view.emb (ix2 a d) = ix2 (row t a) d := by blk_ext [block_at t]
  have p : ((grid0.coords t) 0).val = t.val := (by decide +kernel : ∀ t : Fin grid0.N, ((grid0.coords t) 0).val = t.val) t
  rw [e, reference_at]
  frame_out
  rw [p]
  refine (stored_at t _ _ _ a d).trans ?_
  simp only [s_block, m_block]
  exact congrArg _ (congrArg _ (product_block m c t a d))

theorem reference_frame : @Cert.quiescent_DownRefIdeal Cert.DownRefIdeal.Gen.facts := fun m ρ _ =>
  (θ_run Cert.DownRefIdeal.defs _ _).mono (fun r h => ⟨fun c => (h c).2.2, sem_eq_zero_of_no_sems (by decide) r.2⟩)
    (Cert.DownRefIdeal.Value.run m ρ)

theorem claim : @Cert.algebraic_DownIdeal_DownRefIdeal Cert.DownIdeal.Gen.facts Cert.DownRefIdeal.Gen.facts := by
  pair_intro
  pick_goal 3
  · exact fun c => Cert.DownRefIdeal.Read.val_main_v13 (F := Ideal) (argH m c) (argW m c) (argS m c) (argM m c)
  pick_goal 3
  · exact fun c => Cert.DownRefIdeal.Read.val_main_v2 (F := Ideal) (argH m c) (argW m c)
  · exact (θ_run _ _ _).mono (fun r h c => ⟨(h c).1.trans (final_sum m c), (h c).2.1.trans (final_product m c), (h c).2.2⟩)
      (Cert.DownIdeal.Value.run_blocks m g)
  · refine (θ_run _ _ _).mono (fun r h c => ?_) (Cert.DownRefIdeal.Value.run m' g')
    obtain ⟨h1, h2, rest⟩ := h c
    obtain ⟨a0, a1, a2, a3⟩ := hagree c
    refine ⟨h1.trans ((Cert.DownRefIdeal.Read.val_main_v13_eq _ _ _ _).trans ?_), h2.trans ((Cert.DownRefIdeal.Read.val_main_v2_eq _ _).trans ?_), rest⟩
    · rw [a0, a1, a2, a3]
    · rw [a0, a1]

end Cert.DownIdeal.Forward
-- ==== Proof.ConvInGrad.lean ====
/- The gradient of the convolution's input: the three parts' products with the weight, accumulated one after another. -/
module

public import proofs.«01_k».proof.Defs
public import proofs.«01_k».proof.Proof.Gen.ConvInIdeal.Frame
public import proofs.«01_k».proof.Proof.Gen.ConvInIdeal.Value
public import proofs.«01_k».proof.Proof.Gen.ConvInRefIdeal.Run
public import proofs.«01_k».proof.Proof.Gen.ConvInRefIdeal.Read
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.ConvInIdeal.Gradient

open Cert.ConvInIdeal Cert.ConvInIdeal.Gen

variable (m : (ℓ : Loc nD τ sig) → Buf (Elt Ideal) ℓ)

/-- The block of every window at every grid point: the point is row block `t / 3`, part `t % 3`. -/
theorem block_at : ∀ t : Fin cfg0.N, win0_0.index t = ![t.val % 3, t.val / 3, 0] ∧ win0_1.index t = ![0, t.val % 3]
    ∧ win0_2.index t = ![t.val / 3, 0] :=
  (by decide +kernel : ∀ t : Fin grid0.N, _)

abbrev argP (c : Dev nD) : FVec Ideal S3x2048x1024 .bf16 := m ((c.tc : Thread nD τ).loc main_arg0)
abbrev argW (c : Dev nD) : FVec Ideal S1024x3072 .bf16 := m ((c.tc : Thread nD τ).loc main_arg1)

/-- The row of row `r` of a point's block. -/
abbrev row (t : Fin cfg0.N) (r : Fin 1024) : Fin 2048 := ⟨t.val / 3 * 1024 + r.val, by have := t.isLt; have : cfg0.N = 6 := rfl; omega⟩
/-- The part (gate, factor or value) of a grid point. -/
abbrev part (t : Fin cfg0.N) : Fin 3 := ⟨t.val % 3, by omega⟩
/-- Column `x` of part `q`, among the columns of all three parts. -/
abbrev wide (q : Fin 3) (x : Fin 1024) : Fin 3072 := ⟨q.val * 1024 + x.val, by omega⟩

theorem p_block (c : Dev nD) (t : Fin cfg0.N) (r x : Fin 1024) :
    (iblk m c 0 t (ix3 0 r x) : EReal) = argP m c (ix3 (part t) (row t r) x) := by
  have e : (win0_0.blk t).view.emb (ix3 0 r x) = ix3 (part t) (row t r) x := by blk_ext [block_at t]
  blk_simp [iblk]; rw [V_main_arg0 m c]; exact congrArg (argP m c) e

theorem w_block (c : Dev nD) (t : Fin cfg0.N) (d x : Fin 1024) :
    (iblk m c 1 t (ix2 d x) : EReal) = argW m c (ix2 d (wide (part t) x)) := by
  have e : (win0_1.blk t).view.emb (ix2 d x) = ix2 d (wide (part t) x) := by blk_ext [block_at t]
  blk_simp [iblk]; rw [V_main_arg1 m c]; exact congrArg (argW m c) e

/-- One part's product. -/
theorem product_at (p : FVec Ideal S1x1024x1024 .bf16) (w : FVec Ideal S1024x1024 .bf16) (r d : Fin 1024) :
    (k0_pay2 (F := Ideal) p w (ix2 r d) : EReal) = ∑ x : Fin 1024, (p (ix3 0 r x) : EReal) * w (ix2 d x) := by
  pointwise [k0_pay2, k0_pay1]

/-- One part's product, added to what the parts before it have left. -/
theorem added_at (p : FVec Ideal S1x1024x1024 .bf16) (w : FVec Ideal S1024x1024 .bf16) (s : FVec Ideal S1024x1024 .f32) (j : S1024x1024.Idx) :
    (k0_pay3 (F := Ideal) p w s j : EReal) = s j + (k0_pay2 (F := Ideal) p w j : EReal) := by
  obtain ⟨r, d, rfl⟩ : ∃ (r d : Fin 1024), j = ix2 r d := ⟨j 0, j 1, by blk_ext⟩
  pointwise [k0_pay3, k0_pay2, k0_pay1]

open Cert.ConvInRefIdeal.Read in
/-- The three parts side by side, at a column of one of them. -/
theorem parts_at (p : FVec Ideal S3x2048x1024 .bf16) (r : Fin 2048) (q : Fin 3) (x : Fin 1024) :
    (val_main_v6 (F := Ideal) p (ix2 r (wide q x)) : EReal) = p (ix3 q r x) := by
  fin_cases q
  all_goals pointwise [val_main_v6, val_main_v5, val_main_v4, val_main_v3, val_main_v2, val_main_v1, val_main_v0]
  rw [dif_neg (by omega), dif_neg (by omega)]
  exact congrArg p (by blk_ext; all_goals simp [Nat.add_sub_cancel_left]; try omega)

open Cert.ConvInRefIdeal.Read in
theorem reference_at (p : FVec Ideal S3x2048x1024 .bf16) (w : FVec Ideal S1024x3072 .bf16) (r : Fin 2048) (d : Fin 1024) :
    (val_main_v11 (F := Ideal) p w (ix2 r d) : EReal) = ∑ x : Fin 3072, (val_main_v6 (F := Ideal) p (ix2 r x) : EReal) * w (ix2 d x) := by
  pointwise [val_main_v11, val_main_v9, val_main_v7]

/-- The point of part `s` of the row block of a point. -/
abbrev point (t : Fin cfg0.N) (s : Fin 3) : Fin cfg0.N := ⟨3 * (t.val / 3) + s.val, by have := t.isLt; have : cfg0.N = 6 := rfl; omega⟩

/-- What the run has accumulated at its last part. -/
theorem accumulated (c : Dev nD) (t : Fin cfg0.N) (ht : t.val % 3 = 2) (j : S1024x1024.Idx) :
    ((outsAt0 m c t.val t.isLt).2 j : EReal)
      = ∑ s : Fin 3, (k0_pay2 (F := Ideal) (iblk m c 0 (point t s)) (iblk m c 1 (point t s)) j : EReal) := by
  rw [Pipeline.eq_sum_fin_of_reset_step_apply_of_flush (fun n h => (outsAt0 m c n h).2) 3 (fun _ => (0:EReal))
    (fun t y => (k0_pay2 (F := Ideal) (iblk m c 0 t) (iblk m c 1 t) y : EReal))
    (fun t h j => by rw [outsAt0_A m c t h (by omega) (by omega)]; frame_out; exact (zero_add (_ : EReal)).symm)
    (fun t h j => by
      by_cases h2 : t.val % 3 = 2
      · rw [outsAt0_C m c t h (by omega) h2]; frame_out; rw [read_unread_whole]; exact added_at _ _ _ _
      · rw [outsAt0_B m c t h (by omega) h2]; frame_out; rw [read_unread_whole]; exact added_at _ _ _ _)
    t ht _, zero_add]

theorem final (c : Dev nD) : (dats m 0 c).arrAt 2 (cfgs 0).N
    = Cert.ConvInRefIdeal.Read.val_main_v11 (F := Ideal) (argP m c) (argW m c) := by
  refine (dats m 0 c).arrAt_eq_of_covers 2 _ (by decide +kernel) fun t hf y => ?_
  have ht : t.val % 3 = 2 := (flush0_2 t).mp hf
  blk_simp; rw [after0_2]
  obtain ⟨r, d, rfl⟩ : ∃ (r d : Fin 1024), y = ix2 r d := ⟨y 0, y 1, by blk_ext⟩
  have e : (win0_2.blk t).view.emb (ix2 r d) = ix2 (row t r) d := by blk_ext [block_at t]
  have key : (outsAt0 m c t.val t.isLt).1 (ix2 r d) = (outsAt0 m c t.val t.isLt).2 (ix2 r d) := by
    rw [outsAt0_C m c t (by omega) (by omega) ht]; frame_out
  rw [e, reference_at]
  refine key.trans ((accumulated m c t ht _).trans ?_)
  simp only [product_at, p_block, w_block]
  refine Fin.sum_mul_add_congr (S := 3) (n := 1024) fun s x hl => ?_
  have q : part (point t s) = s :=
    Fin.ext (by show (3 * (t.val / 3) + s.val) % 3 = s.val; omega)
  have o : row (point t s) r = row t r :=
    Fin.ext (by show (3 * (t.val / 3) + s.val) / 3 * 1024 + r.val = t.val / 3 * 1024 + r.val; omega)
  rw [q, o]
  exact congrArg₂ (· * ·) (parts_at (argP m c) (row t r) s x).symm rfl

theorem reference_frame : @Cert.quiescent_ConvInRefIdeal Cert.ConvInRefIdeal.Gen.facts := fun m ρ _ =>
  (θ_run Cert.ConvInRefIdeal.defs _ _).mono (fun r h => ⟨fun c => (h c).2, sem_eq_zero_of_no_sems (by decide) r.2⟩)
    (Cert.ConvInRefIdeal.Value.run m ρ)

theorem claim : @Cert.algebraic_ConvInIdeal_ConvInRefIdeal Cert.ConvInIdeal.Gen.facts Cert.ConvInRefIdeal.Gen.facts := by
  pair_intro
  pick_goal 3
  · exact fun c => Cert.ConvInRefIdeal.Read.val_main_v11 (F := Ideal) (argP m c) (argW m c)
  · exact (θ_run _ _ _).mono (fun r h c => ⟨(h c).1.trans (final m c), (h c).2⟩) (Cert.ConvInIdeal.Value.run_blocks m g)
  · refine (θ_run _ _ _).mono (fun r h c => ?_) (Cert.ConvInRefIdeal.Value.run m' g')
    obtain ⟨h1, rest⟩ := h c
    refine ⟨h1.trans ((Cert.ConvInRefIdeal.Read.val_main_v11_eq _ _).trans ?_), rest⟩
    obtain ⟨a0, a1⟩ := hagree c
    rw [a0, a1]

end Cert.ConvInIdeal.Gradient
-- ==== Proof.ConvWGrad.lean ====
/- The gradient of the convolution's input weight, part by part. -/
module

public import proofs.«01_k».proof.Defs
public import proofs.«01_k».proof.Proof.Gen.ConvWIdeal.Frame
public import proofs.«01_k».proof.Proof.Gen.ConvWIdeal.Value
public import proofs.«01_k».proof.Proof.Gen.ConvWRefIdeal.Run
public import proofs.«01_k».proof.Proof.Gen.ConvWRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ConvWIdeal.Gradient

open Cert.ConvWIdeal Cert.ConvWIdeal.Gen

variable (m : (ℓ : Loc nD τ sig) → Buf (Elt Ideal) ℓ)

/-- The block of every window at every grid point: the point is block `t` of 512 columns. -/
theorem block_at : ∀ t : Fin cfg0.N, win0_0.index t = ![0, 0] ∧ win0_1.index t = ![t.val / 2, 0, t.val % 2]
    ∧ win0_2.index t = ![0, t.val] :=
  (by decide +kernel : ∀ t : Fin grid0.N, _)

abbrev argU (c : Dev nD) : FVec Ideal S2048x1024 .bf16 := m ((c.tc : Thread nD τ).loc main_arg0)
abbrev argP (c : Dev nD) : FVec Ideal S3x2048x1024 .bf16 := m ((c.tc : Thread nD τ).loc main_arg1)

/-- The part (gate, factor or value) of a grid point. -/
abbrev part (t : Fin cfg0.N) : Fin 3 := ⟨t.val / 2, by have := t.isLt; have : cfg0.N = 6 := rfl; omega⟩
/-- The column, within its part, of column `x` of a point's block. -/
abbrev col (t : Fin cfg0.N) (x : Fin 512) : Fin 1024 := ⟨t.val % 2 * 512 + x.val, by omega⟩
/-- Column `x` of part `q`, among the columns of all three parts. -/
abbrev wide (q : Fin 3) (x : Fin 1024) : Fin 3072 := ⟨q.val * 1024 + x.val, by omega⟩

theorem u_block (c : Dev nD) (t : Fin cfg0.N) (r : Fin 2048) (d : Fin 1024) :
    (iblk m c 0 t (ix2 r d) : EReal) = argU m c (ix2 r d) := by
  have e : (win0_0.blk t).view.emb (ix2 r d) = ix2 r d := by blk_ext [block_at t]
  blk_simp [iblk]; rw [V_main_arg0 m c]; exact congrArg (argU m c) e

theorem p_block (c : Dev nD) (t : Fin cfg0.N) (r : Fin 2048) (x : Fin 512) :
    (iblk m c 1 t (ix3 0 r x) : EReal) = argP m c (ix3 (part t) r (col t x)) := by
  have e : (win0_1.blk t).view.emb (ix3 0 r x) = ix3 (part t) r (col t x) := by blk_ext [block_at t]
  blk_simp [iblk]; rw [V_main_arg1 m c]; exact congrArg (argP m c) e

theorem stored_at (u : FVec Ideal S2048x1024 .bf16) (p : FVec Ideal S1x2048x512 .bf16) (d : Fin 1024) (x : Fin 512) :
    (k0_pay1 (F := Ideal) u p (ix2 d x) : EReal) = ∑ r : Fin 2048, (u (ix2 r d) : EReal) * p (ix3 0 r x) := by
  pointwise [k0_pay1]

open Cert.ConvWRefIdeal.Read in
/-- The three parts side by side, at a column of one of them. -/
theorem parts_at (p : FVec Ideal S3x2048x1024 .bf16) (r : Fin 2048) (q : Fin 3) (x : Fin 1024) :
    (val_main_v6 (F := Ideal) p (ix2 r (wide q x)) : EReal) = p (ix3 q r x) := by
  fin_cases q
  all_goals pointwise [val_main_v6, val_main_v5, val_main_v4, val_main_v3, val_main_v2, val_main_v1, val_main_v0]
  rw [dif_neg (by omega), dif_neg (by omega)]
  exact congrArg p (by blk_ext; all_goals simp [Nat.add_sub_cancel_left]; try omega)

open Cert.ConvWRefIdeal.Read in
theorem reference_at (u : FVec Ideal S2048x1024 .bf16) (p : FVec Ideal S3x2048x1024 .bf16) (d : Fin 1024) (q : Fin 3) (x : Fin 1024) :
    (val_main_v12 (F := Ideal) u p (ix2 d (wide q x)) : EReal) = ∑ r : Fin 2048, (u (ix2 r d) : EReal) * p (ix3 q r x) := by
  pointwise [val_main_v12, val_main_v11, val_main_v9, val_main_v7]
  exact Finset.sum_congr rfl fun r _ => (congrArg₂ (· * ·) (parts_at p r q x) rfl).trans (mul_comm _ _)

theorem final (c : Dev nD) : (dats m 0 c).arrAt 2 (cfgs 0).N
    = Cert.ConvWRefIdeal.Read.val_main_v12 (F := Ideal) (argU m c) (argP m c) := by
  refine (dats m 0 c).arrAt_eq_of_covers 2 _ (by decide +kernel) fun t hf y => ?_
  blk_simp; rw [after0_2]
  obtain ⟨d, x, rfl⟩ : ∃ (d : Fin 1024) (x : Fin 512), y = ix2 d x := ⟨y 0, y 1, by blk_ext⟩
  have e : (win0_2.blk t).view.emb (ix2 d x) = ix2 d (wide (part t) (col t x)) := by blk_ext [block_at t]
  rw [e, reference_at]
  frame_out
  refine (stored_at _ _ d x).trans ?_
  simp only [u_block, p_block]

theorem reference_frame : @Cert.quiescent_ConvWRefIdeal Cert.ConvWRefIdeal.Gen.facts := fun m ρ _ =>
  (θ_run Cert.ConvWRefIdeal.defs _ _).mono (fun r h => ⟨fun c => (h c).2, sem_eq_zero_of_no_sems (by decide) r.2⟩)
    (Cert.ConvWRefIdeal.Value.run m ρ)

theorem claim : @Cert.algebraic_ConvWIdeal_ConvWRefIdeal Cert.ConvWIdeal.Gen.facts Cert.ConvWRefIdeal.Gen.facts := by
  pair_intro
  pick_goal 3
  · exact fun c => Cert.ConvWRefIdeal.Read.val_main_v12 (F := Ideal) (argU m c) (argP m c)
  · exact (θ_run _ _ _).mono (fun r h c => ⟨(h c).1.trans (final m c), (h c).2⟩) (Cert.ConvWIdeal.Value.run_blocks m g)
  · refine (θ_run _ _ _).mono (fun r h c => ?_) (Cert.ConvWRefIdeal.Value.run m' g')
    obtain ⟨h1, rest⟩ := h c
    refine ⟨h1.trans ((Cert.ConvWRefIdeal.Read.val_main_v12_eq _ _).trans ?_), rest⟩
    obtain ⟨a0, a1⟩ := hagree c
    rw [a0, a1]

end Cert.ConvWIdeal.Gradient
-- ==== Proof.MixInGrad.lean ====
/- The gradient of what the output projection multiplies. -/
module

public import proofs.«01_k».proof.Defs
public import proofs.«01_k».proof.Proof.Gen.MixInIdeal.Frame
public import proofs.«01_k».proof.Proof.Gen.MixInIdeal.Value
public import proofs.«01_k».proof.Proof.Gen.MixInRefIdeal.Run
public import proofs.«01_k».proof.Proof.Gen.MixInRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixInIdeal.Gradient

open Cert.MixInIdeal Cert.MixInIdeal.Gen

variable (m : (ℓ : Loc nD τ sig) → Buf (Elt Ideal) ℓ)

/-- The block of every window at every grid point: the point is row block `t`. -/
theorem block_at : ∀ t : Fin cfg0.N, win0_0.index t = ![t.val, 0] ∧ win0_1.index t = ![0, 0] ∧ win0_2.index t = ![t.val, 0] :=
  (by decide +kernel : ∀ t : Fin grid0.N, _)

abbrev argG (c : Dev nD) : FVec Ideal S2304x1024 .bf16 := m ((c.tc : Thread nD τ).loc main_arg0)
abbrev argW (c : Dev nD) : FVec Ideal S1536x1024 .bf16 := m ((c.tc : Thread nD τ).loc main_arg1)

/-- The row of row `r` of a point's block. -/
abbrev row (t : Fin cfg0.N) (r : Fin 768) : Fin 2304 := ⟨t.val * 768 + r.val, by have := t.isLt; have : cfg0.N = 3 := rfl; omega⟩

theorem g_block (c : Dev nD) (t : Fin cfg0.N) (r : Fin 768) (d : Fin 1024) :
    (iblk m c 0 t (ix2 r d) : EReal) = argG m c (ix2 (row t r) d) := by
  have e : (win0_0.blk t).view.emb (ix2 r d) = ix2 (row t r) d := by blk_ext [block_at t]
  blk_simp [iblk]; rw [V_main_arg0 m c]; exact congrArg (argG m c) e

theorem w_block (c : Dev nD) (t : Fin cfg0.N) (x : Fin 1536) (d : Fin 1024) :
    (iblk m c 1 t (ix2 x d) : EReal) = argW m c (ix2 x d) := by
  have e : (win0_1.blk t).view.emb (ix2 x d) = ix2 x d := by blk_ext [block_at t]
  blk_simp [iblk]; rw [V_main_arg1 m c]; exact congrArg (argW m c) e

theorem stored_at (g : FVec Ideal S768x1024 .bf16) (w : FVec Ideal S1536x1024 .bf16) (r : Fin 768) (x : Fin 1536) :
    (k0_pay1 (F := Ideal) g w (ix2 r x) : EReal) = ∑ d : Fin 1024, (g (ix2 r d) : EReal) * w (ix2 x d) := by
  pointwise [k0_pay1]

open Cert.MixInRefIdeal.Read in
theorem reference_at (g : FVec Ideal S2304x1024 .bf16) (w : FVec Ideal S1536x1024 .bf16) (r : Fin 2304) (x : Fin 1536) :
    (val_main_v4 (F := Ideal) g w (ix2 r x) : EReal) = ∑ d : Fin 1024, (g (ix2 r d) : EReal) * w (ix2 x d) := by
  pointwise [val_main_v4, val_main_v3, val_main_v1]

theorem final (c : Dev nD) : (dats m 0 c).arrAt 2 (cfgs 0).N
    = Cert.MixInRefIdeal.Read.val_main_v4 (F := Ideal) (argG m c) (argW m c) := by
  refine (dats m 0 c).arrAt_eq_of_covers 2 _ (by decide +kernel) fun t hf y => ?_
  blk_simp; rw [after0_2]
  obtain ⟨r, x, rfl⟩ : ∃ (r : Fin 768) (x : Fin 1536), y = ix2 r x := ⟨y 0, y 1, by blk_ext⟩
  have e : (win0_2.blk t).view.emb (ix2 r x) = ix2 (row t r) x := by blk_ext [block_at t]
  rw [e, reference_at]
  frame_out
  refine (stored_at _ _ r x).trans ?_
  simp only [g_block, w_block]

theorem reference_frame : @Cert.quiescent_MixInRefIdeal Cert.MixInRefIdeal.Gen.facts := fun m ρ _ =>
  (θ_run Cert.MixInRefIdeal.defs _ _).mono (fun r h => ⟨fun c => (h c).2, sem_eq_zero_of_no_sems (by decide) r.2⟩)
    (Cert.MixInRefIdeal.Value.run m ρ)

theorem claim : @Cert.algebraic_MixInIdeal_MixInRefIdeal Cert.MixInIdeal.Gen.facts Cert.MixInRefIdeal.Gen.facts := by
  pair_intro
  pick_goal 3
  · exact fun c => Cert.MixInRefIdeal.Read.val_main_v4 (F := Ideal) (argG m c) (argW m c)
  · exact (θ_run _ _ _).mono (fun r h c => ⟨(h c).1.trans (final m c), (h c).2⟩) (Cert.MixInIdeal.Value.run_blocks m g)
  · refine (θ_run _ _ _).mono (fun r h c => ?_) (Cert.MixInRefIdeal.Value.run m' g')
    obtain ⟨h1, rest⟩ := h c
    refine ⟨h1.trans ((Cert.MixInRefIdeal.Read.val_main_v4_eq _ _).trans ?_), rest⟩
    obtain ⟨a0, a1⟩ := hagree c
    rw [a0, a1]

end Cert.MixInIdeal.Gradient
-- ==== Proof.MixWGrad.lean ====
/- The gradient of the output projection's weight. -/
module

public import proofs.«01_k».proof.Defs
public import proofs.«01_k».proof.Proof.Gen.MixWIdeal.Frame
public import proofs.«01_k».proof.Proof.Gen.MixWIdeal.Value
public import proofs.«01_k».proof.Proof.Gen.MixWRefIdeal.Run
public import proofs.«01_k».proof.Proof.Gen.MixWRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixWIdeal.Gradient

open Cert.MixWIdeal Cert.MixWIdeal.Gen

variable (m : (ℓ : Loc nD τ sig) → Buf (Elt Ideal) ℓ)

/-- The block of every window at every grid point: the point is row block `t % 3`, column block `t / 3`. -/
theorem block_at : ∀ t : Fin cfg0.N, win0_0.index t = ![0, t.val % 3] ∧ win0_1.index t = ![0, t.val / 3]
    ∧ win0_2.index t = ![t.val % 3, t.val / 3] :=
  (by decide +kernel : ∀ t : Fin grid0.N, _)

abbrev argX (c : Dev nD) : FVec Ideal S2304x1536 .bf16 := m ((c.tc : Thread nD τ).loc main_arg0)
abbrev argG (c : Dev nD) : FVec Ideal S2304x1024 .bf16 := m ((c.tc : Thread nD τ).loc main_arg1)

/-- The row of the weight of row `x` of a point's block. -/
abbrev row (t : Fin cfg0.N) (x : Fin 512) : Fin 1536 := ⟨t.val % 3 * 512 + x.val, by omega⟩
/-- The column of the weight of column `d` of a point's block. -/
abbrev col (t : Fin cfg0.N) (d : Fin 512) : Fin 1024 := ⟨t.val / 3 * 512 + d.val, by have := t.isLt; have : cfg0.N = 6 := rfl; omega⟩

theorem x_block (c : Dev nD) (t : Fin cfg0.N) (r : Fin 2304) (x : Fin 512) :
    (iblk m c 0 t (ix2 r x) : EReal) = argX m c (ix2 r (row t x)) := by
  have e : (win0_0.blk t).view.emb (ix2 r x) = ix2 r (row t x) := by blk_ext [block_at t]
  blk_simp [iblk]; rw [V_main_arg0 m c]; exact congrArg (argX m c) e

theorem g_block (c : Dev nD) (t : Fin cfg0.N) (r : Fin 2304) (d : Fin 512) :
    (iblk m c 1 t (ix2 r d) : EReal) = argG m c (ix2 r (col t d)) := by
  have e : (win0_1.blk t).view.emb (ix2 r d) = ix2 r (col t d) := by blk_ext [block_at t]
  blk_simp [iblk]; rw [V_main_arg1 m c]; exact congrArg (argG m c) e

theorem stored_at (x g : FVec Ideal S2304x512 .bf16) (i d : Fin 512) :
    (k0_pay1 (F := Ideal) x g (ix2 i d) : EReal) = ∑ r : Fin 2304, (x (ix2 r i) : EReal) * g (ix2 r d) := by
  pointwise [k0_pay1]

open Cert.MixWRefIdeal.Read in
theorem reference_at (x : FVec Ideal S2304x1536 .bf16) (g : FVec Ideal S2304x1024 .bf16) (i : Fin 1536) (d : Fin 1024) :
    (val_main_v5 (F := Ideal) x g (ix2 i d) : EReal) = ∑ r : Fin 2304, (x (ix2 r i) : EReal) * g (ix2 r d) := by
  pointwise [val_main_v5, val_main_v4, val_main_v3, val_main_v1]
  exact Finset.sum_congr rfl fun _ _ => mul_comm _ _

theorem final (c : Dev nD) : (dats m 0 c).arrAt 2 (cfgs 0).N
    = Cert.MixWRefIdeal.Read.val_main_v5 (F := Ideal) (argX m c) (argG m c) := by
  refine (dats m 0 c).arrAt_eq_of_covers 2 _ (by decide +kernel) fun t hf y => ?_
  blk_simp; rw [after0_2]
  obtain ⟨i, d, rfl⟩ : ∃ (i : Fin 512) (d : Fin 512), y = ix2 i d := ⟨y 0, y 1, by blk_ext⟩
  have e : (win0_2.blk t).view.emb (ix2 i d) = ix2 (row t i) (col t d) := by blk_ext [block_at t]
  rw [e, reference_at]
  frame_out
  refine (stored_at _ _ i d).trans ?_
  simp only [x_block, g_block]

theorem reference_frame : @Cert.quiescent_MixWRefIdeal Cert.MixWRefIdeal.Gen.facts := fun m ρ _ =>
  (θ_run Cert.MixWRefIdeal.defs _ _).mono (fun r h => ⟨fun c => (h c).2, sem_eq_zero_of_no_sems (by decide) r.2⟩)
    (Cert.MixWRefIdeal.Value.run m ρ)

theorem claim : @Cert.algebraic_MixWIdeal_MixWRefIdeal Cert.MixWIdeal.Gen.facts Cert.MixWRefIdeal.Gen.facts := by
  pair_intro
  pick_goal 3
  · exact fun c => Cert.MixWRefIdeal.Read.val_main_v5 (F := Ideal) (argX m c) (argG m c)
  · exact (θ_run _ _ _).mono (fun r h c => ⟨(h c).1.trans (final m c), (h c).2⟩) (Cert.MixWIdeal.Value.run_blocks m g)
  · refine (θ_run _ _ _).mono (fun r h c => ?_) (Cert.MixWRefIdeal.Value.run m' g')
    obtain ⟨h1, rest⟩ := h c
    refine ⟨h1.trans ((Cert.MixWRefIdeal.Read.val_main_v5_eq _ _).trans ?_), rest⟩
    obtain ⟨a0, a1⟩ := hagree c
    rw [a0, a1]

end Cert.MixWIdeal.Gradient
-- ==== Proof.DHidOneGrad.lean ====
/- The gradients of the gated hidden rows: the output's gradient through the down weight, then through the gate. -/
module

public import proofs.«01_k».proof.Defs
public import proofs.«01_k».proof.Proof.Gen.DHidOneIdeal.Frame
public import proofs.«01_k».proof.Proof.Gen.DHidOneIdeal.Value
public import proofs.«01_k».proof.Proof.Gen.DHidOneRefIdeal.Run
public import proofs.«01_k».proof.Proof.Gen.DHidOneRefIdeal.Read
public import proofs.«01_k».proof.Proof.Chunks
public import proofs.«01_k».proof.Proof.Gen.Pre_finite_products_l1
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DHidOneIdeal.Gradient

open Cert.DHidOneIdeal Cert.DHidOneIdeal.Gen

open Cert.AttnMath (IsReal mask_real)
open Cert.Chunks (slope_mul)

variable (m : (ℓ : Loc nD τ sig) → Buf (Elt Ideal) ℓ)

/-- The block of every window at every grid point: the point is chunk `t / 2`, row block `t % 2`. -/
theorem block_at : ∀ t : Fin cfg0.N, win0_0.index t = ![t.val % 2, 0] ∧ win0_1.index t = ![t.val / 2, 0, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0] :=
  (by decide +kernel : ∀ t : Fin grid0.N, _)

abbrev argG (c : Dev nD) : FVec Ideal S2048x1024 .bf16 := m ((c.tc : Thread nD τ).loc main_arg0)
abbrev argW (c : Dev nD) : FVec Ideal S4x704x1024 .bf16 := m ((c.tc : Thread nD τ).loc main_arg1)
abbrev argA (c : Dev nD) : FVec Ideal S4x2048x704 .bf16 := m ((c.tc : Thread nD τ).loc main_arg2)
abbrev argB (c : Dev nD) : FVec Ideal S4x2048x704 .bf16 := m ((c.tc : Thread nD τ).loc main_arg3)

/-- The chunk of a grid point. -/
abbrev chunk (t : Fin cfg0.N) : Fin 4 := ⟨t.val / 2, by have := t.isLt; have : cfg0.N = 8 := rfl; omega⟩
/-- The row of row `r` of a point's block. -/
abbrev row (t : Fin cfg0.N) (r : Fin 1024) : Fin 2048 := ⟨t.val % 2 * 1024 + r.val, by omega⟩

theorem g_block (c : Dev nD) (t : Fin cfg0.N) (r : Fin 1024) (d : Fin 1024) :
    (iblk m c 0 t (ix2 r d) : EReal) = argG m c (ix2 (row t r) d) := by
  have e : (win0_0.blk t).view.emb (ix2 r d) = ix2 (row t r) d := by blk_ext [block_at t]
  blk_simp [iblk]; rw [V_main_arg0 m c]; exact congrArg (argG m c) e

theorem w_block (c : Dev nD) (t : Fin cfg0.N) (f : Fin 704) (d : Fin 1024) :
    (iblk m c 1 t (ix3 0 f d) : EReal) = argW m c (ix3 (chunk t) f d) := by
  have e : (win0_1.blk t).view.emb (ix3 0 f d) = ix3 (chunk t) f d := by blk_ext [block_at t]
  blk_simp [iblk]; rw [V_main_arg1 m c]; exact congrArg (argW m c) e

theorem a_block (c : Dev nD) (t : Fin cfg0.N) (r : Fin 1024) (f : Fin 704) :
    (iblk m c 2 t (ix3 0 r f) : EReal) = argA m c (ix3 (chunk t) (row t r) f) := by
  have e : (win0_2.blk t).view.emb (ix3 0 r f) = ix3 (chunk t) (row t r) f := by blk_ext [block_at t]
  blk_simp [iblk]; rw [V_main_arg2 m c]; exact congrArg (argA m c) e

theorem b_block (c : Dev nD) (t : Fin cfg0.N) (r : Fin 1024) (f : Fin 704) :
    (iblk m c 3 t (ix3 0 r f) : EReal) = argB m c (ix3 (chunk t) (row t r) f) := by
  have e : (win0_3.blk t).view.emb (ix3 0 r f) = ix3 (chunk t) (row t r) f := by blk_ext [block_at t]
  blk_simp [iblk]; rw [V_main_arg3 m c]; exact congrArg (argB m c) e

theorem stored_a_at (g : FVec Ideal S1024x1024 .bf16) (w : FVec Ideal S1x704x1024 .bf16) (a b : FVec Ideal S1x1024x704 .bf16) (r : Fin 1024) (f : Fin 704) :
    (k0_pay4 (F := Ideal) g w a b (ix3 0 r f) : EReal) = (∑ d : Fin 1024, (g (ix2 r d) : EReal) * w (ix3 0 f d)) * b (ix3 0 r f)
      * (Ideal.logistic (a (ix3 0 r f)) * (1 + a (ix3 0 r f) * (1 - Ideal.logistic (a (ix3 0 r f))))) := by
  pointwise [k0_pay4, k0_pay3, k0_pay2, k0_pay1]

theorem stored_b_at (g : FVec Ideal S1024x1024 .bf16) (w : FVec Ideal S1x704x1024 .bf16) (a : FVec Ideal S1x1024x704 .bf16) (r : Fin 1024) (f : Fin 704) :
    (k0_pay5 (F := Ideal) g w a (ix3 0 r f) : EReal) = (∑ d : Fin 1024, (g (ix2 r d) : EReal) * w (ix3 0 f d))
      * (a (ix3 0 r f) * Ideal.logistic (a (ix3 0 r f))) := by
  pointwise [k0_pay5, k0_pay3, k0_pay2, k0_pay1]

open Cert.DHidOneRefIdeal.Read in
theorem reference_a_at (g : FVec Ideal S2048x1024 .bf16) (w : FVec Ideal S4x704x1024 .bf16) (a b : FVec Ideal S4x2048x704 .bf16) (j : Fin 4) (r : Fin 2048) (f : Fin 704) :
    (val_main_v12 (F := Ideal) g w a b (ix3 j r f) : EReal)
      = (∑ d : Fin 1024, (g (ix2 r d) : EReal) * w (ix3 j f d)) * b (ix3 j r f) * Ideal.logistic (a (ix3 j r f))
        + a (ix3 j r f) * ((∑ d : Fin 1024, (g (ix2 r d) : EReal) * w (ix3 j f d)) * b (ix3 j r f))
          * (Ideal.logistic (a (ix3 j r f)) * (1 - Ideal.logistic (a (ix3 j r f)))) := by
  pointwise [val_main_v12, val_main_v11, val_main_call1_v2, val_main_call1_v1, val_main_call1_v0, val_main_v10, val_main_v8,
    val_main_v7, val_main_v4_1, val_main_v4_2, val_main_call0_v7, val_main_call0_v6, val_main_call0_v4, val_main_call0_v3,
    val_main_call0_v2, val_main_call0_v1, val_main_call0_v0, val_main_call0_cst, val_main_call0_cst_0, val_main_call0_cst_1,
    val_main_v0, val_main_v1, val_main_v2, val_main_v3]
  rfl

open Cert.DHidOneRefIdeal.Read in
theorem reference_b_at (g : FVec Ideal S2048x1024 .bf16) (w : FVec Ideal S4x704x1024 .bf16) (a : FVec Ideal S4x2048x704 .bf16) (j : Fin 4) (r : Fin 2048) (f : Fin 704) :
    (val_main_v13 (F := Ideal) g w a (ix3 j r f) : EReal)
      = (∑ d : Fin 1024, (g (ix2 r d) : EReal) * w (ix3 j f d)) * (a (ix3 j r f) * Ideal.logistic (a (ix3 j r f))) := by
  pointwise [val_main_v13, val_main_v9, val_main_v8, val_main_v7, val_main_v4_0, val_main_v4_2, val_main_call0_v4, val_main_call0_v3,
    val_main_call0_v2, val_main_call0_v1, val_main_call0_v0, val_main_call0_cst, val_main_call0_cst_0,
    val_main_v0, val_main_v1, val_main_v2]
  exact mul_comm _ _

theorem final_b (c : Dev nD) : (dats m 0 c).arrAt 5 (cfgs 0).N
    = Cert.DHidOneRefIdeal.Read.val_main_v13 (F := Ideal) (argG m c) (argW m c) (argA m c) := by
  refine (dats m 0 c).arrAt_eq_of_covers 5 _ (by decide +kernel) fun t hf y => ?_
  blk_simp; rw [after0_5]
  obtain ⟨r, f, rfl⟩ : ∃ (r : Fin 1024) (f : Fin 704), y = ix3 0 r f := ⟨y 1, y 2, by blk_ext⟩
  have e : (win0_5.blk t).view.emb (ix3 0 r f) = ix3 (chunk t) (row t r) f := by blk_ext [block_at t]
  rw [e, reference_b_at]
  frame_out
  refine (stored_b_at _ _ _ r f).trans ?_
  simp only [g_block, w_block, a_block]

/-- The precondition says that what the down product reads, and the up rows, are real. -/
theorem real_of_pre (hpre : @Cert.Pre_DHidOneIdeal_finite_products_l1 Cert.Pre_finite_products_l1.Gen.facts m) (c : Dev nD) (j : Fin 4) (r : Fin 2048) (f : Fin 704) :
    IsReal ((∑ d : Fin 1024, (argG m c (ix2 r d) : EReal) * argW m c (ix3 j f d)) * argB m c (ix3 j r f)) := by
  obtain ⟨h1, h2, h3⟩ := hpre c
  exact (IsReal.sum _ fun d => (mask_real _ _ (ix2 r d) rfl (congrFun h1 (ix2 r d))).mul
    (mask_real _ _ (ix3 j f d) rfl (congrFun h2 (ix3 j f d)))).mul (mask_real _ _ (ix3 j r f) rfl (congrFun h3 (ix3 j r f)))

theorem final_a (hpre : @Cert.Pre_DHidOneIdeal_finite_products_l1 Cert.Pre_finite_products_l1.Gen.facts m) (c : Dev nD) : (dats m 0 c).arrAt 4 (cfgs 0).N
    = Cert.DHidOneRefIdeal.Read.val_main_v12 (F := Ideal) (argG m c) (argW m c) (argA m c) (argB m c) := by
  refine (dats m 0 c).arrAt_eq_of_covers 4 _ (by decide +kernel) fun t hf y => ?_
  blk_simp; rw [after0_4]
  obtain ⟨r, f, rfl⟩ : ∃ (r : Fin 1024) (f : Fin 704), y = ix3 0 r f := ⟨y 1, y 2, by blk_ext⟩
  have e : (win0_4.blk t).view.emb (ix3 0 r f) = ix3 (chunk t) (row t r) f := by blk_ext [block_at t]
  rw [e, reference_a_at]
  frame_out
  refine (stored_a_at _ _ _ _ r f).trans ?_
  simp only [g_block, w_block, a_block, b_block]
  exact slope_mul (real_of_pre m hpre c (chunk t) (row t r) f) _

theorem reference_frame : @Cert.quiescent_DHidOneRefIdeal Cert.DHidOneRefIdeal.Gen.facts := fun m ρ _ =>
  (θ_run Cert.DHidOneRefIdeal.defs _ _).mono (fun r h => ⟨fun c => (h c).2.2, sem_eq_zero_of_no_sems (by decide) r.2⟩)
    (Cert.DHidOneRefIdeal.Value.run m ρ)

theorem claim : @Cert.algebraic_DHidOneIdeal_DHidOneRefIdeal_pre_finite_products_l1 Cert.DHidOneIdeal.Gen.facts Cert.DHidOneRefIdeal.Gen.facts Cert.Pre_finite_products_l1.Gen.facts := by
  pair_intro
  pick_goal 3
  · exact fun c => Cert.DHidOneRefIdeal.Read.val_main_v12 (F := Ideal) (argG m c) (argW m c) (argA m c) (argB m c)
  pick_goal 3
  · exact fun c => Cert.DHidOneRefIdeal.Read.val_main_v13 (F := Ideal) (argG m c) (argW m c) (argA m c)
  · exact (θ_run _ _ _).mono (fun r h c => ⟨(h c).1.trans (final_a m hpre c), (h c).2.1.trans (final_b m c), (h c).2.2⟩)
      (Cert.DHidOneIdeal.Value.run_blocks m g)
  · refine (θ_run _ _ _).mono (fun r h c => ?_) (Cert.DHidOneRefIdeal.Value.run m' g')
    obtain ⟨h1, h2, rest⟩ := h c
    obtain ⟨a0, a1, a2, a3⟩ := hagree c
    refine ⟨h1.trans ((Cert.DHidOneRefIdeal.Read.val_main_v12_eq _ _ _ _).trans ?_), h2.trans ((Cert.DHidOneRefIdeal.Read.val_main_v13_eq _ _ _).trans ?_), rest⟩
    · rw [a0, a1, a2, a3]
    · rw [a0, a1, a2]

end Cert.DHidOneIdeal.Gradient
-- ==== Proof.DUOneGrad.lean ====
/- The gradient of the feed-forward input: both weights' products, summed over the four chunks of the hidden width. -/
module

public import proofs.«01_k».proof.Defs
public import proofs.«01_k».proof.Proof.Gen.DUOneIdeal.Frame
public import proofs.«01_k».proof.Proof.Gen.DUOneIdeal.Value
public import proofs.«01_k».proof.Proof.Gen.DUOneRefIdeal.Run
public import proofs.«01_k».proof.Proof.Gen.DUOneRefIdeal.Read
public import proofs.«01_k».proof.Proof.Chunks
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DUOneIdeal.Gradient

open Cert.DUOneIdeal Cert.DUOneIdeal.Gen

variable (m : (ℓ : Loc nD τ sig) → Buf (Elt Ideal) ℓ)

/-- The block of every window at every grid point: the point is row block `t`. -/
theorem block_at : ∀ t : Fin cfg0.N, win0_0.index t = ![0, t.val, 0] ∧ win0_1.index t = ![0, t.val, 0]
    ∧ win0_2.index t = ![0, 0, 0, 0] ∧ win0_3.index t = ![0, 0, 0, 0] ∧ win0_4.index t = ![t.val, 0] :=
  (by decide +kernel : ∀ t : Fin grid0.N, _)

abbrev argA (c : Dev nD) : FVec Ideal S4x2048x704 .bf16 := m ((c.tc : Thread nD τ).loc main_arg0)
abbrev argB (c : Dev nD) : FVec Ideal S4x2048x704 .bf16 := m ((c.tc : Thread nD τ).loc main_arg1)
abbrev argG (c : Dev nD) : FVec Ideal S4x1x1024x704 .bf16 := m ((c.tc : Thread nD τ).loc main_arg2)
abbrev argU (c : Dev nD) : FVec Ideal S4x1x1024x704 .bf16 := m ((c.tc : Thread nD τ).loc main_arg3)

/-- The row of row `a` of a point's block. -/
abbrev row (t : Fin cfg0.N) (a : Fin 1024) : Fin 2048 := ⟨t.val * 1024 + a.val, by have := t.isLt; have : cfg0.N = 2 := rfl; omega⟩

theorem a_block (c : Dev nD) (t : Fin cfg0.N) (j : Fin 4) (a : Fin 1024) (f : Fin 704) :
    (iblk m c 0 t (ix3 j a f) : EReal) = argA m c (ix3 j (row t a) f) := by
  have e : (win0_0.blk t).view.emb (ix3 j a f) = ix3 j (row t a) f := by blk_ext [block_at t]
  blk_simp [iblk]; rw [V_main_arg0 m c]; exact congrArg (argA m c) e

theorem b_block (c : Dev nD) (t : Fin cfg0.N) (j : Fin 4) (a : Fin 1024) (f : Fin 704) :
    (iblk m c 1 t (ix3 j a f) : EReal) = argB m c (ix3 j (row t a) f) := by
  have e : (win0_1.blk t).view.emb (ix3 j a f) = ix3 j (row t a) f := by blk_ext [block_at t]
  blk_simp [iblk]; rw [V_main_arg1 m c]; exact congrArg (argB m c) e

theorem g_block (c : Dev nD) (t : Fin cfg0.N) (j : Fin 4) (d : Fin 1024) (f : Fin 704) :
    (iblk m c 2 t (ix4 j 0 d f) : EReal) = argG m c (ix4 j 0 d f) := by
  have e : (win0_2.blk t).view.emb (ix4 j 0 d f) = ix4 j 0 d f := by blk_ext [block_at t]
  blk_simp [iblk]; rw [V_main_arg2 m c]; exact congrArg (argG m c) e

theorem u_block (c : Dev nD) (t : Fin cfg0.N) (j : Fin 4) (d : Fin 1024) (f : Fin 704) :
    (iblk m c 3 t (ix4 j 0 d f) : EReal) = argU m c (ix4 j 0 d f) := by
  have e : (win0_3.blk t).view.emb (ix4 j 0 d f) = ix4 j 0 d f := by blk_ext [block_at t]
  blk_simp [iblk]; rw [V_main_arg3 m c]; exact congrArg (argU m c) e

theorem stored_at (x0 x1 x2 x3 y0 y1 y2 y3 : FVec Ideal S1x1024x704 .bf16) (g0 g1 g2 g3 u0 u1 u2 u3 : FVec Ideal S1x1x1024x704 .bf16) (a : Fin 1024) (d : Fin 1024) :
    (k0_pay1 (F := Ideal) (k0_pay2 x0 g0 y0 u0 x1 g1 y1 u1) x2 g2 y2 u2 x3 g3 y3 u3 (ix2 a d) : EReal)
      = ((∑ f : Fin 704, (y0 (ix3 0 a f) : EReal) * u0 (ix4 0 0 d f)) + (∑ f : Fin 704, (y1 (ix3 0 a f) : EReal) * u1 (ix4 0 0 d f))
          + (∑ f : Fin 704, (y2 (ix3 0 a f) : EReal) * u2 (ix4 0 0 d f)) + ∑ f : Fin 704, (y3 (ix3 0 a f) : EReal) * u3 (ix4 0 0 d f))
        + ((∑ f : Fin 704, (x0 (ix3 0 a f) : EReal) * g0 (ix4 0 0 d f)) + (∑ f : Fin 704, (x1 (ix3 0 a f) : EReal) * g1 (ix4 0 0 d f))
          + (∑ f : Fin 704, (x2 (ix3 0 a f) : EReal) * g2 (ix4 0 0 d f)) + ∑ f : Fin 704, (x3 (ix3 0 a f) : EReal) * g3 (ix4 0 0 d f)) := by
  pointwise [k0_pay1, k0_pay2]
  ac_rfl

open Cert.DUOneRefIdeal.Read in
theorem reference_at (x y : FVec Ideal S4x2048x704 .bf16) (g u : FVec Ideal S4x1x1024x704 .bf16) (r : Fin 2048) (d : Fin 1024) :
    (val_main_v15 (F := Ideal) x y g u (ix2 r d) : EReal)
      = (∑ j : Fin 4, ∑ f : Fin 704, (y (ix3 j r f) : EReal) * u (ix4 j 0 d f)) + ∑ j : Fin 4, ∑ f : Fin 704, (x (ix3 j r f) : EReal) * g (ix4 j 0 d f) := by
  pointwise [val_main_v15, val_main_v14, val_main_v13, val_main_v2, val_main_v4, val_main_v0, val_main_v12, val_main_v11, val_main_v3, val_main_v5, val_main_v1]

theorem final (c : Dev nD) : (dats m 0 c).arrAt 4 (cfgs 0).N
    = Cert.DUOneRefIdeal.Read.val_main_v15 (F := Ideal) (argA m c) (argB m c) (argG m c) (argU m c) := by
  refine (dats m 0 c).arrAt_eq_of_covers 4 _ (by decide +kernel) fun t hf y => ?_
  blk_simp; rw [after0_4]
  obtain ⟨a, d, rfl⟩ : ∃ (a : Fin 1024) (d : Fin 1024), y = ix2 a d := ⟨y 0, y 1, by blk_ext⟩
  have e : (win0_4.blk t).view.emb (ix2 a d) = ix2 (row t a) d := by blk_ext [block_at t]
  rw [e, reference_at]
  frame_out
  refine (stored_at _ _ _ _ _ _ _ _ _ _ _ _ _ _ _ _ a d).trans ?_
  simp only [Fin.sum_univ_four]
  have A (o h h' j) (hj : j.val = o) := Chunks.product_of_rows (iblk m c 0 t) (iblk m c 2 t) o h h' j hj a d
  have B (o h h' j) (hj : j.val = o) := Chunks.product_of_rows (iblk m c 1 t) (iblk m c 3 t) o h h' j hj a d
  simp only [a_block, b_block, g_block, u_block] at A B
  exact congrArg₂ (· + ·)
    (congrArg₂ (· + ·) (congrArg₂ (· + ·) (congrArg₂ (· + ·) (B 0 _ _ 0 rfl) (B 1 _ _ 1 rfl)) (B 2 _ _ 2 rfl)) (B 3 _ _ 3 rfl))
    (congrArg₂ (· + ·) (congrArg₂ (· + ·) (congrArg₂ (· + ·) (A 0 _ _ 0 rfl) (A 1 _ _ 1 rfl)) (A 2 _ _ 2 rfl)) (A 3 _ _ 3 rfl))

theorem reference_frame : @Cert.quiescent_DUOneRefIdeal Cert.DUOneRefIdeal.Gen.facts := fun m ρ _ =>
  (θ_run Cert.DUOneRefIdeal.defs _ _).mono (fun r h => ⟨fun c => (h c).2, sem_eq_zero_of_no_sems (by decide) r.2⟩)
    (Cert.DUOneRefIdeal.Value.run m ρ)

theorem claim : @Cert.algebraic_DUOneIdeal_DUOneRefIdeal Cert.DUOneIdeal.Gen.facts Cert.DUOneRefIdeal.Gen.facts := by
  pair_intro
  pick_goal 3
  · exact fun c => Cert.DUOneRefIdeal.Read.val_main_v15 (F := Ideal) (argA m c) (argB m c) (argG m c) (argU m c)
  · exact (θ_run _ _ _).mono (fun r h c => ⟨(h c).1.trans (final m c), (h c).2⟩) (Cert.DUOneIdeal.Value.run_blocks m g)
  · refine (θ_run _ _ _).mono (fun r h c => ?_) (Cert.DUOneRefIdeal.Value.run m' g')
    obtain ⟨h1, rest⟩ := h c
    refine ⟨h1.trans ((Cert.DUOneRefIdeal.Read.val_main_v15_eq _ _ _ _).trans ?_), rest⟩
    obtain ⟨a0, a1, a2, a3⟩ := hagree c
    rw [a0, a1, a2, a3]

end Cert.DUOneIdeal.Gradient
-- ==== Proof.DWInOneGrad.lean ====
/- The gradients of the gate and up weights: each chunk is the transposed input times that chunk's gradient. -/
module

public import proofs.«01_k».proof.Defs
public import proofs.«01_k».proof.Proof.Gen.DWInOneIdeal.Frame
public import proofs.«01_k».proof.Proof.Gen.DWInOneIdeal.Value
public import proofs.«01_k».proof.Proof.Gen.DWInOneRefIdeal.Run
public import proofs.«01_k».proof.Proof.Gen.DWInOneRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DWInOneIdeal.Gradient

open Cert.DWInOneIdeal Cert.DWInOneIdeal.Gen

variable (m : (ℓ : Loc nD τ sig) → Buf (Elt Ideal) ℓ)

/-- The block of every window at every grid point: the point is chunk `t`. -/
theorem block_at : ∀ t : Fin cfg0.N, win0_0.index t = ![0, 0] ∧ win0_1.index t = ![t.val, 0, 0]
    ∧ win0_2.index t = ![t.val, 0, 0] ∧ win0_3.index t = ![t.val, 0, 0] ∧ win0_4.index t = ![t.val, 0, 0] :=
  (by decide +kernel : ∀ t : Fin grid0.N, _)

abbrev argU (c : Dev nD) : FVec Ideal S2048x1024 .bf16 := m ((c.tc : Thread nD τ).loc main_arg0)
abbrev argA (c : Dev nD) : FVec Ideal S4x2048x704 .bf16 := m ((c.tc : Thread nD τ).loc main_arg1)
abbrev argB (c : Dev nD) : FVec Ideal S4x2048x704 .bf16 := m ((c.tc : Thread nD τ).loc main_arg2)

/-- The chunk of a grid point. -/
abbrev chunk (t : Fin cfg0.N) : Fin 4 := ⟨t.val, t.isLt⟩

theorem u_block (c : Dev nD) (t : Fin cfg0.N) (r : Fin 2048) (d : Fin 1024) :
    (iblk m c 0 t (ix2 r d) : EReal) = argU m c (ix2 r d) := by
  have e : (win0_0.blk t).view.emb (ix2 r d) = ix2 r d := by blk_ext [block_at t]
  blk_simp [iblk]; rw [V_main_arg0 m c]; exact congrArg (argU m c) e

theorem a_block (c : Dev nD) (t : Fin cfg0.N) (r : Fin 2048) (f : Fin 704) :
    (iblk m c 1 t (ix3 0 r f) : EReal) = argA m c (ix3 (chunk t) r f) := by
  have e : (win0_1.blk t).view.emb (ix3 0 r f) = ix3 (chunk t) r f := by blk_ext [block_at t]
  blk_simp [iblk]; rw [V_main_arg1 m c]; exact congrArg (argA m c) e

theorem b_block (c : Dev nD) (t : Fin cfg0.N) (r : Fin 2048) (f : Fin 704) :
    (iblk m c 2 t (ix3 0 r f) : EReal) = argB m c (ix3 (chunk t) r f) := by
  have e : (win0_2.blk t).view.emb (ix3 0 r f) = ix3 (chunk t) r f := by blk_ext [block_at t]
  blk_simp [iblk]; rw [V_main_arg2 m c]; exact congrArg (argB m c) e

theorem stored_gate_at (x : FVec Ideal S2048x1024 .bf16) (y : FVec Ideal S1x2048x704 .bf16) (d : Fin 1024) (f : Fin 704) :
    (k0_pay2 (F := Ideal) x y (ix3 0 d f) : EReal) = ∑ r : Fin 2048, (x (ix2 r d) : EReal) * y (ix3 0 r f) := by
  pointwise [k0_pay2, k0_pay1]

theorem stored_up_at (x : FVec Ideal S2048x1024 .bf16) (y : FVec Ideal S1x2048x704 .bf16) (d : Fin 1024) (f : Fin 704) :
    (k0_pay3 (F := Ideal) x y (ix3 0 d f) : EReal) = ∑ r : Fin 2048, (x (ix2 r d) : EReal) * y (ix3 0 r f) := by
  pointwise [k0_pay3, k0_pay1]

open Cert.DWInOneRefIdeal.Read in
theorem reference_gate_at (x : FVec Ideal S2048x1024 .bf16) (y : FVec Ideal S4x2048x704 .bf16) (j : Fin 4) (d : Fin 1024) (f : Fin 704) :
    (val_main_v14 (F := Ideal) x y (ix3 j d f) : EReal) = ∑ r : Fin 2048, (x (ix2 r d) : EReal) * y (ix3 j r f) := by
  pointwise [val_main_v14, val_main_v13, val_main_v12, val_main_v11, val_main_v1, val_main_v0]
  exact Finset.sum_congr rfl fun _ _ => mul_comm _ _

open Cert.DWInOneRefIdeal.Read in
theorem reference_up_at (x : FVec Ideal S2048x1024 .bf16) (y : FVec Ideal S4x2048x704 .bf16) (j : Fin 4) (d : Fin 1024) (f : Fin 704) :
    (val_main_v15 (F := Ideal) x y (ix3 j d f) : EReal) = ∑ r : Fin 2048, (x (ix2 r d) : EReal) * y (ix3 j r f) := by
  pointwise [val_main_v15, val_main_v10, val_main_v9, val_main_v8, val_main_v2, val_main_v0]
  exact Finset.sum_congr rfl fun _ _ => mul_comm _ _

theorem final_gate (c : Dev nD) : (dats m 0 c).arrAt 3 (cfgs 0).N
    = Cert.DWInOneRefIdeal.Read.val_main_v14 (F := Ideal) (argU m c) (argA m c) := by
  refine (dats m 0 c).arrAt_eq_of_covers 3 _ (by decide +kernel) fun t hf y => ?_
  blk_simp; rw [after0_3]
  obtain ⟨d, f, rfl⟩ : ∃ (d : Fin 1024) (f : Fin 704), y = ix3 0 d f := ⟨y 1, y 2, by blk_ext⟩
  have e : (win0_3.blk t).view.emb (ix3 0 d f) = ix3 (chunk t) d f := by blk_ext [block_at t]
  rw [e, reference_gate_at]
  unfold outsAt0
  frame_out
  refine (stored_gate_at _ _ d f).trans ?_
  simp only [u_block, a_block]

theorem final_up (c : Dev nD) : (dats m 0 c).arrAt 4 (cfgs 0).N
    = Cert.DWInOneRefIdeal.Read.val_main_v15 (F := Ideal) (argU m c) (argB m c) := by
  refine (dats m 0 c).arrAt_eq_of_covers 4 _ (by decide +kernel) fun t hf y => ?_
  blk_simp; rw [after0_4]
  obtain ⟨d, f, rfl⟩ : ∃ (d : Fin 1024) (f : Fin 704), y = ix3 0 d f := ⟨y 1, y 2, by blk_ext⟩
  have e : (win0_4.blk t).view.emb (ix3 0 d f) = ix3 (chunk t) d f := by blk_ext [block_at t]
  rw [e, reference_up_at]
  unfold outsAt0
  frame_out
  refine (stored_up_at _ _ d f).trans ?_
  simp only [u_block, b_block]

theorem reference_frame : @Cert.quiescent_DWInOneRefIdeal Cert.DWInOneRefIdeal.Gen.facts := fun m ρ _ =>
  (θ_run Cert.DWInOneRefIdeal.defs _ _).mono (fun r h => ⟨fun c => (h c).2.2, sem_eq_zero_of_no_sems (by decide) r.2⟩)
    (Cert.DWInOneRefIdeal.Value.run m ρ)

theorem claim : @Cert.algebraic_DWInOneIdeal_DWInOneRefIdeal Cert.DWInOneIdeal.Gen.facts Cert.DWInOneRefIdeal.Gen.facts := by
  pair_intro
  pick_goal 3
  · exact fun c => Cert.DWInOneRefIdeal.Read.val_main_v14 (F := Ideal) (argU m c) (argA m c)
  pick_goal 3
  · exact fun c => Cert.DWInOneRefIdeal.Read.val_main_v15 (F := Ideal) (argU m c) (argB m c)
  · exact (θ_run _ _ _).mono (fun r h c => ⟨(h c).1.trans (final_gate m c), (h c).2.1.trans (final_up m c), (h c).2.2⟩)
      (Cert.DWInOneIdeal.Value.run_blocks m g)
  · refine (θ_run _ _ _).mono (fun r h c => ?_) (Cert.DWInOneRefIdeal.Value.run m' g')
    obtain ⟨h1, h2, rest⟩ := h c
    obtain ⟨a0, a1, a2, -⟩ := hagree c
    refine ⟨h1.trans ((Cert.DWInOneRefIdeal.Read.val_main_v14_eq _ _).trans ?_), h2.trans ((Cert.DWInOneRefIdeal.Read.val_main_v15_eq _ _).trans ?_), rest⟩
    · rw [a0, a1]
    · rw [a0, a2]

end Cert.DWInOneIdeal.Gradient
-- ==== Proof.DWDownOneGrad.lean ====
/- The gradient of the down weight: each chunk is the transposed hidden rows times the output's gradient. -/
module

public import proofs.«01_k».proof.Defs
public import proofs.«01_k».proof.Proof.Gen.DWDownOneIdeal.Frame
public import proofs.«01_k».proof.Proof.Gen.DWDownOneIdeal.Value
public import proofs.«01_k».proof.Proof.Gen.DWDownOneRefIdeal.Run
public import proofs.«01_k».proof.Proof.Gen.DWDownOneRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DWDownOneIdeal.Gradient

open Cert.DWDownOneIdeal Cert.DWDownOneIdeal.Gen

variable (m : (ℓ : Loc nD τ sig) → Buf (Elt Ideal) ℓ)

/-- The block of every window at every grid point: the point is chunk `t / 2`, column block `t % 2`. -/
theorem block_at : ∀ t : Fin cfg0.N, win0_0.index t = ![t.val / 2, 0, 0] ∧ win0_1.index t = ![0, t.val % 2]
    ∧ win0_2.index t = ![t.val / 2, 0, t.val % 2] :=
  (by decide +kernel : ∀ t : Fin grid0.N, _)

abbrev argH (c : Dev nD) : FVec Ideal S4x2048x704 .bf16 := m ((c.tc : Thread nD τ).loc main_arg0)
abbrev argG (c : Dev nD) : FVec Ideal S2048x1024 .bf16 := m ((c.tc : Thread nD τ).loc main_arg1)

/-- The chunk of a grid point. -/
abbrev chunk (t : Fin cfg0.N) : Fin 4 := ⟨t.val / 2, by have := t.isLt; have : cfg0.N = 8 := rfl; omega⟩
/-- The column of column `n` of a point's block. -/
abbrev col (t : Fin cfg0.N) (n : Fin 512) : Fin 1024 := ⟨t.val % 2 * 512 + n.val, by omega⟩

theorem h_block (c : Dev nD) (t : Fin cfg0.N) (r : Fin 2048) (f : Fin 704) :
    (iblk m c 0 t (ix3 0 r f) : EReal) = argH m c (ix3 (chunk t) r f) := by
  have e : (win0_0.blk t).view.emb (ix3 0 r f) = ix3 (chunk t) r f := by blk_ext [block_at t]
  blk_simp [iblk]; rw [V_main_arg0 m c]; exact congrArg (argH m c) e

theorem g_block (c : Dev nD) (t : Fin cfg0.N) (r : Fin 2048) (n : Fin 512) :
    (iblk m c 1 t (ix2 r n) : EReal) = argG m c (ix2 r (col t n)) := by
  have e : (win0_1.blk t).view.emb (ix2 r n) = ix2 r (col t n) := by blk_ext [block_at t]
  blk_simp [iblk]; rw [V_main_arg1 m c]; exact congrArg (argG m c) e

theorem stored_at (x : FVec Ideal S1x2048x704 .bf16) (y : FVec Ideal S2048x512 .bf16) (f : Fin 704) (n : Fin 512) :
    (k0_pay1 (F := Ideal) x y (ix3 0 f n) : EReal) = ∑ r : Fin 2048, (x (ix3 0 r f) : EReal) * y (ix2 r n) := by
  pointwise [k0_pay1]

open Cert.DWDownOneRefIdeal.Read in
theorem reference_at (x : FVec Ideal S4x2048x704 .bf16) (y : FVec Ideal S2048x1024 .bf16) (j : Fin 4) (f : Fin 704) (n : Fin 1024) :
    (val_main_v6 (F := Ideal) x y (ix3 j f n) : EReal) = ∑ r : Fin 2048, (x (ix3 j r f) : EReal) * y (ix2 r n) := by
  pointwise [val_main_v6, val_main_v5, val_main_v4, val_main_v0, val_main_v1]
  exact Finset.sum_congr rfl fun _ _ => mul_comm _ _

theorem final (c : Dev nD) : (dats m 0 c).arrAt 2 (cfgs 0).N
    = Cert.DWDownOneRefIdeal.Read.val_main_v6 (F := Ideal) (argH m c) (argG m c) := by
  refine (dats m 0 c).arrAt_eq_of_covers 2 _ (by decide +kernel) fun t hf y => ?_
  blk_simp; rw [after0_2]
  obtain ⟨f, n, rfl⟩ : ∃ (f : Fin 704) (n : Fin 512), y = ix3 0 f n := ⟨y 1, y 2, by blk_ext⟩
  have e : (win0_2.blk t).view.emb (ix3 0 f n) = ix3 (chunk t) f (col t n) := by blk_ext [block_at t]
  rw [e, reference_at]
  unfold outsAt0
  frame_out
  refine (stored_at _ _ f n).trans ?_
  simp only [h_block, g_block]

theorem reference_frame : @Cert.quiescent_DWDownOneRefIdeal Cert.DWDownOneRefIdeal.Gen.facts := fun m ρ _ =>
  (θ_run Cert.DWDownOneRefIdeal.defs _ _).mono (fun r h => ⟨fun c => (h c).2, sem_eq_zero_of_no_sems (by decide) r.2⟩)
    (Cert.DWDownOneRefIdeal.Value.run m ρ)

theorem claim : @Cert.algebraic_DWDownOneIdeal_DWDownOneRefIdeal Cert.DWDownOneIdeal.Gen.facts Cert.DWDownOneRefIdeal.Gen.facts := by
  pair_intro
  pick_goal 3
  · exact fun c => Cert.DWDownOneRefIdeal.Read.val_main_v6 (F := Ideal) (argH m c) (argG m c)
  · exact (θ_run _ _ _).mono (fun r h c => ⟨(h c).1.trans (final m c), (h c).2⟩) (Cert.DWDownOneIdeal.Value.run_blocks m g)
  · refine (θ_run _ _ _).mono (fun r h c => ?_) (Cert.DWDownOneRefIdeal.Value.run m' g')
    obtain ⟨h1, rest⟩ := h c
    refine ⟨h1.trans ((Cert.DWDownOneRefIdeal.Read.val_main_v6_eq _ _).trans ?_), rest⟩
    obtain ⟨a0, a1, -⟩ := hagree c
    rw [a0, a1]

end Cert.DWDownOneIdeal.Gradient
-- ==== Proof.UpOneForward.lean ====
/- The gate, up and gated hidden rows of a feed-forward half, chunk by chunk of the hidden width. -/
module

public import proofs.«01_k».proof.Defs
public import proofs.«01_k».proof.Proof.Gen.UpOneIdeal.Frame
public import proofs.«01_k».proof.Proof.Gen.UpOneIdeal.Value
public import proofs.«01_k».proof.Proof.Gen.UpOneRefIdeal.Run
public import proofs.«01_k».proof.Proof.Gen.UpOneRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.UpOneIdeal.Forward

open Cert.UpOneIdeal Cert.UpOneIdeal.Gen

variable (m : (ℓ : Loc nD τ sig) → Buf (Elt Ideal) ℓ)

/-- The block of every window at every grid point: the point is chunk `t / 2`, row block `t % 2`. -/
theorem block_at : ∀ t : Fin cfg0.N, win0_0.index t = ![t.val % 2, 0] ∧ win0_1.index t = ![t.val / 2, 0, 0, 0]
    ∧ win0_2.index t = ![t.val / 2, 0, 0, 0] ∧ win0_3.index t = ![t.val / 2, t.val % 2, 0]
    ∧ win0_4.index t = ![t.val / 2, t.val % 2, 0] ∧ win0_5.index t = ![t.val / 2, t.val % 2, 0] :=
  (by decide +kernel : ∀ t : Fin grid0.N, _)

abbrev argU (c : Dev nD) : FVec Ideal S2048x1024 .bf16 := m ((c.tc : Thread nD τ).loc main_arg0)
abbrev argG (c : Dev nD) : FVec Ideal S4x1x1024x704 .bf16 := m ((c.tc : Thread nD τ).loc main_arg1)
abbrev argW (c : Dev nD) : FVec Ideal S4x1x1024x704 .bf16 := m ((c.tc : Thread nD τ).loc main_arg2)

/-- The chunk of a grid point. -/
abbrev chunk (t : Fin cfg0.N) : Fin 4 := ⟨t.val / 2, by have := t.isLt; have : cfg0.N = 8 := rfl; omega⟩
/-- The row of row `r` of a point's block. -/
abbrev row (t : Fin cfg0.N) (r : Fin 1024) : Fin 2048 := ⟨t.val % 2 * 1024 + r.val, by omega⟩

theorem u_block (c : Dev nD) (t : Fin cfg0.N) (r : Fin 1024) (d : Fin 1024) :
    (iblk m c 0 t (ix2 r d) : EReal) = argU m c (ix2 (row t r) d) := by
  have e : (win0_0.blk t).view.emb (ix2 r d) = ix2 (row t r) d := by blk_ext [block_at t]
  blk_simp [iblk]; rw [V_main_arg0 m c]; exact congrArg (argU m c) e

theorem gate_block (c : Dev nD) (t : Fin cfg0.N) (d : Fin 1024) (f : Fin 704) :
    (iblk m c 1 t (ix4 0 0 d f) : EReal) = argG m c (ix4 (chunk t) 0 d f) := by
  have e : (win0_1.blk t).view.emb (ix4 0 0 d f) = ix4 (chunk t) 0 d f := by blk_ext [block_at t]
  blk_simp [iblk]; rw [V_main_arg1 m c]; exact congrArg (argG m c) e

theorem up_block (c : Dev nD) (t : Fin cfg0.N) (d : Fin 1024) (f : Fin 704) :
    (iblk m c 2 t (ix4 0 0 d f) : EReal) = argW m c (ix4 (chunk t) 0 d f) := by
  have e : (win0_2.blk t).view.emb (ix4 0 0 d f) = ix4 (chunk t) 0 d f := by blk_ext [block_at t]
  blk_simp [iblk]; rw [V_main_arg2 m c]; exact congrArg (argW m c) e

theorem stored_gate_at (u : FVec Ideal S1024x1024 .bf16) (g : FVec Ideal S1x1x1024x704 .bf16) (r : Fin 1024) (f : Fin 704) :
    (k0_pay3 (F := Ideal) u g (ix3 0 r f) : EReal) = ∑ d : Fin 1024, (u (ix2 r d) : EReal) * g (ix4 0 0 d f) := by
  pointwise [k0_pay3, k0_pay1]

theorem stored_up_at (u : FVec Ideal S1024x1024 .bf16) (g : FVec Ideal S1x1x1024x704 .bf16) (r : Fin 1024) (f : Fin 704) :
    (k0_pay4 (F := Ideal) u g (ix3 0 r f) : EReal) = ∑ d : Fin 1024, (u (ix2 r d) : EReal) * g (ix4 0 0 d f) := by
  pointwise [k0_pay4, k0_pay2]

theorem stored_hidden_at (u : FVec Ideal S1024x1024 .bf16) (g w : FVec Ideal S1x1x1024x704 .bf16) (r : Fin 1024) (f : Fin 704) :
    (k0_pay5 (F := Ideal) u g w (ix3 0 r f) : EReal) = (∑ d : Fin 1024, (u (ix2 r d) : EReal) * g (ix4 0 0 d f))
      * Ideal.logistic (∑ d : Fin 1024, (u (ix2 r d) : EReal) * g (ix4 0 0 d f)) * ∑ d : Fin 1024, (u (ix2 r d) : EReal) * w (ix4 0 0 d f) := by
  pointwise [k0_pay5, k0_pay2, k0_pay1]

open Cert.UpOneRefIdeal.Read in
theorem reference_gate_at (u : FVec Ideal S2048x1024 .bf16) (g : FVec Ideal S4x1x1024x704 .bf16) (j : Fin 4) (r : Fin 2048) (f : Fin 704) :
    (val_main_v6 (F := Ideal) u g (ix3 j r f) : EReal) = ∑ d : Fin 1024, (u (ix2 r d) : EReal) * g (ix4 j 0 d f) := by
  pointwise [val_main_v6, val_main_v5, val_main_v2, val_main_v1, val_main_v0]
  exact Finset.sum_congr rfl fun _ _ => mul_comm _ _

open Cert.UpOneRefIdeal.Read in
theorem reference_up_at (u : FVec Ideal S2048x1024 .bf16) (g : FVec Ideal S4x1x1024x704 .bf16) (j : Fin 4) (r : Fin 2048) (f : Fin 704) :
    (val_main_v8 (F := Ideal) u g (ix3 j r f) : EReal) = ∑ d : Fin 1024, (u (ix2 r d) : EReal) * g (ix4 j 0 d f) := by
  pointwise [val_main_v8, val_main_v7, val_main_v4, val_main_v3, val_main_v0]
  exact Finset.sum_congr rfl fun _ _ => mul_comm _ _

open Cert.UpOneRefIdeal.Read in
theorem reference_hidden_at (u : FVec Ideal S2048x1024 .bf16) (g w : FVec Ideal S4x1x1024x704 .bf16) (j : Fin 4) (r : Fin 2048) (f : Fin 704) :
    (val_main_v13 (F := Ideal) u g w (ix3 j r f) : EReal) = (val_main_v6 (F := Ideal) u g (ix3 j r f) : EReal)
      * Ideal.logistic (val_main_v6 (F := Ideal) u g (ix3 j r f)) * (val_main_v8 (F := Ideal) u w (ix3 j r f) : EReal) := by
  pointwise [val_main_v13, val_main_v12, val_main_v11, val_main_call0_v5, val_main_call0_v4, val_main_call0_v3,
    val_main_call0_v2, val_main_call0_v1, val_main_call0_v0, val_main_call0_cst, val_main_call0_cst_0]
  rfl

theorem final_gate (c : Dev nD) : (dats m 0 c).arrAt 3 (cfgs 0).N
    = Cert.UpOneRefIdeal.Read.val_main_v9 (F := Ideal) (argU m c) (argG m c) := by
  refine (dats m 0 c).arrAt_eq_of_covers 3 _ (by decide +kernel) fun t hf y => ?_
  blk_simp; rw [after0_3]
  obtain ⟨r, f, rfl⟩ : ∃ (r : Fin 1024) (f : Fin 704), y = ix3 0 r f := ⟨y 1, y 2, by blk_ext⟩
  have e : (win0_3.blk t).view.emb (ix3 0 r f) = ix3 (chunk t) (row t r) f := by blk_ext [block_at t]
  rw [e]
  refine Eq.trans ?_ (reference_gate_at _ _ _ _ _).symm
  frame_out
  refine (stored_gate_at _ _ r f).trans ?_
  simp only [u_block, gate_block]

theorem final_up (c : Dev nD) : (dats m 0 c).arrAt 4 (cfgs 0).N
    = Cert.UpOneRefIdeal.Read.val_main_v10 (F := Ideal) (argU m c) (argW m c) := by
  refine (dats m 0 c).arrAt_eq_of_covers 4 _ (by decide +kernel) fun t hf y => ?_
  blk_simp; rw [after0_4]
  obtain ⟨r, f, rfl⟩ : ∃ (r : Fin 1024) (f : Fin 704), y = ix3 0 r f := ⟨y 1, y 2, by blk_ext⟩
  have e : (win0_4.blk t).view.emb (ix3 0 r f) = ix3 (chunk t) (row t r) f := by blk_ext [block_at t]
  rw [e]
  refine Eq.trans ?_ (reference_up_at _ _ _ _ _).symm
  frame_out
  refine (stored_up_at _ _ r f).trans ?_
  simp only [u_block, up_block]

theorem final_hidden (c : Dev nD) : (dats m 0 c).arrAt 5 (cfgs 0).N
    = Cert.UpOneRefIdeal.Read.val_main_v13 (F := Ideal) (argU m c) (argG m c) (argW m c) := by
  refine (dats m 0 c).arrAt_eq_of_covers 5 _ (by decide +kernel) fun t hf y => ?_
  blk_simp; rw [after0_5]
  obtain ⟨r, f, rfl⟩ : ∃ (r : Fin 1024) (f : Fin 704), y = ix3 0 r f := ⟨y 1, y 2, by blk_ext⟩
  have e : (win0_5.blk t).view.emb (ix3 0 r f) = ix3 (chunk t) (row t r) f := by blk_ext [block_at t]
  rw [e, reference_hidden_at, reference_gate_at, reference_up_at]
  frame_out
  refine (stored_hidden_at _ _ _ r f).trans ?_
  simp only [u_block, gate_block, up_block]

theorem reference_frame : @Cert.quiescent_UpOneRefIdeal Cert.UpOneRefIdeal.Gen.facts := fun m ρ _ =>
  (θ_run Cert.UpOneRefIdeal.defs _ _).mono (fun r h => ⟨fun c => (h c).2.2.2, sem_eq_zero_of_no_sems (by decide) r.2⟩)
    (Cert.UpOneRefIdeal.Value.run m ρ)

theorem claim : @Cert.algebraic_UpOneIdeal_UpOneRefIdeal Cert.UpOneIdeal.Gen.facts Cert.UpOneRefIdeal.Gen.facts := by
  pair_intro
  pick_goal 3
  · exact fun c => Cert.UpOneRefIdeal.Read.val_main_v9 (F := Ideal) (argU m c) (argG m c)
  pick_goal 3
  · exact fun c => Cert.UpOneRefIdeal.Read.val_main_v10 (F := Ideal) (argU m c) (argW m c)
  pick_goal 3
  · exact fun c => Cert.UpOneRefIdeal.Read.val_main_v13 (F := Ideal) (argU m c) (argG m c) (argW m c)
  · exact (θ_run _ _ _).mono (fun r h c => ⟨(h c).1.trans (final_gate m c), (h c).2.1.trans (final_up m c),
      (h c).2.2.1.trans (final_hidden m c), (h c).2.2.2⟩) (Cert.UpOneIdeal.Value.run_blocks m g)
  · refine (θ_run _ _ _).mono (fun r h c => ?_) (Cert.UpOneRefIdeal.Value.run m' g')
    obtain ⟨h1, h2, h3, rest⟩ := h c
    obtain ⟨a0, a1, a2⟩ := hagree c
    refine ⟨h1.trans ((Cert.UpOneRefIdeal.Read.val_main_v9_eq _ _).trans ?_), h2.trans ((Cert.UpOneRefIdeal.Read.val_main_v10_eq _ _).trans ?_),
      h3.trans ((Cert.UpOneRefIdeal.Read.val_main_v13_eq _ _ _).trans ?_), rest⟩
    · rw [a0, a1]
    · rw [a0, a2]
    · rw [a0, a1, a2]

end Cert.UpOneIdeal.Forward
-- ==== Proof.DownOneForward.lean ====
/- The output of a feed-forward half, summed over its four chunks, and the gated sum of it and the half's input. -/
module

public import proofs.«01_k».proof.Defs
public import proofs.«01_k».proof.Proof.Gen.DownOneIdeal.Frame
public import proofs.«01_k».proof.Proof.Gen.DownOneIdeal.Value
public import proofs.«01_k».proof.Proof.Gen.DownOneRefIdeal.Run
public import proofs.«01_k».proof.Proof.Gen.DownOneRefIdeal.Read
public import proofs.«01_k».proof.Proof.Chunks
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DownOneIdeal.Forward

open Cert.DownOneIdeal Cert.DownOneIdeal.Gen

variable (m : (ℓ : Loc nD τ sig) → Buf (Elt Ideal) ℓ)

/-- The block of every window at every grid point: the point is row block `t`. -/
theorem block_at : ∀ t : Fin cfg0.N, win0_0.index t = ![0, t.val, 0] ∧ win0_1.index t = ![0, 0, 0] ∧ win0_2.index t = ![t.val, 0]
    ∧ win0_3.index t = ![0, 0, 0] ∧ win0_4.index t = ![t.val, 0] ∧ win0_5.index t = ![t.val, 0] :=
  (by decide +kernel : ∀ t : Fin grid0.N, _)

abbrev argH (c : Dev nD) : FVec Ideal S4x2048x704 .bf16 := m ((c.tc : Thread nD τ).loc main_arg0)
abbrev argW (c : Dev nD) : FVec Ideal S4x704x1024 .bf16 := m ((c.tc : Thread nD τ).loc main_arg1)
abbrev argS (c : Dev nD) : FVec Ideal S2048x1024 .f32 := m ((c.tc : Thread nD τ).loc main_arg2)
abbrev argM (c : Dev nD) : FVec Ideal S1x16x1024 .f32 := m ((c.tc : Thread nD τ).loc main_arg3)

/-- The row of row `a` of a point's block. -/
abbrev row (t : Fin cfg0.N) (a : Fin 1024) : Fin 2048 := ⟨t.val * 1024 + a.val, by have := t.isLt; have : cfg0.N = 2 := rfl; omega⟩

theorem h_block (c : Dev nD) (t : Fin cfg0.N) (j : Fin 4) (a : Fin 1024) (f : Fin 704) :
    (iblk m c 0 t (ix3 j a f) : EReal) = argH m c (ix3 j (row t a) f) := by
  have e : (win0_0.blk t).view.emb (ix3 j a f) = ix3 j (row t a) f := by blk_ext [block_at t]
  blk_simp [iblk]; rw [V_main_arg0 m c]; exact congrArg (argH m c) e

theorem w_block (c : Dev nD) (t : Fin cfg0.N) (j : Fin 4) (f : Fin 704) (d : Fin 1024) :
    (iblk m c 1 t (ix3 j f d) : EReal) = argW m c (ix3 j f d) := by
  have e : (win0_1.blk t).view.emb (ix3 j f d) = ix3 j f d := by blk_ext [block_at t]
  blk_simp [iblk]; rw [V_main_arg1 m c]; exact congrArg (argW m c) e

theorem s_block (c : Dev nD) (t : Fin cfg0.N) (a : Fin 1024) (d : Fin 1024) :
    (iblk m c 2 t (ix2 a d) : EReal) = argS m c (ix2 (row t a) d) := by
  have e : (win0_2.blk t).view.emb (ix2 a d) = ix2 (row t a) d := by blk_ext [block_at t]
  blk_simp [iblk]; rw [V_main_arg2 m c]; exact congrArg (argS m c) e

theorem m_block (c : Dev nD) (t : Fin cfg0.N) (k : Fin 16) (d : Fin 1024) :
    (iblk m c 3 t (ix3 0 k d) : EReal) = argM m c (ix3 0 k d) := by
  have e : (win0_3.blk t).view.emb (ix3 0 k d) = ix3 0 k d := by blk_ext [block_at t]
  blk_simp [iblk]; rw [V_main_arg3 m c]; exact congrArg (argM m c) e

theorem product_at (x0 x1 x2 x3 : FVec Ideal S1x1024x704 .bf16) (w0 w1 w2 w3 : FVec Ideal S1x704x1024 .bf16) (a : Fin 1024) (d : Fin 1024) :
    (k0_pay2 (F := Ideal) x0 w0 x1 w1 x2 w2 x3 w3 (ix2 a d) : EReal)
      = (∑ f : Fin 704, (x0 (ix3 0 a f) : EReal) * w0 (ix3 0 f d)) + (∑ f : Fin 704, (x1 (ix3 0 a f) : EReal) * w1 (ix3 0 f d))
        + (∑ f : Fin 704, (x2 (ix3 0 a f) : EReal) * w2 (ix3 0 f d)) + ∑ f : Fin 704, (x3 (ix3 0 a f) : EReal) * w3 (ix3 0 f d) := by
  pointwise [k0_pay2]

theorem stored_at (o s : FVec Ideal S1024x1024 .f32) (g : FVec Ideal S1x16x1024 .f32) (a : Fin 1024) (d : Fin 1024) :
    (k0_pay1 (F := Ideal) o s g (ix2 a d) : EReal) = s (ix2 a d) + Ideal.ofBits .f32 0x3F000000#32 * g (ix3 0 2 d) * o (ix2 a d) := by
  pointwise [k0_pay1]

open Cert.DownOneRefIdeal.Read in
theorem reference_product_at (x : FVec Ideal S4x2048x704 .bf16) (w : FVec Ideal S4x704x1024 .bf16) (r : Fin 2048) (d : Fin 1024) :
    (val_main_v2 (F := Ideal) x w (ix2 r d) : EReal) = ∑ j : Fin 4, ∑ f : Fin 704, (x (ix3 j r f) : EReal) * w (ix3 j f d) := by
  pointwise [val_main_v2, val_main_v1, val_main_v0]
  exact Finset.sum_comm

open Cert.DownOneRefIdeal.Read in
theorem reference_at (x : FVec Ideal S4x2048x704 .bf16) (w : FVec Ideal S4x704x1024 .bf16) (s : FVec Ideal S2048x1024 .f32) (g : FVec Ideal S1x16x1024 .f32)
    (r : Fin 2048) (d : Fin 1024) :
    (val_main_v10 (F := Ideal) x w s g (ix2 r d) : EReal)
      = s (ix2 r d) + Ideal.ofBits .f32 0x3F000000#32 * g (ix3 0 2 d) * (val_main_v2 (F := Ideal) x w (ix2 r d) : EReal) := by
  pointwise [val_main_v10, val_main_cst, val_main_v9, val_main_v8, val_main_v7, val_main_v6, val_main_v5, val_main_v4, val_main_v3]

theorem product_block (c : Dev nD) (t : Fin cfg0.N) (a : Fin 1024) (d : Fin 1024) :
    (k0_pay2 (F := Ideal) (View.ld (iblk m c 0 t) r0_0) (View.ld (iblk m c 1 t) r0_1) (View.ld (iblk m c 0 t) r0_2) (View.ld (iblk m c 1 t) r0_3)
        (View.ld (iblk m c 0 t) r0_4) (View.ld (iblk m c 1 t) r0_5) (View.ld (iblk m c 0 t) r0_6) (View.ld (iblk m c 1 t) r0_7) (ix2 a d) : EReal)
      = Cert.DownOneRefIdeal.Read.val_main_v2 (F := Ideal) (argH m c) (argW m c) (ix2 (row t a) d) := by
  rw [reference_product_at]
  refine (product_at _ _ _ _ _ _ _ _ a d).trans ?_
  simp only [Fin.sum_univ_four]
  have A (o h h' j) (hj : j.val = o) := Chunks.product_of_columns (iblk m c 0 t) (iblk m c 1 t) o h h' j hj a d
  simp only [h_block, w_block] at A
  exact congrArg₂ (· + ·) (congrArg₂ (· + ·) (congrArg₂ (· + ·) (A 0 _ _ 0 rfl) (A 1 _ _ 1 rfl)) (A 2 _ _ 2 rfl)) (A 3 _ _ 3 rfl)

theorem final_product (c : Dev nD) : (dats m 0 c).arrAt 5 (cfgs 0).N
    = Cert.DownOneRefIdeal.Read.val_main_v2 (F := Ideal) (argH m c) (argW m c) := by
  refine (dats m 0 c).arrAt_eq_of_covers 5 _ (by decide +kernel) fun t hf y => ?_
  blk_simp; rw [after0_5]
  obtain ⟨a, d, rfl⟩ : ∃ (a : Fin 1024) (d : Fin 1024), y = ix2 a d := ⟨y 0, y 1, by blk_ext⟩
  have e : (win0_5.blk t).view.emb (ix2 a d) = ix2 (row t a) d := by blk_ext [block_at t]
  rw [e]
  frame_out
  exact product_block m c t a d

theorem final_sum (c : Dev nD) : (dats m 0 c).arrAt 4 (cfgs 0).N
    = Cert.DownOneRefIdeal.Read.val_main_v10 (F := Ideal) (argH m c) (argW m c) (argS m c) (argM m c) := by
  refine (dats m 0 c).arrAt_eq_of_covers 4 _ (by decide +kernel) fun t hf y => ?_
  blk_simp; rw [after0_4]
  obtain ⟨a, d, rfl⟩ : ∃ (a : Fin 1024) (d : Fin 1024), y = ix2 a d := ⟨y 0, y 1, by blk_ext⟩
  have e : (win0_4.blk t).view.emb (ix2 a d) = ix2 (row t a) d := by blk_ext [block_at t]
  rw [e, reference_at]
  frame_out
  refine (stored_at _ _ _ a d).trans ?_
  simp only [s_block, m_block]
  exact congrArg _ (congrArg _ (product_block m c t a d))

theorem reference_frame : @Cert.quiescent_DownOneRefIdeal Cert.DownOneRefIdeal.Gen.facts := fun m ρ _ =>
  (θ_run Cert.DownOneRefIdeal.defs _ _).mono (fun r h => ⟨fun c => (h c).2.2, sem_eq_zero_of_no_sems (by decide) r.2⟩)
    (Cert.DownOneRefIdeal.Value.run m ρ)

theorem claim : @Cert.algebraic_DownOneIdeal_DownOneRefIdeal Cert.DownOneIdeal.Gen.facts Cert.DownOneRefIdeal.Gen.facts := by
  pair_intro
  pick_goal 3
  · exact fun c => Cert.DownOneRefIdeal.Read.val_main_v10 (F := Ideal) (argH m c) (argW m c) (argS m c) (argM m c)
  pick_goal 3
  · exact fun c => Cert.DownOneRefIdeal.Read.val_main_v2 (F := Ideal) (argH m c) (argW m c)
  · exact (θ_run _ _ _).mono (fun r h c => ⟨(h c).1.trans (final_sum m c), (h c).2.1.trans (final_product m c), (h c).2.2⟩)
      (Cert.DownOneIdeal.Value.run_blocks m g)
  · refine (θ_run _ _ _).mono (fun r h c => ?_) (Cert.DownOneRefIdeal.Value.run m' g')
    obtain ⟨h1, h2, rest⟩ := h c
    obtain ⟨a0, a1, a2, a3⟩ := hagree c
    refine ⟨h1.trans ((Cert.DownOneRefIdeal.Read.val_main_v10_eq _ _ _ _).trans ?_), h2.trans ((Cert.DownOneRefIdeal.Read.val_main_v2_eq _ _).trans ?_), rest⟩
    · rw [a0, a1, a2, a3]
    · rw [a0, a1]

end Cert.DownOneIdeal.Forward
-- ==== Proof.DownBForward.lean ====
/- The output of layer 0's second half, and the gated sum: the gate is row 8 of the modulation. -/
module

public import proofs.«01_k».proof.Defs
public import proofs.«01_k».proof.Proof.Gen.DownBIdeal.Frame
public import proofs.«01_k».proof.Proof.Gen.DownBIdeal.Value
public import proofs.«01_k».proof.Proof.Gen.DownBRefIdeal.Run
public import proofs.«01_k».proof.Proof.Gen.DownBRefIdeal.Read
public import proofs.«01_k».proof.Proof.Chunks
public import proofs.«01_k».proof.Proof.DownForward
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.Tactic.WordOmega

@[expose] public section

set_option maxRecDepth 16384

noncomputable section

open Idealize.ShloMosaic Idealize.ShloMosaic.TcCoe Idealize.SL.Sem

namespace Cert.DownBIdeal.Forward

open Cert.DownBIdeal Cert.DownBIdeal.Gen

variable (m : (ℓ : Loc nD τ sig) → Buf (Elt Ideal) ℓ)

/-- The block of every window at every grid point: the point is row block `t`. -/
theorem block_at : ∀ t : Fin cfg0.N, win0_0.index t = ![0, t.val, 0] ∧ win0_1.index t = ![0, 0, 0] ∧ win0_2.index t = ![t.val, 0]
    ∧ win0_3.index t = ![0, 0, 0] ∧ win0_4.index t = ![t.val, 0] ∧ win0_5.index t = ![t.val, 0] :=
  (by decide +kernel : ∀ t : Fin grid0.N, _)

abbrev argH (c : Dev nD) : FVec Ideal S4x2304x704 .bf16 := m ((c.tc : Thread nD τ).loc main_arg0)
abbrev argW (c : Dev nD) : FVec Ideal S4x704x1024 .bf16 := m ((c.tc : Thread nD τ).loc main_arg1)
abbrev argS (c : Dev nD) : FVec Ideal S2304x1024 .f32 := m ((c.tc : Thread nD τ).loc main_arg2)
abbrev argM (c : Dev nD) : FVec Ideal S2x16x1024 .f32 := m ((c.tc : Thread nD τ).loc main_arg3)

/-- The row of row `a` of a point's block. -/
abbrev row (t : Fin cfg0.N) (a : Fin 768) : Fin 2304 := ⟨t.val * 768 + a.val, by have := t.isLt; have : cfg0.N = 3 := rfl; omega⟩

theorem h_block (c : Dev nD) (t : Fin cfg0.N) (j : Fin 4) (a : Fin 768) (f : Fin 704) :
    (iblk m c 0 t (ix3 j a f) : EReal) = argH m c (ix3 j (row t a) f) := by
  have e : (win0_0.blk t).view.emb (ix3 j a f) = ix3 j (row t a) f := by blk_ext [block_at t]
  blk_simp [iblk]; rw [V_main_arg0 m c]; exact congrArg (argH m c) e

theorem w_block (c : Dev nD) (t : Fin cfg0.N) (j : Fin 4) (f : Fin 704) (d : Fin 1024) :
    (iblk m c 1 t (ix3 j f d) : EReal) = argW m c (ix3 j f d) := by
  have e : (win0_1.blk t).view.emb (ix3 j f d) = ix3 j f d := by blk_ext [block_at t]
  blk_simp [iblk]; rw [V_main_arg1 m c]; exact congrArg (argW m c) e

theorem s_block (c : Dev nD) (t : Fin cfg0.N) (a : Fin 768) (d : Fin 1024) :
    (iblk m c 2 t (ix2 a d) : EReal) = argS m c (ix2 (row t a) d) := by
  have e : (win0_2.blk t).view.emb (ix2 a d) = ix2 (row t a) d := by blk_ext [block_at t]
  blk_simp [iblk]; rw [V_main_arg2 m c]; exact congrArg (argS m c) e

theorem m_block (c : Dev nD) (t : Fin cfg0.N) (i : Fin 2) (k : Fin 16) (d : Fin 1024) :
    (iblk m c 3 t (ix3 i k d) : EReal) = argM m c (ix3 i k d) := by
  have e : (win0_3.blk t).view.emb (ix3 i k d) = ix3 i k d := by blk_ext [block_at t]
  blk_simp [iblk]; rw [V_main_arg3 m c]; exact congrArg (argM m c) e

theorem product_at (x0 x1 x2 x3 : FVec Ideal S1x768x704 .bf16) (w0 w1 w2 w3 : FVec Ideal S1x704x1024 .bf16) (a : Fin 768) (d : Fin 1024) :
    (k0_pay2 (F := Ideal) x0 w0 x1 w1 x2 w2 x3 w3 (ix2 a d) : EReal)
      = (∑ f : Fin 704, (x0 (ix3 0 a f) : EReal) * w0 (ix3 0 f d)) + (∑ f : Fin 704, (x1 (ix3 0 a f) : EReal) * w1 (ix3 0 f d))
        + (∑ f : Fin 704, (x2 (ix3 0 a f) : EReal) * w2 (ix3 0 f d)) + ∑ f : Fin 704, (x3 (ix3 0 a f) : EReal) * w3 (ix3 0 f d) :=
  Cert.DownIdeal.Forward.product_at x0 x1 x2 x3 w0 w1 w2 w3 a d

/-- A block's rows keep the image's gate below row 2048 and the text's from there on. -/
theorem stored_at (t : Fin 3) (o s : FVec Ideal S768x1024 .f32) (g : FVec Ideal S2x16x1024 .f32) (a : Fin 768) (d : Fin 1024) :
    (k0_pay1 (F := Ideal) (BitVec.ofNat 32 t.val) o s g (ix2 a d) : EReal)
      = s (ix2 a d) + Ideal.ofBits .f32 0x3F000000#32 * (if t.val * 768 + a.val < 2048 then g (ix3 0 8 d) else g (ix3 1 8 d)) * o (ix2 a d) := by
  pointwise [k0_pay1]
  rw [Cert.DownIdeal.Forward.row_below]
  split_ifs <;> rfl

open Cert.DownBRefIdeal.Read in
theorem reference_product_at (x : FVec Ideal S4x2304x704 .bf16) (w : FVec Ideal S4x704x1024 .bf16) (r : Fin 2304) (d : Fin 1024) :
    (val_main_v2 (F := Ideal) x w (ix2 r d) : EReal) = ∑ j : Fin 4, ∑ f : Fin 704, (x (ix3 j r f) : EReal) * w (ix3 j f d) :=
  Cert.DownIdeal.Forward.reference_product_at x w r d

open Cert.DownBRefIdeal.Read in
theorem reference_at (x : FVec Ideal S4x2304x704 .bf16) (w : FVec Ideal S4x704x1024 .bf16) (s : FVec Ideal S2304x1024 .f32) (g : FVec Ideal S2x16x1024 .f32)
    (r : Fin 2304) (d : Fin 1024) :
    (val_main_v13 (F := Ideal) x w s g (ix2 r d) : EReal)
      = s (ix2 r d) + Ideal.ofBits .f32 0x3F000000#32 * (if r.val < 2048 then g (ix3 0 8 d) else g (ix3 1 8 d)) * (val_main_v2 (F := Ideal) x w (ix2 r d) : EReal) := by
  pointwise [val_main_v13, val_main_v12, val_main_v11, val_main_v10, val_main_cst, val_main_v9, val_main_v8, val_main_v7, val_main_v6, val_main_v5, val_main_v4, val_main_v3]
  simp only [dite_eq_ite]

theorem product_block (c : Dev nD) (t : Fin cfg0.N) (a : Fin 768) (d : Fin 1024) :
    (k0_pay2 (F := Ideal) (View.ld (iblk m c 0 t) r0_0) (View.ld (iblk m c 1 t) r0_1) (View.ld (iblk m c 0 t) r0_2) (View.ld (iblk m c 1 t) r0_3)
        (View.ld (iblk m c 0 t) r0_4) (View.ld (iblk m c 1 t) r0_5) (View.ld (iblk m c 0 t) r0_6) (View.ld (iblk m c 1 t) r0_7) (ix2 a d) : EReal)
      = Cert.DownBRefIdeal.Read.val_main_v2 (F := Ideal) (argH m c) (argW m c) (ix2 (row t a) d) := by
  rw [reference_product_at]
  refine (product_at _ _ _ _ _ _ _ _ a d).trans ?_
  simp only [Fin.sum_univ_four]
  have A (o h h' j) (hj : j.val = o) := Chunks.product_of_columns (iblk m c 0 t) (iblk m c 1 t) o h h' j hj a d
  simp only [h_block, w_block] at A
  exact congrArg₂ (· + ·) (congrArg₂ (· + ·) (congrArg₂ (· + ·) (A 0 _ _ 0 rfl) (A 1 _ _ 1 rfl)) (A 2 _ _ 2 rfl)) (A 3 _ _ 3 rfl)

theorem final_product (c : Dev nD) : (dats m 0 c).arrAt 5 (cfgs 0).N
    = Cert.DownBRefIdeal.Read.val_main_v2 (F := Ideal) (argH m c) (argW m c) := by
  refine (dats m 0 c).arrAt_eq_of_covers 5 _ (by decide +kernel) fun t hf y => ?_
  blk_simp; rw [after0_5]
  obtain ⟨a, d, rfl⟩ : ∃ (a : Fin 768) (d : Fin 1024), y = ix2 a d := ⟨y 0, y 1, by blk_ext⟩
  have e : (win0_5.blk t).view.emb (ix2 a d) = ix2 (row t a) d := by blk_ext [block_at t]
  rw [e]
  frame_out
  exact product_block m c t a d

theorem final_sum (c : Dev nD) : (dats m 0 c).arrAt 4 (cfgs 0).N
    = Cert.DownBRefIdeal.Read.val_main_v13 (F := Ideal) (argH m c) (argW m c) (argS m c) (argM m c) := by
  refine (dats m 0 c).arrAt_eq_of_covers 4 _ (by decide +kernel) fun t hf y => ?_
  blk_simp; rw [after0_4]
  obtain ⟨a, d, rfl⟩ : ∃ (a : Fin 768) (d : Fin 1024), y = ix2 a d := ⟨y 0, y 1, by blk_ext⟩
  have e : (win0_4.blk t).view.emb (ix2 a d) = ix2 (row t a) d := by blk_ext [block_at t]
  have p : ((grid0.coords t) 0).val = t.val := (by decide +kernel : ∀ t : Fin grid0.N, ((grid0.coords t) 0).val = t.val) t
  rw [e, reference_at]
  frame_out
  rw [p]
  refine (stored_at t _ _ _ a d).trans ?_
  simp only [s_block, m_block]
  exact congrArg _ (congrArg _ (product_block m c t a d))

theorem reference_frame : @Cert.quiescent_DownBRefIdeal Cert.DownBRefIdeal.Gen.facts := fun m ρ _ =>
  (θ_run Cert.DownBRefIdeal.defs _ _).mono (fun r h => ⟨fun c => (h c).2.2, sem_eq_zero_of_no_sems (by decide) r.2⟩)
    (Cert.DownBRefIdeal.Value.run m ρ)

theorem claim : @Cert.algebraic_DownBIdeal_DownBRefIdeal Cert.DownBIdeal.Gen.facts Cert.DownBRefIdeal.Gen.facts := by
  pair_intro
  pick_goal 3
  · exact fun c => Cert.DownBRefIdeal.Read.val_main_v13 (F := Ideal) (argH m c) (argW m c) (argS m c) (argM m c)
  pick_goal 3
  · exact fun c => Cert.DownBRefIdeal.Read.val_main_v2 (F := Ideal) (argH m c) (argW m c)
  · exact (θ_run _ _ _).mono (fun r h c => ⟨(h c).1.trans (final_sum m c), (h c).2.1.trans (final_product m c), (h c).2.2⟩)
      (Cert.DownBIdeal.Value.run_blocks m g)
  · refine (θ_run _ _ _).mono (fun r h c => ?_) (Cert.DownBRefIdeal.Value.run m' g')
    obtain ⟨h1, h2, rest⟩ := h c
    obtain ⟨a0, a1, a2, a3⟩ := hagree c
    refine ⟨h1.trans ((Cert.DownBRefIdeal.Read.val_main_v13_eq _ _ _ _).trans ?_), h2.trans ((Cert.DownBRefIdeal.Read.val_main_v2_eq _ _).trans ?_), rest⟩
    · rw [a0, a1, a2, a3]
    · rw [a0, a1]

end Cert.DownBIdeal.Forward
-- ==== Proof.DownOneBForward.lean ====
/- The output of layer 1's second half, and the gated sum: the gate is row 8 of the modulation. -/
module

public import proofs.«01_k».proof.Defs
public import proofs.«01_k».proof.Proof.Gen.DownOneBIdeal.Frame
public import proofs.«01_k».proof.Proof.Gen.DownOneBIdeal.Value
public import proofs.«01_k».proof.Proof.Gen.DownOneBRefIdeal.Run
public import proofs.«01_k».proof.Proof.Gen.DownOneBRefIdeal.Read
public import proofs.«01_k».proof.Proof.Chunks
public import proofs.«01_k».proof.Proof.DownOneForward
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DownOneBIdeal.Forward

open Cert.DownOneBIdeal Cert.DownOneBIdeal.Gen

variable (m : (ℓ : Loc nD τ sig) → Buf (Elt Ideal) ℓ)

/-- The block of every window at every grid point: the point is row block `t`. -/
theorem block_at : ∀ t : Fin cfg0.N, win0_0.index t = ![0, t.val, 0] ∧ win0_1.index t = ![0, 0, 0] ∧ win0_2.index t = ![t.val, 0]
    ∧ win0_3.index t = ![0, 0, 0] ∧ win0_4.index t = ![t.val, 0] ∧ win0_5.index t = ![t.val, 0] :=
  (by decide +kernel : ∀ t : Fin grid0.N, _)

abbrev argH (c : Dev nD) : FVec Ideal S4x2048x704 .bf16 := m ((c.tc : Thread nD τ).loc main_arg0)
abbrev argW (c : Dev nD) : FVec Ideal S4x704x1024 .bf16 := m ((c.tc : Thread nD τ).loc main_arg1)
abbrev argS (c : Dev nD) : FVec Ideal S2048x1024 .f32 := m ((c.tc : Thread nD τ).loc main_arg2)
abbrev argM (c : Dev nD) : FVec Ideal S1x16x1024 .f32 := m ((c.tc : Thread nD τ).loc main_arg3)

/-- The row of row `a` of a point's block. -/
abbrev row (t : Fin cfg0.N) (a : Fin 1024) : Fin 2048 := ⟨t.val * 1024 + a.val, by have := t.isLt; have : cfg0.N = 2 := rfl; omega⟩

theorem h_block (c : Dev nD) (t : Fin cfg0.N) (j : Fin 4) (a : Fin 1024) (f : Fin 704) :
    (iblk m c 0 t (ix3 j a f) : EReal) = argH m c (ix3 j (row t a) f) := by
  have e : (win0_0.blk t).view.emb (ix3 j a f) = ix3 j (row t a) f := by blk_ext [block_at t]
  blk_simp [iblk]; rw [V_main_arg0 m c]; exact congrArg (argH m c) e

theorem w_block (c : Dev nD) (t : Fin cfg0.N) (j : Fin 4) (f : Fin 704) (d : Fin 1024) :
    (iblk m c 1 t (ix3 j f d) : EReal) = argW m c (ix3 j f d) := by
  have e : (win0_1.blk t).view.emb (ix3 j f d) = ix3 j f d := by blk_ext [block_at t]
  blk_simp [iblk]; rw [V_main_arg1 m c]; exact congrArg (argW m c) e

theorem s_block (c : Dev nD) (t : Fin cfg0.N) (a : Fin 1024) (d : Fin 1024) :
    (iblk m c 2 t (ix2 a d) : EReal) = argS m c (ix2 (row t a) d) := by
  have e : (win0_2.blk t).view.emb (ix2 a d) = ix2 (row t a) d := by blk_ext [block_at t]
  blk_simp [iblk]; rw [V_main_arg2 m c]; exact congrArg (argS m c) e

theorem m_block (c : Dev nD) (t : Fin cfg0.N) (k : Fin 16) (d : Fin 1024) :
    (iblk m c 3 t (ix3 0 k d) : EReal) = argM m c (ix3 0 k d) := by
  have e : (win0_3.blk t).view.emb (ix3 0 k d) = ix3 0 k d := by blk_ext [block_at t]
  blk_simp [iblk]; rw [V_main_arg3 m c]; exact congrArg (argM m c) e

theorem product_at (x0 x1 x2 x3 : FVec Ideal S1x1024x704 .bf16) (w0 w1 w2 w3 : FVec Ideal S1x704x1024 .bf16) (a : Fin 1024) (d : Fin 1024) :
    (k0_pay2 (F := Ideal) x0 w0 x1 w1 x2 w2 x3 w3 (ix2 a d) : EReal)
      = (∑ f : Fin 704, (x0 (ix3 0 a f) : EReal) * w0 (ix3 0 f d)) + (∑ f : Fin 704, (x1 (ix3 0 a f) : EReal) * w1 (ix3 0 f d))
        + (∑ f : Fin 704, (x2 (ix3 0 a f) : EReal) * w2 (ix3 0 f d)) + ∑ f : Fin 704, (x3 (ix3 0 a f) : EReal) * w3 (ix3 0 f d) :=
  Cert.DownOneIdeal.Forward.product_at x0 x1 x2 x3 w0 w1 w2 w3 a d

theorem stored_at (o s : FVec Ideal S1024x1024 .f32) (g : FVec Ideal S1x16x1024 .f32) (a : Fin 1024) (d : Fin 1024) :
    (k0_pay1 (F := Ideal) o s g (ix2 a d) : EReal) = s (ix2 a d) + Ideal.ofBits .f32 0x3F000000#32 * g (ix3 0 8 d) * o (ix2 a d) := by
  pointwise [k0_pay1]

open Cert.DownOneBRefIdeal.Read in
theorem reference_product_at (x : FVec Ideal S4x2048x704 .bf16) (w : FVec Ideal S4x704x1024 .bf16) (r : Fin 2048) (d : Fin 1024) :
    (val_main_v2 (F := Ideal) x w (ix2 r d) : EReal) = ∑ j : Fin 4, ∑ f : Fin 704, (x (ix3 j r f) : EReal) * w (ix3 j f d) :=
  Cert.DownOneIdeal.Forward.reference_product_at x w r d

open Cert.DownOneBRefIdeal.Read in
theorem reference_at (x : FVec Ideal S4x2048x704 .bf16) (w : FVec Ideal S4x704x1024 .bf16) (s : FVec Ideal S2048x1024 .f32) (g : FVec Ideal S1x16x1024 .f32)
    (r : Fin 2048) (d : Fin 1024) :
    (val_main_v10 (F := Ideal) x w s g (ix2 r d) : EReal)
      = s (ix2 r d) + Ideal.ofBits .f32 0x3F000000#32 * g (ix3 0 8 d) * (val_main_v2 (F := Ideal) x w (ix2 r d) : EReal) := by
  pointwise [val_main_v10, val_main_cst, val_main_v9, val_main_v8, val_main_v7, val_main_v6, val_main_v5, val_main_v4, val_main_v3]

theorem product_block (c : Dev nD) (t : Fin cfg0.N) (a : Fin 1024) (d : Fin 1024) :
    (k0_pay2 (F := Ideal) (View.ld (iblk m c 0 t) r0_0) (View.ld (iblk m c 1 t) r0_1) (View.ld (iblk m c 0 t) r0_2) (View.ld (iblk m c 1 t) r0_3)
        (View.ld (iblk m c 0 t) r0_4) (View.ld (iblk m c 1 t) r0_5) (View.ld (iblk m c 0 t) r0_6) (View.ld (iblk m c 1 t) r0_7) (ix2 a d) : EReal)
      = Cert.DownOneBRefIdeal.Read.val_main_v2 (F := Ideal) (argH m c) (argW m c) (ix2 (row t a) d) := by
  rw [reference_product_at]
  refine (product_at _ _ _ _ _ _ _ _ a d).trans ?_
  simp only [Fin.sum_univ_four]
  have A (o h h' j) (hj : j.val = o) := Chunks.product_of_columns (iblk m c 0 t) (iblk m c 1 t) o h h' j hj a d
  simp only [h_block, w_block] at A
  exact congrArg₂ (· + ·) (congrArg₂ (· + ·) (congrArg₂ (· + ·) (A 0 _ _ 0 rfl) (A 1 _ _ 1 rfl)) (A 2 _ _ 2 rfl)) (A 3 _ _ 3 rfl)

theorem final_product (c : Dev nD) : (dats m 0 c).arrAt 5 (cfgs 0).N
    = Cert.DownOneBRefIdeal.Read.val_main_v2 (F := Ideal) (argH m c) (argW m c) := by
  refine (dats m 0 c).arrAt_eq_of_covers 5 _ (by decide +kernel) fun t hf y => ?_
  blk_simp; rw [after0_5]
  obtain ⟨a, d, rfl⟩ : ∃ (a : Fin 1024) (d : Fin 1024), y = ix2 a d := ⟨y 0, y 1, by blk_ext⟩
  have e : (win0_5.blk t).view.emb (ix2 a d) = ix2 (row t a) d := by blk_ext [block_at t]
  rw [e]
  frame_out
  exact product_block m c t a d

theorem final_sum (c : Dev nD) : (dats m 0 c).arrAt 4 (cfgs 0).N
    = Cert.DownOneBRefIdeal.Read.val_main_v10 (F := Ideal) (argH m c) (argW m c) (argS m c) (argM m c) := by
  refine (dats m 0 c).arrAt_eq_of_covers 4 _ (by decide +kernel) fun t hf y => ?_
  blk_simp; rw [after0_4]
  obtain ⟨a, d, rfl⟩ : ∃ (a : Fin 1024) (d : Fin 1024), y = ix2 a d := ⟨y 0, y 1, by blk_ext⟩
  have e : (win0_4.blk t).view.emb (ix2 a d) = ix2 (row t a) d := by blk_ext [block_at t]
  rw [e, reference_at]
  frame_out
  refine (stored_at _ _ _ a d).trans ?_
  simp only [s_block, m_block]
  exact congrArg _ (congrArg _ (product_block m c t a d))

theorem reference_frame : @Cert.quiescent_DownOneBRefIdeal Cert.DownOneBRefIdeal.Gen.facts := fun m ρ _ =>
  (θ_run Cert.DownOneBRefIdeal.defs _ _).mono (fun r h => ⟨fun c => (h c).2.2, sem_eq_zero_of_no_sems (by decide) r.2⟩)
    (Cert.DownOneBRefIdeal.Value.run m ρ)

theorem claim : @Cert.algebraic_DownOneBIdeal_DownOneBRefIdeal Cert.DownOneBIdeal.Gen.facts Cert.DownOneBRefIdeal.Gen.facts := by
  pair_intro
  pick_goal 3
  · exact fun c => Cert.DownOneBRefIdeal.Read.val_main_v10 (F := Ideal) (argH m c) (argW m c) (argS m c) (argM m c)
  pick_goal 3
  · exact fun c => Cert.DownOneBRefIdeal.Read.val_main_v2 (F := Ideal) (argH m c) (argW m c)
  · exact (θ_run _ _ _).mono (fun r h c => ⟨(h c).1.trans (final_sum m c), (h c).2.1.trans (final_product m c), (h c).2.2⟩)
      (Cert.DownOneBIdeal.Value.run_blocks m g)
  · refine (θ_run _ _ _).mono (fun r h c => ?_) (Cert.DownOneBRefIdeal.Value.run m' g')
    obtain ⟨h1, h2, rest⟩ := h c
    obtain ⟨a0, a1, a2, a3⟩ := hagree c
    refine ⟨h1.trans ((Cert.DownOneBRefIdeal.Read.val_main_v10_eq _ _ _ _).trans ?_), h2.trans ((Cert.DownOneBRefIdeal.Read.val_main_v2_eq _ _).trans ?_), rest⟩
    · rw [a0, a1, a2, a3]
    · rw [a0, a1]

end Cert.DownOneBIdeal.Forward
-- ==== Proof.ConvFwdForward.lean ====
/- The convolution's input projection: the gate, factor and value columns of every row. -/
module

public import proofs.«01_k».proof.Defs
public import proofs.«01_k».proof.Proof.Gen.ConvFwdIdeal.Frame
public import proofs.«01_k».proof.Proof.Gen.ConvFwdIdeal.Value
public import proofs.«01_k».proof.Proof.Gen.ConvFwdRefIdeal.Run
public import proofs.«01_k».proof.Proof.Gen.ConvFwdRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ConvFwdIdeal.Forward

open Cert.ConvFwdIdeal Cert.ConvFwdIdeal.Gen

variable (m : (ℓ : Loc nD τ sig) → Buf (Elt Ideal) ℓ)

/-- The block of every window at every grid point: the point is row block `t % 2`, column block `t / 2`. -/
theorem block_at : ∀ t : Fin cfg0.N, win0_0.index t = ![t.val % 2, 0] ∧ win0_1.index t = ![0, t.val / 2]
    ∧ win0_2.index t = ![t.val % 2, t.val / 2] :=
  (by decide +kernel : ∀ t : Fin grid0.N, _)

abbrev argU (c : Dev nD) : FVec Ideal S2048x1024 .bf16 := m ((c.tc : Thread nD τ).loc main_arg0)
abbrev argW (c : Dev nD) : FVec Ideal S1024x3072 .bf16 := m ((c.tc : Thread nD τ).loc main_arg1)

/-- The row of row `r` of a point's block. -/
abbrev row (t : Fin cfg0.N) (r : Fin 1024) : Fin 2048 := ⟨t.val % 2 * 1024 + r.val, by omega⟩
/-- The column of column `x` of a point's block. -/
abbrev col (t : Fin cfg0.N) (x : Fin 512) : Fin 3072 := ⟨t.val / 2 * 512 + x.val, by have := t.isLt; have : cfg0.N = 12 := rfl; omega⟩

theorem u_block (c : Dev nD) (t : Fin cfg0.N) (r d : Fin 1024) :
    (iblk m c 0 t (ix2 r d) : EReal) = argU m c (ix2 (row t r) d) := by
  have e : (win0_0.blk t).view.emb (ix2 r d) = ix2 (row t r) d := by blk_ext [block_at t]
  blk_simp [iblk]; rw [V_main_arg0 m c]; exact congrArg (argU m c) e

theorem w_block (c : Dev nD) (t : Fin cfg0.N) (d : Fin 1024) (x : Fin 512) :
    (iblk m c 1 t (ix2 d x) : EReal) = argW m c (ix2 d (col t x)) := by
  have e : (win0_1.blk t).view.emb (ix2 d x) = ix2 d (col t x) := by blk_ext [block_at t]
  blk_simp [iblk]; rw [V_main_arg1 m c]; exact congrArg (argW m c) e

theorem stored_at (u : FVec Ideal S1024x1024 .bf16) (w : FVec Ideal S1024x512 .bf16) (r : Fin 1024) (x : Fin 512) :
    (k0_pay1 (F := Ideal) u w (ix2 r x) : EReal) = ∑ d : Fin 1024, (u (ix2 r d) : EReal) * w (ix2 d x) := by
  pointwise [k0_pay1]

open Cert.ConvFwdRefIdeal.Read in
theorem reference_at (u : FVec Ideal S2048x1024 .bf16) (w : FVec Ideal S1024x3072 .bf16) (r : Fin 2048) (x : Fin 3072) :
    (val_main_v2 (F := Ideal) u w (ix2 r x) : EReal) = ∑ d : Fin 1024, (u (ix2 r d) : EReal) * w (ix2 d x) := by
  pointwise [val_main_v2, val_main_v1, val_main_v0]

theorem final (c : Dev nD) : (dats m 0 c).arrAt 2 (cfgs 0).N
    = Cert.ConvFwdRefIdeal.Read.val_main_v2 (F := Ideal) (argU m c) (argW m c) := by
  refine (dats m 0 c).arrAt_eq_of_covers 2 _ (by decide +kernel) fun t hf y => ?_
  blk_simp; rw [after0_2]
  obtain ⟨r, x, rfl⟩ : ∃ (r : Fin 1024) (x : Fin 512), y = ix2 r x := ⟨y 0, y 1, by blk_ext⟩
  have e : (win0_2.blk t).view.emb (ix2 r x) = ix2 (row t r) (col t x) := by blk_ext [block_at t]
  rw [e, reference_at]
  frame_out
  refine (stored_at _ _ r x).trans ?_
  simp only [u_block, w_block]

theorem reference_frame : @Cert.quiescent_ConvFwdRefIdeal Cert.ConvFwdRefIdeal.Gen.facts := fun m ρ _ =>
  (θ_run Cert.ConvFwdRefIdeal.defs _ _).mono (fun r h => ⟨fun c => (h c).2, sem_eq_zero_of_no_sems (by decide) r.2⟩)
    (Cert.ConvFwdRefIdeal.Value.run m ρ)

theorem claim : @Cert.algebraic_ConvFwdIdeal_ConvFwdRefIdeal Cert.ConvFwdIdeal.Gen.facts Cert.ConvFwdRefIdeal.Gen.facts := by
  pair_intro
  pick_goal 3
  · exact fun c => Cert.ConvFwdRefIdeal.Read.val_main_v2 (F := Ideal) (argU m c) (argW m c)
  · exact (θ_run _ _ _).mono (fun r h c => ⟨(h c).1.trans (final m c), (h c).2⟩) (Cert.ConvFwdIdeal.Value.run_blocks m g)
  · refine (θ_run _ _ _).mono (fun r h c => ?_) (Cert.ConvFwdRefIdeal.Value.run m' g')
    obtain ⟨h1, rest⟩ := h c
    refine ⟨h1.trans ((Cert.ConvFwdRefIdeal.Read.val_main_v2_eq _ _).trans ?_), rest⟩
    obtain ⟨a0, a1⟩ := hagree c
    rw [a0, a1]

end Cert.ConvFwdIdeal.Forward
-- ==== Proof.MixForward.lean ====
/- Layer 0's output projection, and its gated sum with the rows. -/
module

public import proofs.«01_k».proof.Defs
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import Idealize.ShloMosaic.Lib.Tactic.WordOmega
public import proofs.«01_k».proof.Proof.DownForward
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixIdeal.Forward

open Cert.MixIdeal Cert.MixIdeal.Gen

variable (m : (ℓ : Loc nD τ sig) → Buf (Elt Ideal) ℓ)

/-- The block of every window at every grid point: the point is row block `t`. -/
theorem block_at : ∀ t : Fin cfg0.N, win0_0.index t = ![t.val, 0] ∧ win0_1.index t = ![0, 0] ∧ win0_2.index t = ![t.val, 0]
    ∧ win0_3.index t = ![0, 0, 0] ∧ win0_4.index t = ![t.val, 0] ∧ win0_5.index t = ![t.val, 0] :=
  (by decide +kernel : ∀ t : Fin grid0.N, _)

abbrev argX (c : Dev nD) : FVec Ideal S2304x1536 .bf16 := m ((c.tc : Thread nD τ).loc main_arg0)
abbrev argW (c : Dev nD) : FVec Ideal S1536x1024 .bf16 := m ((c.tc : Thread nD τ).loc main_arg1)
abbrev argS (c : Dev nD) : FVec Ideal S2304x1024 .f32 := m ((c.tc : Thread nD τ).loc main_arg2)
abbrev argM (c : Dev nD) : FVec Ideal S2x16x1024 .f32 := m ((c.tc : Thread nD τ).loc main_arg3)

/-- The row of row `a` of a point's block. -/
abbrev row (t : Fin cfg0.N) (a : Fin 768) : Fin 2304 := ⟨t.val * 768 + a.val, by have := t.isLt; have : cfg0.N = 3 := rfl; omega⟩

theorem x_block (c : Dev nD) (t : Fin cfg0.N) (a : Fin 768) (k : Fin 1536) :
    (iblk m c 0 t (ix2 a k) : EReal) = argX m c (ix2 (row t a) k) := by
  have e : (win0_0.blk t).view.emb (ix2 a k) = ix2 (row t a) k := by blk_ext [block_at t]
  blk_simp [iblk]; rw [V_main_arg0 m c]; exact congrArg (argX m c) e

theorem w_block (c : Dev nD) (t : Fin cfg0.N) (k : Fin 1536) (d : Fin 1024) :
    (iblk m c 1 t (ix2 k d) : EReal) = argW m c (ix2 k d) := by
  have e : (win0_1.blk t).view.emb (ix2 k d) = ix2 k d := by blk_ext [block_at t]
  blk_simp [iblk]; rw [V_main_arg1 m c]; exact congrArg (argW m c) e

theorem s_block (c : Dev nD) (t : Fin cfg0.N) (a : Fin 768) (d : Fin 1024) :
    (iblk m c 2 t (ix2 a d) : EReal) = argS m c (ix2 (row t a) d) := by
  have e : (win0_2.blk t).view.emb (ix2 a d) = ix2 (row t a) d := by blk_ext [block_at t]
  blk_simp [iblk]; rw [V_main_arg2 m c]; exact congrArg (argS m c) e

theorem m_block (c : Dev nD) (t : Fin cfg0.N) (i : Fin 2) (k : Fin 16) (d : Fin 1024) :
    (iblk m c 3 t (ix3 i k d) : EReal) = argM m c (ix3 i k d) := by
  have e : (win0_3.blk t).view.emb (ix3 i k d) = ix3 i k d := by blk_ext [block_at t]
  blk_simp [iblk]; rw [V_main_arg3 m c]; exact congrArg (argM m c) e

theorem product_at (x : FVec Ideal S768x1536 .bf16) (w : FVec Ideal S1536x1024 .bf16) (a : Fin 768) (d : Fin 1024) :
    (k0_pay1 (F := Ideal) x w (ix2 a d) : EReal) = ∑ k : Fin 1536, (x (ix2 a k) : EReal) * w (ix2 k d) := by
  pointwise [k0_pay1]

/-- A block's rows keep the image's gate below row 2048 and the text's from there on. -/
theorem stored_at (t : Fin cfg0.N) (x : FVec Ideal S768x1536 .bf16) (w : FVec Ideal S1536x1024 .bf16) (s : FVec Ideal S768x1024 .f32) (g : FVec Ideal S2x16x1024 .f32) (a : Fin 768) (d : Fin 1024) :
    (k0_pay2 (F := Ideal) (grid0.coords t) x w s g (ix2 a d) : EReal)
      = s (ix2 a d) + (if t.val * 768 + a.val < 2048 then g (ix3 0 5 d) else g (ix3 1 5 d)) * (k0_pay1 (F := Ideal) x w (ix2 a d) : EReal) := by
  have p : ((grid0.coords t) 1).val = t.val := (by decide +kernel : ∀ t : Fin grid0.N, ((grid0.coords t) 1).val = t.val) t
  pointwise [k0_pay2]
  rw [p, Cert.DownIdeal.Forward.row_below t a]
  split_ifs <;> rfl

open Cert.MixRefIdeal.Read in
theorem reference_product_at (x : FVec Ideal S2304x1536 .bf16) (w : FVec Ideal S1536x1024 .bf16) (r : Fin 2304) (d : Fin 1024) :
    (val_main_v2 (F := Ideal) x w (ix2 r d) : EReal) = ∑ k : Fin 1536, (x (ix2 r k) : EReal) * w (ix2 k d) := by
  pointwise [val_main_v2, val_main_v1, val_main_v0]

open Cert.MixRefIdeal.Read in
theorem reference_at (x : FVec Ideal S2304x1536 .bf16) (w : FVec Ideal S1536x1024 .bf16) (s : FVec Ideal S2304x1024 .f32) (g : FVec Ideal S2x16x1024 .f32)
    (r : Fin 2304) (d : Fin 1024) :
    (val_main_v11 (F := Ideal) x w s g (ix2 r d) : EReal) = s (ix2 r d) + (if r.val < 2048 then g (ix3 0 5 d) else g (ix3 1 5 d)) * (val_main_v2 (F := Ideal) x w (ix2 r d) : EReal) := by
  pointwise [val_main_v11, val_main_v10, val_main_v9, val_main_v8, val_main_v7, val_main_v6, val_main_v5, val_main_v4, val_main_v3]
  simp only [dite_eq_ite]

theorem product_block (c : Dev nD) (t : Fin cfg0.N) (a : Fin 768) (d : Fin 1024) :
    (k0_pay1 (F := Ideal) (iblk m c 0 t) (iblk m c 1 t) (ix2 a d) : EReal)
      = Cert.MixRefIdeal.Read.val_main_v2 (F := Ideal) (argX m c) (argW m c) (ix2 (row t a) d) := by
  rw [reference_product_at]
  refine (product_at _ _ a d).trans ?_
  simp only [x_block, w_block]

theorem final_product (c : Dev nD) : (dats m 0 c).arrAt 5 (cfgs 0).N
    = Cert.MixRefIdeal.Read.val_main_v2 (F := Ideal) (argX m c) (argW m c) := by
  refine (dats m 0 c).arrAt_eq_of_covers 5 _ (by decide +kernel) fun t hf y => ?_
  blk_simp; rw [after0_5]
  obtain ⟨a, d, rfl⟩ : ∃ (a : Fin 768) (d : Fin 1024), y = ix2 a d := ⟨y 0, y 1, by blk_ext⟩
  have e : (win0_5.blk t).view.emb (ix2 a d) = ix2 (row t a) d := by blk_ext [block_at t]
  rw [e]
  frame_out
  exact product_block m c t a d

theorem final_sum (c : Dev nD) : (dats m 0 c).arrAt 4 (cfgs 0).N
    = Cert.MixRefIdeal.Read.val_main_v11 (F := Ideal) (argX m c) (argW m c) (argS m c) (argM m c) := by
  refine (dats m 0 c).arrAt_eq_of_covers 4 _ (by decide +kernel) fun t hf y => ?_
  blk_simp; rw [after0_4]
  obtain ⟨a, d, rfl⟩ : ∃ (a : Fin 768) (d : Fin 1024), y = ix2 a d := ⟨y 0, y 1, by blk_ext⟩
  have e : (win0_4.blk t).view.emb (ix2 a d) = ix2 (row t a) d := by blk_ext [block_at t]
  rw [e, reference_at]
  frame_out
  refine (stored_at t _ _ _ _ a d).trans ?_
  simp only [s_block, m_block]
  exact congrArg _ (congrArg _ (product_block m c t a d))

theorem reference_frame : @Cert.quiescent_MixRefIdeal Cert.MixRefIdeal.Gen.facts := fun m ρ _ =>
  (θ_run Cert.MixRefIdeal.defs _ _).mono (fun r h => ⟨fun c => (h c).2.2, sem_eq_zero_of_no_sems (by decide) r.2⟩)
    (Cert.MixRefIdeal.Value.run m ρ)

theorem claim : @Cert.algebraic_MixIdeal_MixRefIdeal Cert.MixIdeal.Gen.facts Cert.MixRefIdeal.Gen.facts := by
  pair_intro
  pick_goal 3
  · exact fun c => Cert.MixRefIdeal.Read.val_main_v11 (F := Ideal) (argX m c) (argW m c) (argS m c) (argM m c)
  pick_goal 3
  · exact fun c => Cert.MixRefIdeal.Read.val_main_v2 (F := Ideal) (argX m c) (argW m c)
  · exact (θ_run _ _ _).mono (fun r h c => ⟨(h c).1.trans (final_sum m c), (h c).2.1.trans (final_product m c), (h c).2.2⟩)
      (Cert.MixIdeal.Value.run_blocks m g)
  · refine (θ_run _ _ _).mono (fun r h c => ?_) (Cert.MixRefIdeal.Value.run m' g')
    obtain ⟨h1, h2, rest⟩ := h c
    obtain ⟨a0, a1, a2, a3⟩ := hagree c
    refine ⟨h1.trans ((Cert.MixRefIdeal.Read.val_main_v11_eq _ _ _ _).trans ?_), h2.trans ((Cert.MixRefIdeal.Read.val_main_v2_eq _ _).trans ?_), rest⟩
    · rw [a0, a1, a2, a3]
    · rw [a0, a1]

end Cert.MixIdeal.Forward
-- ==== Proof.MixOneForward.lean ====
/- Layer 1's output projection, and its gated sum with the rows. -/
module

public import proofs.«01_k».proof.Defs
public import proofs.«01_k».proof.Proof.Gen.MixOneIdeal.Frame
public import proofs.«01_k».proof.Proof.Gen.MixOneIdeal.Value
public import proofs.«01_k».proof.Proof.Gen.MixOneRefIdeal.Run
public import proofs.«01_k».proof.Proof.Gen.MixOneRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixOneIdeal.Forward

open Cert.MixOneIdeal Cert.MixOneIdeal.Gen

variable (m : (ℓ : Loc nD τ sig) → Buf (Elt Ideal) ℓ)

/-- The block of every window at every grid point: the point is row block `t`. -/
theorem block_at : ∀ t : Fin cfg0.N, win0_0.index t = ![t.val, 0] ∧ win0_1.index t = ![0, 0] ∧ win0_2.index t = ![t.val, 0]
    ∧ win0_3.index t = ![0, 0, 0] ∧ win0_4.index t = ![t.val, 0] ∧ win0_5.index t = ![t.val, 0] :=
  (by decide +kernel : ∀ t : Fin grid0.N, _)

abbrev argX (c : Dev nD) : FVec Ideal S2048x1024 .bf16 := m ((c.tc : Thread nD τ).loc main_arg0)
abbrev argW (c : Dev nD) : FVec Ideal S1024x1024 .bf16 := m ((c.tc : Thread nD τ).loc main_arg1)
abbrev argS (c : Dev nD) : FVec Ideal S2048x1024 .f32 := m ((c.tc : Thread nD τ).loc main_arg2)
abbrev argM (c : Dev nD) : FVec Ideal S1x16x1024 .f32 := m ((c.tc : Thread nD τ).loc main_arg3)

/-- The row of row `a` of a point's block. -/
abbrev row (t : Fin cfg0.N) (a : Fin 1024) : Fin 2048 := ⟨t.val * 1024 + a.val, by have := t.isLt; have : cfg0.N = 2 := rfl; omega⟩

theorem x_block (c : Dev nD) (t : Fin cfg0.N) (a : Fin 1024) (k : Fin 1024) :
    (iblk m c 0 t (ix2 a k) : EReal) = argX m c (ix2 (row t a) k) := by
  have e : (win0_0.blk t).view.emb (ix2 a k) = ix2 (row t a) k := by blk_ext [block_at t]
  blk_simp [iblk]; rw [V_main_arg0 m c]; exact congrArg (argX m c) e

theorem w_block (c : Dev nD) (t : Fin cfg0.N) (k : Fin 1024) (d : Fin 1024) :
    (iblk m c 1 t (ix2 k d) : EReal) = argW m c (ix2 k d) := by
  have e : (win0_1.blk t).view.emb (ix2 k d) = ix2 k d := by blk_ext [block_at t]
  blk_simp [iblk]; rw [V_main_arg1 m c]; exact congrArg (argW m c) e

theorem s_block (c : Dev nD) (t : Fin cfg0.N) (a : Fin 1024) (d : Fin 1024) :
    (iblk m c 2 t (ix2 a d) : EReal) = argS m c (ix2 (row t a) d) := by
  have e : (win0_2.blk t).view.emb (ix2 a d) = ix2 (row t a) d := by blk_ext [block_at t]
  blk_simp [iblk]; rw [V_main_arg2 m c]; exact congrArg (argS m c) e

theorem m_block (c : Dev nD) (t : Fin cfg0.N) (k : Fin 16) (d : Fin 1024) :
    (iblk m c 3 t (ix3 0 k d) : EReal) = argM m c (ix3 0 k d) := by
  have e : (win0_3.blk t).view.emb (ix3 0 k d) = ix3 0 k d := by blk_ext [block_at t]
  blk_simp [iblk]; rw [V_main_arg3 m c]; exact congrArg (argM m c) e

theorem product_at (x : FVec Ideal S1024x1024 .bf16) (w : FVec Ideal S1024x1024 .bf16) (a : Fin 1024) (d : Fin 1024) :
    (k0_pay1 (F := Ideal) x w (ix2 a d) : EReal) = ∑ k : Fin 1024, (x (ix2 a k) : EReal) * w (ix2 k d) := by
  pointwise [k0_pay1]

theorem stored_at (x : FVec Ideal S1024x1024 .bf16) (w : FVec Ideal S1024x1024 .bf16) (s : FVec Ideal S1024x1024 .f32) (g : FVec Ideal S1x16x1024 .f32) (a : Fin 1024) (d : Fin 1024) :
    (k0_pay2 (F := Ideal) x w s g (ix2 a d) : EReal) = s (ix2 a d) + g (ix3 0 5 d) * (k0_pay1 (F := Ideal) x w (ix2 a d) : EReal) := by
  pointwise [k0_pay2]

open Cert.MixOneRefIdeal.Read in
theorem reference_product_at (x : FVec Ideal S2048x1024 .bf16) (w : FVec Ideal S1024x1024 .bf16) (r : Fin 2048) (d : Fin 1024) :
    (val_main_v2 (F := Ideal) x w (ix2 r d) : EReal) = ∑ k : Fin 1024, (x (ix2 r k) : EReal) * w (ix2 k d) := by
  pointwise [val_main_v2, val_main_v1, val_main_v0]

open Cert.MixOneRefIdeal.Read in
theorem reference_at (x : FVec Ideal S2048x1024 .bf16) (w : FVec Ideal S1024x1024 .bf16) (s : FVec Ideal S2048x1024 .f32) (g : FVec Ideal S1x16x1024 .f32)
    (r : Fin 2048) (d : Fin 1024) :
    (val_main_v8 (F := Ideal) x w s g (ix2 r d) : EReal) = s (ix2 r d) + g (ix3 0 5 d) * (val_main_v2 (F := Ideal) x w (ix2 r d) : EReal) := by
  pointwise [val_main_v8, val_main_v7, val_main_v6, val_main_v5, val_main_v4, val_main_v3]

theorem product_block (c : Dev nD) (t : Fin cfg0.N) (a : Fin 1024) (d : Fin 1024) :
    (k0_pay1 (F := Ideal) (iblk m c 0 t) (iblk m c 1 t) (ix2 a d) : EReal)
      = Cert.MixOneRefIdeal.Read.val_main_v2 (F := Ideal) (argX m c) (argW m c) (ix2 (row t a) d) := by
  rw [reference_product_at]
  refine (product_at _ _ a d).trans ?_
  simp only [x_block, w_block]

theorem final_product (c : Dev nD) : (dats m 0 c).arrAt 5 (cfgs 0).N
    = Cert.MixOneRefIdeal.Read.val_main_v2 (F := Ideal) (argX m c) (argW m c) := by
  refine (dats m 0 c).arrAt_eq_of_covers 5 _ (by decide +kernel) fun t hf y => ?_
  blk_simp; rw [after0_5]
  obtain ⟨a, d, rfl⟩ : ∃ (a : Fin 1024) (d : Fin 1024), y = ix2 a d := ⟨y 0, y 1, by blk_ext⟩
  have e : (win0_5.blk t).view.emb (ix2 a d) = ix2 (row t a) d := by blk_ext [block_at t]
  rw [e]
  frame_out
  exact product_block m c t a d

theorem final_sum (c : Dev nD) : (dats m 0 c).arrAt 4 (cfgs 0).N
    = Cert.MixOneRefIdeal.Read.val_main_v8 (F := Ideal) (argX m c) (argW m c) (argS m c) (argM m c) := by
  refine (dats m 0 c).arrAt_eq_of_covers 4 _ (by decide +kernel) fun t hf y => ?_
  blk_simp; rw [after0_4]
  obtain ⟨a, d, rfl⟩ : ∃ (a : Fin 1024) (d : Fin 1024), y = ix2 a d := ⟨y 0, y 1, by blk_ext⟩
  have e : (win0_4.blk t).view.emb (ix2 a d) = ix2 (row t a) d := by blk_ext [block_at t]
  rw [e, reference_at]
  frame_out
  refine (stored_at _ _ _ _ a d).trans ?_
  simp only [s_block, m_block]
  exact congrArg _ (congrArg _ (product_block m c t a d))

theorem reference_frame : @Cert.quiescent_MixOneRefIdeal Cert.MixOneRefIdeal.Gen.facts := fun m ρ _ =>
  (θ_run Cert.MixOneRefIdeal.defs _ _).mono (fun r h => ⟨fun c => (h c).2.2, sem_eq_zero_of_no_sems (by decide) r.2⟩)
    (Cert.MixOneRefIdeal.Value.run m ρ)

theorem claim : @Cert.algebraic_MixOneIdeal_MixOneRefIdeal Cert.MixOneIdeal.Gen.facts Cert.MixOneRefIdeal.Gen.facts := by
  pair_intro
  pick_goal 3
  · exact fun c => Cert.MixOneRefIdeal.Read.val_main_v8 (F := Ideal) (argX m c) (argW m c) (argS m c) (argM m c)
  pick_goal 3
  · exact fun c => Cert.MixOneRefIdeal.Read.val_main_v2 (F := Ideal) (argX m c) (argW m c)
  · exact (θ_run _ _ _).mono (fun r h c => ⟨(h c).1.trans (final_sum m c), (h c).2.1.trans (final_product m c), (h c).2.2⟩)
      (Cert.MixOneIdeal.Value.run_blocks m g)
  · refine (θ_run _ _ _).mono (fun r h c => ?_) (Cert.MixOneRefIdeal.Value.run m' g')
    obtain ⟨h1, h2, rest⟩ := h c
    obtain ⟨a0, a1, a2, a3⟩ := hagree c
    refine ⟨h1.trans ((Cert.MixOneRefIdeal.Read.val_main_v8_eq _ _ _ _).trans ?_), h2.trans ((Cert.MixOneRefIdeal.Read.val_main_v2_eq _ _).trans ?_), rest⟩
    · rw [a0, a1, a2, a3]
    · rw [a0, a1]

end Cert.MixOneIdeal.Forward
-- ==== Proof.MixInOneGrad.lean ====
/- The gradient of what layer 1's output projection multiplies. -/
module

public import proofs.«01_k».proof.Defs
public import proofs.«01_k».proof.Proof.Gen.MixInOneIdeal.Frame
public import proofs.«01_k».proof.Proof.Gen.MixInOneIdeal.Value
public import proofs.«01_k».proof.Proof.Gen.MixInOneRefIdeal.Run
public import proofs.«01_k».proof.Proof.Gen.MixInOneRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixInOneIdeal.Gradient

open Cert.MixInOneIdeal Cert.MixInOneIdeal.Gen

variable (m : (ℓ : Loc nD τ sig) → Buf (Elt Ideal) ℓ)

/-- The block of every window at every grid point: the point is row block `t`. -/
theorem block_at : ∀ t : Fin cfg0.N, win0_0.index t = ![t.val, 0] ∧ win0_1.index t = ![0, 0] ∧ win0_2.index t = ![t.val, 0] :=
  (by decide +kernel : ∀ t : Fin grid0.N, _)

abbrev argG (c : Dev nD) : FVec Ideal S2048x1024 .bf16 := m ((c.tc : Thread nD τ).loc main_arg0)
abbrev argW (c : Dev nD) : FVec Ideal S1024x1024 .bf16 := m ((c.tc : Thread nD τ).loc main_arg1)

/-- The row of row `r` of a point's block. -/
abbrev row (t : Fin cfg0.N) (r : Fin 1024) : Fin 2048 := ⟨t.val * 1024 + r.val, by have := t.isLt; have : cfg0.N = 2 := rfl; omega⟩

theorem g_block (c : Dev nD) (t : Fin cfg0.N) (r : Fin 1024) (d : Fin 1024) :
    (iblk m c 0 t (ix2 r d) : EReal) = argG m c (ix2 (row t r) d) := by
  have e : (win0_0.blk t).view.emb (ix2 r d) = ix2 (row t r) d := by blk_ext [block_at t]
  blk_simp [iblk]; rw [V_main_arg0 m c]; exact congrArg (argG m c) e

theorem w_block (c : Dev nD) (t : Fin cfg0.N) (x : Fin 1024) (d : Fin 1024) :
    (iblk m c 1 t (ix2 x d) : EReal) = argW m c (ix2 x d) := by
  have e : (win0_1.blk t).view.emb (ix2 x d) = ix2 x d := by blk_ext [block_at t]
  blk_simp [iblk]; rw [V_main_arg1 m c]; exact congrArg (argW m c) e

theorem stored_at (g : FVec Ideal S1024x1024 .bf16) (w : FVec Ideal S1024x1024 .bf16) (r : Fin 1024) (x : Fin 1024) :
    (k0_pay1 (F := Ideal) g w (ix2 r x) : EReal) = ∑ d : Fin 1024, (g (ix2 r d) : EReal) * w (ix2 x d) := by
  pointwise [k0_pay1]

open Cert.MixInOneRefIdeal.Read in
theorem reference_at (g : FVec Ideal S2048x1024 .bf16) (w : FVec Ideal S1024x1024 .bf16) (r : Fin 2048) (x : Fin 1024) :
    (val_main_v4 (F := Ideal) g w (ix2 r x) : EReal) = ∑ d : Fin 1024, (g (ix2 r d) : EReal) * w (ix2 x d) := by
  pointwise [val_main_v4, val_main_v3, val_main_v1]

theorem final (c : Dev nD) : (dats m 0 c).arrAt 2 (cfgs 0).N
    = Cert.MixInOneRefIdeal.Read.val_main_v4 (F := Ideal) (argG m c) (argW m c) := by
  refine (dats m 0 c).arrAt_eq_of_covers 2 _ (by decide +kernel) fun t hf y => ?_
  blk_simp; rw [after0_2]
  obtain ⟨r, x, rfl⟩ : ∃ (r : Fin 1024) (x : Fin 1024), y = ix2 r x := ⟨y 0, y 1, by blk_ext⟩
  have e : (win0_2.blk t).view.emb (ix2 r x) = ix2 (row t r) x := by blk_ext [block_at t]
  rw [e, reference_at]
  frame_out
  refine (stored_at _ _ r x).trans ?_
  simp only [g_block, w_block]

theorem reference_frame : @Cert.quiescent_MixInOneRefIdeal Cert.MixInOneRefIdeal.Gen.facts := fun m ρ _ =>
  (θ_run Cert.MixInOneRefIdeal.defs _ _).mono (fun r h => ⟨fun c => (h c).2, sem_eq_zero_of_no_sems (by decide) r.2⟩)
    (Cert.MixInOneRefIdeal.Value.run m ρ)

theorem claim : @Cert.algebraic_MixInOneIdeal_MixInOneRefIdeal Cert.MixInOneIdeal.Gen.facts Cert.MixInOneRefIdeal.Gen.facts := by
  pair_intro
  pick_goal 3
  · exact fun c => Cert.MixInOneRefIdeal.Read.val_main_v4 (F := Ideal) (argG m c) (argW m c)
  · exact (θ_run _ _ _).mono (fun r h c => ⟨(h c).1.trans (final m c), (h c).2⟩) (Cert.MixInOneIdeal.Value.run_blocks m g)
  · refine (θ_run _ _ _).mono (fun r h c => ?_) (Cert.MixInOneRefIdeal.Value.run m' g')
    obtain ⟨h1, rest⟩ := h c
    refine ⟨h1.trans ((Cert.MixInOneRefIdeal.Read.val_main_v4_eq _ _).trans ?_), rest⟩
    obtain ⟨a0, a1⟩ := hagree c
    rw [a0, a1]

end Cert.MixInOneIdeal.Gradient
-- ==== Proof.MixWOneGrad.lean ====
/- The gradient of the weight of layer 1's output projection. -/
module

public import proofs.«01_k».proof.Defs
public import proofs.«01_k».proof.Proof.Gen.MixWOneIdeal.Frame
public import proofs.«01_k».proof.Proof.Gen.MixWOneIdeal.Value
public import proofs.«01_k».proof.Proof.Gen.MixWOneRefIdeal.Run
public import proofs.«01_k».proof.Proof.Gen.MixWOneRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixWOneIdeal.Gradient

open Cert.MixWOneIdeal Cert.MixWOneIdeal.Gen

variable (m : (ℓ : Loc nD τ sig) → Buf (Elt Ideal) ℓ)

/-- The block of every window at every grid point: the point is row block `t % 2`, column block `t / 2`. -/
theorem block_at : ∀ t : Fin cfg0.N, win0_0.index t = ![0, t.val % 2] ∧ win0_1.index t = ![0, t.val / 2]
    ∧ win0_2.index t = ![t.val % 2, t.val / 2] :=
  (by decide +kernel : ∀ t : Fin grid0.N, _)

abbrev argX (c : Dev nD) : FVec Ideal S2048x1024 .bf16 := m ((c.tc : Thread nD τ).loc main_arg0)
abbrev argG (c : Dev nD) : FVec Ideal S2048x1024 .bf16 := m ((c.tc : Thread nD τ).loc main_arg1)

/-- The row of the weight of row `x` of a point's block. -/
abbrev row (t : Fin cfg0.N) (x : Fin 512) : Fin 1024 := ⟨t.val % 2 * 512 + x.val, by omega⟩
/-- The column of the weight of column `d` of a point's block. -/
abbrev col (t : Fin cfg0.N) (d : Fin 512) : Fin 1024 := ⟨t.val / 2 * 512 + d.val, by have := t.isLt; have : cfg0.N = 4 := rfl; omega⟩

theorem x_block (c : Dev nD) (t : Fin cfg0.N) (r : Fin 2048) (x : Fin 512) :
    (iblk m c 0 t (ix2 r x) : EReal) = argX m c (ix2 r (row t x)) := by
  have e : (win0_0.blk t).view.emb (ix2 r x) = ix2 r (row t x) := by blk_ext [block_at t]
  blk_simp [iblk]; rw [V_main_arg0 m c]; exact congrArg (argX m c) e

theorem g_block (c : Dev nD) (t : Fin cfg0.N) (r : Fin 2048) (d : Fin 512) :
    (iblk m c 1 t (ix2 r d) : EReal) = argG m c (ix2 r (col t d)) := by
  have e : (win0_1.blk t).view.emb (ix2 r d) = ix2 r (col t d) := by blk_ext [block_at t]
  blk_simp [iblk]; rw [V_main_arg1 m c]; exact congrArg (argG m c) e

theorem stored_at (x g : FVec Ideal S2048x512 .bf16) (i d : Fin 512) :
    (k0_pay1 (F := Ideal) x g (ix2 i d) : EReal) = ∑ r : Fin 2048, (x (ix2 r i) : EReal) * g (ix2 r d) := by
  pointwise [k0_pay1]

open Cert.MixWOneRefIdeal.Read in
theorem reference_at (x : FVec Ideal S2048x1024 .bf16) (g : FVec Ideal S2048x1024 .bf16) (i : Fin 1024) (d : Fin 1024) :
    (val_main_v5 (F := Ideal) x g (ix2 i d) : EReal) = ∑ r : Fin 2048, (x (ix2 r i) : EReal) * g (ix2 r d) := by
  pointwise [val_main_v5, val_main_v4, val_main_v3, val_main_v1]
  exact Finset.sum_congr rfl fun _ _ => mul_comm _ _

theorem final (c : Dev nD) : (dats m 0 c).arrAt 2 (cfgs 0).N
    = Cert.MixWOneRefIdeal.Read.val_main_v5 (F := Ideal) (argX m c) (argG m c) := by
  refine (dats m 0 c).arrAt_eq_of_covers 2 _ (by decide +kernel) fun t hf y => ?_
  blk_simp; rw [after0_2]
  obtain ⟨i, d, rfl⟩ : ∃ (i : Fin 512) (d : Fin 512), y = ix2 i d := ⟨y 0, y 1, by blk_ext⟩
  have e : (win0_2.blk t).view.emb (ix2 i d) = ix2 (row t i) (col t d) := by blk_ext [block_at t]
  rw [e, reference_at]
  frame_out
  refine (stored_at _ _ i d).trans ?_
  simp only [x_block, g_block]

theorem reference_frame : @Cert.quiescent_MixWOneRefIdeal Cert.MixWOneRefIdeal.Gen.facts := fun m ρ _ =>
  (θ_run Cert.MixWOneRefIdeal.defs _ _).mono (fun r h => ⟨fun c => (h c).2, sem_eq_zero_of_no_sems (by decide) r.2⟩)
    (Cert.MixWOneRefIdeal.Value.run m ρ)

theorem claim : @Cert.algebraic_MixWOneIdeal_MixWOneRefIdeal Cert.MixWOneIdeal.Gen.facts Cert.MixWOneRefIdeal.Gen.facts := by
  pair_intro
  pick_goal 3
  · exact fun c => Cert.MixWOneRefIdeal.Read.val_main_v5 (F := Ideal) (argX m c) (argG m c)
  · exact (θ_run _ _ _).mono (fun r h c => ⟨(h c).1.trans (final m c), (h c).2⟩) (Cert.MixWOneIdeal.Value.run_blocks m g)
  · refine (θ_run _ _ _).mono (fun r h c => ?_) (Cert.MixWOneRefIdeal.Value.run m' g')
    obtain ⟨h1, rest⟩ := h c
    refine ⟨h1.trans ((Cert.MixWOneRefIdeal.Read.val_main_v5_eq _ _).trans ?_), rest⟩
    obtain ⟨a0, a1⟩ := hagree c
    rw [a0, a1]

end Cert.MixWOneIdeal.Gradient
-- ==== Proof.AttnFForward.lean ====
/- The attention's forward pass: four heads side by side in a block, each head's output and its row log-sums. -/
module

public import proofs.«01_k».proof.Defs
public import proofs.«01_k».proof.Proof.AttnRow
public import proofs.«01_k».proof.Proof.AttnRef
public import proofs.«01_k».proof.Proof.Gen.AttnFIdeal.Frame
public import proofs.«01_k».proof.Proof.Gen.AttnFIdeal.Value
public import proofs.«01_k».proof.Proof.Gen.AttnFRefIdeal.Run
public import proofs.«01_k».proof.Proof.Gen.AttnFRefIdeal.Read
public import proofs.«01_k».proof.Proof.Gen.Pre_finite_queries_keys
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AttnFIdeal.Forward

open Cert.AttnFIdeal Cert.AttnFIdeal.Gen Cert.AttnMath
open Cert.AttnRefIdeal.Rows (col up scale score top weight)

variable (m : (ℓ : Loc nD τ sig) → Buf (Elt Ideal) ℓ)

/-- The block of every window at every grid point: the point is four heads `t / 8`, row block `t % 8`. -/
theorem block_at : ∀ t : Fin cfg0.N, win0_0.index t = ![t.val % 8, t.val / 8]
    ∧ win0_1.index t = ![0, t.val / 8]
    ∧ win0_2.index t = ![0, t.val / 8]
    ∧ win0_3.index t = ![t.val % 8, t.val / 8]
    ∧ win0_4.index t = ![t.val % 8, t.val / 8] :=
  (by decide +kernel : ∀ t : Fin grid0.N, _)

abbrev argQ (c : Dev nD) : FVec Ideal S2304x1024 .bf16 := m ((c.tc : Thread nD τ).loc main_arg0)
abbrev argK (c : Dev nD) : FVec Ideal S2304x1024 .bf16 := m ((c.tc : Thread nD τ).loc main_arg1)
abbrev argV (c : Dev nD) : FVec Ideal S2304x1024 .bf16 := m ((c.tc : Thread nD τ).loc main_arg2)

/-- The head that is `e`-th in a point's block. -/
abbrev head (t : Fin cfg0.N) (e : Fin 4) : Fin 8 := ⟨t.val / 8 * 4 + e.val, by have := t.isLt; have : cfg0.N = 16 := rfl; omega⟩
/-- The query row of row `a` of a point's block. -/
abbrev row (t : Fin cfg0.N) (a : Fin 256) : Fin 2048 := ⟨t.val % 8 * 256 + a.val, by omega⟩
/-- The column of lane `i` of the block's `e`-th head. -/
abbrev lane (e : Fin 4) (i : Fin 128) : Fin 512 := ⟨e.val * 128 + i.val, by omega⟩

/-! ## A point's blocks -/

theorem q_block (c : Dev nD) (t : Fin cfg0.N) (a : Fin 256) (e : Fin 4) (i : Fin 128) :
    (iblk m c 0 t (ix2 a (lane e i)) : EReal) = argQ m c (ix2 (up (row t a)) (col (head t e) i)) := by
  have h : (win0_0.blk t).view.emb (ix2 a (lane e i)) = ix2 (up (row t a)) (col (head t e) i) := by blk_ext [block_at t]
  blk_simp [iblk]; rw [V_main_arg0 m c]; exact congrArg (argQ m c) h

theorem k_block (c : Dev nD) (t : Fin cfg0.N) (j : Fin 2304) (e : Fin 4) (i : Fin 128) :
    (iblk m c 1 t (ix2 j (lane e i)) : EReal) = argK m c (ix2 j (col (head t e) i)) := by
  have h : (win0_1.blk t).view.emb (ix2 j (lane e i)) = ix2 j (col (head t e) i) := by blk_ext [block_at t]
  blk_simp [iblk]; rw [V_main_arg1 m c]; exact congrArg (argK m c) h

theorem v_block (c : Dev nD) (t : Fin cfg0.N) (j : Fin 2304) (e : Fin 4) (i : Fin 128) :
    (iblk m c 2 t (ix2 j (lane e i)) : EReal) = argV m c (ix2 j (col (head t e) i)) := by
  have h : (win0_2.blk t).view.emb (ix2 j (lane e i)) = ix2 j (col (head t e) i) := by blk_ext [block_at t]
  blk_simp [iblk]; rw [V_main_arg2 m c]; exact congrArg (argV m c) h

/-- One head's columns of a block, loaded. -/
theorem head_columns {n : ℕ} (x : FVec Ideal ⟨2, ![n, 512]⟩ .bf16) (o : ℕ) (h) (e : Fin 4) (he : e.val * 128 = o) (a : Fin n) (i : Fin 128) :
    (View.ld (Val := Elt Ideal) (S := ⟨2, ![n, 512]⟩) (e' := .bf16) x (Rect.unit ![0, o] ![n, 128] h) : FVec Ideal ⟨2, ![n, 128]⟩ .bf16) (ix2 a i)
      = (x (ix2 a (lane e i)) : EReal) := by
  subst he
  refine congrArg x ?_
  blk_ext
  all_goals simp [LoadRect.idx, Rect.unit]

/-! ## The body's expressions at an index -/

section Payloads
variable (x0 : FVec Ideal S256x128 .bf16) (x1 x2 : FVec Ideal S2304x128 .bf16) (a : Fin 256) (j : Fin 2304) (i : Fin 128)

theorem scores_at : (k0_pay2 (F := Ideal) x0 x1 (ix2 a j) : EReal) = (∑ i, (x0 (ix2 a i) : EReal) * x1 (ix2 j i)) * scale := by
  pointwise [k0_pay2]

theorem top_at : (k0_pay3 (F := Ideal) x0 x1 (ix2 a 0) : EReal) = Finset.univ.fold max ⊥ fun j => (k0_pay2 (F := Ideal) x0 x1 (ix2 a j) : EReal) := by
  pointwise [k0_pay3]
  rw [Cert.AttnRefIdeal.Rows.bottom]

theorem exps_at : (k0_pay4 (F := Ideal) x0 x1 (ix2 a j) : EReal)
    = Ideal.exp (k0_pay2 (F := Ideal) x0 x1 (ix2 a j) - k0_pay3 (F := Ideal) x0 x1 (ix2 a 0)) := by
  pointwise [k0_pay4]

theorem total_at : (k0_pay5 (F := Ideal) x0 x1 (ix2 a 0) : EReal) = ∑ j, (k0_pay4 (F := Ideal) x0 x1 (ix2 a j) : EReal) := by
  pointwise [k0_pay5]

theorem out_at : (k0_pay6 (F := Ideal) x0 x1 x2 (ix2 a i) : EReal)
    = Ideal.div (∑ j, (k0_pay4 (F := Ideal) x0 x1 (ix2 a j) : EReal) * x2 (ix2 j i)) (k0_pay5 (F := Ideal) x0 x1 (ix2 a 0)) := by
  pointwise [k0_pay6]

theorem log_at : (k0_pay7 (F := Ideal) x0 x1 (ix2 a i) : EReal)
    = k0_pay3 (F := Ideal) x0 x1 (ix2 a 0) + Ideal.log (k0_pay5 (F := Ideal) x0 x1 (ix2 a 0)) := by
  pointwise [k0_pay7]

end Payloads

/-! ## The reference at an index -/

section Reference
open Cert.AttnFRefIdeal.Read
variable (q k v : FVec Ideal S2304x1024 .bf16)

theorem reference_score_at (h : Fin 8) (r : Fin 2048) (j : Fin 2304) :
    val_main_v9 (F := Ideal) q k (ix3 h r j) = score q k h r j :=
  Cert.AttnRefIdeal.Rows.v11_at q k h r j

theorem reference_weight_at (h : Fin 8) (r : Fin 2048) (j : Fin 2304) :
    val_main_v29 (F := Ideal) q k (ix3 h r j) = weight q k h r j :=
  Cert.AttnRefIdeal.Rows.v36_at q k h r j

theorem reference_out_at (r : Fin 2048) (h : Fin 8) (i : Fin 128) :
    (val_main_v33 (F := Ideal) q k v (ix2 r (col h i)) : EReal) = ∑ j, (v (ix2 j (col h i)) : EReal) * weight q k h r j := by
  pointwise [val_main_v33, val_main_v32, val_main_v31, val_main_v30, val_main_v6, val_main_v5]
  simp only [Cert.AttnRefIdeal.Rows.head_of, Cert.AttnRefIdeal.Rows.lane_of, Nat.div_add_mod', reference_weight_at]

theorem reference_log_at (r : Fin 2048) (h : Fin 8) (i : Fin 128) :
    (val_main_v34 (F := Ideal) q k (ix2 r (col h i)) : EReal) = Ideal.log (∑ j, Ideal.exp (score q k h r j)) := by
  pointwise [val_main_v34, val_main_v15, val_main_v14, val_main_v13, val_main_v12, val_main_v11, val_main_v10, val_main_cst_0]
  simp only [Cert.AttnRefIdeal.Rows.head_of, reference_score_at]

end Reference

/-! ## What a point stores, where the queries and keys are real numbers -/

/-- The queries and keys are real numbers. -/
structure Finite (c : Dev nD) : Prop where
  q : ∀ (r : Fin 2048) (h : Fin 8) (i : Fin 128), IsReal (argQ m c (ix2 (up r) (col h i)))
  k : ∀ (j : Fin 2304) (h : Fin 8) (i : Fin 128), IsReal (argK m c (ix2 j (col h i)))

/-- The precondition says so. -/
theorem finite_of_pre (hpre : @Cert.Pre_AttnFIdeal_finite_queries_keys Cert.Pre_finite_queries_keys.Gen.facts m) (c : Dev nD) : Finite m c := by
  obtain ⟨h1, h2⟩ := hpre c
  refine ⟨fun r h i => ?_, fun j h i => mask_real _ _ (ix2 j (col h i)) rfl (congrFun h2 (ix2 j (col h i)))⟩
  have e := mask_real _ _ (ix2 r (col h i)) rfl (congrFun h1 (ix2 r (col h i)))
  have e2 : extractStridedSlice Cert.Pre_finite_queries_keys.S2048x1024 ![0, 0] (argQ m c)
      Cert.Pre_finite_queries_keys.Gen.facts.slices_S2304x1024_S2048x1024_0_0 (ix2 r (col h i))
      = argQ m c (ix2 (up r) (col h i)) := by pointwise
  rw [← e2]; exact e

variable {m} {c : Dev nD} (fin : Finite m c)
include fin

theorem score_real (h : Fin 8) (r : Fin 2048) (j : Fin 2304) : IsReal (score (argQ m c) (argK m c) h r j) :=
  (IsReal.sum _ fun i => (fin.q r h i).mul (fin.k j h i)).mul ⟨_, by simp [Ideal.ofBits, Ideal.ieee]; rfl⟩

theorem top_real (h : Fin 8) (r : Fin 2048) : IsReal (top (argQ m c) (argK m c) h r) :=
  IsReal.fold_max (by decide) fun j => score_real fin h r j

omit fin in
theorem scores_block (t : Fin cfg0.N) (o : ℕ) (h h') (e : Fin 4) (he : e.val * 128 = o) (a : Fin 256) (j : Fin 2304) :
    (k0_pay2 (F := Ideal) (View.ld (iblk m c 0 t) (Rect.unit ![0, o] S256x128.size h)) (View.ld (iblk m c 1 t) (Rect.unit ![0, o] S2304x128.size h')) (ix2 a j) : EReal)
      = score (argQ m c) (argK m c) (head t e) (row t a) j := by
  refine (scores_at _ _ a j).trans (congrArg (· * scale) (Finset.sum_congr rfl fun i _ => congrArg₂ (· * ·) ?_ ?_))
  · exact (head_columns _ o h e he a i).trans (q_block m c t a e i)
  · exact (head_columns _ o h' e he j i).trans (k_block m c t j e i)

omit fin in
theorem top_block (t : Fin cfg0.N) (o : ℕ) (h h') (e : Fin 4) (he : e.val * 128 = o) (a : Fin 256) :
    (k0_pay3 (F := Ideal) (View.ld (iblk m c 0 t) (Rect.unit ![0, o] S256x128.size h)) (View.ld (iblk m c 1 t) (Rect.unit ![0, o] S2304x128.size h')) (ix2 a 0) : EReal)
      = top (argQ m c) (argK m c) (head t e) (row t a) := by
  refine (top_at _ _ a).trans ?_
  simp only [scores_block t o h h' e he]
  rfl

omit fin in
theorem total_block (t : Fin cfg0.N) (o : ℕ) (h h') (e : Fin 4) (he : e.val * 128 = o) (a : Fin 256) :
    (k0_pay5 (F := Ideal) (View.ld (iblk m c 0 t) (Rect.unit ![0, o] S256x128.size h)) (View.ld (iblk m c 1 t) (Rect.unit ![0, o] S2304x128.size h')) (ix2 a 0) : EReal)
      = ∑ x, Ideal.exp (score (argQ m c) (argK m c) (head t e) (row t a) x - top (argQ m c) (argK m c) (head t e) (row t a)) := by
  refine (total_at _ _ a).trans (Finset.sum_congr rfl fun x _ => (exps_at _ _ a x).trans ?_)
  rw [scores_block t o h h' e he, top_block t o h h' e he]

/-- A head's stored output is the reference's. -/
theorem out_block (t : Fin cfg0.N) (o : ℕ) (h h') (e : Fin 4) (he : e.val * 128 = o) (a : Fin 256) (i : Fin 128) :
    (k0_pay6 (F := Ideal) (View.ld (iblk m c 0 t) (Rect.unit ![0, o] S256x128.size h)) (View.ld (iblk m c 1 t) (Rect.unit ![0, o] S2304x128.size h'))
        (View.ld (iblk m c 2 t) (Rect.unit ![0, o] S2304x128.size h')) (ix2 a i) : EReal)
      = Cert.AttnFRefIdeal.Read.val_main_v33 (F := Ideal) (argQ m c) (argK m c) (argV m c) (ix2 (row t a) (col (head t e) i)) := by
  refine (out_at _ _ _ a i).trans (Eq.trans ?_ (reference_out_at _ _ _ (row t a) (head t e) i).symm)
  refine Eq.trans ?_ (out_eq (by decide) (score_real fin (head t e) (row t a)) (top_real fin (head t e) (row t a))
    fun j => argV m c (ix2 j (col (head t e) i)))
  refine congrArg₂ Ideal.div (Finset.sum_congr rfl fun j _ => congrArg₂ (· * ·) ((exps_at _ _ a j).trans ?_) ?_) (total_block t o h h' e he a)
  · rw [scores_block t o h h' e he, top_block t o h h' e he]
  · exact (head_columns _ o h' e he j i).trans (v_block m c t j e i)

/-- A head's stored log-sums are the reference's. -/
theorem log_block (t : Fin cfg0.N) (o : ℕ) (h h') (e : Fin 4) (he : e.val * 128 = o) (a : Fin 256) (i : Fin 128) :
    (k0_pay7 (F := Ideal) (View.ld (iblk m c 0 t) (Rect.unit ![0, o] S256x128.size h)) (View.ld (iblk m c 1 t) (Rect.unit ![0, o] S2304x128.size h')) (ix2 a i) : EReal)
      = Cert.AttnFRefIdeal.Read.val_main_v34 (F := Ideal) (argQ m c) (argK m c) (ix2 (row t a) (col (head t e) i)) := by
  refine (log_at _ _ a i).trans (Eq.trans ?_ (reference_log_at _ _ (row t a) (head t e) i).symm)
  rw [top_block t o h h' e he, total_block t o h h' e he]
  exact log_sum_eq (by decide) (score_real fin (head t e) (row t a)) (top_real fin (head t e) (row t a))

omit fin in
/-- Where a store's index lies in the array. -/
theorem stored_index (t : Fin cfg0.N) (o : ℕ) (h) (e : Fin 4) (he : e.val * 128 = o) (a : Fin 256) (i : Fin 128) :
    (win0_3.blk t).view.emb ((Rect.unit (s := S256x512) ![0, o] S256x128.size h).emb (ix2 a i)) = ix2 (row t a) (col (head t e) i) := by
  subst he
  blk_ext [block_at t]

theorem final_out : (dats m 0 c).arrAt 3 (cfgs 0).N
    = Cert.AttnFRefIdeal.Read.val_main_v33 (F := Ideal) (argQ m c) (argK m c) (argV m c) := by
  refine (dats m 0 c).arrAt_eq_of_covers 3 _ (by decide +kernel) fun t hf y => ?_
  blk_simp; rw [after0_3]
  refine View.canon_apply_of_pieces (fun y => Cert.AttnFRefIdeal.Read.val_main_v33 (F := Ideal) (argQ m c) (argK m c) (argV m c)
    ((win0_3.blk t).view.emb y)) _ ?_ y (cover0_3 _ _ _ _ y)
  have piece (o : ℕ) (h h') (e : Fin 4) (he : e.val * 128 = o) (z : S256x128.Idx) :
      (k0_pay6 (F := Ideal) (View.ld (iblk m c 0 t) (Rect.unit ![0, o] S256x128.size h)) (View.ld (iblk m c 1 t) (Rect.unit ![0, o] S2304x128.size h'))
          (View.ld (iblk m c 2 t) (Rect.unit ![0, o] S2304x128.size h')) z : EReal)
        = Cert.AttnFRefIdeal.Read.val_main_v33 (F := Ideal) (argQ m c) (argK m c) (argV m c)
            ((win0_3.blk t).view.emb ((Rect.unit (s := S256x512) ![0, o] S256x128.size h).emb z)) := by
    obtain ⟨a, i, rfl⟩ : ∃ (a : Fin 256) (i : Fin 128), z = ix2 a i := ⟨z 0, z 1, by blk_ext⟩
    rw [stored_index t o h e he]
    exact out_block fin t o h h' e he a i
  simp only [List.forall_mem_cons, List.not_mem_nil, false_imp_iff, implies_true, and_true]
  exact ⟨piece 384 _ _ 3 rfl, piece 256 _ _ 2 rfl, piece 128 _ _ 1 rfl, piece 0 _ _ 0 rfl⟩

theorem final_log : (dats m 0 c).arrAt 4 (cfgs 0).N
    = Cert.AttnFRefIdeal.Read.val_main_v34 (F := Ideal) (argQ m c) (argK m c) := by
  refine (dats m 0 c).arrAt_eq_of_covers 4 _ (by decide +kernel) fun t hf y => ?_
  blk_simp; rw [after0_4]
  refine View.canon_apply_of_pieces (fun y => Cert.AttnFRefIdeal.Read.val_main_v34 (F := Ideal) (argQ m c) (argK m c)
    ((win0_4.blk t).view.emb y)) _ ?_ y (cover0_4 _ _ _ _ y)
  have piece (o : ℕ) (h h') (e : Fin 4) (he : e.val * 128 = o) (z : S256x128.Idx) :
      (k0_pay7 (F := Ideal) (View.ld (iblk m c 0 t) (Rect.unit ![0, o] S256x128.size h)) (View.ld (iblk m c 1 t) (Rect.unit ![0, o] S2304x128.size h')) z : EReal)
        = Cert.AttnFRefIdeal.Read.val_main_v34 (F := Ideal) (argQ m c) (argK m c)
            ((win0_4.blk t).view.emb ((Rect.unit (s := S256x512) ![0, o] S256x128.size h).emb z)) := by
    obtain ⟨a, i, rfl⟩ : ∃ (a : Fin 256) (i : Fin 128), z = ix2 a i := ⟨z 0, z 1, by blk_ext⟩
    refine (log_block fin t o h h' e he a i).trans (congrArg _ ?_)
    exact (stored_index t o h e he a i).symm
  simp only [List.forall_mem_cons, List.not_mem_nil, false_imp_iff, implies_true, and_true]
  exact ⟨piece 384 _ _ 3 rfl, piece 256 _ _ 2 rfl, piece 128 _ _ 1 rfl, piece 0 _ _ 0 rfl⟩

omit fin in
theorem reference_frame : @Cert.quiescent_AttnFRefIdeal Cert.AttnFRefIdeal.Gen.facts := fun m ρ _ =>
  (θ_run Cert.AttnFRefIdeal.defs _ _).mono (fun r h => ⟨fun c => (h c).2.2, sem_eq_zero_of_no_sems (by decide) r.2⟩)
    (Cert.AttnFRefIdeal.Value.run m ρ)

omit fin in
/-- The kernel's output and log-sums are the reference's, over real queries and keys. -/
theorem claim : @Cert.algebraic_AttnFIdeal_AttnFRefIdeal_pre_finite_queries_keys Cert.AttnFIdeal.Gen.facts Cert.AttnFRefIdeal.Gen.facts Cert.Pre_finite_queries_keys.Gen.facts := by
  pair_intro
  pick_goal 3
  · exact fun c => Cert.AttnFRefIdeal.Read.val_main_v33 (F := Ideal) (argQ m c) (argK m c) (argV m c)
  pick_goal 3
  · exact fun c => Cert.AttnFRefIdeal.Read.val_main_v34 (F := Ideal) (argQ m c) (argK m c)
  · exact (θ_run _ _ _).mono (fun r h c => ⟨(h c).1.trans (final_out (finite_of_pre m hpre c)), (h c).2.1.trans (final_log (finite_of_pre m hpre c)), (h c).2.2⟩)
      (Cert.AttnFIdeal.Value.run_blocks m g)
  · refine (θ_run _ _ _).mono (fun r h c => ?_) (Cert.AttnFRefIdeal.Value.run m' g')
    obtain ⟨h1, h2, rest⟩ := h c
    obtain ⟨a0, a1, a2⟩ := hagree c
    refine ⟨h1.trans ((Cert.AttnFRefIdeal.Read.val_main_v33_eq _ _ _).trans ?_), h2.trans ((Cert.AttnFRefIdeal.Read.val_main_v34_eq _ _).trans ?_), rest⟩
    · rw [a0, a1, a2]
    · rw [a0, a1]

end Cert.AttnFIdeal.Forward
-- ==== Proof.ConvGrad.lean ====
/- The gradient of the short convolution: of its three parts and of its taps. -/
module

public import proofs.«01_k».proof.Defs
public import proofs.«01_k».proof.Proof.Shift
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.ConvRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ConvIdeal.Gradient

open Cert.ConvIdeal Cert.ConvIdeal.Gen Cert.Shift

variable (m : (ℓ : Loc nD τ sig) → Buf (Elt Ideal) ℓ)

/-- The block of every window at every grid point: the gate, factor and value columns lie 1024 apart. -/
theorem block_at : ∀ t : Fin cfg0.N, win0_0.index t = ![0, t.val] ∧ win0_1.index t = ![0, 4 + t.val] ∧ win0_2.index t = ![0, 8 + t.val]
    ∧ win0_3.index t = ![0, t.val] ∧ win0_4.index t = ![0, t.val] ∧ win0_5.index t = ![0, 0, t.val] ∧ win0_6.index t = ![0, t.val] :=
  (by decide +kernel : ∀ t : Fin grid0.N, _)

abbrev argP (c : Dev nD) : FVec Ideal S2048x3072 .f32 := m ((c.tc : Thread nD τ).loc main_arg0)
abbrev argW (c : Dev nD) : FVec Ideal S3x1024 .f32 := m ((c.tc : Thread nD τ).loc main_arg1)
abbrev argDY (c : Dev nD) : FVec Ideal S2048x1024 .f32 := m ((c.tc : Thread nD τ).loc main_arg2)

/-- The column of column `x` of a point's block. -/
abbrev col (t : Fin cfg0.N) (x : Fin 256) : Fin 1024 := ⟨t.val * 256 + x.val, by have := t.isLt; have : cfg0.N = 4 := rfl; omega⟩

theorem gate_block (c : Dev nD) (t : Fin cfg0.N) (r : Fin 2048) (x : Fin 256) :
    (iblk m c 0 t (ix2 r x) : EReal) = argP m c (ix2 r (gate (col t x))) := by
  have e : (win0_0.blk t).view.emb (ix2 r x) = ix2 r (gate (col t x)) := by blk_ext [block_at t]
  blk_simp [iblk]; rw [V_main_arg0 m c]; exact congrArg (argP m c) e

theorem factor_block (c : Dev nD) (t : Fin cfg0.N) (r : Fin 2048) (x : Fin 256) :
    (iblk m c 1 t (ix2 r x) : EReal) = argP m c (ix2 r (factor (col t x))) := by
  have e : (win0_1.blk t).view.emb (ix2 r x) = ix2 r (factor (col t x)) := by blk_ext [block_at t]
  blk_simp [iblk]; rw [V_main_arg0 m c]; exact congrArg (argP m c) e

theorem value_block (c : Dev nD) (t : Fin cfg0.N) (r : Fin 2048) (x : Fin 256) :
    (iblk m c 2 t (ix2 r x) : EReal) = argP m c (ix2 r (value (col t x))) := by
  have e : (win0_2.blk t).view.emb (ix2 r x) = ix2 r (value (col t x)) := by blk_ext [block_at t]
  blk_simp [iblk]; rw [V_main_arg0 m c]; exact congrArg (argP m c) e

theorem tap_block (c : Dev nD) (t : Fin cfg0.N) (k : Fin 3) (x : Fin 256) :
    (iblk m c 3 t (ix2 k x) : EReal) = argW m c (ix2 k (col t x)) := by
  have e : (win0_3.blk t).view.emb (ix2 k x) = ix2 k (col t x) := by blk_ext [block_at t]
  blk_simp [iblk]; rw [V_main_arg1 m c]; exact congrArg (argW m c) e

theorem dy_block (c : Dev nD) (t : Fin cfg0.N) (r : Fin 2048) (x : Fin 256) :
    (iblk m c 4 t (ix2 r x) : EReal) = argDY m c (ix2 r (col t x)) := by
  have e : (win0_4.blk t).view.emb (ix2 r x) = ix2 r (col t x) := by blk_ext [block_at t]
  blk_simp [iblk]; rw [V_main_arg2 m c]; exact congrArg (argDY m c) e

section stored
variable (u v dy b : FVec Ideal S2048x256 .f32) (w : FVec Ideal S3x256 .f32)

/-- The gate's stored gradient. -/
theorem gate_stored (r : Fin 2048) (x : Fin 256) :
    (k0_pay13 (F := Ideal) dy (k0_pay7 u v w) (ix3 0 r x) : EReal)
      = dy (ix2 r x) * (before (fun s => w (ix2 0 x) * (u (ix2 s x) * v (ix2 s x))) r + w (ix2 1 x) * (u (ix2 r x) * v (ix2 r x))
          + after (fun s => w (ix2 2 x) * (u (ix2 s x) * v (ix2 s x))) r) := by
  pointwise [k0_pay13, k0_pay7, k0_pay6, k0_pay5, k0_pay4]
  rw [select_before, select_after]

/-- The gradient of the product of factor and value. -/
theorem product_stored (r : Fin 2048) (x : Fin 256) :
    (k0_pay12 (F := Ideal) w (k0_pay8 dy b) (k0_pay9 w) (k0_pay10 dy b) (0 : EReal) k0_pay11 (ix2 r x) : EReal)
      = after (fun s => w (ix2 0 x) * (dy (ix2 s x) * b (ix2 s x))) r + w (ix2 1 x) * (dy (ix2 r x) * b (ix2 r x))
          + before (fun s => w (ix2 2 x) * (dy (ix2 s x) * b (ix2 s x))) r := by
  pointwise [k0_pay12, k0_pay8, k0_pay9, k0_pay10, k0_pay11]
  rw [select_before, select_after]

theorem factor_stored (r : Fin 2048) (x : Fin 256) :
    (k0_pay14 (F := Ideal) v w (k0_pay8 dy b) (k0_pay9 w) (k0_pay10 dy b) (FloatOps.ofBits .f32 0x00000000#32) k0_pay11 (ix3 0 r x) : EReal)
      = (after (fun s => w (ix2 0 x) * (dy (ix2 s x) * b (ix2 s x))) r + w (ix2 1 x) * (dy (ix2 r x) * b (ix2 r x))
          + before (fun s => w (ix2 2 x) * (dy (ix2 s x) * b (ix2 s x))) r) * v (ix2 r x) := by
  pointwise [k0_pay14]
  exact congrArg (· * (v (ix2 r x) : EReal)) (product_stored dy b w r x)

theorem value_stored (r : Fin 2048) (x : Fin 256) :
    (k0_pay15 (F := Ideal) u w (k0_pay8 dy b) (k0_pay9 w) (k0_pay10 dy b) (FloatOps.ofBits .f32 0x00000000#32) k0_pay11 (ix3 0 r x) : EReal)
      = (after (fun s => w (ix2 0 x) * (dy (ix2 s x) * b (ix2 s x))) r + w (ix2 1 x) * (dy (ix2 r x) * b (ix2 r x))
          + before (fun s => w (ix2 2 x) * (dy (ix2 s x) * b (ix2 s x))) r) * u (ix2 r x) := by
  pointwise [k0_pay15]
  exact congrArg (· * (u (ix2 r x) : EReal)) (product_stored dy b w r x)

theorem before_stored (r : Fin 2048) (x : Fin 256) :
    (k0_pay5 (F := Ideal) u v (ix2 r x) : EReal) = before (fun s => u (ix2 s x) * v (ix2 s x)) r := by
  pointwise [k0_pay5, k0_pay4]
  rw [select_before]

theorem after_stored (r : Fin 2048) (x : Fin 256) :
    (k0_pay6 (F := Ideal) u v (ix2 r x) : EReal) = after (fun s => u (ix2 s x) * v (ix2 s x)) r := by
  pointwise [k0_pay6, k0_pay4]
  rw [select_after]

/-- The three taps' stored gradients. -/
theorem tap0_stored (x : Fin 256) : (k0_pay1 (F := Ideal) (k0_pay17 (k0_pay5 u v) (k0_pay8 dy b)) (ix2 0 x) : EReal)
    = ∑ r : Fin 2048, dy (ix2 r x) * b (ix2 r x) * before (fun s => u (ix2 s x) * v (ix2 s x)) r := by
  pointwise [k0_pay1, k0_pay17, k0_pay8]
  simp only [before_stored]

theorem tap1_stored (x : Fin 256) : (k0_pay2 (F := Ideal) (k0_pay4 u v) (k0_pay8 dy b) (ix2 0 x) : EReal)
    = ∑ r : Fin 2048, dy (ix2 r x) * b (ix2 r x) * (u (ix2 r x) * v (ix2 r x)) := by
  pointwise [k0_pay2, k0_pay4, k0_pay8]

theorem tap2_stored (x : Fin 256) : (k0_pay3 (F := Ideal) (k0_pay6 u v) (k0_pay8 dy b) (ix2 0 x) : EReal)
    = ∑ r : Fin 2048, dy (ix2 r x) * b (ix2 r x) * after (fun s => u (ix2 s x) * v (ix2 s x)) r := by
  pointwise [k0_pay3, k0_pay8]
  simp only [after_stored]

theorem zero_stored (k : Fin 8) (x : Fin 256) : (k0_pay16 (F := Ideal) (ix2 k x) : EReal) = 0 := by
  pointwise [k0_pay16]

end stored

/-- A row stored alone is where its index says, -/
theorem row_index (o : ℕ) (h) (k : Fin 8) (hk : k.val = o) (x : Fin 256) :
    (Rect.unit (s := S8x256) ![o, 0] S1x256.size h).emb (ix2 0 x) = ix2 k x := by
  subst hk
  blk_ext

/-- and nowhere else. -/
theorem row_away (o : ℕ) (h) (k : Fin 8) (hk : k.val < o ∨ o + 1 ≤ k.val) (x : Fin 256) :
    ix2 k x ∉ (Rect.unit (s := S8x256) ![o, 0] S1x256.size h).set :=
  Rect.not_mem_set_of_axis _ _ 0 o 1 rfl rfl rfl hk

/-- A row stored over other stores is read at its own index, -/
theorem row_over (o : ℕ) (h) (p : FVec Ideal S1x256 .f32) (L : List (View.Piece (Elt Ideal) S8x256 .f32)) (k : Fin 8) (hk : k.val = o) (x : Fin 256) :
    View.canon (⟨Rect.unit (s := S8x256) ![o, 0] S1x256.size h, p⟩ :: L) (ix2 k x) = p (ix2 0 x) := by
  rw [← row_index o h k hk x]
  exact View.canon_cons_emb _ _ _ _

/-- and the earlier stores everywhere else. -/
theorem row_under (o : ℕ) (h) (p : FVec Ideal S1x256 .f32) (L : List (View.Piece (Elt Ideal) S8x256 .f32)) (k : Fin 8)
    (hk : k.val < o ∨ o + 1 ≤ k.val) (x : Fin 256) :
    View.canon (⟨Rect.unit (s := S8x256) ![o, 0] S1x256.size h, p⟩ :: L) (ix2 k x) = View.canon L (ix2 k x) :=
  View.canon_cons_of_not_mem _ _ (row_away o h k hk x)

section reference
open Cert.ConvRefIdeal.Read
variable (p : FVec Ideal S2048x3072 .f32) (w : FVec Ideal S3x1024 .f32) (dy : FVec Ideal S2048x1024 .f32)

theorem convolved_at (r : Fin 2048) (x : Fin 1024) :
    (val_main_v27 (F := Ideal) p w (ix2 r x) : EReal)
      = before (fun s => w (ix2 0 x) * (p (ix2 s (factor x)) * p (ix2 s (value x)))) r
          + w (ix2 1 x) * (p (ix2 r (factor x)) * p (ix2 r (value x)))
          + after (fun s => w (ix2 2 x) * (p (ix2 s (factor x)) * p (ix2 s (value x)))) r := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  exact congrArg₂ (· + ·) (congrArg₂ (· + ·)
    (before_mul (fun s => (p (ix2 s (factor x)) : EReal) * p (ix2 s (value x))) (w (ix2 0 x)) r) (mul_comm _ _))
    (after_mul (fun s => (p (ix2 s (factor x)) : EReal) * p (ix2 s (value x))) (w (ix2 2 x)) r)

/-- A product's factors in the kernel's order. -/
theorem turned (a b c : EReal) : a * b * c = c * (b * a) := by rw [mul_comm, mul_comm a b]

theorem product_at (r : Fin 2048) (x : Fin 1024) :
    (val_main_v64 (F := Ideal) p w dy (ix2 r x) : EReal)
      = after (fun s => w (ix2 0 x) * (dy (ix2 s x) * p (ix2 s (gate x)))) r + w (ix2 1 x) * (dy (ix2 r x) * p (ix2 r (gate x)))
          + before (fun s => w (ix2 2 x) * (dy (ix2 s x) * p (ix2 s (gate x)))) r := by
  pointwise [val_main_v64, val_main_v63, val_main_v62, val_main_v61, val_main_v60, val_main_v59, val_main_v58, val_main_v57, val_main_v52, val_main_v51, val_main_v43, val_main_v42, val_main_v35, val_main_v34, val_main_v29, val_main_v24, val_main_v23, val_main_v22, val_main_v18, val_main_v17, val_main_v16, val_main_v13, val_main_v12, val_main_v11, val_main_v0, val_main_cst_11, val_main_cst_12]
  refine (congrArg₂ (· + ·) (congrArg₂ (· + ·) (turned _ _ _)
    (before_pad (fun s => (p (ix2 s (gate x)) : EReal) * dy (ix2 s x) * w (ix2 2 x)) _ (fun s => turned _ _ _) r))
    (after_pad (fun s => (p (ix2 s (gate x)) : EReal) * dy (ix2 s x) * w (ix2 0 x)) _ (fun s => turned _ _ _) r)).trans ?_
  rw [add_comm, ← add_assoc]

theorem gate_at (r : Fin 2048) (x : Fin 1024) : (val_main_v71 (F := Ideal) p w dy (ix3 0 r x) : EReal)
    = dy (ix2 r x) * val_main_v27 (F := Ideal) p w (ix2 r x) := by
  pointwise [val_main_v71, val_main_v70, val_main_v69, val_main_v68, val_main_v67, val_main_v66, val_main_v65, val_main_v30, val_main_v2, val_main_v1]

theorem factor_at (r : Fin 2048) (x : Fin 1024) : (val_main_v71 (F := Ideal) p w dy (ix3 1 r x) : EReal)
    = val_main_v64 (F := Ideal) p w dy (ix2 r x) * p (ix2 r (value x)) := by
  pointwise [val_main_v71, val_main_v70, val_main_v69, val_main_v68, val_main_v67, val_main_v66, val_main_v65, val_main_v30, val_main_v2, val_main_v1]

theorem value_at (r : Fin 2048) (x : Fin 1024) : (val_main_v71 (F := Ideal) p w dy (ix3 2 r x) : EReal)
    = val_main_v64 (F := Ideal) p w dy (ix2 r x) * p (ix2 r (factor x)) := by
  pointwise [val_main_v71, val_main_v70, val_main_v69, val_main_v68, val_main_v67, val_main_v66, val_main_v65, val_main_v30, val_main_v2, val_main_v1]
  exact mul_comm _ _

theorem before_at (r : Fin 2048) (x : Fin 1024) :
    (val_main_v6 (F := Ideal) p (ix2 r x) : EReal) = before (fun s => p (ix2 s (factor x)) * p (ix2 s (value x))) r := by
  pointwise [val_main_v6, val_main_v5, val_main_v4, val_main_v3, val_main_v2, val_main_v1, val_main_cst]
  rfl

theorem after_at (r : Fin 2048) (x : Fin 1024) :
    (val_main_v9 (F := Ideal) p (ix2 r x) : EReal) = after (fun s => p (ix2 s (factor x)) * p (ix2 s (value x))) r := by
  pointwise [val_main_v9, val_main_v8, val_main_v4, val_main_v3, val_main_v2, val_main_v1, val_main_cst]
  rfl

/-- The three taps' products, row by row. -/
theorem tap0_at (r : Fin 2048) (x : Fin 1024) : (val_main_v48 (F := Ideal) p dy (ix2 r x) : EReal)
    = dy (ix2 r x) * p (ix2 r (gate x)) * before (fun s => p (ix2 s (factor x)) * p (ix2 s (value x))) r := by
  pointwise [val_main_v48, val_main_v29, val_main_v0]
  rw [before_at, mul_comm, mul_comm (dy (ix2 r x) : EReal)]

theorem tap1_at (r : Fin 2048) (x : Fin 1024) : (val_main_v39 (F := Ideal) p dy (ix2 r x) : EReal)
    = dy (ix2 r x) * p (ix2 r (gate x)) * (p (ix2 r (factor x)) * p (ix2 r (value x))) := by
  pointwise [val_main_v39, val_main_v29, val_main_v3, val_main_v2, val_main_v1, val_main_v0]
  rw [mul_comm, mul_comm (dy (ix2 r x) : EReal)]

theorem tap2_at (r : Fin 2048) (x : Fin 1024) : (val_main_v31 (F := Ideal) p dy (ix2 r x) : EReal)
    = dy (ix2 r x) * p (ix2 r (gate x)) * after (fun s => p (ix2 s (factor x)) * p (ix2 s (value x))) r := by
  pointwise [val_main_v31, val_main_v29, val_main_v0]
  rw [after_at, mul_comm, mul_comm (dy (ix2 r x) : EReal)]

theorem taps_at (k : Fin 8) (x : Fin 1024) : (val_main_v73 (F := Ideal) p dy (ix2 k x) : EReal)
    = if k.val = 2 then ∑ r : Fin 2048, (val_main_v31 (F := Ideal) p dy (ix2 r x) : EReal)
      else if k.val = 1 then ∑ r : Fin 2048, (val_main_v39 (F := Ideal) p dy (ix2 r x) : EReal)
      else if k.val = 0 then ∑ r : Fin 2048, (val_main_v48 (F := Ideal) p dy (ix2 r x) : EReal) else 0 := by
  pointwise [val_main_v73, val_main_v72, val_main_v56, val_main_v55, val_main_v54, val_main_v53, val_main_v50, val_main_v49, val_main_v47, val_main_v46, val_main_v45, val_main_v44, val_main_v41, val_main_v40, val_main_v38, val_main_v37, val_main_v36, val_main_v33, val_main_v32, val_main_cst_2, val_main_cst_3, val_main_cst_4, val_main_cst_5, val_main_cst_6, val_main_cst_7, val_main_cst_8, val_main_cst_9, val_main_cst_10, val_main_cst_13]
  simp only [Fin.sum_univ_one]
  split_ifs <;> first | omega | simp only [zero_add, add_zero]

end reference

/-- Where a stored index lies in the array. -/
theorem stored_index (t : Fin cfg0.N) (o : ℕ) (h) (k : Fin 3) (hk : k.val = o) (r : Fin 2048) (x : Fin 256) :
    (win0_5.blk t).view.emb ((Rect.unit (s := S3x2048x256) ![o, 0, 0] S1x2048x256.size h).emb (ix3 0 r x)) = ix3 k r (col t x) := by
  subst hk
  blk_ext [block_at t]

theorem final (c : Dev nD) : (dats m 0 c).arrAt 5 (cfgs 0).N
    = Cert.ConvRefIdeal.Read.val_main_v71 (F := Ideal) (argP m c) (argW m c) (argDY m c) := by
  refine (dats m 0 c).arrAt_eq_of_covers 5 _ (by decide +kernel) fun t hf y => ?_
  blk_simp; rw [after0_5]; unfold outsAt0; frame_out
  refine View.canon_apply_of_pieces (fun y => Cert.ConvRefIdeal.Read.val_main_v71 (F := Ideal) (argP m c) (argW m c) (argDY m c)
    ((win0_5.blk t).view.emb y)) _ ?_ y ?_
  pick_goal 2
  · exact View.cover_of_tiledL (s := S3x2048x256) _ S1x2048x256.size (by sl_kernel_rfl) y
  have coords (z : S1x2048x256.Idx) : ∃ (r : Fin 2048) (x : Fin 256), z = ix3 0 r x := ⟨z 1, z 2, by blk_ext⟩
  simp only [List.forall_mem_cons, List.not_mem_nil, false_imp_iff, implies_true, and_true]
  refine ⟨fun z => ?_, fun z => ?_, fun z => ?_⟩
  · obtain ⟨r, x, rfl⟩ := coords z
    refine (value_stored _ _ _ _ r x).trans (Eq.trans ?_ (congrArg _ (stored_index t 2 _ 2 rfl r x).symm))
    rw [value_at, product_at]
    simp only [gate_block, factor_block, value_block, tap_block, dy_block]
  · obtain ⟨r, x, rfl⟩ := coords z
    refine (factor_stored _ _ _ _ r x).trans (Eq.trans ?_ (congrArg _ (stored_index t 1 _ 1 rfl r x).symm))
    rw [factor_at, product_at]
    simp only [gate_block, factor_block, value_block, tap_block, dy_block]
  · obtain ⟨r, x, rfl⟩ := coords z
    refine (gate_stored _ _ _ _ r x).trans (Eq.trans ?_ (congrArg _ (stored_index t 0 _ 0 rfl r x).symm))
    rw [gate_at, convolved_at]
    simp only [gate_block, factor_block, value_block, tap_block, dy_block]

theorem final_taps (c : Dev nD) : (dats m 0 c).arrAt 6 (cfgs 0).N
    = Cert.ConvRefIdeal.Read.val_main_v73 (F := Ideal) (argP m c) (argDY m c) := by
  refine (dats m 0 c).arrAt_eq_of_covers 6 _ (by decide +kernel) fun t hf y => ?_
  blk_simp; rw [after0_6]; unfold outsAt0; frame_out
  obtain ⟨k, x, rfl⟩ : ∃ (k : Fin 8) (x : Fin 256), y = ix2 k x := ⟨y 0, y 1, by blk_ext⟩
  have e : (win0_6.blk t).view.emb (ix2 k x) = ix2 k (col t x) := by blk_ext [block_at t]
  rw [e, taps_at]
  by_cases k2 : k.val = 2
  · rw [if_pos k2]
    refine (row_over 2 _ _ _ k k2 x).trans ((tap2_stored _ _ _ _ x).trans ?_)
    simp only [gate_block, factor_block, value_block, dy_block, tap2_at]
  rw [if_neg k2]
  refine (row_under 2 _ _ _ k (by omega) x).trans ?_
  by_cases k1 : k.val = 1
  · rw [if_pos k1]
    refine (row_over 1 _ _ _ k k1 x).trans ((tap1_stored _ _ _ _ x).trans ?_)
    simp only [gate_block, factor_block, value_block, dy_block, tap1_at]
  rw [if_neg k1]
  refine (row_under 1 _ _ _ k (by omega) x).trans ?_
  by_cases k0 : k.val = 0
  · rw [if_pos k0]
    refine (row_over 0 _ _ _ k k0 x).trans ((tap0_stored _ _ _ _ x).trans ?_)
    simp only [gate_block, factor_block, value_block, dy_block, tap0_at]
  rw [if_neg k0]
  refine (row_under 0 _ _ _ k (by omega) x).trans ?_
  exact (congrFun (View.canon_unit_zero (by funext a; fin_cases a <;> rfl) _ _) (ix2 k x)).trans (zero_stored k x)

theorem reference_frame : @Cert.quiescent_ConvRefIdeal Cert.ConvRefIdeal.Gen.facts := fun m ρ _ =>
  (θ_run Cert.ConvRefIdeal.defs _ _).mono (fun r h => ⟨fun c => (h c).2.2, sem_eq_zero_of_no_sems (by decide) r.2⟩)
    (Cert.ConvRefIdeal.Value.run m ρ)

theorem claim : @Cert.algebraic_ConvIdeal_ConvRefIdeal Cert.ConvIdeal.Gen.facts Cert.ConvRefIdeal.Gen.facts := by
  pair_intro
  pick_goal 3
  · exact fun c => Cert.ConvRefIdeal.Read.val_main_v71 (F := Ideal) (argP m c) (argW m c) (argDY m c)
  pick_goal 3
  · exact fun c => Cert.ConvRefIdeal.Read.val_main_v73 (F := Ideal) (argP m c) (argDY m c)
  · exact (θ_run _ _ _).mono (fun r h c => ⟨(h c).1.trans (final m c), (h c).2.1.trans (final_taps m c), (h c).2.2⟩)
      (Cert.ConvIdeal.Value.run_blocks m g)
  · refine (θ_run _ _ _).mono (fun r h c => ?_) (Cert.ConvRefIdeal.Value.run m' g')
    obtain ⟨h1, h2, rest⟩ := h c
    obtain ⟨a0, a1, a2⟩ := hagree c
    refine ⟨h1.trans ((Cert.ConvRefIdeal.Read.val_main_v71_eq _ _).trans ?_), h2.trans ((Cert.ConvRefIdeal.Read.val_main_v73_eq _ _).trans ?_), rest⟩
    · rw [a0, a1, a2]
    · rw [a0, a2]

end Cert.ConvIdeal.Gradient
-- ==== Proof.ConvOutForward.lean ====
/- The short convolution, column tile by column tile. -/
module

public import proofs.«01_k».proof.Defs
public import proofs.«01_k».proof.Proof.Shift
public import proofs.«01_k».proof.Proof.Gen.ConvOutIdeal.Frame
public import proofs.«01_k».proof.Proof.Gen.ConvOutIdeal.Value
public import proofs.«01_k».proof.Proof.Gen.ConvOutRefIdeal.Run
public import proofs.«01_k».proof.Proof.Gen.ConvOutRefIdeal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ConvOutIdeal.Forward

open Cert.ConvOutIdeal Cert.ConvOutIdeal.Gen Cert.Shift

variable (m : (ℓ : Loc nD τ sig) → Buf (Elt Ideal) ℓ)

/-- The block of every window at every grid point: the gate, factor and value columns lie 1024 apart. -/
theorem block_at : ∀ t : Fin cfg0.N, win0_0.index t = ![0, t.val] ∧ win0_1.index t = ![0, 4 + t.val] ∧ win0_2.index t = ![0, 8 + t.val]
    ∧ win0_3.index t = ![0, t.val] ∧ win0_4.index t = ![0, t.val] :=
  (by decide +kernel : ∀ t : Fin grid0.N, _)

abbrev argP (c : Dev nD) : FVec Ideal S2048x3072 .f32 := m ((c.tc : Thread nD τ).loc main_arg0)
abbrev argW (c : Dev nD) : FVec Ideal S3x1024 .f32 := m ((c.tc : Thread nD τ).loc main_arg1)

/-- The column of column `x` of a point's block. -/
abbrev col (t : Fin cfg0.N) (x : Fin 256) : Fin 1024 := ⟨t.val * 256 + x.val, by have := t.isLt; have : cfg0.N = 4 := rfl; omega⟩

theorem gate_block (c : Dev nD) (t : Fin cfg0.N) (r : Fin 2048) (x : Fin 256) :
    (iblk m c 0 t (ix2 r x) : EReal) = argP m c (ix2 r (gate (col t x))) := by
  have e : (win0_0.blk t).view.emb (ix2 r x) = ix2 r (gate (col t x)) := by blk_ext [block_at t]
  blk_simp [iblk]; rw [V_main_arg0 m c]; exact congrArg (argP m c) e

theorem factor_block (c : Dev nD) (t : Fin cfg0.N) (r : Fin 2048) (x : Fin 256) :
    (iblk m c 1 t (ix2 r x) : EReal) = argP m c (ix2 r (factor (col t x))) := by
  have e : (win0_1.blk t).view.emb (ix2 r x) = ix2 r (factor (col t x)) := by blk_ext [block_at t]
  blk_simp [iblk]; rw [V_main_arg0 m c]; exact congrArg (argP m c) e

theorem value_block (c : Dev nD) (t : Fin cfg0.N) (r : Fin 2048) (x : Fin 256) :
    (iblk m c 2 t (ix2 r x) : EReal) = argP m c (ix2 r (value (col t x))) := by
  have e : (win0_2.blk t).view.emb (ix2 r x) = ix2 r (value (col t x)) := by blk_ext [block_at t]
  blk_simp [iblk]; rw [V_main_arg0 m c]; exact congrArg (argP m c) e

theorem tap_block (c : Dev nD) (t : Fin cfg0.N) (k : Fin 3) (x : Fin 256) :
    (iblk m c 3 t (ix2 k x) : EReal) = argW m c (ix2 k (col t x)) := by
  have e : (win0_3.blk t).view.emb (ix2 k x) = ix2 k (col t x) := by blk_ext [block_at t]
  blk_simp [iblk]; rw [V_main_arg1 m c]; exact congrArg (argW m c) e

theorem stored_at (u v b : FVec Ideal S2048x256 .f32) (w : FVec Ideal S3x256 .f32) (r : Fin 2048) (x : Fin 256) :
    (k0_pay1 (F := Ideal) u v w b (ix2 r x) : EReal)
      = b (ix2 r x) * (before (fun s => w (ix2 0 x) * (u (ix2 s x) * v (ix2 s x))) r + w (ix2 1 x) * (u (ix2 r x) * v (ix2 r x))
          + after (fun s => w (ix2 2 x) * (u (ix2 s x) * v (ix2 s x))) r) := by
  pointwise [k0_pay1]
  rw [select_before, select_after]

open Cert.ConvOutRefIdeal.Read in
theorem reference_at (p : FVec Ideal S2048x3072 .f32) (w : FVec Ideal S3x1024 .f32) (r : Fin 2048) (x : Fin 1024) :
    (val_main_v27 (F := Ideal) p w (ix2 r x) : EReal)
      = p (ix2 r (gate x)) * (before (fun s => w (ix2 0 x) * (p (ix2 s (factor x)) * p (ix2 s (value x)))) r
          + w (ix2 1 x) * (p (ix2 r (factor x)) * p (ix2 r (value x)))
          + after (fun s => w (ix2 2 x) * (p (ix2 s (factor x)) * p (ix2 s (value x)))) r) := by
  pointwise [val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1,
    val_main_v0, val_main_cst]
  exact congrArg (p (ix2 r (gate x)) * ·) (congrArg₂ (· + ·) (congrArg₂ (· + ·)
    (before_mul (fun s => (p (ix2 s (factor x)) : EReal) * p (ix2 s (value x))) (w (ix2 0 x)) r) (mul_comm _ _))
    (after_mul (fun s => (p (ix2 s (factor x)) : EReal) * p (ix2 s (value x))) (w (ix2 2 x)) r))

theorem final (c : Dev nD) : (dats m 0 c).arrAt 4 (cfgs 0).N
    = Cert.ConvOutRefIdeal.Read.val_main_v27 (F := Ideal) (argP m c) (argW m c) := by
  refine (dats m 0 c).arrAt_eq_of_covers 4 _ (by decide +kernel) fun t hf y => ?_
  blk_simp; rw [after0_4]
  obtain ⟨r, x, rfl⟩ : ∃ (r : Fin 2048) (x : Fin 256), y = ix2 r x := ⟨y 0, y 1, by blk_ext⟩
  have e : (win0_4.blk t).view.emb (ix2 r x) = ix2 r (col t x) := by blk_ext [block_at t]
  rw [e, reference_at]
  frame_out
  refine (stored_at _ _ _ _ r x).trans ?_
  simp only [gate_block, factor_block, value_block, tap_block]

theorem reference_frame : @Cert.quiescent_ConvOutRefIdeal Cert.ConvOutRefIdeal.Gen.facts := fun m ρ _ =>
  (θ_run Cert.ConvOutRefIdeal.defs _ _).mono (fun r h => ⟨fun c => (h c).2, sem_eq_zero_of_no_sems (by decide) r.2⟩)
    (Cert.ConvOutRefIdeal.Value.run m ρ)

theorem claim : @Cert.algebraic_ConvOutIdeal_ConvOutRefIdeal Cert.ConvOutIdeal.Gen.facts Cert.ConvOutRefIdeal.Gen.facts := by
  pair_intro
  pick_goal 3
  · exact fun c => Cert.ConvOutRefIdeal.Read.val_main_v27 (F := Ideal) (argP m c) (argW m c)
  · exact (θ_run _ _ _).mono (fun r h c => ⟨(h c).1.trans (final m c), (h c).2⟩) (Cert.ConvOutIdeal.Value.run_blocks m g)
  · refine (θ_run _ _ _).mono (fun r h c => ?_) (Cert.ConvOutRefIdeal.Value.run m' g')
    obtain ⟨h1, rest⟩ := h c
    refine ⟨h1.trans ((Cert.ConvOutRefIdeal.Read.val_main_v27_eq _ _).trans ?_), rest⟩
    obtain ⟨a0, a1⟩ := hagree c
    rw [a0, a1]

end Cert.ConvOutIdeal.Forward
-- ==== Proof.GateGrad.lean ====
/- The gradient of a gated sum: of the gated rows and of the gate. -/
module

public import proofs.«01_k».proof.Defs
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.GateIdeal.Gradient

open Cert.GateIdeal Cert.GateIdeal.Gen

variable (m : (ℓ : Loc nD τ sig) → Buf (Elt Ideal) ℓ)

/-- The block of every window at every grid point: 256 rows, the whole of the gates, and the whole of the gate's gradient. -/
theorem block_at : ∀ t : Fin cfg0.N, win0_0.index t = ![t.val, 0] ∧ win0_1.index t = ![t.val, 0] ∧ win0_2.index t = ![0, 0, 0]
    ∧ win0_3.index t = ![t.val, 0] ∧ win0_4.index t = ![0, 0, 0] :=
  (by decide +kernel : ∀ t : Fin grid0.N, _)

abbrev argDS (c : Dev nD) : FVec Ideal S2048x1024 .f32 := m ((c.tc : Thread nD τ).loc main_arg0)
abbrev argO (c : Dev nD) : FVec Ideal S2048x1024 .f32 := m ((c.tc : Thread nD τ).loc main_arg1)
abbrev argM (c : Dev nD) : FVec Ideal S1x16x1024 .f32 := m ((c.tc : Thread nD τ).loc main_arg2)

/-- The row of row `r` of a point's block. -/
abbrev row (t : Fin cfg0.N) (r : Fin 256) : Fin 2048 := ⟨t.val * 256 + r.val, by have := t.isLt; have : cfg0.N = 8 := rfl; omega⟩

/-- One half. -/
abbrev half : EReal := Ideal.ofBits .f32 0x3F000000#32

theorem half_eq : half = ((1 / 2 : ℝ) : EReal) := by
  simp [half, Ideal.ofBits, Ideal.ieee]
  rw [← EReal.coe_mul]
  norm_num

/-- Half of a sum is the sum of the halves, whatever the terms. -/
theorem half_sum {n : ℕ} (f : Fin n → EReal) : half * ∑ i, f i = ∑ i, half * f i := by
  have h0 : (0 : EReal) ≤ half := by rw [half_eq]; exact EReal.coe_nonneg.mpr (by norm_num)
  have h1 : half ≠ ⊤ := by rw [half_eq]; exact EReal.coe_ne_top _
  induction n with
  | zero => simp
  | succ n ih => rw [Fin.sum_univ_succ, Fin.sum_univ_succ, EReal.left_distrib_of_nonneg_of_ne_top h0 h1, ih]

theorem ds_block (c : Dev nD) (t : Fin cfg0.N) (r : Fin 256) (x : Fin 1024) :
    (iblk m c 0 t (ix2 r x) : EReal) = argDS m c (ix2 (row t r) x) := by
  have e : (win0_0.blk t).view.emb (ix2 r x) = ix2 (row t r) x := by blk_ext [block_at t]
  blk_simp [iblk]; rw [V_main_arg0 m c]; exact congrArg (argDS m c) e

theorem o_block (c : Dev nD) (t : Fin cfg0.N) (r : Fin 256) (x : Fin 1024) :
    (iblk m c 1 t (ix2 r x) : EReal) = argO m c (ix2 (row t r) x) := by
  have e : (win0_1.blk t).view.emb (ix2 r x) = ix2 (row t r) x := by blk_ext [block_at t]
  blk_simp [iblk]; rw [V_main_arg1 m c]; exact congrArg (argO m c) e

theorem mod_block (c : Dev nD) (t : Fin cfg0.N) (k : Fin 16) (x : Fin 1024) :
    (iblk m c 2 t (ix3 0 k x) : EReal) = argM m c (ix3 0 k x) := by
  have e : (win0_2.blk t).view.emb (ix3 0 k x) = ix3 0 k x := by blk_ext [block_at t]
  blk_simp [iblk]; rw [V_main_arg2 m c]; exact congrArg (argM m c) e

/-- A gated row's gradient. -/
theorem stored_at (g : FVec Ideal S1x16x1024 .f32) (ds : FVec Ideal S256x1024 .f32) (r : Fin 256) (x : Fin 1024) :
    (k0_pay2 (F := Ideal) g ds (ix2 r x) : EReal) = half * g (ix3 0 2 x) * ds (ix2 r x) := by
  pointwise [k0_pay2]

/-- The gate's gradient of a block, added to what the blocks before it have left. -/
theorem added_at (ds o : FVec Ideal S256x1024 .f32) (v : FVec Ideal S1x1x1024 .f32) (x : Fin 1024) :
    (k0_pay1 (F := Ideal) (k0_pay4 ds o v) (ix3 0 0 x) : EReal)
      = v (ix3 0 0 x) + ∑ r : Fin 256, half * o (ix2 r x) * ds (ix2 r x) := by
  pointwise [k0_pay1, k0_pay4]

theorem zero_stored (y : S1x8x1024.Idx) : (k0_pay3 (F := Ideal) y : EReal) = 0 := by
  pointwise [k0_pay3]

section reference
open Cert.GateRefIdeal.Read
variable (ds o : FVec Ideal S2048x1024 .f32) (g : FVec Ideal S1x16x1024 .f32)

theorem reference_at (r : Fin 2048) (x : Fin 1024) :
    (val_main_v15 (F := Ideal) ds g (ix2 r x) : EReal) = half * g (ix3 0 2 x) * ds (ix2 r x) := by
  pointwise [val_main_v15, val_main_v8, val_main_v7, val_main_v4, val_main_v3, val_main_v2, val_main_cst, val_main_v1, val_main_v0]
  first | done | exact mul_comm _ _

theorem reference_gate_at (k : Fin 8) (x : Fin 1024) :
    (val_main_v19 (F := Ideal) ds o (ix3 0 k x) : EReal) = if k.val = 0 then ∑ r : Fin 2048, half * (ds (ix2 r x) * o (ix2 r x)) else 0 := by
  rw [← half_sum]
  pointwise [val_main_v19, val_main_v18, val_main_v17, val_main_cst_3, val_main_v16, val_main_v14, val_main_v13, val_main_cst_2, val_main_v12, val_main_cst_1, val_main_v11, val_main_v10, val_main_cst_0, val_main_v9]
  simp only [Fin.sum_univ_one]
  split_ifs <;> first | omega | simp only [zero_add, add_zero]

end reference

/-- What a block adds to the gate's gradient, whose rows but the first stay zero. -/
abbrev term (c : Dev nD) (t : Fin cfg0.N) (y : S1x8x1024.Idx) : EReal :=
  if (y 1).val = 0 then ∑ r : Fin 256, half * argO m c (ix2 (row t r) (y 2)) * argDS m c (ix2 (row t r) (y 2)) else 0

theorem added_block (c : Dev nD) (t : Fin cfg0.N) (v : FVec Ideal S1x1x1024 .f32) (x : Fin 1024) :
    (k0_pay1 (F := Ideal) (k0_pay4 (iblk m c 0 t) (iblk m c 1 t) v) (ix3 0 0 x) : EReal)
      = v (ix3 0 0 x) + ∑ r : Fin 256, half * argO m c (ix2 (row t r) x) * argDS m c (ix2 (row t r) x) := by
  refine (added_at _ _ _ x).trans ?_
  simp only [ds_block, o_block]

/-- The first row's place among the eight. -/
theorem first_row (h) (k : Fin 8) (hk : k.val = 0) (x : Fin 1024) :
    (Rect.unit (s := S1x8x1024) ![0, 0, 0] S1x1x1024.size h).emb (ix3 0 0 x) = ix3 0 k x := by
  blk_ext
  all_goals first | done | omega

theorem zeros_read (h) (y : S1x8x1024.Idx) :
    View.canon [(⟨Rect.unit (s := S1x8x1024) ![0, 0, 0] S1x8x1024.size h, k0_pay3 (F := Ideal)⟩ : View.Piece (Elt Ideal) S1x8x1024 .f32)] y = (0 : EReal) :=
  (congrFun (View.canon_unit_zero (by funext a; fin_cases a <;> rfl) _ _) y).trans (zero_stored y)

/-- The first block's contribution. -/
theorem first_block (c : Dev nD) (t : Fin cfg0.N) (h : t.val % 8 = 0) (y : S1x8x1024.Idx) :
    ((outsAt0 m c t.val t.isLt).2 y : EReal) = 0 + term m c t y := by
  obtain ⟨k, x, rfl⟩ : ∃ (k : Fin 8) (x : Fin 1024), y = ix3 0 k x := ⟨y 1, y 2, by blk_ext⟩
  rw [outsAt0_A m c t h]; frame_out
  by_cases hk : k.val = 0
  · refine Eq.trans ?_ (congrArg (fun z => (0 : EReal) + z) (if_pos hk).symm)
    refine (congrArg _ (first_row (by decide) k hk x).symm).trans ((View.canon_cons_emb _ _ _ _).trans ((added_block m c t _ x).trans ?_))
    refine congrArg₂ (· + ·) ?_ rfl
    rw [View.readCov_eq_canon']
    exact zeros_read _ _
  · refine Eq.trans ?_ (congrArg (fun z => (0 : EReal) + z) (if_neg hk).symm)
    refine (View.canon_cons_of_not_mem _ _ (Rect.not_mem_set_of_axis _ _ 1 0 1 rfl rfl rfl (by right; show 0 + 1 ≤ k.val; omega))).trans ?_
    exact (zeros_read _ _).trans (zero_add _).symm

/-- A later block's contribution. -/
theorem later_block (c : Dev nD) (t : Fin cfg0.N) (h : t.val % 8 ≠ 0) (y : S1x8x1024.Idx) :
    ((outsAt0 m c t.val t.isLt).2 y : EReal) = (outsAt0 m c (t.val - 1) (by omega)).2 y + term m c t y := by
  obtain ⟨k, x, rfl⟩ : ∃ (k : Fin 8) (x : Fin 1024), y = ix3 0 k x := ⟨y 1, y 2, by blk_ext⟩
  rw [outsAt0_B m c t h]; frame_out
  by_cases hk : k.val = 0
  · refine (View.read_writes_cons_unit_of_mem _ _ _ _ _ _ (ix3 0 0 x) rfl (by intro a; fin_cases a; all_goals first | rfl | (show k.val = 0 + 0; omega) | (show x.val = 0 + x.val; omega))).trans ?_
    refine (added_block m c t _ x).trans (congrArg₂ (· + ·) ?_ (if_pos hk).symm)
    exact congrArg _ (first_row (by decide) k hk x)
  · refine (View.read_writes_cons_unit_of_not_mem _ _ _ _ _ _ rfl 1 (by right; show 0 + 1 ≤ k.val; omega)).trans ?_
    refine Eq.trans ?_ (congrArg₂ (· + ·) rfl (if_neg hk).symm)
    rw [View.writes_nil]
    exact (congrFun (Memref.IsWhole.read_unread _ _) _).trans (add_zero _).symm

/-- The point of block `s`. -/
abbrev point (t : Fin cfg0.N) (s : Fin 8) : Fin cfg0.N := ⟨8 * (t.val / 8) + s.val, by have := t.isLt; have : cfg0.N = 8 := rfl; omega⟩

/-- What the blocks have accumulated at the last of them. -/
theorem accumulated (c : Dev nD) (t : Fin cfg0.N) (ht : t.val % 8 = 7) (y : S1x8x1024.Idx) :
    ((outsAt0 m c t.val t.isLt).2 y : EReal) = ∑ s : Fin 8, term m c (point t s) y := by
  rw [Pipeline.eq_sum_fin_of_reset_step_apply_of_flush (fun n h => (outsAt0 m c n h).2) 8 (fun _ => (0:EReal))
    (fun t y => term m c t y) (fun t h y => first_block m c t h y) (fun t h y => later_block m c t h y) t ht _, zero_add]

theorem final (c : Dev nD) : (dats m 0 c).arrAt 3 (cfgs 0).N
    = Cert.GateRefIdeal.Read.val_main_v15 (F := Ideal) (argDS m c) (argM m c) := by
  refine (dats m 0 c).arrAt_eq_of_covers 3 _ (by decide +kernel) fun t hf y => ?_
  blk_simp; rw [after0_3]
  obtain ⟨r, x, rfl⟩ : ∃ (r : Fin 256) (x : Fin 1024), y = ix2 r x := ⟨y 0, y 1, by blk_ext⟩
  have e : (win0_3.blk t).view.emb (ix2 r x) = ix2 (row t r) x := by blk_ext [block_at t]
  have key : (outsAt0 m c t.val t.isLt).1 (ix2 r x) = k0_pay2 (F := Ideal) (iblk m c 2 t) (iblk m c 0 t) (ix2 r x) := by
    by_cases h : t.val % 8 = 0
    · rw [outsAt0_A m c t h]; frame_out
    · rw [outsAt0_B m c t h]; frame_out
  rw [e, reference_at]
  refine key.trans ((stored_at _ _ r x).trans ?_)
  simp only [mod_block, ds_block]

theorem final_gate (c : Dev nD) : (dats m 0 c).arrAt 4 (cfgs 0).N
    = Cert.GateRefIdeal.Read.val_main_v19 (F := Ideal) (argDS m c) (argO m c) := by
  refine (dats m 0 c).arrAt_eq_of_covers 4 _ (by decide +kernel) fun t hf y => ?_
  have ht : t.val % 8 = 7 := (flush0_4 t).mp hf
  blk_simp; rw [after0_4]
  obtain ⟨k, x, rfl⟩ : ∃ (k : Fin 8) (x : Fin 1024), y = ix3 0 k x := ⟨y 1, y 2, by blk_ext⟩
  have e : (win0_4.blk t).view.emb (ix3 0 k x) = ix3 0 k x := by blk_ext [block_at t]
  rw [e, reference_gate_at]
  refine (accumulated m c t ht _).trans ?_
  by_cases hk : k.val = 0
  · rw [if_pos hk]
    refine (Finset.sum_congr rfl fun s _ => if_pos hk).trans (Fin.sum_mul_add_congr (S := 8) (n := 256) fun s r hl => ?_)
    have o : row (point t s) r = ⟨s.val * 256 + r.val, hl⟩ :=
      Fin.ext (by show (8 * (t.val / 8) + s.val) * 256 + r.val = s.val * 256 + r.val; have : t.val < 8 := t.isLt; omega)
    rw [o, mul_assoc]
    exact congrArg (half * ·) (mul_comm _ _)
  · rw [if_neg hk]
    exact (Finset.sum_congr rfl fun s _ => if_neg hk).trans Finset.sum_const_zero

theorem reference_frame : @Cert.quiescent_GateRefIdeal Cert.GateRefIdeal.Gen.facts := fun m ρ _ =>
  (θ_run Cert.GateRefIdeal.defs _ _).mono (fun r h => ⟨fun c => (h c).2.2, sem_eq_zero_of_no_sems (by decide) r.2⟩)
    (Cert.GateRefIdeal.Value.run m ρ)

theorem claim : @Cert.algebraic_GateIdeal_GateRefIdeal Cert.GateIdeal.Gen.facts Cert.GateRefIdeal.Gen.facts := by
  pair_intro
  pick_goal 3
  · exact fun c => Cert.GateRefIdeal.Read.val_main_v15 (F := Ideal) (argDS m c) (argM m c)
  pick_goal 3
  · exact fun c => Cert.GateRefIdeal.Read.val_main_v19 (F := Ideal) (argDS m c) (argO m c)
  · exact (θ_run _ _ _).mono (fun r h c => ⟨(h c).1.trans (final m c), (h c).2.1.trans (final_gate m c), (h c).2.2⟩)
      (Cert.GateIdeal.Value.run_blocks m g)
  · refine (θ_run _ _ _).mono (fun r h c => ?_) (Cert.GateRefIdeal.Value.run m' g')
    obtain ⟨h1, h2, rest⟩ := h c
    obtain ⟨a0, a1, a2⟩ := hagree c
    refine ⟨h1.trans ((Cert.GateRefIdeal.Read.val_main_v15_eq _ _).trans ?_), h2.trans ((Cert.GateRefIdeal.Read.val_main_v19_eq _ _).trans ?_), rest⟩
    · rw [a0, a2]
    · rw [a0, a1]

end Cert.GateIdeal.Gradient
-- ==== Proof.lean ====
/- The claims, assembled from the frames of the generated modules and the value facts of the modules beside this one. -/
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.DHid
public import proofs.«01_k».proof.Proof.Gen.DHid.Frame
public import proofs.«01_k».proof.Proof.Gen.DHidIdeal
public import proofs.«01_k».proof.Proof.Gen.DHidIdeal.Frame
public import proofs.«01_k».proof.Proof.Gen.DHidIdeal.Value
public import proofs.«01_k».proof.Proof.Gen.DHidRefIdeal
public import proofs.«01_k».proof.Proof.Gen.DHidRefIdeal.Run
public import proofs.«01_k».proof.Proof.Gen.DHidRefIdeal.Read
public import proofs.«01_k».proof.Proof.Gen.DU
public import proofs.«01_k».proof.Proof.Gen.DU.Frame
public import proofs.«01_k».proof.Proof.Gen.DUIdeal
public import proofs.«01_k».proof.Proof.Gen.DUIdeal.Frame
public import proofs.«01_k».proof.Proof.Gen.DUIdeal.Value
public import proofs.«01_k».proof.Proof.Gen.DURefIdeal
public import proofs.«01_k».proof.Proof.Gen.DURefIdeal.Run
public import proofs.«01_k».proof.Proof.Gen.DURefIdeal.Read
public import proofs.«01_k».proof.Proof.Gen.DWIn
public import proofs.«01_k».proof.Proof.Gen.DWIn.Frame
public import proofs.«01_k».proof.Proof.Gen.DWInIdeal
public import proofs.«01_k».proof.Proof.Gen.DWInIdeal.Frame
public import proofs.«01_k».proof.Proof.Gen.DWInIdeal.Value
public import proofs.«01_k».proof.Proof.Gen.DWInRefIdeal
public import proofs.«01_k».proof.Proof.Gen.DWInRefIdeal.Run
public import proofs.«01_k».proof.Proof.Gen.DWInRefIdeal.Read
public import proofs.«01_k».proof.Proof.Gen.DWDown
public import proofs.«01_k».proof.Proof.Gen.DWDown.Frame
public import proofs.«01_k».proof.Proof.Gen.DWDownIdeal
public import proofs.«01_k».proof.Proof.Gen.DWDownIdeal.Frame
public import proofs.«01_k».proof.Proof.Gen.DWDownIdeal.Value
public import proofs.«01_k».proof.Proof.Gen.DWDownRefIdeal
public import proofs.«01_k».proof.Proof.Gen.DWDownRefIdeal.Run
public import proofs.«01_k».proof.Proof.Gen.DWDownRefIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.ConvIn
public import proofs.«01_k».proof.Proof.Gen.ConvIn.Frame
public import proofs.«01_k».proof.Proof.Gen.ConvInIdeal
public import proofs.«01_k».proof.Proof.Gen.ConvInIdeal.Frame
public import proofs.«01_k».proof.Proof.Gen.ConvInIdeal.Value
public import proofs.«01_k».proof.Proof.Gen.ConvInRefIdeal
public import proofs.«01_k».proof.Proof.Gen.ConvInRefIdeal.Run
public import proofs.«01_k».proof.Proof.Gen.ConvInRefIdeal.Read
public import proofs.«01_k».proof.Proof.Gen.ConvW
public import proofs.«01_k».proof.Proof.Gen.ConvW.Frame
public import proofs.«01_k».proof.Proof.Gen.ConvWIdeal
public import proofs.«01_k».proof.Proof.Gen.ConvWIdeal.Frame
public import proofs.«01_k».proof.Proof.Gen.ConvWIdeal.Value
public import proofs.«01_k».proof.Proof.Gen.ConvWRefIdeal
public import proofs.«01_k».proof.Proof.Gen.ConvWRefIdeal.Run
public import proofs.«01_k».proof.Proof.Gen.ConvWRefIdeal.Read
public import proofs.«01_k».proof.Proof.Gen.MixIn
public import proofs.«01_k».proof.Proof.Gen.MixIn.Frame
public import proofs.«01_k».proof.Proof.Gen.MixInIdeal
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.MixW
public import proofs.«01_k».proof.Proof.Gen.MixW.Frame
public import proofs.«01_k».proof.Proof.Gen.MixWIdeal
public import proofs.«01_k».proof.Proof.Gen.MixWIdeal.Frame
public import proofs.«01_k».proof.Proof.Gen.MixWIdeal.Value
public import proofs.«01_k».proof.Proof.Gen.MixWRefIdeal
public import proofs.«01_k».proof.Proof.Gen.MixWRefIdeal.Run
public import proofs.«01_k».proof.Proof.Gen.MixWRefIdeal.Read
public import proofs.«01_k».proof.Proof.Gen.DHidOne
public import proofs.«01_k».proof.Proof.Gen.DHidOne.Frame
public import proofs.«01_k».proof.Proof.Gen.DHidOneIdeal
public import proofs.«01_k».proof.Proof.Gen.DHidOneIdeal.Frame
public import proofs.«01_k».proof.Proof.Gen.DHidOneIdeal.Value
public import proofs.«01_k».proof.Proof.Gen.DHidOneRefIdeal
public import proofs.«01_k».proof.Proof.Gen.DHidOneRefIdeal.Run
public import proofs.«01_k».proof.Proof.Gen.DHidOneRefIdeal.Read
public import proofs.«01_k».proof.Proof.Gen.DUOne
public import proofs.«01_k».proof.Proof.Gen.DUOne.Frame
public import proofs.«01_k».proof.Proof.Gen.DUOneIdeal
public import proofs.«01_k».proof.Proof.Gen.DUOneIdeal.Frame
public import proofs.«01_k».proof.Proof.Gen.DUOneIdeal.Value
public import proofs.«01_k».proof.Proof.Gen.DUOneRefIdeal
public import proofs.«01_k».proof.Proof.Gen.DUOneRefIdeal.Run
public import proofs.«01_k».proof.Proof.Gen.DUOneRefIdeal.Read
public import proofs.«01_k».proof.Proof.Gen.DWInOne
public import proofs.«01_k».proof.Proof.Gen.DWInOne.Frame
public import proofs.«01_k».proof.Proof.Gen.DWInOneIdeal
public import proofs.«01_k».proof.Proof.Gen.DWInOneIdeal.Frame
public import proofs.«01_k».proof.Proof.Gen.DWInOneIdeal.Value
public import proofs.«01_k».proof.Proof.Gen.DWInOneRefIdeal
public import proofs.«01_k».proof.Proof.Gen.DWInOneRefIdeal.Run
public import proofs.«01_k».proof.Proof.Gen.DWInOneRefIdeal.Read
public import proofs.«01_k».proof.Proof.Gen.DWDownOne
public import proofs.«01_k».proof.Proof.Gen.DWDownOne.Frame
public import proofs.«01_k».proof.Proof.Gen.DWDownOneIdeal
public import proofs.«01_k».proof.Proof.Gen.DWDownOneIdeal.Frame
public import proofs.«01_k».proof.Proof.Gen.DWDownOneIdeal.Value
public import proofs.«01_k».proof.Proof.Gen.DWDownOneRefIdeal
public import proofs.«01_k».proof.Proof.Gen.DWDownOneRefIdeal.Run
public import proofs.«01_k».proof.Proof.Gen.DWDownOneRefIdeal.Read
public import proofs.«01_k».proof.Proof.Gen.UpOne
public import proofs.«01_k».proof.Proof.Gen.UpOne.Frame
public import proofs.«01_k».proof.Proof.Gen.UpOneIdeal
public import proofs.«01_k».proof.Proof.Gen.UpOneIdeal.Frame
public import proofs.«01_k».proof.Proof.Gen.UpOneIdeal.Value
public import proofs.«01_k».proof.Proof.Gen.UpOneRefIdeal
public import proofs.«01_k».proof.Proof.Gen.UpOneRefIdeal.Run
public import proofs.«01_k».proof.Proof.Gen.UpOneRefIdeal.Read
public import proofs.«01_k».proof.Proof.Gen.DownOne
public import proofs.«01_k».proof.Proof.Gen.DownOne.Frame
public import proofs.«01_k».proof.Proof.Gen.DownOneIdeal
public import proofs.«01_k».proof.Proof.Gen.DownOneIdeal.Frame
public import proofs.«01_k».proof.Proof.Gen.DownOneIdeal.Value
public import proofs.«01_k».proof.Proof.Gen.DownOneRefIdeal
public import proofs.«01_k».proof.Proof.Gen.DownOneRefIdeal.Run
public import proofs.«01_k».proof.Proof.Gen.DownOneRefIdeal.Read
public import proofs.«01_k».proof.Proof.Gen.DownB
public import proofs.«01_k».proof.Proof.Gen.DownB.Frame
public import proofs.«01_k».proof.Proof.Gen.DownBIdeal
public import proofs.«01_k».proof.Proof.Gen.DownBIdeal.Frame
public import proofs.«01_k».proof.Proof.Gen.DownBIdeal.Value
public import proofs.«01_k».proof.Proof.Gen.DownBRefIdeal
public import proofs.«01_k».proof.Proof.Gen.DownBRefIdeal.Run
public import proofs.«01_k».proof.Proof.Gen.DownBRefIdeal.Read
public import proofs.«01_k».proof.Proof.Gen.DownOneB
public import proofs.«01_k».proof.Proof.Gen.DownOneB.Frame
public import proofs.«01_k».proof.Proof.Gen.DownOneBIdeal
public import proofs.«01_k».proof.Proof.Gen.DownOneBIdeal.Frame
public import proofs.«01_k».proof.Proof.Gen.DownOneBIdeal.Value
public import proofs.«01_k».proof.Proof.Gen.DownOneBRefIdeal
public import proofs.«01_k».proof.Proof.Gen.DownOneBRefIdeal.Run
public import proofs.«01_k».proof.Proof.Gen.DownOneBRefIdeal.Read
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.MixOne
public import proofs.«01_k».proof.Proof.Gen.MixOne.Frame
public import proofs.«01_k».proof.Proof.Gen.MixOneIdeal
public import proofs.«01_k».proof.Proof.Gen.MixOneIdeal.Frame
public import proofs.«01_k».proof.Proof.Gen.MixOneIdeal.Value
public import proofs.«01_k».proof.Proof.Gen.MixOneRefIdeal
public import proofs.«01_k».proof.Proof.Gen.MixOneRefIdeal.Run
public import proofs.«01_k».proof.Proof.Gen.MixOneRefIdeal.Read
public import proofs.«01_k».proof.Proof.Gen.MixInOne
public import proofs.«01_k».proof.Proof.Gen.MixInOne.Frame
public import proofs.«01_k».proof.Proof.Gen.MixInOneIdeal
public import proofs.«01_k».proof.Proof.Gen.MixInOneIdeal.Frame
public import proofs.«01_k».proof.Proof.Gen.MixInOneIdeal.Value
public import proofs.«01_k».proof.Proof.Gen.MixInOneRefIdeal
public import proofs.«01_k».proof.Proof.Gen.MixInOneRefIdeal.Run
public import proofs.«01_k».proof.Proof.Gen.MixInOneRefIdeal.Read
public import proofs.«01_k».proof.Proof.Gen.MixWOne
public import proofs.«01_k».proof.Proof.Gen.MixWOne.Frame
public import proofs.«01_k».proof.Proof.Gen.MixWOneIdeal
public import proofs.«01_k».proof.Proof.Gen.MixWOneIdeal.Frame
public import proofs.«01_k».proof.Proof.Gen.MixWOneIdeal.Value
public import proofs.«01_k».proof.Proof.Gen.MixWOneRefIdeal
public import proofs.«01_k».proof.Proof.Gen.MixWOneRefIdeal.Run
public import proofs.«01_k».proof.Proof.Gen.MixWOneRefIdeal.Read
public import proofs.«01_k».proof.Proof.Gen.AttnF
public import proofs.«01_k».proof.Proof.Gen.AttnF.Frame
public import proofs.«01_k».proof.Proof.Gen.AttnFIdeal
public import proofs.«01_k».proof.Proof.Gen.AttnFIdeal.Frame
public import proofs.«01_k».proof.Proof.Gen.AttnFIdeal.Value
public import proofs.«01_k».proof.Proof.Gen.AttnFRefIdeal
public import proofs.«01_k».proof.Proof.Gen.AttnFRefIdeal.Run
public import proofs.«01_k».proof.Proof.Gen.AttnFRefIdeal.Read
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.ConvOut
public import proofs.«01_k».proof.Proof.Gen.ConvOut.Frame
public import proofs.«01_k».proof.Proof.Gen.ConvOutIdeal
public import proofs.«01_k».proof.Proof.Gen.ConvOutIdeal.Frame
public import proofs.«01_k».proof.Proof.Gen.ConvOutIdeal.Value
public import proofs.«01_k».proof.Proof.Gen.ConvOutRefIdeal
public import proofs.«01_k».proof.Proof.Gen.ConvOutRefIdeal.Run
public import proofs.«01_k».proof.Proof.Gen.ConvOutRefIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Pre_finite_operands
public import proofs.«01_k».proof.Proof.Gen.Pre_finite_products
public import proofs.«01_k».proof.Proof.Gen.Pre_finite_products_l1
public import proofs.«01_k».proof.Proof.Gen.Pre_finite_queries_keys
public import proofs.«01_k».proof.Proof.Chunks
public import proofs.«01_k».proof.Proof.AttnMath
public import proofs.«01_k».proof.Proof.AttnRef
public import proofs.«01_k».proof.Proof.AttnValue
public import proofs.«01_k».proof.Proof.AttnFinal
public import proofs.«01_k».proof.Proof.AttnClaim
public import proofs.«01_k».proof.Proof.AttnRow
public import proofs.«01_k».proof.Proof.Shift
public import proofs.«01_k».proof.Proof.DWDownGrad
public import proofs.«01_k».proof.Proof.DWInGrad
public import proofs.«01_k».proof.Proof.DUGrad
public import proofs.«01_k».proof.Proof.DHidGrad
public import proofs.«01_k».proof.Proof.UpForward
public import proofs.«01_k».proof.Proof.DownForward
public import proofs.«01_k».proof.Proof.ConvInGrad
public import proofs.«01_k».proof.Proof.ConvWGrad
public import proofs.«01_k».proof.Proof.MixInGrad
public import proofs.«01_k».proof.Proof.MixWGrad
public import proofs.«01_k».proof.Proof.DHidOneGrad
public import proofs.«01_k».proof.Proof.DUOneGrad
public import proofs.«01_k».proof.Proof.DWInOneGrad
public import proofs.«01_k».proof.Proof.DWDownOneGrad
public import proofs.«01_k».proof.Proof.UpOneForward
public import proofs.«01_k».proof.Proof.DownOneForward
public import proofs.«01_k».proof.Proof.DownBForward
public import proofs.«01_k».proof.Proof.DownOneBForward
public import proofs.«01_k».proof.Proof.ConvFwdForward
public import proofs.«01_k».proof.Proof.MixForward
public import proofs.«01_k».proof.Proof.MixOneForward
public import proofs.«01_k».proof.Proof.MixInOneGrad
public import proofs.«01_k».proof.Proof.MixWOneGrad
public import proofs.«01_k».proof.Proof.AttnFForward
public import proofs.«01_k».proof.Proof.ConvGrad
public import proofs.«01_k».proof.Proof.ConvOutForward
public import proofs.«01_k».proof.Proof.GateGrad
public import Idealize.ShloMosaic.Adequacy
public import Idealize.ShloMosaic.Init
public import Idealize.ShloMosaic.Lib.Claim

@[expose] public section

noncomputable section

namespace Cert.Proof

open Idealize.ShloMosaic Idealize.SL.Sem

theorem claim : Cert.Claim := ⟨Cert.Attn.Gen.facts, Cert.AttnIdeal.Gen.facts, Cert.AttnRefIdeal.Gen.facts, Cert.DHid.Gen.facts, Cert.DHidIdeal.Gen.facts, Cert.DHidRefIdeal.Gen.facts, Cert.DU.Gen.facts, Cert.DUIdeal.Gen.facts, Cert.DURefIdeal.Gen.facts, Cert.DWIn.Gen.facts, Cert.DWInIdeal.Gen.facts, Cert.DWInRefIdeal.Gen.facts, Cert.DWDown.Gen.facts, Cert.DWDownIdeal.Gen.facts, Cert.DWDownRefIdeal.Gen.facts, Cert.Up.Gen.facts, Cert.UpIdeal.Gen.facts, Cert.UpRefIdeal.Gen.facts, Cert.Down.Gen.facts, Cert.DownIdeal.Gen.facts, Cert.DownRefIdeal.Gen.facts, Cert.ConvIn.Gen.facts, Cert.ConvInIdeal.Gen.facts, Cert.ConvInRefIdeal.Gen.facts, Cert.ConvW.Gen.facts, Cert.ConvWIdeal.Gen.facts, Cert.ConvWRefIdeal.Gen.facts, Cert.MixIn.Gen.facts, Cert.MixInIdeal.Gen.facts, Cert.MixInRefIdeal.Gen.facts, Cert.MixW.Gen.facts, Cert.MixWIdeal.Gen.facts, Cert.MixWRefIdeal.Gen.facts, Cert.DHidOne.Gen.facts, Cert.DHidOneIdeal.Gen.facts, Cert.DHidOneRefIdeal.Gen.facts, Cert.DUOne.Gen.facts, Cert.DUOneIdeal.Gen.facts, Cert.DUOneRefIdeal.Gen.facts, Cert.DWInOne.Gen.facts, Cert.DWInOneIdeal.Gen.facts, Cert.DWInOneRefIdeal.Gen.facts, Cert.DWDownOne.Gen.facts, Cert.DWDownOneIdeal.Gen.facts, Cert.DWDownOneRefIdeal.Gen.facts, Cert.UpOne.Gen.facts, Cert.UpOneIdeal.Gen.facts, Cert.UpOneRefIdeal.Gen.facts, Cert.DownOne.Gen.facts, Cert.DownOneIdeal.Gen.facts, Cert.DownOneRefIdeal.Gen.facts, Cert.DownB.Gen.facts, Cert.DownBIdeal.Gen.facts, Cert.DownBRefIdeal.Gen.facts, Cert.DownOneB.Gen.facts, Cert.DownOneBIdeal.Gen.facts, Cert.DownOneBRefIdeal.Gen.facts, Cert.ConvFwd.Gen.facts, Cert.ConvFwdIdeal.Gen.facts, Cert.ConvFwdRefIdeal.Gen.facts, Cert.Mix.Gen.facts, Cert.MixIdeal.Gen.facts, Cert.MixRefIdeal.Gen.facts, Cert.MixOne.Gen.facts, Cert.MixOneIdeal.Gen.facts, Cert.MixOneRefIdeal.Gen.facts, Cert.MixInOne.Gen.facts, Cert.MixInOneIdeal.Gen.facts, Cert.MixInOneRefIdeal.Gen.facts, Cert.MixWOne.Gen.facts, Cert.MixWOneIdeal.Gen.facts, Cert.MixWOneRefIdeal.Gen.facts, Cert.AttnF.Gen.facts, Cert.AttnFIdeal.Gen.facts, Cert.AttnFRefIdeal.Gen.facts, Cert.Conv.Gen.facts, Cert.ConvIdeal.Gen.facts, Cert.ConvRefIdeal.Gen.facts, Cert.ConvOut.Gen.facts, Cert.ConvOutIdeal.Gen.facts, Cert.ConvOutRefIdeal.Gen.facts, Cert.Gate.Gen.facts, Cert.GateIdeal.Gen.facts, Cert.GateRefIdeal.Gen.facts, Cert.Pre_finite_operands.Gen.facts, Cert.Pre_finite_products.Gen.facts, Cert.Pre_finite_products_l1.Gen.facts, Cert.Pre_finite_queries_keys.Gen.facts,
  fun m ρ _ => Cert.Attn.Gen.frame m ρ,
  fun m ρ _ => Cert.AttnIdeal.Gen.frame m ρ,
  fun m ρ _ => Cert.AttnIdeal.Gen.frame m ρ,
  fun m ρ _ => Cert.AttnRefIdeal.Value.frame m ρ,
  fun m ρ _ => Cert.AttnRefIdeal.Value.frame m ρ,
  fun m ρ _ => Cert.DHid.Gen.frame m ρ,
  fun m ρ _ => Cert.DHidIdeal.Gen.frame m ρ,
  fun m ρ _ => Cert.DHidIdeal.Gen.frame m ρ,
  Cert.DHidIdeal.Gradient.reference_frame,
  fun m ρ _ => Cert.DHidIdeal.Gradient.reference_frame m ρ trivial,
  fun m ρ _ => Cert.DU.Gen.frame m ρ,
  fun m ρ _ => Cert.DUIdeal.Gen.frame m ρ,
  Cert.DUIdeal.Gradient.reference_frame,
  fun m ρ _ => Cert.DWIn.Gen.frame m ρ,
  fun m ρ _ => Cert.DWInIdeal.Gen.frame m ρ,
  Cert.DWInIdeal.Gradient.reference_frame,
  fun m ρ _ => Cert.DWDown.Gen.frame m ρ,
  fun m ρ _ => Cert.DWDownIdeal.Gen.frame m ρ,
  Cert.DWDownIdeal.Gradient.reference_frame,
  fun m ρ _ => Cert.Up.Gen.frame m ρ,
  fun m ρ _ => Cert.UpIdeal.Gen.frame m ρ,
  Cert.UpIdeal.Forward.reference_frame,
  fun m ρ _ => Cert.Down.Gen.frame m ρ,
  fun m ρ _ => Cert.DownIdeal.Gen.frame m ρ,
  Cert.DownIdeal.Forward.reference_frame,
  fun m ρ _ => Cert.ConvIn.Gen.frame m ρ,
  fun m ρ _ => Cert.ConvInIdeal.Gen.frame m ρ,
  Cert.ConvInIdeal.Gradient.reference_frame,
  fun m ρ _ => Cert.ConvW.Gen.frame m ρ,
  fun m ρ _ => Cert.ConvWIdeal.Gen.frame m ρ,
  Cert.ConvWIdeal.Gradient.reference_frame,
  fun m ρ _ => Cert.MixIn.Gen.frame m ρ,
  fun m ρ _ => Cert.MixInIdeal.Gen.frame m ρ,
  Cert.MixInIdeal.Gradient.reference_frame,
  fun m ρ _ => Cert.MixW.Gen.frame m ρ,
  fun m ρ _ => Cert.MixWIdeal.Gen.frame m ρ,
  Cert.MixWIdeal.Gradient.reference_frame,
  fun m ρ _ => Cert.DHidOne.Gen.frame m ρ,
  fun m ρ _ => Cert.DHidOneIdeal.Gen.frame m ρ,
  fun m ρ _ => Cert.DHidOneIdeal.Gen.frame m ρ,
  Cert.DHidOneIdeal.Gradient.reference_frame,
  fun m ρ _ => Cert.DHidOneIdeal.Gradient.reference_frame m ρ trivial,
  fun m ρ _ => Cert.DUOne.Gen.frame m ρ,
  fun m ρ _ => Cert.DUOneIdeal.Gen.frame m ρ,
  Cert.DUOneIdeal.Gradient.reference_frame,
  fun m ρ _ => Cert.DWInOne.Gen.frame m ρ,
  fun m ρ _ => Cert.DWInOneIdeal.Gen.frame m ρ,
  Cert.DWInOneIdeal.Gradient.reference_frame,
  fun m ρ _ => Cert.DWDownOne.Gen.frame m ρ,
  fun m ρ _ => Cert.DWDownOneIdeal.Gen.frame m ρ,
  Cert.DWDownOneIdeal.Gradient.reference_frame,
  fun m ρ _ => Cert.UpOne.Gen.frame m ρ,
  fun m ρ _ => Cert.UpOneIdeal.Gen.frame m ρ,
  Cert.UpOneIdeal.Forward.reference_frame,
  fun m ρ _ => Cert.DownOne.Gen.frame m ρ,
  fun m ρ _ => Cert.DownOneIdeal.Gen.frame m ρ,
  Cert.DownOneIdeal.Forward.reference_frame,
  fun m ρ _ => Cert.DownB.Gen.frame m ρ,
  fun m ρ _ => Cert.DownBIdeal.Gen.frame m ρ,
  Cert.DownBIdeal.Forward.reference_frame,
  fun m ρ _ => Cert.DownOneB.Gen.frame m ρ,
  fun m ρ _ => Cert.DownOneBIdeal.Gen.frame m ρ,
  Cert.DownOneBIdeal.Forward.reference_frame,
  fun m ρ _ => Cert.ConvFwd.Gen.frame m ρ,
  fun m ρ _ => Cert.ConvFwdIdeal.Gen.frame m ρ,
  Cert.ConvFwdIdeal.Forward.reference_frame,
  fun m ρ _ => Cert.Mix.Gen.frame m ρ,
  fun m ρ _ => Cert.MixIdeal.Gen.frame m ρ,
  Cert.MixIdeal.Forward.reference_frame,
  fun m ρ _ => Cert.MixOne.Gen.frame m ρ,
  fun m ρ _ => Cert.MixOneIdeal.Gen.frame m ρ,
  Cert.MixOneIdeal.Forward.reference_frame,
  fun m ρ _ => Cert.MixInOne.Gen.frame m ρ,
  fun m ρ _ => Cert.MixInOneIdeal.Gen.frame m ρ,
  Cert.MixInOneIdeal.Gradient.reference_frame,
  fun m ρ _ => Cert.MixWOne.Gen.frame m ρ,
  fun m ρ _ => Cert.MixWOneIdeal.Gen.frame m ρ,
  Cert.MixWOneIdeal.Gradient.reference_frame,
  fun m ρ _ => Cert.AttnF.Gen.frame m ρ,
  fun m ρ _ => Cert.AttnFIdeal.Gen.frame m ρ,
  fun m ρ _ => Cert.AttnFIdeal.Gen.frame m ρ,
  Cert.AttnFIdeal.Forward.reference_frame,
  fun m ρ _ => Cert.AttnFIdeal.Forward.reference_frame m ρ trivial,
  fun m ρ _ => Cert.Conv.Gen.frame m ρ,
  fun m ρ _ => Cert.ConvIdeal.Gen.frame m ρ,
  Cert.ConvIdeal.Gradient.reference_frame,
  fun m ρ _ => Cert.ConvOut.Gen.frame m ρ,
  fun m ρ _ => Cert.ConvOutIdeal.Gen.frame m ρ,
  Cert.ConvOutIdeal.Forward.reference_frame,
  fun m ρ _ => Cert.Gate.Gen.frame m ρ,
  fun m ρ _ => Cert.GateIdeal.Gen.frame m ρ,
  Cert.GateIdeal.Gradient.reference_frame,
  trivial, Cert.AttnIdeal.Value.claim,
  trivial, Cert.DHidIdeal.Gradient.claim,
  trivial, Cert.DUIdeal.Gradient.claim,
  trivial, Cert.DWInIdeal.Gradient.claim,
  trivial, Cert.DWDownIdeal.Gradient.claim,
  trivial, Cert.UpIdeal.Forward.claim,
  trivial, Cert.DownIdeal.Forward.claim,
  trivial, Cert.ConvInIdeal.Gradient.claim,
  trivial, Cert.ConvWIdeal.Gradient.claim,
  trivial, Cert.MixInIdeal.Gradient.claim,
  trivial, Cert.MixWIdeal.Gradient.claim,
  trivial, Cert.DHidOneIdeal.Gradient.claim,
  trivial, Cert.DUOneIdeal.Gradient.claim,
  trivial, Cert.DWInOneIdeal.Gradient.claim,
  trivial, Cert.DWDownOneIdeal.Gradient.claim,
  trivial, Cert.UpOneIdeal.Forward.claim,
  trivial, Cert.DownOneIdeal.Forward.claim,
  trivial, Cert.DownBIdeal.Forward.claim,
  trivial, Cert.DownOneBIdeal.Forward.claim,
  trivial, Cert.ConvFwdIdeal.Forward.claim,
  trivial, Cert.MixIdeal.Forward.claim,
  trivial, Cert.MixOneIdeal.Forward.claim,
  trivial, Cert.MixInOneIdeal.Gradient.claim,
  trivial, Cert.MixWOneIdeal.Gradient.claim,
  trivial, Cert.AttnFIdeal.Forward.claim,
  trivial, Cert.ConvIdeal.Gradient.claim,
  trivial, Cert.ConvOutIdeal.Forward.claim,
  trivial, Cert.GateIdeal.Gradient.claim⟩

end Cert.Proof

end
